-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Groups (m : (ℓ : Loc Cert.Groups.nD Cert.Groups.τ Cert.Groups.sig) → Buf (Elt Bits) ℓ) : Prop :=
  True

def Pre_GroupsIdeal (m : (ℓ : Loc Cert.GroupsIdeal.nD Cert.GroupsIdeal.τ Cert.GroupsIdeal.sig) → Buf (Elt Ideal) ℓ) : Prop :=
  True

def Pre_GroupsIdeal_finite_points [hPre_finite_points : Cert.Pre_finite_points.Facts] (m : (ℓ : Loc Cert.GroupsIdeal.nD Cert.GroupsIdeal.τ Cert.GroupsIdeal.sig) → Buf (Elt Ideal) ℓ) : Prop :=
  ∀ c : Dev Cert.GroupsIdeal.nD,
    (Cert.Pre_finite_points.fn (F := Ideal) (m ((c.tc : Thread Cert.GroupsIdeal.nD Cert.GroupsIdeal.τ).loc Cert.GroupsIdeal.main_arg0))) = (fun _ => 1#1)

def Pre_GroupsReferenceIdeal (m : (ℓ : Loc Cert.GroupsReferenceIdeal.nD Cert.GroupsReferenceIdeal.τ Cert.GroupsReferenceIdeal.sig) → Buf (Elt Ideal) ℓ) : Prop :=
  True

def Pre_GroupsReferenceIdeal_finite_points [hPre_finite_points : Cert.Pre_finite_points.Facts] (m : (ℓ : Loc Cert.GroupsReferenceIdeal.nD Cert.GroupsReferenceIdeal.τ Cert.GroupsReferenceIdeal.sig) → Buf (Elt Ideal) ℓ) : Prop :=
  ∀ c : Dev Cert.GroupsReferenceIdeal.nD,
    (Cert.Pre_finite_points.fn (F := Ideal) (m ((c.tc : Thread Cert.GroupsReferenceIdeal.nD Cert.GroupsReferenceIdeal.τ).loc Cert.GroupsReferenceIdeal.main_arg0))) = (fun _ => 1#1)

def Pre_Points (m : (ℓ : Loc Cert.Points.nD Cert.Points.τ Cert.Points.sig) → Buf (Elt Bits) ℓ) : Prop :=
  True

def Pre_PointsIdeal (m : (ℓ : Loc Cert.PointsIdeal.nD Cert.PointsIdeal.τ Cert.PointsIdeal.sig) → Buf (Elt Ideal) ℓ) : Prop :=
  True

def Pre_PointsIdeal_finite_layers [hPre_finite_layers : Cert.Pre_finite_layers.Facts] (m : (ℓ : Loc Cert.PointsIdeal.nD Cert.PointsIdeal.τ Cert.PointsIdeal.sig) → Buf (Elt Ideal) ℓ) : Prop :=
  ∀ c : Dev Cert.PointsIdeal.nD,
    (Cert.Pre_finite_layers.fn (F := Ideal) (m ((c.tc : Thread Cert.PointsIdeal.nD Cert.PointsIdeal.τ).loc Cert.PointsIdeal.main_arg0)) (m ((c.tc : Thread Cert.PointsIdeal.nD Cert.PointsIdeal.τ).loc Cert.PointsIdeal.main_arg1)) (m ((c.tc : Thread Cert.PointsIdeal.nD Cert.PointsIdeal.τ).loc Cert.PointsIdeal.main_arg2)) (m ((c.tc : Thread Cert.PointsIdeal.nD Cert.PointsIdeal.τ).loc Cert.PointsIdeal.main_arg3)) (m ((c.tc : Thread Cert.PointsIdeal.nD Cert.PointsIdeal.τ).loc Cert.PointsIdeal.main_arg4)) (m ((c.tc : Thread Cert.PointsIdeal.nD Cert.PointsIdeal.τ).loc Cert.PointsIdeal.main_arg5)) (m ((c.tc : Thread Cert.PointsIdeal.nD Cert.PointsIdeal.τ).loc Cert.PointsIdeal.main_arg6)) (m ((c.tc : Thread Cert.PointsIdeal.nD Cert.PointsIdeal.τ).loc Cert.PointsIdeal.main_arg7)) (m ((c.tc : Thread Cert.PointsIdeal.nD Cert.PointsIdeal.τ).loc Cert.PointsIdeal.main_arg8)) (m ((c.tc : Thread Cert.PointsIdeal.nD Cert.PointsIdeal.τ).loc Cert.PointsIdeal.main_arg9)) (m ((c.tc : Thread Cert.PointsIdeal.nD Cert.PointsIdeal.τ).loc Cert.PointsIdeal.main_arg10)) (m ((c.tc : Thread Cert.PointsIdeal.nD Cert.PointsIdeal.τ).loc Cert.PointsIdeal.main_arg11)) (m ((c.tc : Thread Cert.PointsIdeal.nD Cert.PointsIdeal.τ).loc Cert.PointsIdeal.main_arg12)) (m ((c.tc : Thread Cert.PointsIdeal.nD Cert.PointsIdeal.τ).loc Cert.PointsIdeal.main_arg13))) = (fun _ => 1#1)

def Pre_PointsReferenceIdeal (m : (ℓ : Loc Cert.PointsReferenceIdeal.nD Cert.PointsReferenceIdeal.τ Cert.PointsReferenceIdeal.sig) → Buf (Elt Ideal) ℓ) : Prop :=
  True

def Pre_PointsReferenceIdeal_finite_layers [hPre_finite_layers : Cert.Pre_finite_layers.Facts] (m : (ℓ : Loc Cert.PointsReferenceIdeal.nD Cert.PointsReferenceIdeal.τ Cert.PointsReferenceIdeal.sig) → Buf (Elt Ideal) ℓ) : Prop :=
  ∀ c : Dev Cert.PointsReferenceIdeal.nD,
    (Cert.Pre_finite_layers.fn (F := Ideal) (m ((c.tc : Thread Cert.PointsReferenceIdeal.nD Cert.PointsReferenceIdeal.τ).loc Cert.PointsReferenceIdeal.main_arg0)) (m ((c.tc : Thread Cert.PointsReferenceIdeal.nD Cert.PointsReferenceIdeal.τ).loc Cert.PointsReferenceIdeal.main_arg1)) (m ((c.tc : Thread Cert.PointsReferenceIdeal.nD Cert.PointsReferenceIdeal.τ).loc Cert.PointsReferenceIdeal.main_arg2)) (m ((c.tc : Thread Cert.PointsReferenceIdeal.nD Cert.PointsReferenceIdeal.τ).loc Cert.PointsReferenceIdeal.main_arg3)) (m ((c.tc : Thread Cert.PointsReferenceIdeal.nD Cert.PointsReferenceIdeal.τ).loc Cert.PointsReferenceIdeal.main_arg4)) (m ((c.tc : Thread Cert.PointsReferenceIdeal.nD Cert.PointsReferenceIdeal.τ).loc Cert.PointsReferenceIdeal.main_arg5)) (m ((c.tc : Thread Cert.PointsReferenceIdeal.nD Cert.PointsReferenceIdeal.τ).loc Cert.PointsReferenceIdeal.main_arg6)) (m ((c.tc : Thread Cert.PointsReferenceIdeal.nD Cert.PointsReferenceIdeal.τ).loc Cert.PointsReferenceIdeal.main_arg7)) (m ((c.tc : Thread Cert.PointsReferenceIdeal.nD Cert.PointsReferenceIdeal.τ).loc Cert.PointsReferenceIdeal.main_arg8)) (m ((c.tc : Thread Cert.PointsReferenceIdeal.nD Cert.PointsReferenceIdeal.τ).loc Cert.PointsReferenceIdeal.main_arg9)) (m ((c.tc : Thread Cert.PointsReferenceIdeal.nD Cert.PointsReferenceIdeal.τ).loc Cert.PointsReferenceIdeal.main_arg10)) (m ((c.tc : Thread Cert.PointsReferenceIdeal.nD Cert.PointsReferenceIdeal.τ).loc Cert.PointsReferenceIdeal.main_arg11)) (m ((c.tc : Thread Cert.PointsReferenceIdeal.nD Cert.PointsReferenceIdeal.τ).loc Cert.PointsReferenceIdeal.main_arg12)) (m ((c.tc : Thread Cert.PointsReferenceIdeal.nD Cert.PointsReferenceIdeal.τ).loc Cert.PointsReferenceIdeal.main_arg13))) = (fun _ => 1#1)

def Pre_WholeIdeal (m : (ℓ : Loc Cert.WholeIdeal.nD Cert.WholeIdeal.τ Cert.WholeIdeal.sig) → Buf (Elt Ideal) ℓ) : Prop :=
  True

def Pre_WholeIdeal_finite_whole [hPre_finite_whole : Cert.Pre_finite_whole.Facts] (m : (ℓ : Loc Cert.WholeIdeal.nD Cert.WholeIdeal.τ Cert.WholeIdeal.sig) → Buf (Elt Ideal) ℓ) : Prop :=
  ∀ c : Dev Cert.WholeIdeal.nD,
    (Cert.Pre_finite_whole.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5)) (m ((c.tc : Thread Cert.WholeIdeal.nD Cert.WholeIdeal.τ).loc Cert.WholeIdeal.main_arg6)) (m ((c.tc : Thread Cert.WholeIdeal.nD Cert.WholeIdeal.τ).loc Cert.WholeIdeal.main_arg7)) (m ((c.tc : Thread Cert.WholeIdeal.nD Cert.WholeIdeal.τ).loc Cert.WholeIdeal.main_arg8)) (m ((c.tc : Thread Cert.WholeIdeal.nD Cert.WholeIdeal.τ).loc Cert.WholeIdeal.main_arg9)) (m ((c.tc : Thread Cert.WholeIdeal.nD Cert.WholeIdeal.τ).loc Cert.WholeIdeal.main_arg10)) (m ((c.tc : Thread Cert.WholeIdeal.nD Cert.WholeIdeal.τ).loc Cert.WholeIdeal.main_arg11)) (m ((c.tc : Thread Cert.WholeIdeal.nD Cert.WholeIdeal.τ).loc Cert.WholeIdeal.main_arg12)) (m ((c.tc : Thread Cert.WholeIdeal.nD Cert.WholeIdeal.τ).loc Cert.WholeIdeal.main_arg13)) (m ((c.tc : Thread Cert.WholeIdeal.nD Cert.WholeIdeal.τ).loc Cert.WholeIdeal.main_arg14))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_finite_whole [hPre_finite_whole : Cert.Pre_finite_whole.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_finite_whole.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2)) (m ((c.tc : Thread Cert.WholeReferenceIdeal.nD Cert.WholeReferenceIdeal.τ).loc Cert.WholeReferenceIdeal.main_arg3)) (m ((c.tc : Thread Cert.WholeReferenceIdeal.nD Cert.WholeReferenceIdeal.τ).loc Cert.WholeReferenceIdeal.main_arg4)) (m ((c.tc : Thread Cert.WholeReferenceIdeal.nD Cert.WholeReferenceIdeal.τ).loc Cert.WholeReferenceIdeal.main_arg5)) (m ((c.tc : Thread Cert.WholeReferenceIdeal.nD Cert.WholeReferenceIdeal.τ).loc Cert.WholeReferenceIdeal.main_arg6)) (m ((c.tc : Thread Cert.WholeReferenceIdeal.nD Cert.WholeReferenceIdeal.τ).loc Cert.WholeReferenceIdeal.main_arg7)) (m ((c.tc : Thread Cert.WholeReferenceIdeal.nD Cert.WholeReferenceIdeal.τ).loc Cert.WholeReferenceIdeal.main_arg8)) (m ((c.tc : Thread Cert.WholeReferenceIdeal.nD Cert.WholeReferenceIdeal.τ).loc Cert.WholeReferenceIdeal.main_arg9)) (m ((c.tc : Thread Cert.WholeReferenceIdeal.nD Cert.WholeReferenceIdeal.τ).loc Cert.WholeReferenceIdeal.main_arg10)) (m ((c.tc : Thread Cert.WholeReferenceIdeal.nD Cert.WholeReferenceIdeal.τ).loc Cert.WholeReferenceIdeal.main_arg11)) (m ((c.tc : Thread Cert.WholeReferenceIdeal.nD Cert.WholeReferenceIdeal.τ).loc Cert.WholeReferenceIdeal.main_arg12)) (m ((c.tc : Thread Cert.WholeReferenceIdeal.nD Cert.WholeReferenceIdeal.τ).loc Cert.WholeReferenceIdeal.main_arg13)) (m ((c.tc : Thread Cert.WholeReferenceIdeal.nD Cert.WholeReferenceIdeal.τ).loc Cert.WholeReferenceIdeal.main_arg14))) = (fun _ => 1#1)

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Groups [hGroups : Cert.Groups.Facts] : Prop :=
  ∀ (m : (ℓ : Loc Cert.Groups.nD Cert.Groups.τ Cert.Groups.sig) → Buf (Elt Bits) ℓ) (g : Dev Cert.Groups.nD → PrngReg), Pre_Groups m →
    θ_run (Cert.Groups.defs (F := Bits)) (onTc (τ := Cert.Groups.τ) (Cert.Groups.main (F := Bits))) ⟨m, fun _ => 0, g⟩ (fun r => (∀ c : Dev Cert.Groups.nD,
      r.2.mem ((c.tc : Thread Cert.Groups.nD Cert.Groups.τ).loc Cert.Groups.main_arg0) = m ((c.tc : Thread Cert.Groups.nD Cert.Groups.τ).loc Cert.Groups.main_arg0))
      ∧ r.2.sem = fun _ => 0)

def quiescent_GroupsIdeal [hGroupsIdeal : Cert.GroupsIdeal.Facts] : Prop :=
  ∀ (m : (ℓ : Loc Cert.GroupsIdeal.nD Cert.GroupsIdeal.τ Cert.GroupsIdeal.sig) → Buf (Elt Ideal) ℓ) (g : Dev Cert.GroupsIdeal.nD → PrngReg), Pre_GroupsIdeal m →
    θ_run (Cert.GroupsIdeal.defs (F := Ideal)) (onTc (τ := Cert.GroupsIdeal.τ) (Cert.GroupsIdeal.main (F := Ideal))) ⟨m, fun _ => 0, g⟩ (fun r => (∀ c : Dev Cert.GroupsIdeal.nD,
      r.2.mem ((c.tc : Thread Cert.GroupsIdeal.nD Cert.GroupsIdeal.τ).loc Cert.GroupsIdeal.main_arg0) = m ((c.tc : Thread Cert.GroupsIdeal.nD Cert.GroupsIdeal.τ).loc Cert.GroupsIdeal.main_arg0))
      ∧ r.2.sem = fun _ => 0)

def quiescent_GroupsIdeal_pre_finite_points [hGroupsIdeal : Cert.GroupsIdeal.Facts] [hPre_finite_points : Cert.Pre_finite_points.Facts] : Prop :=
  ∀ (m : (ℓ : Loc Cert.GroupsIdeal.nD Cert.GroupsIdeal.τ Cert.GroupsIdeal.sig) → Buf (Elt Ideal) ℓ) (g : Dev Cert.GroupsIdeal.nD → PrngReg), Pre_GroupsIdeal_finite_points m →
    θ_run (Cert.GroupsIdeal.defs (F := Ideal)) (onTc (τ := Cert.GroupsIdeal.τ) (Cert.GroupsIdeal.main (F := Ideal))) ⟨m, fun _ => 0, g⟩ (fun r => (∀ c : Dev Cert.GroupsIdeal.nD,
      r.2.mem ((c.tc : Thread Cert.GroupsIdeal.nD Cert.GroupsIdeal.τ).loc Cert.GroupsIdeal.main_arg0) = m ((c.tc : Thread Cert.GroupsIdeal.nD Cert.GroupsIdeal.τ).loc Cert.GroupsIdeal.main_arg0))
      ∧ r.2.sem = fun _ => 0)

def quiescent_GroupsReferenceIdeal [hGroupsReferenceIdeal : Cert.GroupsReferenceIdeal.Facts] : Prop :=
  ∀ (m : (ℓ : Loc Cert.GroupsReferenceIdeal.nD Cert.GroupsReferenceIdeal.τ Cert.GroupsReferenceIdeal.sig) → Buf (Elt Ideal) ℓ) (g : Dev Cert.GroupsReferenceIdeal.nD → PrngReg), Pre_GroupsReferenceIdeal m →
    θ_run (Cert.GroupsReferenceIdeal.defs (F := Ideal)) (onTc (τ := Cert.GroupsReferenceIdeal.τ) (Cert.GroupsReferenceIdeal.main (F := Ideal))) ⟨m, fun _ => 0, g⟩ (fun r => (∀ c : Dev Cert.GroupsReferenceIdeal.nD,
      r.2.mem ((c.tc : Thread Cert.GroupsReferenceIdeal.nD Cert.GroupsReferenceIdeal.τ).loc Cert.GroupsReferenceIdeal.main_arg0) = m ((c.tc : Thread Cert.GroupsReferenceIdeal.nD Cert.GroupsReferenceIdeal.τ).loc Cert.GroupsReferenceIdeal.main_arg0))
      ∧ r.2.sem = fun _ => 0)

def quiescent_GroupsReferenceIdeal_pre_finite_points [hGroupsReferenceIdeal : Cert.GroupsReferenceIdeal.Facts] [hPre_finite_points : Cert.Pre_finite_points.Facts] : Prop :=
  ∀ (m : (ℓ : Loc Cert.GroupsReferenceIdeal.nD Cert.GroupsReferenceIdeal.τ Cert.GroupsReferenceIdeal.sig) → Buf (Elt Ideal) ℓ) (g : Dev Cert.GroupsReferenceIdeal.nD → PrngReg), Pre_GroupsReferenceIdeal_finite_points m →
    θ_run (Cert.GroupsReferenceIdeal.defs (F := Ideal)) (onTc (τ := Cert.GroupsReferenceIdeal.τ) (Cert.GroupsReferenceIdeal.main (F := Ideal))) ⟨m, fun _ => 0, g⟩ (fun r => (∀ c : Dev Cert.GroupsReferenceIdeal.nD,
      r.2.mem ((c.tc : Thread Cert.GroupsReferenceIdeal.nD Cert.GroupsReferenceIdeal.τ).loc Cert.GroupsReferenceIdeal.main_arg0) = m ((c.tc : Thread Cert.GroupsReferenceIdeal.nD Cert.GroupsReferenceIdeal.τ).loc Cert.GroupsReferenceIdeal.main_arg0))
      ∧ r.2.sem = fun _ => 0)

def quiescent_Points [hPoints : Cert.Points.Facts] : Prop :=
  ∀ (m : (ℓ : Loc Cert.Points.nD Cert.Points.τ Cert.Points.sig) → Buf (Elt Bits) ℓ) (g : Dev Cert.Points.nD → PrngReg), Pre_Points m →
    θ_run (Cert.Points.defs (F := Bits)) (onTc (τ := Cert.Points.τ) (Cert.Points.main (F := Bits))) ⟨m, fun _ => 0, g⟩ (fun r => (∀ c : Dev Cert.Points.nD,
      r.2.mem ((c.tc : Thread Cert.Points.nD Cert.Points.τ).loc Cert.Points.main_arg0) = m ((c.tc : Thread Cert.Points.nD Cert.Points.τ).loc Cert.Points.main_arg0)
      ∧ r.2.mem ((c.tc : Thread Cert.Points.nD Cert.Points.τ).loc Cert.Points.main_arg1) = m ((c.tc : Thread Cert.Points.nD Cert.Points.τ).loc Cert.Points.main_arg1)
      ∧ r.2.mem ((c.tc : Thread Cert.Points.nD Cert.Points.τ).loc Cert.Points.main_arg2) = m ((c.tc : Thread Cert.Points.nD Cert.Points.τ).loc Cert.Points.main_arg2)
      ∧ r.2.mem ((c.tc : Thread Cert.Points.nD Cert.Points.τ).loc Cert.Points.main_arg3) = m ((c.tc : Thread Cert.Points.nD Cert.Points.τ).loc Cert.Points.main_arg3)
      ∧ r.2.mem ((c.tc : Thread Cert.Points.nD Cert.Points.τ).loc Cert.Points.main_arg4) = m ((c.tc : Thread Cert.Points.nD Cert.Points.τ).loc Cert.Points.main_arg4)
      ∧ r.2.mem ((c.tc : Thread Cert.Points.nD Cert.Points.τ).loc Cert.Points.main_arg5) = m ((c.tc : Thread Cert.Points.nD Cert.Points.τ).loc Cert.Points.main_arg5)
      ∧ r.2.mem ((c.tc : Thread Cert.Points.nD Cert.Points.τ).loc Cert.Points.main_arg6) = m ((c.tc : Thread Cert.Points.nD Cert.Points.τ).loc Cert.Points.main_arg6)
      ∧ r.2.mem ((c.tc : Thread Cert.Points.nD Cert.Points.τ).loc Cert.Points.main_arg7) = m ((c.tc : Thread Cert.Points.nD Cert.Points.τ).loc Cert.Points.main_arg7)
      ∧ r.2.mem ((c.tc : Thread Cert.Points.nD Cert.Points.τ).loc Cert.Points.main_arg8) = m ((c.tc : Thread Cert.Points.nD Cert.Points.τ).loc Cert.Points.main_arg8)
      ∧ r.2.mem ((c.tc : Thread Cert.Points.nD Cert.Points.τ).loc Cert.Points.main_arg9) = m ((c.tc : Thread Cert.Points.nD Cert.Points.τ).loc Cert.Points.main_arg9)
      ∧ r.2.mem ((c.tc : Thread Cert.Points.nD Cert.Points.τ).loc Cert.Points.main_arg10) = m ((c.tc : Thread Cert.Points.nD Cert.Points.τ).loc Cert.Points.main_arg10)
      ∧ r.2.mem ((c.tc : Thread Cert.Points.nD Cert.Points.τ).loc Cert.Points.main_arg11) = m ((c.tc : Thread Cert.Points.nD Cert.Points.τ).loc Cert.Points.main_arg11)
      ∧ r.2.mem ((c.tc : Thread Cert.Points.nD Cert.Points.τ).loc Cert.Points.main_arg12) = m ((c.tc : Thread Cert.Points.nD Cert.Points.τ).loc Cert.Points.main_arg12)
      ∧ r.2.mem ((c.tc : Thread Cert.Points.nD Cert.Points.τ).loc Cert.Points.main_arg13) = m ((c.tc : Thread Cert.Points.nD Cert.Points.τ).loc Cert.Points.main_arg13))
      ∧ r.2.sem = fun _ => 0)

def quiescent_PointsIdeal [hPointsIdeal : Cert.PointsIdeal.Facts] : Prop :=
  ∀ (m : (ℓ : Loc Cert.PointsIdeal.nD Cert.PointsIdeal.τ Cert.PointsIdeal.sig) → Buf (Elt Ideal) ℓ) (g : Dev Cert.PointsIdeal.nD → PrngReg), Pre_PointsIdeal m →
    θ_run (Cert.PointsIdeal.defs (F := Ideal)) (onTc (τ := Cert.PointsIdeal.τ) (Cert.PointsIdeal.main (F := Ideal))) ⟨m, fun _ => 0, g⟩ (fun r => (∀ c : Dev Cert.PointsIdeal.nD,
      r.2.mem ((c.tc : Thread Cert.PointsIdeal.nD Cert.PointsIdeal.τ).loc Cert.PointsIdeal.main_arg0) = m ((c.tc : Thread Cert.PointsIdeal.nD Cert.PointsIdeal.τ).loc Cert.PointsIdeal.main_arg0)
      ∧ r.2.mem ((c.tc : Thread Cert.PointsIdeal.nD Cert.PointsIdeal.τ).loc Cert.PointsIdeal.main_arg1) = m ((c.tc : Thread Cert.PointsIdeal.nD Cert.PointsIdeal.τ).loc Cert.PointsIdeal.main_arg1)
      ∧ r.2.mem ((c.tc : Thread Cert.PointsIdeal.nD Cert.PointsIdeal.τ).loc Cert.PointsIdeal.main_arg2) = m ((c.tc : Thread Cert.PointsIdeal.nD Cert.PointsIdeal.τ).loc Cert.PointsIdeal.main_arg2)
      ∧ r.2.mem ((c.tc : Thread Cert.PointsIdeal.nD Cert.PointsIdeal.τ).loc Cert.PointsIdeal.main_arg3) = m ((c.tc : Thread Cert.PointsIdeal.nD Cert.PointsIdeal.τ).loc Cert.PointsIdeal.main_arg3)
      ∧ r.2.mem ((c.tc : Thread Cert.PointsIdeal.nD Cert.PointsIdeal.τ).loc Cert.PointsIdeal.main_arg4) = m ((c.tc : Thread Cert.PointsIdeal.nD Cert.PointsIdeal.τ).loc Cert.PointsIdeal.main_arg4)
      ∧ r.2.mem ((c.tc : Thread Cert.PointsIdeal.nD Cert.PointsIdeal.τ).loc Cert.PointsIdeal.main_arg5) = m ((c.tc : Thread Cert.PointsIdeal.nD Cert.PointsIdeal.τ).loc Cert.PointsIdeal.main_arg5)
      ∧ r.2.mem ((c.tc : Thread Cert.PointsIdeal.nD Cert.PointsIdeal.τ).loc Cert.PointsIdeal.main_arg6) = m ((c.tc : Thread Cert.PointsIdeal.nD Cert.PointsIdeal.τ).loc Cert.PointsIdeal.main_arg6)
      ∧ r.2.mem ((c.tc : Thread Cert.PointsIdeal.nD Cert.PointsIdeal.τ).loc Cert.PointsIdeal.main_arg7) = m ((c.tc : Thread Cert.PointsIdeal.nD Cert.PointsIdeal.τ).loc Cert.PointsIdeal.main_arg7)
      ∧ r.2.mem ((c.tc : Thread Cert.PointsIdeal.nD Cert.PointsIdeal.τ).loc Cert.PointsIdeal.main_arg8) = m ((c.tc : Thread Cert.PointsIdeal.nD Cert.PointsIdeal.τ).loc Cert.PointsIdeal.main_arg8)
      ∧ r.2.mem ((c.tc : Thread Cert.PointsIdeal.nD Cert.PointsIdeal.τ).loc Cert.PointsIdeal.main_arg9) = m ((c.tc : Thread Cert.PointsIdeal.nD Cert.PointsIdeal.τ).loc Cert.PointsIdeal.main_arg9)
      ∧ r.2.mem ((c.tc : Thread Cert.PointsIdeal.nD Cert.PointsIdeal.τ).loc Cert.PointsIdeal.main_arg10) = m ((c.tc : Thread Cert.PointsIdeal.nD Cert.PointsIdeal.τ).loc Cert.PointsIdeal.main_arg10)
      ∧ r.2.mem ((c.tc : Thread Cert.PointsIdeal.nD Cert.PointsIdeal.τ).loc Cert.PointsIdeal.main_arg11) = m ((c.tc : Thread Cert.PointsIdeal.nD Cert.PointsIdeal.τ).loc Cert.PointsIdeal.main_arg11)
      ∧ r.2.mem ((c.tc : Thread Cert.PointsIdeal.nD Cert.PointsIdeal.τ).loc Cert.PointsIdeal.main_arg12) = m ((c.tc : Thread Cert.PointsIdeal.nD Cert.PointsIdeal.τ).loc Cert.PointsIdeal.main_arg12)
      ∧ r.2.mem ((c.tc : Thread Cert.PointsIdeal.nD Cert.PointsIdeal.τ).loc Cert.PointsIdeal.main_arg13) = m ((c.tc : Thread Cert.PointsIdeal.nD Cert.PointsIdeal.τ).loc Cert.PointsIdeal.main_arg13))
      ∧ r.2.sem = fun _ => 0)

def quiescent_PointsIdeal_pre_finite_layers [hPointsIdeal : Cert.PointsIdeal.Facts] [hPre_finite_layers : Cert.Pre_finite_layers.Facts] : Prop :=
  ∀ (m : (ℓ : Loc Cert.PointsIdeal.nD Cert.PointsIdeal.τ Cert.PointsIdeal.sig) → Buf (Elt Ideal) ℓ) (g : Dev Cert.PointsIdeal.nD → PrngReg), Pre_PointsIdeal_finite_layers m →
    θ_run (Cert.PointsIdeal.defs (F := Ideal)) (onTc (τ := Cert.PointsIdeal.τ) (Cert.PointsIdeal.main (F := Ideal))) ⟨m, fun _ => 0, g⟩ (fun r => (∀ c : Dev Cert.PointsIdeal.nD,
      r.2.mem ((c.tc : Thread Cert.PointsIdeal.nD Cert.PointsIdeal.τ).loc Cert.PointsIdeal.main_arg0) = m ((c.tc : Thread Cert.PointsIdeal.nD Cert.PointsIdeal.τ).loc Cert.PointsIdeal.main_arg0)
      ∧ r.2.mem ((c.tc : Thread Cert.PointsIdeal.nD Cert.PointsIdeal.τ).loc Cert.PointsIdeal.main_arg1) = m ((c.tc : Thread Cert.PointsIdeal.nD Cert.PointsIdeal.τ).loc Cert.PointsIdeal.main_arg1)
      ∧ r.2.mem ((c.tc : Thread Cert.PointsIdeal.nD Cert.PointsIdeal.τ).loc Cert.PointsIdeal.main_arg2) = m ((c.tc : Thread Cert.PointsIdeal.nD Cert.PointsIdeal.τ).loc Cert.PointsIdeal.main_arg2)
      ∧ r.2.mem ((c.tc : Thread Cert.PointsIdeal.nD Cert.PointsIdeal.τ).loc Cert.PointsIdeal.main_arg3) = m ((c.tc : Thread Cert.PointsIdeal.nD Cert.PointsIdeal.τ).loc Cert.PointsIdeal.main_arg3)
      ∧ r.2.mem ((c.tc : Thread Cert.PointsIdeal.nD Cert.PointsIdeal.τ).loc Cert.PointsIdeal.main_arg4) = m ((c.tc : Thread Cert.PointsIdeal.nD Cert.PointsIdeal.τ).loc Cert.PointsIdeal.main_arg4)
      ∧ r.2.mem ((c.tc : Thread Cert.PointsIdeal.nD Cert.PointsIdeal.τ).loc Cert.PointsIdeal.main_arg5) = m ((c.tc : Thread Cert.PointsIdeal.nD Cert.PointsIdeal.τ).loc Cert.PointsIdeal.main_arg5)
      ∧ r.2.mem ((c.tc : Thread Cert.PointsIdeal.nD Cert.PointsIdeal.τ).loc Cert.PointsIdeal.main_arg6) = m ((c.tc : Thread Cert.PointsIdeal.nD Cert.PointsIdeal.τ).loc Cert.PointsIdeal.main_arg6)
      ∧ r.2.mem ((c.tc : Thread Cert.PointsIdeal.nD Cert.PointsIdeal.τ).loc Cert.PointsIdeal.main_arg7) = m ((c.tc : Thread Cert.PointsIdeal.nD Cert.PointsIdeal.τ).loc Cert.PointsIdeal.main_arg7)
      ∧ r.2.mem ((c.tc : Thread Cert.PointsIdeal.nD Cert.PointsIdeal.τ).loc Cert.PointsIdeal.main_arg8) = m ((c.tc : Thread Cert.PointsIdeal.nD Cert.PointsIdeal.τ).loc Cert.PointsIdeal.main_arg8)
      ∧ r.2.mem ((c.tc : Thread Cert.PointsIdeal.nD Cert.PointsIdeal.τ).loc Cert.PointsIdeal.main_arg9) = m ((c.tc : Thread Cert.PointsIdeal.nD Cert.PointsIdeal.τ).loc Cert.PointsIdeal.main_arg9)
      ∧ r.2.mem ((c.tc : Thread Cert.PointsIdeal.nD Cert.PointsIdeal.τ).loc Cert.PointsIdeal.main_arg10) = m ((c.tc : Thread Cert.PointsIdeal.nD Cert.PointsIdeal.τ).loc Cert.PointsIdeal.main_arg10)
      ∧ r.2.mem ((c.tc : Thread Cert.PointsIdeal.nD Cert.PointsIdeal.τ).loc Cert.PointsIdeal.main_arg11) = m ((c.tc : Thread Cert.PointsIdeal.nD Cert.PointsIdeal.τ).loc Cert.PointsIdeal.main_arg11)
      ∧ r.2.mem ((c.tc : Thread Cert.PointsIdeal.nD Cert.PointsIdeal.τ).loc Cert.PointsIdeal.main_arg12) = m ((c.tc : Thread Cert.PointsIdeal.nD Cert.PointsIdeal.τ).loc Cert.PointsIdeal.main_arg12)
      ∧ r.2.mem ((c.tc : Thread Cert.PointsIdeal.nD Cert.PointsIdeal.τ).loc Cert.PointsIdeal.main_arg13) = m ((c.tc : Thread Cert.PointsIdeal.nD Cert.PointsIdeal.τ).loc Cert.PointsIdeal.main_arg13))
      ∧ r.2.sem = fun _ => 0)

def quiescent_PointsReferenceIdeal [hPointsReferenceIdeal : Cert.PointsReferenceIdeal.Facts] : Prop :=
  ∀ (m : (ℓ : Loc Cert.PointsReferenceIdeal.nD Cert.PointsReferenceIdeal.τ Cert.PointsReferenceIdeal.sig) → Buf (Elt Ideal) ℓ) (g : Dev Cert.PointsReferenceIdeal.nD → PrngReg), Pre_PointsReferenceIdeal m →
    θ_run (Cert.PointsReferenceIdeal.defs (F := Ideal)) (onTc (τ := Cert.PointsReferenceIdeal.τ) (Cert.PointsReferenceIdeal.main (F := Ideal))) ⟨m, fun _ => 0, g⟩ (fun r => (∀ c : Dev Cert.PointsReferenceIdeal.nD,
      r.2.mem ((c.tc : Thread Cert.PointsReferenceIdeal.nD Cert.PointsReferenceIdeal.τ).loc Cert.PointsReferenceIdeal.main_arg0) = m ((c.tc : Thread Cert.PointsReferenceIdeal.nD Cert.PointsReferenceIdeal.τ).loc Cert.PointsReferenceIdeal.main_arg0)
      ∧ r.2.mem ((c.tc : Thread Cert.PointsReferenceIdeal.nD Cert.PointsReferenceIdeal.τ).loc Cert.PointsReferenceIdeal.main_arg1) = m ((c.tc : Thread Cert.PointsReferenceIdeal.nD Cert.PointsReferenceIdeal.τ).loc Cert.PointsReferenceIdeal.main_arg1)
      ∧ r.2.mem ((c.tc : Thread Cert.PointsReferenceIdeal.nD Cert.PointsReferenceIdeal.τ).loc Cert.PointsReferenceIdeal.main_arg2) = m ((c.tc : Thread Cert.PointsReferenceIdeal.nD Cert.PointsReferenceIdeal.τ).loc Cert.PointsReferenceIdeal.main_arg2)
      ∧ r.2.mem ((c.tc : Thread Cert.PointsReferenceIdeal.nD Cert.PointsReferenceIdeal.τ).loc Cert.PointsReferenceIdeal.main_arg3) = m ((c.tc : Thread Cert.PointsReferenceIdeal.nD Cert.PointsReferenceIdeal.τ).loc Cert.PointsReferenceIdeal.main_arg3)
      ∧ r.2.mem ((c.tc : Thread Cert.PointsReferenceIdeal.nD Cert.PointsReferenceIdeal.τ).loc Cert.PointsReferenceIdeal.main_arg4) = m ((c.tc : Thread Cert.PointsReferenceIdeal.nD Cert.PointsReferenceIdeal.τ).loc Cert.PointsReferenceIdeal.main_arg4)
      ∧ r.2.mem ((c.tc : Thread Cert.PointsReferenceIdeal.nD Cert.PointsReferenceIdeal.τ).loc Cert.PointsReferenceIdeal.main_arg5) = m ((c.tc : Thread Cert.PointsReferenceIdeal.nD Cert.PointsReferenceIdeal.τ).loc Cert.PointsReferenceIdeal.main_arg5)
      ∧ r.2.mem ((c.tc : Thread Cert.PointsReferenceIdeal.nD Cert.PointsReferenceIdeal.τ).loc Cert.PointsReferenceIdeal.main_arg6) = m ((c.tc : Thread Cert.PointsReferenceIdeal.nD Cert.PointsReferenceIdeal.τ).loc Cert.PointsReferenceIdeal.main_arg6)
      ∧ r.2.mem ((c.tc : Thread Cert.PointsReferenceIdeal.nD Cert.PointsReferenceIdeal.τ).loc Cert.PointsReferenceIdeal.main_arg7) = m ((c.tc : Thread Cert.PointsReferenceIdeal.nD Cert.PointsReferenceIdeal.τ).loc Cert.PointsReferenceIdeal.main_arg7)
      ∧ r.2.mem ((c.tc : Thread Cert.PointsReferenceIdeal.nD Cert.PointsReferenceIdeal.τ).loc Cert.PointsReferenceIdeal.main_arg8) = m ((c.tc : Thread Cert.PointsReferenceIdeal.nD Cert.PointsReferenceIdeal.τ).loc Cert.PointsReferenceIdeal.main_arg8)
      ∧ r.2.mem ((c.tc : Thread Cert.PointsReferenceIdeal.nD Cert.PointsReferenceIdeal.τ).loc Cert.PointsReferenceIdeal.main_arg9) = m ((c.tc : Thread Cert.PointsReferenceIdeal.nD Cert.PointsReferenceIdeal.τ).loc Cert.PointsReferenceIdeal.main_arg9)
      ∧ r.2.mem ((c.tc : Thread Cert.PointsReferenceIdeal.nD Cert.PointsReferenceIdeal.τ).loc Cert.PointsReferenceIdeal.main_arg10) = m ((c.tc : Thread Cert.PointsReferenceIdeal.nD Cert.PointsReferenceIdeal.τ).loc Cert.PointsReferenceIdeal.main_arg10)
      ∧ r.2.mem ((c.tc : Thread Cert.PointsReferenceIdeal.nD Cert.PointsReferenceIdeal.τ).loc Cert.PointsReferenceIdeal.main_arg11) = m ((c.tc : Thread Cert.PointsReferenceIdeal.nD Cert.PointsReferenceIdeal.τ).loc Cert.PointsReferenceIdeal.main_arg11)
      ∧ r.2.mem ((c.tc : Thread Cert.PointsReferenceIdeal.nD Cert.PointsReferenceIdeal.τ).loc Cert.PointsReferenceIdeal.main_arg12) = m ((c.tc : Thread Cert.PointsReferenceIdeal.nD Cert.PointsReferenceIdeal.τ).loc Cert.PointsReferenceIdeal.main_arg12)
      ∧ r.2.mem ((c.tc : Thread Cert.PointsReferenceIdeal.nD Cert.PointsReferenceIdeal.τ).loc Cert.PointsReferenceIdeal.main_arg13) = m ((c.tc : Thread Cert.PointsReferenceIdeal.nD Cert.PointsReferenceIdeal.τ).loc Cert.PointsReferenceIdeal.main_arg13))
      ∧ r.2.sem = fun _ => 0)

def quiescent_PointsReferenceIdeal_pre_finite_layers [hPointsReferenceIdeal : Cert.PointsReferenceIdeal.Facts] [hPre_finite_layers : Cert.Pre_finite_layers.Facts] : Prop :=
  ∀ (m : (ℓ : Loc Cert.PointsReferenceIdeal.nD Cert.PointsReferenceIdeal.τ Cert.PointsReferenceIdeal.sig) → Buf (Elt Ideal) ℓ) (g : Dev Cert.PointsReferenceIdeal.nD → PrngReg), Pre_PointsReferenceIdeal_finite_layers m →
    θ_run (Cert.PointsReferenceIdeal.defs (F := Ideal)) (onTc (τ := Cert.PointsReferenceIdeal.τ) (Cert.PointsReferenceIdeal.main (F := Ideal))) ⟨m, fun _ => 0, g⟩ (fun r => (∀ c : Dev Cert.PointsReferenceIdeal.nD,
      r.2.mem ((c.tc : Thread Cert.PointsReferenceIdeal.nD Cert.PointsReferenceIdeal.τ).loc Cert.PointsReferenceIdeal.main_arg0) = m ((c.tc : Thread Cert.PointsReferenceIdeal.nD Cert.PointsReferenceIdeal.τ).loc Cert.PointsReferenceIdeal.main_arg0)
      ∧ r.2.mem ((c.tc : Thread Cert.PointsReferenceIdeal.nD Cert.PointsReferenceIdeal.τ).loc Cert.PointsReferenceIdeal.main_arg1) = m ((c.tc : Thread Cert.PointsReferenceIdeal.nD Cert.PointsReferenceIdeal.τ).loc Cert.PointsReferenceIdeal.main_arg1)
      ∧ r.2.mem ((c.tc : Thread Cert.PointsReferenceIdeal.nD Cert.PointsReferenceIdeal.τ).loc Cert.PointsReferenceIdeal.main_arg2) = m ((c.tc : Thread Cert.PointsReferenceIdeal.nD Cert.PointsReferenceIdeal.τ).loc Cert.PointsReferenceIdeal.main_arg2)
      ∧ r.2.mem ((c.tc : Thread Cert.PointsReferenceIdeal.nD Cert.PointsReferenceIdeal.τ).loc Cert.PointsReferenceIdeal.main_arg3) = m ((c.tc : Thread Cert.PointsReferenceIdeal.nD Cert.PointsReferenceIdeal.τ).loc Cert.PointsReferenceIdeal.main_arg3)
      ∧ r.2.mem ((c.tc : Thread Cert.PointsReferenceIdeal.nD Cert.PointsReferenceIdeal.τ).loc Cert.PointsReferenceIdeal.main_arg4) = m ((c.tc : Thread Cert.PointsReferenceIdeal.nD Cert.PointsReferenceIdeal.τ).loc Cert.PointsReferenceIdeal.main_arg4)
      ∧ r.2.mem ((c.tc : Thread Cert.PointsReferenceIdeal.nD Cert.PointsReferenceIdeal.τ).loc Cert.PointsReferenceIdeal.main_arg5) = m ((c.tc : Thread Cert.PointsReferenceIdeal.nD Cert.PointsReferenceIdeal.τ).loc Cert.PointsReferenceIdeal.main_arg5)
      ∧ r.2.mem ((c.tc : Thread Cert.PointsReferenceIdeal.nD Cert.PointsReferenceIdeal.τ).loc Cert.PointsReferenceIdeal.main_arg6) = m ((c.tc : Thread Cert.PointsReferenceIdeal.nD Cert.PointsReferenceIdeal.τ).loc Cert.PointsReferenceIdeal.main_arg6)
      ∧ r.2.mem ((c.tc : Thread Cert.PointsReferenceIdeal.nD Cert.PointsReferenceIdeal.τ).loc Cert.PointsReferenceIdeal.main_arg7) = m ((c.tc : Thread Cert.PointsReferenceIdeal.nD Cert.PointsReferenceIdeal.τ).loc Cert.PointsReferenceIdeal.main_arg7)
      ∧ r.2.mem ((c.tc : Thread Cert.PointsReferenceIdeal.nD Cert.PointsReferenceIdeal.τ).loc Cert.PointsReferenceIdeal.main_arg8) = m ((c.tc : Thread Cert.PointsReferenceIdeal.nD Cert.PointsReferenceIdeal.τ).loc Cert.PointsReferenceIdeal.main_arg8)
      ∧ r.2.mem ((c.tc : Thread Cert.PointsReferenceIdeal.nD Cert.PointsReferenceIdeal.τ).loc Cert.PointsReferenceIdeal.main_arg9) = m ((c.tc : Thread Cert.PointsReferenceIdeal.nD Cert.PointsReferenceIdeal.τ).loc Cert.PointsReferenceIdeal.main_arg9)
      ∧ r.2.mem ((c.tc : Thread Cert.PointsReferenceIdeal.nD Cert.PointsReferenceIdeal.τ).loc Cert.PointsReferenceIdeal.main_arg10) = m ((c.tc : Thread Cert.PointsReferenceIdeal.nD Cert.PointsReferenceIdeal.τ).loc Cert.PointsReferenceIdeal.main_arg10)
      ∧ r.2.mem ((c.tc : Thread Cert.PointsReferenceIdeal.nD Cert.PointsReferenceIdeal.τ).loc Cert.PointsReferenceIdeal.main_arg11) = m ((c.tc : Thread Cert.PointsReferenceIdeal.nD Cert.PointsReferenceIdeal.τ).loc Cert.PointsReferenceIdeal.main_arg11)
      ∧ r.2.mem ((c.tc : Thread Cert.PointsReferenceIdeal.nD Cert.PointsReferenceIdeal.τ).loc Cert.PointsReferenceIdeal.main_arg12) = m ((c.tc : Thread Cert.PointsReferenceIdeal.nD Cert.PointsReferenceIdeal.τ).loc Cert.PointsReferenceIdeal.main_arg12)
      ∧ r.2.mem ((c.tc : Thread Cert.PointsReferenceIdeal.nD Cert.PointsReferenceIdeal.τ).loc Cert.PointsReferenceIdeal.main_arg13) = m ((c.tc : Thread Cert.PointsReferenceIdeal.nD Cert.PointsReferenceIdeal.τ).loc Cert.PointsReferenceIdeal.main_arg13))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
      ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
      ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
      ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
      ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
      ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
      ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14))
      ∧ r.2.sem = fun _ => 0)

def quiescent_WholeIdeal_pre_finite_whole [hWholeIdeal : Cert.WholeIdeal.Facts] [hPre_finite_whole : Cert.Pre_finite_whole.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_finite_whole m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
      ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
      ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
      ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
      ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
      ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
      ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5)
      ∧ r.2.mem ((c.tc : Thread Cert.WholeReferenceIdeal.nD Cert.WholeReferenceIdeal.τ).loc Cert.WholeReferenceIdeal.main_arg6) = m ((c.tc : Thread Cert.WholeReferenceIdeal.nD Cert.WholeReferenceIdeal.τ).loc Cert.WholeReferenceIdeal.main_arg6)
      ∧ r.2.mem ((c.tc : Thread Cert.WholeReferenceIdeal.nD Cert.WholeReferenceIdeal.τ).loc Cert.WholeReferenceIdeal.main_arg7) = m ((c.tc : Thread Cert.WholeReferenceIdeal.nD Cert.WholeReferenceIdeal.τ).loc Cert.WholeReferenceIdeal.main_arg7)
      ∧ r.2.mem ((c.tc : Thread Cert.WholeReferenceIdeal.nD Cert.WholeReferenceIdeal.τ).loc Cert.WholeReferenceIdeal.main_arg8) = m ((c.tc : Thread Cert.WholeReferenceIdeal.nD Cert.WholeReferenceIdeal.τ).loc Cert.WholeReferenceIdeal.main_arg8)
      ∧ r.2.mem ((c.tc : Thread Cert.WholeReferenceIdeal.nD Cert.WholeReferenceIdeal.τ).loc Cert.WholeReferenceIdeal.main_arg9) = m ((c.tc : Thread Cert.WholeReferenceIdeal.nD Cert.WholeReferenceIdeal.τ).loc Cert.WholeReferenceIdeal.main_arg9)
      ∧ r.2.mem ((c.tc : Thread Cert.WholeReferenceIdeal.nD Cert.WholeReferenceIdeal.τ).loc Cert.WholeReferenceIdeal.main_arg10) = m ((c.tc : Thread Cert.WholeReferenceIdeal.nD Cert.WholeReferenceIdeal.τ).loc Cert.WholeReferenceIdeal.main_arg10)
      ∧ r.2.mem ((c.tc : Thread Cert.WholeReferenceIdeal.nD Cert.WholeReferenceIdeal.τ).loc Cert.WholeReferenceIdeal.main_arg11) = m ((c.tc : Thread Cert.WholeReferenceIdeal.nD Cert.WholeReferenceIdeal.τ).loc Cert.WholeReferenceIdeal.main_arg11)
      ∧ r.2.mem ((c.tc : Thread Cert.WholeReferenceIdeal.nD Cert.WholeReferenceIdeal.τ).loc Cert.WholeReferenceIdeal.main_arg12) = m ((c.tc : Thread Cert.WholeReferenceIdeal.nD Cert.WholeReferenceIdeal.τ).loc Cert.WholeReferenceIdeal.main_arg12)
      ∧ r.2.mem ((c.tc : Thread Cert.WholeReferenceIdeal.nD Cert.WholeReferenceIdeal.τ).loc Cert.WholeReferenceIdeal.main_arg13) = m ((c.tc : Thread Cert.WholeReferenceIdeal.nD Cert.WholeReferenceIdeal.τ).loc Cert.WholeReferenceIdeal.main_arg13)
      ∧ r.2.mem ((c.tc : Thread Cert.WholeReferenceIdeal.nD Cert.WholeReferenceIdeal.τ).loc Cert.WholeReferenceIdeal.main_arg14) = m ((c.tc : Thread Cert.WholeReferenceIdeal.nD Cert.WholeReferenceIdeal.τ).loc Cert.WholeReferenceIdeal.main_arg14))
      ∧ r.2.sem = fun _ => 0)

def quiescent_WholeReferenceIdeal_pre_finite_whole [hWholeReferenceIdeal : Cert.WholeReferenceIdeal.Facts] [hPre_finite_whole : Cert.Pre_finite_whole.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_finite_whole m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5)
      ∧ r.2.mem ((c.tc : Thread Cert.WholeReferenceIdeal.nD Cert.WholeReferenceIdeal.τ).loc Cert.WholeReferenceIdeal.main_arg6) = m ((c.tc : Thread Cert.WholeReferenceIdeal.nD Cert.WholeReferenceIdeal.τ).loc Cert.WholeReferenceIdeal.main_arg6)
      ∧ r.2.mem ((c.tc : Thread Cert.WholeReferenceIdeal.nD Cert.WholeReferenceIdeal.τ).loc Cert.WholeReferenceIdeal.main_arg7) = m ((c.tc : Thread Cert.WholeReferenceIdeal.nD Cert.WholeReferenceIdeal.τ).loc Cert.WholeReferenceIdeal.main_arg7)
      ∧ r.2.mem ((c.tc : Thread Cert.WholeReferenceIdeal.nD Cert.WholeReferenceIdeal.τ).loc Cert.WholeReferenceIdeal.main_arg8) = m ((c.tc : Thread Cert.WholeReferenceIdeal.nD Cert.WholeReferenceIdeal.τ).loc Cert.WholeReferenceIdeal.main_arg8)
      ∧ r.2.mem ((c.tc : Thread Cert.WholeReferenceIdeal.nD Cert.WholeReferenceIdeal.τ).loc Cert.WholeReferenceIdeal.main_arg9) = m ((c.tc : Thread Cert.WholeReferenceIdeal.nD Cert.WholeReferenceIdeal.τ).loc Cert.WholeReferenceIdeal.main_arg9)
      ∧ r.2.mem ((c.tc : Thread Cert.WholeReferenceIdeal.nD Cert.WholeReferenceIdeal.τ).loc Cert.WholeReferenceIdeal.main_arg10) = m ((c.tc : Thread Cert.WholeReferenceIdeal.nD Cert.WholeReferenceIdeal.τ).loc Cert.WholeReferenceIdeal.main_arg10)
      ∧ r.2.mem ((c.tc : Thread Cert.WholeReferenceIdeal.nD Cert.WholeReferenceIdeal.τ).loc Cert.WholeReferenceIdeal.main_arg11) = m ((c.tc : Thread Cert.WholeReferenceIdeal.nD Cert.WholeReferenceIdeal.τ).loc Cert.WholeReferenceIdeal.main_arg11)
      ∧ r.2.mem ((c.tc : Thread Cert.WholeReferenceIdeal.nD Cert.WholeReferenceIdeal.τ).loc Cert.WholeReferenceIdeal.main_arg12) = m ((c.tc : Thread Cert.WholeReferenceIdeal.nD Cert.WholeReferenceIdeal.τ).loc Cert.WholeReferenceIdeal.main_arg12)
      ∧ r.2.mem ((c.tc : Thread Cert.WholeReferenceIdeal.nD Cert.WholeReferenceIdeal.τ).loc Cert.WholeReferenceIdeal.main_arg13) = m ((c.tc : Thread Cert.WholeReferenceIdeal.nD Cert.WholeReferenceIdeal.τ).loc Cert.WholeReferenceIdeal.main_arg13)
      ∧ r.2.mem ((c.tc : Thread Cert.WholeReferenceIdeal.nD Cert.WholeReferenceIdeal.τ).loc Cert.WholeReferenceIdeal.main_arg14) = m ((c.tc : Thread Cert.WholeReferenceIdeal.nD Cert.WholeReferenceIdeal.τ).loc Cert.WholeReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Groups_GroupsIdeal : Prop :=
  True

def algebraic_GroupsIdeal_GroupsReferenceIdeal_pre_finite_points [hGroupsIdeal : Cert.GroupsIdeal.Facts] [hGroupsReferenceIdeal : Cert.GroupsReferenceIdeal.Facts] [hPre_finite_points : Cert.Pre_finite_points.Facts] : Prop :=
  ∀ (m : (ℓ : Loc Cert.GroupsIdeal.nD Cert.GroupsIdeal.τ Cert.GroupsIdeal.sig) → Buf (Elt Ideal) ℓ) (g : Dev Cert.GroupsIdeal.nD → PrngReg)
    (m' : (ℓ : Loc Cert.GroupsReferenceIdeal.nD Cert.GroupsReferenceIdeal.τ Cert.GroupsReferenceIdeal.sig) → Buf (Elt Ideal) ℓ) (g' : Dev Cert.GroupsReferenceIdeal.nD → PrngReg), Pre_GroupsIdeal_finite_points m →
    (∀ c : Dev Cert.GroupsIdeal.nD,
      m' ((c.tc : Thread Cert.GroupsReferenceIdeal.nD Cert.GroupsReferenceIdeal.τ).loc Cert.GroupsReferenceIdeal.main_arg0) = m ((c.tc : Thread Cert.GroupsIdeal.nD Cert.GroupsIdeal.τ).loc Cert.GroupsIdeal.main_arg0)) →
    ∃ (v0 : (c : Dev Cert.GroupsIdeal.nD) → Buf (Elt Ideal) ((c.tc : Thread Cert.GroupsIdeal.nD Cert.GroupsIdeal.τ).loc Cert.GroupsIdeal.main_v5)) (v1 : (c : Dev Cert.GroupsIdeal.nD) → Buf (Elt Ideal) ((c.tc : Thread Cert.GroupsIdeal.nD Cert.GroupsIdeal.τ).loc Cert.GroupsIdeal.main_v4)),
      θ_run (Cert.GroupsIdeal.defs (F := Ideal)) (onTc (τ := Cert.GroupsIdeal.τ) (Cert.GroupsIdeal.main (F := Ideal))) ⟨m, fun _ => 0, g⟩ (fun r => ∀ c : Dev Cert.GroupsIdeal.nD,
          r.2.mem ((c.tc : Thread Cert.GroupsIdeal.nD Cert.GroupsIdeal.τ).loc Cert.GroupsIdeal.main_v5) = v0 c
          ∧ r.2.mem ((c.tc : Thread Cert.GroupsIdeal.nD Cert.GroupsIdeal.τ).loc Cert.GroupsIdeal.main_v4) = v1 c
          ∧ r.2.mem ((c.tc : Thread Cert.GroupsIdeal.nD Cert.GroupsIdeal.τ).loc Cert.GroupsIdeal.main_arg0) = m ((c.tc : Thread Cert.GroupsIdeal.nD Cert.GroupsIdeal.τ).loc Cert.GroupsIdeal.main_arg0))
      ∧ θ_run (Cert.GroupsReferenceIdeal.defs (F := Ideal)) (onTc (τ := Cert.GroupsReferenceIdeal.τ) (Cert.GroupsReferenceIdeal.main (F := Ideal))) ⟨m', fun _ => 0, g'⟩ (fun r => ∀ c : Dev Cert.GroupsReferenceIdeal.nD,
          r.2.mem ((c.tc : Thread Cert.GroupsReferenceIdeal.nD Cert.GroupsReferenceIdeal.τ).loc Cert.GroupsReferenceIdeal.main_v5) = v0 c
          ∧ r.2.mem ((c.tc : Thread Cert.GroupsReferenceIdeal.nD Cert.GroupsReferenceIdeal.τ).loc Cert.GroupsReferenceIdeal.main_indices) = v1 c
          ∧ r.2.mem ((c.tc : Thread Cert.GroupsReferenceIdeal.nD Cert.GroupsReferenceIdeal.τ).loc Cert.GroupsReferenceIdeal.main_arg0) = m' ((c.tc : Thread Cert.GroupsReferenceIdeal.nD Cert.GroupsReferenceIdeal.τ).loc Cert.GroupsReferenceIdeal.main_arg0))

def preserves_Points_PointsIdeal : Prop :=
  IdealRules.named_const.Statement Cert.PointsIdeal.κ "rs" .f32 0x3F7FDF42#32 (((Real.sqrt (1001 / 1000))⁻¹ : ℝ) : EReal)

def algebraic_PointsIdeal_PointsReferenceIdeal_pre_finite_layers [hPointsIdeal : Cert.PointsIdeal.Facts] [hPointsReferenceIdeal : Cert.PointsReferenceIdeal.Facts] [hPre_finite_layers : Cert.Pre_finite_layers.Facts] : Prop :=
  ∀ (m : (ℓ : Loc Cert.PointsIdeal.nD Cert.PointsIdeal.τ Cert.PointsIdeal.sig) → Buf (Elt Ideal) ℓ) (g : Dev Cert.PointsIdeal.nD → PrngReg)
    (m' : (ℓ : Loc Cert.PointsReferenceIdeal.nD Cert.PointsReferenceIdeal.τ Cert.PointsReferenceIdeal.sig) → Buf (Elt Ideal) ℓ) (g' : Dev Cert.PointsReferenceIdeal.nD → PrngReg), Pre_PointsIdeal_finite_layers m →
    (∀ c : Dev Cert.PointsIdeal.nD,
      m' ((c.tc : Thread Cert.PointsReferenceIdeal.nD Cert.PointsReferenceIdeal.τ).loc Cert.PointsReferenceIdeal.main_arg0) = m ((c.tc : Thread Cert.PointsIdeal.nD Cert.PointsIdeal.τ).loc Cert.PointsIdeal.main_arg0)
      ∧ m' ((c.tc : Thread Cert.PointsReferenceIdeal.nD Cert.PointsReferenceIdeal.τ).loc Cert.PointsReferenceIdeal.main_arg1) = m ((c.tc : Thread Cert.PointsIdeal.nD Cert.PointsIdeal.τ).loc Cert.PointsIdeal.main_arg1)
      ∧ m' ((c.tc : Thread Cert.PointsReferenceIdeal.nD Cert.PointsReferenceIdeal.τ).loc Cert.PointsReferenceIdeal.main_arg2) = m ((c.tc : Thread Cert.PointsIdeal.nD Cert.PointsIdeal.τ).loc Cert.PointsIdeal.main_arg2)
      ∧ m' ((c.tc : Thread Cert.PointsReferenceIdeal.nD Cert.PointsReferenceIdeal.τ).loc Cert.PointsReferenceIdeal.main_arg3) = m ((c.tc : Thread Cert.PointsIdeal.nD Cert.PointsIdeal.τ).loc Cert.PointsIdeal.main_arg3)
      ∧ m' ((c.tc : Thread Cert.PointsReferenceIdeal.nD Cert.PointsReferenceIdeal.τ).loc Cert.PointsReferenceIdeal.main_arg4) = m ((c.tc : Thread Cert.PointsIdeal.nD Cert.PointsIdeal.τ).loc Cert.PointsIdeal.main_arg4)
      ∧ m' ((c.tc : Thread Cert.PointsReferenceIdeal.nD Cert.PointsReferenceIdeal.τ).loc Cert.PointsReferenceIdeal.main_arg5) = m ((c.tc : Thread Cert.PointsIdeal.nD Cert.PointsIdeal.τ).loc Cert.PointsIdeal.main_arg5)
      ∧ m' ((c.tc : Thread Cert.PointsReferenceIdeal.nD Cert.PointsReferenceIdeal.τ).loc Cert.PointsReferenceIdeal.main_arg6) = m ((c.tc : Thread Cert.PointsIdeal.nD Cert.PointsIdeal.τ).loc Cert.PointsIdeal.main_arg6)
      ∧ m' ((c.tc : Thread Cert.PointsReferenceIdeal.nD Cert.PointsReferenceIdeal.τ).loc Cert.PointsReferenceIdeal.main_arg7) = m ((c.tc : Thread Cert.PointsIdeal.nD Cert.PointsIdeal.τ).loc Cert.PointsIdeal.main_arg7)
      ∧ m' ((c.tc : Thread Cert.PointsReferenceIdeal.nD Cert.PointsReferenceIdeal.τ).loc Cert.PointsReferenceIdeal.main_arg8) = m ((c.tc : Thread Cert.PointsIdeal.nD Cert.PointsIdeal.τ).loc Cert.PointsIdeal.main_arg8)
      ∧ m' ((c.tc : Thread Cert.PointsReferenceIdeal.nD Cert.PointsReferenceIdeal.τ).loc Cert.PointsReferenceIdeal.main_arg9) = m ((c.tc : Thread Cert.PointsIdeal.nD Cert.PointsIdeal.τ).loc Cert.PointsIdeal.main_arg9)
      ∧ m' ((c.tc : Thread Cert.PointsReferenceIdeal.nD Cert.PointsReferenceIdeal.τ).loc Cert.PointsReferenceIdeal.main_arg10) = m ((c.tc : Thread Cert.PointsIdeal.nD Cert.PointsIdeal.τ).loc Cert.PointsIdeal.main_arg10)
      ∧ m' ((c.tc : Thread Cert.PointsReferenceIdeal.nD Cert.PointsReferenceIdeal.τ).loc Cert.PointsReferenceIdeal.main_arg11) = m ((c.tc : Thread Cert.PointsIdeal.nD Cert.PointsIdeal.τ).loc Cert.PointsIdeal.main_arg11)
      ∧ m' ((c.tc : Thread Cert.PointsReferenceIdeal.nD Cert.PointsReferenceIdeal.τ).loc Cert.PointsReferenceIdeal.main_arg12) = m ((c.tc : Thread Cert.PointsIdeal.nD Cert.PointsIdeal.τ).loc Cert.PointsIdeal.main_arg12)
      ∧ m' ((c.tc : Thread Cert.PointsReferenceIdeal.nD Cert.PointsReferenceIdeal.τ).loc Cert.PointsReferenceIdeal.main_arg13) = m ((c.tc : Thread Cert.PointsIdeal.nD Cert.PointsIdeal.τ).loc Cert.PointsIdeal.main_arg13)) →
    ∃ (v0 : (c : Dev Cert.PointsIdeal.nD) → Buf (Elt Ideal) ((c.tc : Thread Cert.PointsIdeal.nD Cert.PointsIdeal.τ).loc Cert.PointsIdeal.main_v11)),
      θ_run (Cert.PointsIdeal.defs (F := Ideal)) (onTc (τ := Cert.PointsIdeal.τ) (Cert.PointsIdeal.main (F := Ideal))) ⟨m, fun _ => 0, g⟩ (fun r => ∀ c : Dev Cert.PointsIdeal.nD,
          r.2.mem ((c.tc : Thread Cert.PointsIdeal.nD Cert.PointsIdeal.τ).loc Cert.PointsIdeal.main_v11) = v0 c
          ∧ r.2.mem ((c.tc : Thread Cert.PointsIdeal.nD Cert.PointsIdeal.τ).loc Cert.PointsIdeal.main_arg0) = m ((c.tc : Thread Cert.PointsIdeal.nD Cert.PointsIdeal.τ).loc Cert.PointsIdeal.main_arg0)
          ∧ r.2.mem ((c.tc : Thread Cert.PointsIdeal.nD Cert.PointsIdeal.τ).loc Cert.PointsIdeal.main_arg1) = m ((c.tc : Thread Cert.PointsIdeal.nD Cert.PointsIdeal.τ).loc Cert.PointsIdeal.main_arg1)
          ∧ r.2.mem ((c.tc : Thread Cert.PointsIdeal.nD Cert.PointsIdeal.τ).loc Cert.PointsIdeal.main_arg2) = m ((c.tc : Thread Cert.PointsIdeal.nD Cert.PointsIdeal.τ).loc Cert.PointsIdeal.main_arg2)
          ∧ r.2.mem ((c.tc : Thread Cert.PointsIdeal.nD Cert.PointsIdeal.τ).loc Cert.PointsIdeal.main_arg3) = m ((c.tc : Thread Cert.PointsIdeal.nD Cert.PointsIdeal.τ).loc Cert.PointsIdeal.main_arg3)
          ∧ r.2.mem ((c.tc : Thread Cert.PointsIdeal.nD Cert.PointsIdeal.τ).loc Cert.PointsIdeal.main_arg4) = m ((c.tc : Thread Cert.PointsIdeal.nD Cert.PointsIdeal.τ).loc Cert.PointsIdeal.main_arg4)
          ∧ r.2.mem ((c.tc : Thread Cert.PointsIdeal.nD Cert.PointsIdeal.τ).loc Cert.PointsIdeal.main_arg5) = m ((c.tc : Thread Cert.PointsIdeal.nD Cert.PointsIdeal.τ).loc Cert.PointsIdeal.main_arg5)
          ∧ r.2.mem ((c.tc : Thread Cert.PointsIdeal.nD Cert.PointsIdeal.τ).loc Cert.PointsIdeal.main_arg6) = m ((c.tc : Thread Cert.PointsIdeal.nD Cert.PointsIdeal.τ).loc Cert.PointsIdeal.main_arg6)
          ∧ r.2.mem ((c.tc : Thread Cert.PointsIdeal.nD Cert.PointsIdeal.τ).loc Cert.PointsIdeal.main_arg7) = m ((c.tc : Thread Cert.PointsIdeal.nD Cert.PointsIdeal.τ).loc Cert.PointsIdeal.main_arg7)
          ∧ r.2.mem ((c.tc : Thread Cert.PointsIdeal.nD Cert.PointsIdeal.τ).loc Cert.PointsIdeal.main_arg8) = m ((c.tc : Thread Cert.PointsIdeal.nD Cert.PointsIdeal.τ).loc Cert.PointsIdeal.main_arg8)
          ∧ r.2.mem ((c.tc : Thread Cert.PointsIdeal.nD Cert.PointsIdeal.τ).loc Cert.PointsIdeal.main_arg9) = m ((c.tc : Thread Cert.PointsIdeal.nD Cert.PointsIdeal.τ).loc Cert.PointsIdeal.main_arg9)
          ∧ r.2.mem ((c.tc : Thread Cert.PointsIdeal.nD Cert.PointsIdeal.τ).loc Cert.PointsIdeal.main_arg10) = m ((c.tc : Thread Cert.PointsIdeal.nD Cert.PointsIdeal.τ).loc Cert.PointsIdeal.main_arg10)
          ∧ r.2.mem ((c.tc : Thread Cert.PointsIdeal.nD Cert.PointsIdeal.τ).loc Cert.PointsIdeal.main_arg11) = m ((c.tc : Thread Cert.PointsIdeal.nD Cert.PointsIdeal.τ).loc Cert.PointsIdeal.main_arg11)
          ∧ r.2.mem ((c.tc : Thread Cert.PointsIdeal.nD Cert.PointsIdeal.τ).loc Cert.PointsIdeal.main_arg12) = m ((c.tc : Thread Cert.PointsIdeal.nD Cert.PointsIdeal.τ).loc Cert.PointsIdeal.main_arg12)
          ∧ r.2.mem ((c.tc : Thread Cert.PointsIdeal.nD Cert.PointsIdeal.τ).loc Cert.PointsIdeal.main_arg13) = m ((c.tc : Thread Cert.PointsIdeal.nD Cert.PointsIdeal.τ).loc Cert.PointsIdeal.main_arg13))
      ∧ θ_run (Cert.PointsReferenceIdeal.defs (F := Ideal)) (onTc (τ := Cert.PointsReferenceIdeal.τ) (Cert.PointsReferenceIdeal.main (F := Ideal))) ⟨m', fun _ => 0, g'⟩ (fun r => ∀ c : Dev Cert.PointsReferenceIdeal.nD,
          r.2.mem ((c.tc : Thread Cert.PointsReferenceIdeal.nD Cert.PointsReferenceIdeal.τ).loc Cert.PointsReferenceIdeal.main_v56) = v0 c
          ∧ r.2.mem ((c.tc : Thread Cert.PointsReferenceIdeal.nD Cert.PointsReferenceIdeal.τ).loc Cert.PointsReferenceIdeal.main_arg0) = m' ((c.tc : Thread Cert.PointsReferenceIdeal.nD Cert.PointsReferenceIdeal.τ).loc Cert.PointsReferenceIdeal.main_arg0)
          ∧ r.2.mem ((c.tc : Thread Cert.PointsReferenceIdeal.nD Cert.PointsReferenceIdeal.τ).loc Cert.PointsReferenceIdeal.main_arg1) = m' ((c.tc : Thread Cert.PointsReferenceIdeal.nD Cert.PointsReferenceIdeal.τ).loc Cert.PointsReferenceIdeal.main_arg1)
          ∧ r.2.mem ((c.tc : Thread Cert.PointsReferenceIdeal.nD Cert.PointsReferenceIdeal.τ).loc Cert.PointsReferenceIdeal.main_arg2) = m' ((c.tc : Thread Cert.PointsReferenceIdeal.nD Cert.PointsReferenceIdeal.τ).loc Cert.PointsReferenceIdeal.main_arg2)
          ∧ r.2.mem ((c.tc : Thread Cert.PointsReferenceIdeal.nD Cert.PointsReferenceIdeal.τ).loc Cert.PointsReferenceIdeal.main_arg3) = m' ((c.tc : Thread Cert.PointsReferenceIdeal.nD Cert.PointsReferenceIdeal.τ).loc Cert.PointsReferenceIdeal.main_arg3)
          ∧ r.2.mem ((c.tc : Thread Cert.PointsReferenceIdeal.nD Cert.PointsReferenceIdeal.τ).loc Cert.PointsReferenceIdeal.main_arg4) = m' ((c.tc : Thread Cert.PointsReferenceIdeal.nD Cert.PointsReferenceIdeal.τ).loc Cert.PointsReferenceIdeal.main_arg4)
          ∧ r.2.mem ((c.tc : Thread Cert.PointsReferenceIdeal.nD Cert.PointsReferenceIdeal.τ).loc Cert.PointsReferenceIdeal.main_arg5) = m' ((c.tc : Thread Cert.PointsReferenceIdeal.nD Cert.PointsReferenceIdeal.τ).loc Cert.PointsReferenceIdeal.main_arg5)
          ∧ r.2.mem ((c.tc : Thread Cert.PointsReferenceIdeal.nD Cert.PointsReferenceIdeal.τ).loc Cert.PointsReferenceIdeal.main_arg6) = m' ((c.tc : Thread Cert.PointsReferenceIdeal.nD Cert.PointsReferenceIdeal.τ).loc Cert.PointsReferenceIdeal.main_arg6)
          ∧ r.2.mem ((c.tc : Thread Cert.PointsReferenceIdeal.nD Cert.PointsReferenceIdeal.τ).loc Cert.PointsReferenceIdeal.main_arg7) = m' ((c.tc : Thread Cert.PointsReferenceIdeal.nD Cert.PointsReferenceIdeal.τ).loc Cert.PointsReferenceIdeal.main_arg7)
          ∧ r.2.mem ((c.tc : Thread Cert.PointsReferenceIdeal.nD Cert.PointsReferenceIdeal.τ).loc Cert.PointsReferenceIdeal.main_arg8) = m' ((c.tc : Thread Cert.PointsReferenceIdeal.nD Cert.PointsReferenceIdeal.τ).loc Cert.PointsReferenceIdeal.main_arg8)
          ∧ r.2.mem ((c.tc : Thread Cert.PointsReferenceIdeal.nD Cert.PointsReferenceIdeal.τ).loc Cert.PointsReferenceIdeal.main_arg9) = m' ((c.tc : Thread Cert.PointsReferenceIdeal.nD Cert.PointsReferenceIdeal.τ).loc Cert.PointsReferenceIdeal.main_arg9)
          ∧ r.2.mem ((c.tc : Thread Cert.PointsReferenceIdeal.nD Cert.PointsReferenceIdeal.τ).loc Cert.PointsReferenceIdeal.main_arg10) = m' ((c.tc : Thread Cert.PointsReferenceIdeal.nD Cert.PointsReferenceIdeal.τ).loc Cert.PointsReferenceIdeal.main_arg10)
          ∧ r.2.mem ((c.tc : Thread Cert.PointsReferenceIdeal.nD Cert.PointsReferenceIdeal.τ).loc Cert.PointsReferenceIdeal.main_arg11) = m' ((c.tc : Thread Cert.PointsReferenceIdeal.nD Cert.PointsReferenceIdeal.τ).loc Cert.PointsReferenceIdeal.main_arg11)
          ∧ r.2.mem ((c.tc : Thread Cert.PointsReferenceIdeal.nD Cert.PointsReferenceIdeal.τ).loc Cert.PointsReferenceIdeal.main_arg12) = m' ((c.tc : Thread Cert.PointsReferenceIdeal.nD Cert.PointsReferenceIdeal.τ).loc Cert.PointsReferenceIdeal.main_arg12)
          ∧ r.2.mem ((c.tc : Thread Cert.PointsReferenceIdeal.nD Cert.PointsReferenceIdeal.τ).loc Cert.PointsReferenceIdeal.main_arg13) = m' ((c.tc : Thread Cert.PointsReferenceIdeal.nD Cert.PointsReferenceIdeal.τ).loc Cert.PointsReferenceIdeal.main_arg13))

def algebraic_WholeIdeal_WholeReferenceIdeal_pre_finite_whole [hWholeIdeal : Cert.WholeIdeal.Facts] [hWholeReferenceIdeal : Cert.WholeReferenceIdeal.Facts] [hPre_finite_whole : Cert.Pre_finite_whole.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_finite_whole m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)
      ∧ m' ((c.tc : Thread Cert.WholeReferenceIdeal.nD Cert.WholeReferenceIdeal.τ).loc Cert.WholeReferenceIdeal.main_arg3) = m ((c.tc : Thread Cert.WholeIdeal.nD Cert.WholeIdeal.τ).loc Cert.WholeIdeal.main_arg3)
      ∧ m' ((c.tc : Thread Cert.WholeReferenceIdeal.nD Cert.WholeReferenceIdeal.τ).loc Cert.WholeReferenceIdeal.main_arg4) = m ((c.tc : Thread Cert.WholeIdeal.nD Cert.WholeIdeal.τ).loc Cert.WholeIdeal.main_arg4)
      ∧ m' ((c.tc : Thread Cert.WholeReferenceIdeal.nD Cert.WholeReferenceIdeal.τ).loc Cert.WholeReferenceIdeal.main_arg5) = m ((c.tc : Thread Cert.WholeIdeal.nD Cert.WholeIdeal.τ).loc Cert.WholeIdeal.main_arg5)
      ∧ m' ((c.tc : Thread Cert.WholeReferenceIdeal.nD Cert.WholeReferenceIdeal.τ).loc Cert.WholeReferenceIdeal.main_arg6) = m ((c.tc : Thread Cert.WholeIdeal.nD Cert.WholeIdeal.τ).loc Cert.WholeIdeal.main_arg6)
      ∧ m' ((c.tc : Thread Cert.WholeReferenceIdeal.nD Cert.WholeReferenceIdeal.τ).loc Cert.WholeReferenceIdeal.main_arg7) = m ((c.tc : Thread Cert.WholeIdeal.nD Cert.WholeIdeal.τ).loc Cert.WholeIdeal.main_arg7)
      ∧ m' ((c.tc : Thread Cert.WholeReferenceIdeal.nD Cert.WholeReferenceIdeal.τ).loc Cert.WholeReferenceIdeal.main_arg8) = m ((c.tc : Thread Cert.WholeIdeal.nD Cert.WholeIdeal.τ).loc Cert.WholeIdeal.main_arg8)
      ∧ m' ((c.tc : Thread Cert.WholeReferenceIdeal.nD Cert.WholeReferenceIdeal.τ).loc Cert.WholeReferenceIdeal.main_arg9) = m ((c.tc : Thread Cert.WholeIdeal.nD Cert.WholeIdeal.τ).loc Cert.WholeIdeal.main_arg9)
      ∧ m' ((c.tc : Thread Cert.WholeReferenceIdeal.nD Cert.WholeReferenceIdeal.τ).loc Cert.WholeReferenceIdeal.main_arg10) = m ((c.tc : Thread Cert.WholeIdeal.nD Cert.WholeIdeal.τ).loc Cert.WholeIdeal.main_arg10)
      ∧ m' ((c.tc : Thread Cert.WholeReferenceIdeal.nD Cert.WholeReferenceIdeal.τ).loc Cert.WholeReferenceIdeal.main_arg11) = m ((c.tc : Thread Cert.WholeIdeal.nD Cert.WholeIdeal.τ).loc Cert.WholeIdeal.main_arg11)
      ∧ m' ((c.tc : Thread Cert.WholeReferenceIdeal.nD Cert.WholeReferenceIdeal.τ).loc Cert.WholeReferenceIdeal.main_arg12) = m ((c.tc : Thread Cert.WholeIdeal.nD Cert.WholeIdeal.τ).loc Cert.WholeIdeal.main_arg12)
      ∧ m' ((c.tc : Thread Cert.WholeReferenceIdeal.nD Cert.WholeReferenceIdeal.τ).loc Cert.WholeReferenceIdeal.main_arg13) = m ((c.tc : Thread Cert.WholeIdeal.nD Cert.WholeIdeal.τ).loc Cert.WholeIdeal.main_arg13)
      ∧ m' ((c.tc : Thread Cert.WholeReferenceIdeal.nD Cert.WholeReferenceIdeal.τ).loc Cert.WholeReferenceIdeal.main_arg14) = m ((c.tc : Thread Cert.WholeIdeal.nD Cert.WholeIdeal.τ).loc Cert.WholeIdeal.main_arg14)) →
    ∃ (v0 : (c : Dev Cert.WholeIdeal.nD) → Buf (Elt Ideal) ((c.tc : Thread Cert.WholeIdeal.nD Cert.WholeIdeal.τ).loc Cert.WholeIdeal.main_v23)) (v1 : (c : Dev Cert.WholeIdeal.nD) → Buf (Elt Ideal) ((c.tc : Thread Cert.WholeIdeal.nD Cert.WholeIdeal.τ).loc Cert.WholeIdeal.main_v22)) (v2 : (c : Dev Cert.WholeIdeal.nD) → Buf (Elt Ideal) ((c.tc : Thread Cert.WholeIdeal.nD Cert.WholeIdeal.τ).loc Cert.WholeIdeal.main_v4)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v23) = v0 c
          ∧ r.2.mem ((c.tc : Thread Cert.WholeIdeal.nD Cert.WholeIdeal.τ).loc Cert.WholeIdeal.main_v22) = v1 c
          ∧ r.2.mem ((c.tc : Thread Cert.WholeIdeal.nD Cert.WholeIdeal.τ).loc Cert.WholeIdeal.main_v4) = v2 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
          ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
          ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
          ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
          ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
          ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
          ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
          ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
          ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v5) = v0 c
          ∧ r.2.mem ((c.tc : Thread Cert.WholeReferenceIdeal.nD Cert.WholeReferenceIdeal.τ).loc Cert.WholeReferenceIdeal.main_v70) = v1 c
          ∧ r.2.mem ((c.tc : Thread Cert.WholeReferenceIdeal.nD Cert.WholeReferenceIdeal.τ).loc Cert.WholeReferenceIdeal.main_indices) = v2 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2)
          ∧ r.2.mem ((c.tc : Thread Cert.WholeReferenceIdeal.nD Cert.WholeReferenceIdeal.τ).loc Cert.WholeReferenceIdeal.main_arg3) = m' ((c.tc : Thread Cert.WholeReferenceIdeal.nD Cert.WholeReferenceIdeal.τ).loc Cert.WholeReferenceIdeal.main_arg3)
          ∧ r.2.mem ((c.tc : Thread Cert.WholeReferenceIdeal.nD Cert.WholeReferenceIdeal.τ).loc Cert.WholeReferenceIdeal.main_arg4) = m' ((c.tc : Thread Cert.WholeReferenceIdeal.nD Cert.WholeReferenceIdeal.τ).loc Cert.WholeReferenceIdeal.main_arg4)
          ∧ r.2.mem ((c.tc : Thread Cert.WholeReferenceIdeal.nD Cert.WholeReferenceIdeal.τ).loc Cert.WholeReferenceIdeal.main_arg5) = m' ((c.tc : Thread Cert.WholeReferenceIdeal.nD Cert.WholeReferenceIdeal.τ).loc Cert.WholeReferenceIdeal.main_arg5)
          ∧ r.2.mem ((c.tc : Thread Cert.WholeReferenceIdeal.nD Cert.WholeReferenceIdeal.τ).loc Cert.WholeReferenceIdeal.main_arg6) = m' ((c.tc : Thread Cert.WholeReferenceIdeal.nD Cert.WholeReferenceIdeal.τ).loc Cert.WholeReferenceIdeal.main_arg6)
          ∧ r.2.mem ((c.tc : Thread Cert.WholeReferenceIdeal.nD Cert.WholeReferenceIdeal.τ).loc Cert.WholeReferenceIdeal.main_arg7) = m' ((c.tc : Thread Cert.WholeReferenceIdeal.nD Cert.WholeReferenceIdeal.τ).loc Cert.WholeReferenceIdeal.main_arg7)
          ∧ r.2.mem ((c.tc : Thread Cert.WholeReferenceIdeal.nD Cert.WholeReferenceIdeal.τ).loc Cert.WholeReferenceIdeal.main_arg8) = m' ((c.tc : Thread Cert.WholeReferenceIdeal.nD Cert.WholeReferenceIdeal.τ).loc Cert.WholeReferenceIdeal.main_arg8)
          ∧ r.2.mem ((c.tc : Thread Cert.WholeReferenceIdeal.nD Cert.WholeReferenceIdeal.τ).loc Cert.WholeReferenceIdeal.main_arg9) = m' ((c.tc : Thread Cert.WholeReferenceIdeal.nD Cert.WholeReferenceIdeal.τ).loc Cert.WholeReferenceIdeal.main_arg9)
          ∧ r.2.mem ((c.tc : Thread Cert.WholeReferenceIdeal.nD Cert.WholeReferenceIdeal.τ).loc Cert.WholeReferenceIdeal.main_arg10) = m' ((c.tc : Thread Cert.WholeReferenceIdeal.nD Cert.WholeReferenceIdeal.τ).loc Cert.WholeReferenceIdeal.main_arg10)
          ∧ r.2.mem ((c.tc : Thread Cert.WholeReferenceIdeal.nD Cert.WholeReferenceIdeal.τ).loc Cert.WholeReferenceIdeal.main_arg11) = m' ((c.tc : Thread Cert.WholeReferenceIdeal.nD Cert.WholeReferenceIdeal.τ).loc Cert.WholeReferenceIdeal.main_arg11)
          ∧ r.2.mem ((c.tc : Thread Cert.WholeReferenceIdeal.nD Cert.WholeReferenceIdeal.τ).loc Cert.WholeReferenceIdeal.main_arg12) = m' ((c.tc : Thread Cert.WholeReferenceIdeal.nD Cert.WholeReferenceIdeal.τ).loc Cert.WholeReferenceIdeal.main_arg12)
          ∧ r.2.mem ((c.tc : Thread Cert.WholeReferenceIdeal.nD Cert.WholeReferenceIdeal.τ).loc Cert.WholeReferenceIdeal.main_arg13) = m' ((c.tc : Thread Cert.WholeReferenceIdeal.nD Cert.WholeReferenceIdeal.τ).loc Cert.WholeReferenceIdeal.main_arg13)
          ∧ r.2.mem ((c.tc : Thread Cert.WholeReferenceIdeal.nD Cert.WholeReferenceIdeal.τ).loc Cert.WholeReferenceIdeal.main_arg14) = m' ((c.tc : Thread Cert.WholeReferenceIdeal.nD Cert.WholeReferenceIdeal.τ).loc Cert.WholeReferenceIdeal.main_arg14))

def Claim : Prop :=
  ∃ (hKernel : Cert.Kernel.Facts) (hKernelIdeal : Cert.KernelIdeal.Facts) (hReferenceIdeal : Cert.ReferenceIdeal.Facts) (hGroups : Cert.Groups.Facts) (hGroupsIdeal : Cert.GroupsIdeal.Facts) (hGroupsReferenceIdeal : Cert.GroupsReferenceIdeal.Facts) (hPoints : Cert.Points.Facts) (hPointsIdeal : Cert.PointsIdeal.Facts) (hPointsReferenceIdeal : Cert.PointsReferenceIdeal.Facts) (hWholeIdeal : Cert.WholeIdeal.Facts) (hWholeReferenceIdeal : Cert.WholeReferenceIdeal.Facts) (hPre_rows_in_table : Cert.Pre_rows_in_table.Facts) (hPre_finite_points : Cert.Pre_finite_points.Facts) (hPre_finite_layers : Cert.Pre_finite_layers.Facts) (hPre_finite_whole : Cert.Pre_finite_whole.Facts),
    quiescent_Kernel (hKernel := hKernel) (hPre_rows_in_table := hPre_rows_in_table)
    ∧ quiescent_KernelIdeal (hKernelIdeal := hKernelIdeal) (hPre_rows_in_table := hPre_rows_in_table)
    ∧ quiescent_ReferenceIdeal (hReferenceIdeal := hReferenceIdeal) (hPre_rows_in_table := hPre_rows_in_table)
    ∧ quiescent_Groups (hGroups := hGroups)
    ∧ quiescent_GroupsIdeal (hGroupsIdeal := hGroupsIdeal)
    ∧ quiescent_GroupsIdeal_pre_finite_points (hGroupsIdeal := hGroupsIdeal) (hPre_finite_points := hPre_finite_points)
    ∧ quiescent_GroupsReferenceIdeal (hGroupsReferenceIdeal := hGroupsReferenceIdeal)
    ∧ quiescent_GroupsReferenceIdeal_pre_finite_points (hGroupsReferenceIdeal := hGroupsReferenceIdeal) (hPre_finite_points := hPre_finite_points)
    ∧ quiescent_Points (hPoints := hPoints)
    ∧ quiescent_PointsIdeal (hPointsIdeal := hPointsIdeal)
    ∧ quiescent_PointsIdeal_pre_finite_layers (hPointsIdeal := hPointsIdeal) (hPre_finite_layers := hPre_finite_layers)
    ∧ quiescent_PointsReferenceIdeal (hPointsReferenceIdeal := hPointsReferenceIdeal)
    ∧ quiescent_PointsReferenceIdeal_pre_finite_layers (hPointsReferenceIdeal := hPointsReferenceIdeal) (hPre_finite_layers := hPre_finite_layers)
    ∧ quiescent_WholeIdeal (hWholeIdeal := hWholeIdeal)
    ∧ quiescent_WholeIdeal_pre_finite_whole (hWholeIdeal := hWholeIdeal) (hPre_finite_whole := hPre_finite_whole)
    ∧ quiescent_WholeReferenceIdeal (hWholeReferenceIdeal := hWholeReferenceIdeal)
    ∧ quiescent_WholeReferenceIdeal_pre_finite_whole (hWholeReferenceIdeal := hWholeReferenceIdeal) (hPre_finite_whole := hPre_finite_whole)
    ∧ preserves_Kernel_KernelIdeal
    ∧ algebraic_KernelIdeal_ReferenceIdeal (hKernelIdeal := hKernelIdeal) (hReferenceIdeal := hReferenceIdeal) (hPre_rows_in_table := hPre_rows_in_table)
    ∧ preserves_Groups_GroupsIdeal
    ∧ algebraic_GroupsIdeal_GroupsReferenceIdeal_pre_finite_points (hGroupsIdeal := hGroupsIdeal) (hGroupsReferenceIdeal := hGroupsReferenceIdeal) (hPre_finite_points := hPre_finite_points)
    ∧ preserves_Points_PointsIdeal
    ∧ algebraic_PointsIdeal_PointsReferenceIdeal_pre_finite_layers (hPointsIdeal := hPointsIdeal) (hPointsReferenceIdeal := hPointsReferenceIdeal) (hPre_finite_layers := hPre_finite_layers)
    ∧ algebraic_WholeIdeal_WholeReferenceIdeal_pre_finite_whole (hWholeIdeal := hWholeIdeal) (hWholeReferenceIdeal := hWholeReferenceIdeal) (hPre_finite_whole := hPre_finite_whole)
-- ==== Pre_finite_layers.lean ====
abbrev S131072x128 : Shape := ⟨2, ![131072, 128]⟩
abbrev S8x3x512 : Shape := ⟨3, ![8, 3, 512]⟩
abbrev S67x128 : Shape := ⟨2, ![67, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S131072x67 : Shape := ⟨2, ![131072, 67]⟩
abbrev S_ : Shape := ⟨0, ![]⟩

class Facts : Prop where
  slices_S131072x128_S131072x67_0_0 : S131072x128.Slices ![0, 0] S131072x67
  bcast_S_S131072x67 : S_.BroadcastsInDim S131072x67 (![] : Fin 0 → Fin S131072x67.rank)
  reducesTo_S131072x67_S_d0_1 : S131072x67.ReducesTo [0, 1] S_
  h_S_ : 0 < S_.numel
  bcast_S_S8x3x512 : S_.BroadcastsInDim S8x3x512 (![] : Fin 0 → Fin S8x3x512.rank)
  reducesTo_S8x3x512_S_d0_1_2 : S8x3x512.ReducesTo [0, 1, 2] S_
  bcast_S_S67x128 : S_.BroadcastsInDim S67x128 (![] : Fin 0 → Fin S67x128.rank)
  reducesTo_S67x128_S_d0_1 : S67x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg12 : FVec F S256 .f32) (main_v49 : IVec S_ 1) (main_v50 : FVec F S128x256 .f32) (main_cst_18 : FVec F S_ .f32) : IVec S_ 1 :=
  let main_v51 : FVec F S128x256 .f32 := broadcastInDim S128x256 ![] bcast_S_S128x256 main_cst_18
  let main_v52 : IVec S128x256 1 := cmpf .olt main_v50 main_v51
  let main_c_19 : IVec S_ 1 := constantI S_ 1 1#1
  let main_v53 : IVec S_ 1 := (fun x v => Host.reduce IntOp.andi x v reducesTo_S128x256_S_d0_1 h_S_) main_v52 main_c_19
  let main_v54 : IVec S_ 1 := andi main_v49 main_v53
  let main_v55 : FVec F S256 .f32 := Host.absf main_arg12
  let main_cst_20 : FVec F S_ .f32 := constant S_ .f32 0x7F800000#32
  let main_v56 : FVec F S256 .f32 := broadcastInDim S256 ![] bcast_S_S256 main_cst_20
  let main_v57 : IVec S256 1 := cmpf .olt main_v55 main_v56
  let main_c_21 : IVec S_ 1 := constantI S_ 1 1#1
  let main_v58 : IVec S_ 1 := (fun x v => Host.reduce IntOp.andi x v reducesTo_S256_S_d0 h_S_) main_v57 main_c_21
  let main_v59 : IVec S_ 1 := andi main_v54 main_v58
  main_v59

def fn_part2 {F : FTy → Type} [FloatOps F] (main_arg7 : FVec F S128 .f32) (main_arg8 : FVec F S128 .f32) (main_arg9 : FVec F S128 .f32) (main_arg10 : FVec F S128x256 .f32) (main_arg12 : FVec F S256 .f32) (main_v29 : IVec S_ 1) (main_v33 : IVec S_ 1) : IVec S_ 1 :=
  let main_v34 : IVec S_ 1 := andi main_v29 main_v33
  let main_v35 : FVec F S128 .f32 := Host.absf main_arg7
  let main_cst_12 : FVec F S_ .f32 := constant S_ .f32 0x7F800000#32
  let main_v36 : FVec F S128 .f32 := broadcastInDim S128 ![] bcast_S_S128 main_cst_12
  let main_v37 : IVec S128 1 := cmpf .olt main_v35 main_v36
  let main_c_13 : IVec S_ 1 := constantI S_ 1 1#1
  let main_v38 : IVec S_ 1 := (fun x v => Host.reduce IntOp.andi x v reducesTo_S128_S_d0 h_S_) main_v37 main_c_13
  let main_v39 : IVec S_ 1 := andi main_v34 main_v38
  let main_v40 : FVec F S128 .f32 := Host.absf main_arg8
  let main_cst_14 : FVec F S_ .f32 := constant S_ .f32 0x7F800000#32
  let main_v41 : FVec F S128 .f32 := broadcastInDim S128 ![] bcast_S_S128 main_cst_14
  let main_v42 : IVec S128 1 := cmpf .olt main_v40 main_v41
  let main_c_15 : IVec S_ 1 := constantI S_ 1 1#1
  let main_v43 : IVec S_ 1 := (fun x v => Host.reduce IntOp.andi x v reducesTo_S128_S_d0 h_S_) main_v42 main_c_15
  let main_v44 : IVec S_ 1 := andi main_v39 main_v43
  let main_v45 : FVec F S128 .f32 := Host.absf main_arg9
  let main_cst_16 : FVec F S_ .f32 := constant S_ .f32 0x7F800000#32
  let main_v46 : FVec F S128 .f32 := broadcastInDim S128 ![] bcast_S_S128 main_cst_16
  let main_v47 : IVec S128 1 := cmpf .olt main_v45 main_v46
  let main_c_17 : IVec S_ 1 := constantI S_ 1 1#1
  let main_v48 : IVec S_ 1 := (fun x v => Host.reduce IntOp.andi x v reducesTo_S128_S_d0 h_S_) main_v47 main_c_17
  let main_v49 : IVec S_ 1 := andi main_v44 main_v48
  let main_v50 : FVec F S128x256 .f32 := Host.absf main_arg10
  let main_cst_18 : FVec F S_ .f32 := constant S_ .f32 0x7F800000#32
  fn_part3 (F := F) main_arg12 main_v49 main_v50 main_cst_18

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x256 .f32) (main_arg12 : FVec F S256 .f32) (main_v14 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v14 main_v18
  let main_v20 : FVec F S128 .f32 := Host.absf main_arg4
  let main_cst_6 : FVec F S_ .f32 := constant S_ .f32 0x7F800000#32
  let main_v21 : FVec F S128 .f32 := broadcastInDim S128 ![] bcast_S_S128 main_cst_6
  let main_v22 : IVec S128 1 := cmpf .olt main_v20 main_v21
  let main_c_7 : IVec S_ 1 := constantI S_ 1 1#1
  let main_v23 : IVec S_ 1 := (fun x v => Host.reduce IntOp.andi x v reducesTo_S128_S_d0 h_S_) main_v22 main_c_7
  let main_v24 : IVec S_ 1 := andi main_v19 main_v23
  let main_v25 : FVec F S128 .f32 := Host.absf main_arg5
  let main_cst_8 : FVec F S_ .f32 := constant S_ .f32 0x7F800000#32
  let main_v26 : FVec F S128 .f32 := broadcastInDim S128 ![] bcast_S_S128 main_cst_8
  let main_v27 : IVec S128 1 := cmpf .olt main_v25 main_v26
  let main_c_9 : IVec S_ 1 := constantI S_ 1 1#1
  let main_v28 : IVec S_ 1 := (fun x v => Host.reduce IntOp.andi x v reducesTo_S128_S_d0 h_S_) main_v27 main_c_9
  let main_v29 : IVec S_ 1 := andi main_v24 main_v28
  let main_v30 : FVec F S128x128 .f32 := Host.absf main_arg6
  let main_cst_10 : FVec F S_ .f32 := constant S_ .f32 0x7F800000#32
  let main_v31 : FVec F S128x128 .f32 := broadcastInDim S128x128 ![] bcast_S_S128x128 main_cst_10
  let main_v32 : IVec S128x128 1 := cmpf .olt main_v30 main_v31
  let main_c_11 : IVec S_ 1 := constantI S_ 1 1#1
  let main_v33 : IVec S_ 1 := (fun x v => Host.reduce IntOp.andi x v reducesTo_S128x128_S_d0_1 h_S_) main_v32 main_c_11
  fn_part2 (F := F) main_arg7 main_arg8 main_arg9 main_arg10 main_arg12 main_v29 main_v33

def fn {F : FTy → Type} [FloatOps F] (main_arg0 : FVec F S131072x128 .f32) (main_arg1 : FVec F S8x3x512 .f32) (main_arg2 : FVec F S67x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x256 .f32) (main_arg11 : FVec F S256 .f32) (main_arg12 : FVec F S256 .f32) (main_arg13 : FVec F S256 .f32) : IVec S_ 1 :=
  let main_v0 : FVec F S131072x67 .f32 := (extractStridedSlice S131072x67 ![0, 0] · slices_S131072x128_S131072x67_0_0) main_arg0
  let main_v1 : FVec F S131072x67 .f32 := Host.absf main_v0
  let main_cst : FVec F S_ .f32 := constant S_ .f32 0x7F800000#32
  let main_v2 : FVec F S131072x67 .f32 := broadcastInDim S131072x67 ![] bcast_S_S131072x67 main_cst
  let main_v3 : IVec S131072x67 1 := cmpf .olt main_v1 main_v2
  let main_c : IVec S_ 1 := constantI S_ 1 1#1
  let main_v4 : IVec S_ 1 := (fun x v => Host.reduce IntOp.andi x v reducesTo_S131072x67_S_d0_1 h_S_) main_v3 main_c
  let main_v5 : FVec F S8x3x512 .f32 := Host.absf main_arg1
  let main_cst_0 : FVec F S_ .f32 := constant S_ .f32 0x7F800000#32
  let main_v6 : FVec F S8x3x512 .f32 := broadcastInDim S8x3x512 ![] bcast_S_S8x3x512 main_cst_0
  let main_v7 : IVec S8x3x512 1 := cmpf .olt main_v5 main_v6
  let main_c_1 : IVec S_ 1 := constantI S_ 1 1#1
  let main_v8 : IVec S_ 1 := (fun x v => Host.reduce IntOp.andi x v reducesTo_S8x3x512_S_d0_1_2 h_S_) main_v7 main_c_1
  let main_v9 : IVec S_ 1 := andi main_v4 main_v8
  let main_v10 : FVec F S67x128 .f32 := Host.absf main_arg2
  let main_cst_2 : FVec F S_ .f32 := constant S_ .f32 0x7F800000#32
  let main_v11 : FVec F S67x128 .f32 := broadcastInDim S67x128 ![] bcast_S_S67x128 main_cst_2
  let main_v12 : IVec S67x128 1 := cmpf .olt main_v10 main_v11
  let main_c_3 : IVec S_ 1 := constantI S_ 1 1#1
  let main_v13 : IVec S_ 1 := (fun x v => Host.reduce IntOp.andi x v reducesTo_S67x128_S_d0_1 h_S_) main_v12 main_c_3
  let main_v14 : IVec S_ 1 := andi main_v9 main_v13
  let main_v15 : FVec F S128 .f32 := Host.absf main_arg3
  let main_cst_4 : FVec F S_ .f32 := constant S_ .f32 0x7F800000#32
  let main_v16 : FVec F S128 .f32 := broadcastInDim S128 ![] bcast_S_S128 main_cst_4
  fn_part1 (F := F) main_arg4 main_arg5 main_arg6 main_arg7 main_arg8 main_arg9 main_arg10 main_arg12 main_v14 main_v15 main_v16
-- ==== Pre_finite_points.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  main_v3
-- ==== Pre_finite_whole.lean ====
abbrev S8x4096x3 : Shape := ⟨3, ![8, 4096, 3]⟩
abbrev S8x4096x64 : Shape := ⟨3, ![8, 4096, 64]⟩
abbrev S_ : Shape := ⟨0, ![]⟩
abbrev S67x128 : Shape := ⟨2, ![67, 128]⟩
abbrev S128 : Shape := ⟨1, ![128]⟩
abbrev S128x128 : Shape := ⟨2, ![128, 128]⟩
abbrev S128x256 : Shape := ⟨2, ![128, 256]⟩
abbrev S256 : Shape := ⟨1, ![256]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S67x128 : S_.BroadcastsInDim S67x128 (![] : Fin 0 → Fin S67x128.rank)
  reducesTo_S67x128_S_d0_1 : S67x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg13 : FVec F S256 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg8 : FVec F S128 .f32) (main_arg9 : FVec F S128 .f32) (main_arg10 : FVec F S128 .f32) (main_arg11 : FVec F S128x256 .f32) (main_arg13 : FVec F S256 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg13 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x256 .f32) (main_arg13 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg13 main_v33

def fn {F : FTy → Type} [FloatOps F] (main_arg0 : FVec F S8x4096x3 .f32) (main_arg1 : FVec F S8x4096x64 .f32) (main_arg2 : IVec S_ 1) (main_arg3 : FVec F S67x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x256 .f32) (main_arg12 : FVec F S256 .f32) (main_arg13 : FVec F S256 .f32) (main_arg14 : FVec F S256 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S67x128 .f32 := Host.absf main_arg3
  let main_cst_2 : FVec F S_ .f32 := constant S_ .f32 0x7F800000#32
  let main_v10 : FVec F S67x128 .f32 := broadcastInDim S67x128 ![] bcast_S_S67x128 main_cst_2
  let main_v11 : IVec S67x128 1 := cmpf .olt main_v9 main_v10
  let main_c_3 : IVec S_ 1 := constantI S_ 1 1#1
  let main_v12 : IVec S_ 1 := (fun x v => Host.reduce IntOp.andi x v reducesTo_S67x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg13 main_v13 main_v16
-- ==== Pre_rows_in_table.lean ====
abbrev S32768x128 : Shape := ⟨2, ![32768, 128]⟩
abbrev S131072 : Shape := ⟨1, ![131072]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel

variable [Facts]

def fn {F : FTy → Type} [FloatOps F] (main_arg0 : FVec F S32768x128 .f32) (main_arg1 : IVec S131072 32) : IVec S_ 1 :=
  let main_c : IVec S_ 32 := constantI S_ 32 0#32
  let main_v0 : IVec S131072 32 := broadcastInDim S131072 ![] bcast_S_S131072 main_c
  let main_v1 : IVec S131072 1 := cmpi .sge main_arg1 main_v0
  let main_c_0 : IVec S_ 32 := constantI S_ 32 32768#32
  let main_v2 : IVec S131072 32 := broadcastInDim S131072 ![] bcast_S_S131072 main_c_0
  let main_v3 : IVec S131072 1 := cmpi .slt main_arg1 main_v2
  let main_v4 : IVec S131072 1 := andi main_v1 main_v3
  let main_c_1 : IVec S_ 1 := constantI S_ 1 1#1
  let main_v5 : IVec S_ 1 := (fun x v => Host.reduce IntOp.andi x v reducesTo_S131072_S_d0 h_S_) main_v4 main_c_1
  main_v5
-- ==== Kernel.lean ====
abbrev S32768x128 : Shape := ⟨2, ![32768, 128]⟩
abbrev S131072 : Shape := ⟨1, ![131072]⟩
abbrev S131072x128 : Shape := ⟨2, ![131072, 128]⟩
abbrev S128 : Shape := ⟨1, ![128]⟩
abbrev S128x128 : Shape := ⟨2, ![128, 128]⟩
abbrev S_ : Shape := ⟨0, ![]⟩

abbrev nBuf : Table → Nat
  | .hbm => 3
  | .local .scVector .vmem => 4
  | _ => 0

abbrev bufTy : (tb : Table) → Fin (nBuf tb) → BufTy
  | .hbm, ⟨0, _⟩ => ⟨S32768x128, .f32⟩
  | .hbm, ⟨1, _⟩ => ⟨S131072, .i32⟩
  | .hbm, ⟨2, _⟩ => ⟨S131072x128, .f32⟩
  | .local .scVector .vmem, ⟨0, _⟩ => ⟨S128, .i32⟩
  | .local .scVector .vmem, ⟨1, _⟩ => ⟨S128x128, .f32⟩
  | .local .scVector .vmem, ⟨2, _⟩ => ⟨S128, .i32⟩
  | .local .scVector .vmem, ⟨3, _⟩ => ⟨S128x128, .f32⟩
  | _, _ => ⟨S32768x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 66 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | _ => false

abbrev sig : RefSig :=
  ofTables nBuf rfl bufTy 4 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
def k0_off2 (i : grid0.Coords) (c128_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v4 : BitVec 32 := Scalar.addi v2 c128_i32
  ![v4.toNat]
def k0_off3 (i : grid0.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v7 : BitVec 32 := Scalar.addi v2 c0_i32_5
  let c0_i32_159_r2 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x128 : Shape := ⟨2, ![32768, 128]⟩
abbrev S131072 : Shape := ⟨1, ![131072]⟩
abbrev S131072x1 : Shape := ⟨2, ![131072, 1]⟩
abbrev S131072x128 : Shape := ⟨2, ![131072, 128]⟩

abbrev nBuf : Space → Nat
  | .hbm => 4
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S131072, .i32⟩
  | .hbm, ⟨2, _⟩ => ⟨S131072x1, .i32⟩
  | .hbm, ⟨3, _⟩ => ⟨S131072x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Groups.lean ====
abbrev S8x4096x3 : Shape := ⟨3, ![8, 4096, 3]⟩
abbrev S3x8x4096 : Shape := ⟨3, ![3, 8, 4096]⟩
abbrev S8x512 : Shape := ⟨2, ![8, 512]⟩
abbrev S3x8x512 : Shape := ⟨3, ![3, 8, 512]⟩
abbrev S1x8x4096 : Shape := ⟨3, ![1, 8, 4096]⟩
abbrev S8x4096 : Shape := ⟨2, ![8, 4096]⟩
abbrev S8x1 : Shape := ⟨2, ![8, 1]⟩
abbrev S8 : Shape := ⟨1, ![8]⟩
abbrev S1x8x512 : Shape := ⟨3, ![1, 8, 512]⟩
abbrev S8x3x512 : Shape := ⟨3, ![8, 3, 512]⟩
abbrev S8x32x512 : Shape := ⟨3, ![8, 32, 512]⟩
abbrev S1x4096x3 : Shape := ⟨3, ![1, 4096, 3]⟩
abbrev S1x3x256 : Shape := ⟨3, ![1, 3, 256]⟩
abbrev S1x32x256 : Shape := ⟨3, ![1, 32, 256]⟩
abbrev S1x4096x1 : Shape := ⟨3, ![1, 4096, 1]⟩
abbrev S4096x1 : Shape := ⟨2, ![4096, 1]⟩
abbrev S1x1x256 : Shape := ⟨3, ![1, 1, 256]⟩
abbrev S1x256 : Shape := ⟨2, ![1, 256]⟩
abbrev S4096x256 : Shape := ⟨2, ![4096, 256]⟩
abbrev S32x256 : Shape := ⟨2, ![32, 256]⟩
abbrev S256 : Shape := ⟨1, ![256]⟩
abbrev S8x512x32 : Shape := ⟨3, ![8, 512, 32]⟩
abbrev S8x512x3 : Shape := ⟨3, ![8, 512, 3]⟩

abbrev nBuf : Space → Nat
  | .hbm => 9
  | .vmem => 11
  | .smem => 0
  | _ => 0

abbrev bufTy : (tb : Table) → Fin (tcTables nBuf tb) → BufTy
  | .hbm, ⟨0, _⟩ => ⟨S8x4096x3, .f32⟩
  | .hbm, ⟨1, _⟩ => ⟨S3x8x4096, .f32⟩
  | .hbm, ⟨2, _⟩ => ⟨S8x512, .i32⟩
  | .hbm, ⟨3, _⟩ => ⟨S3x8x512, .f32⟩
  | .hbm, ⟨4, _⟩ => ⟨S8x3x512, .f32⟩
  | .hbm, ⟨5, _⟩ => ⟨S8x32x512, .i32⟩
  | .hbm, ⟨6, _⟩ => ⟨S8x32x512, .i32⟩
  | .hbm, ⟨7, _⟩ => ⟨S8x512x32, .i32⟩
  | .hbm, ⟨8, _⟩ => ⟨S8x512x3, .f32⟩
  | .local _ .vmem, ⟨0, _⟩ => ⟨S3x8x4096, .f32⟩
  | .local _ .vmem, ⟨1, _⟩ => ⟨S8x512, .i32⟩
  | .local _ .vmem, ⟨2, _⟩ => ⟨S3x8x512, .f32⟩
  | .local _ .vmem, ⟨3, _⟩ => ⟨S1x4096x3, .f32⟩
  | .local _ .vmem, ⟨4, _⟩ => ⟨S1x4096x3, .f32⟩
  | .local _ .vmem, ⟨5, _⟩ => ⟨S1x3x256, .f32⟩
  | .local _ .vmem, ⟨6, _⟩ => ⟨S1x3x256, .f32⟩
  | .local _ .vmem, ⟨7, _⟩ => ⟨S1x32x256, .i32⟩
  | .local _ .vmem, ⟨8, _⟩ => ⟨S1x32x256, .i32⟩
  | .local _ .vmem, ⟨9, _⟩ => ⟨S1x32x256, .i32⟩
  | .local _ .vmem, ⟨10, _⟩ => ⟨S1x32x256, .i32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c511_i32 : BitVec 32 := 511#32
  let v31 : BitVec 32 := Scalar.addi c1_i32 c511_i32
  let c1_i32_12 : BitVec 32 := 1#32
  ⟨c1_i32, v31, c1_i32_12⟩
abbrev stage0_0 : Fin 1 → Memref sig .tc .vmem S3x8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![8, 2], ![false, false]⟩

@[reducible] def k1_t1_loop : Scf.Loop 32 :=
  let c0_i32_15 : BitVec 32 := 0#32
  let c32_i32 : BitVec 32 := 32#32
  let v29 : BitVec 32 := Scalar.addi c0_i32_15 c32_i32
  let c1_i32 : BitVec 32 := 1#32
  ⟨c0_i32_15, v29, c1_i32⟩
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4096x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x3x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== GroupsReferenceIdeal.lean ====
abbrev S8x4096x3 : Shape := ⟨3, ![8, 4096, 3]⟩
abbrev S_ : Shape := ⟨0, ![]⟩
abbrev S8x512 : Shape := ⟨2, ![8, 512]⟩
abbrev S8x4096 : Shape := ⟨2, ![8, 4096]⟩
abbrev S8 : Shape := ⟨1, ![8]⟩
abbrev S8x1 : Shape := ⟨2, ![8, 1]⟩
abbrev S8x1x1 : Shape := ⟨3, ![8, 1, 1]⟩
abbrev S8x1x3 : Shape := ⟨3, ![8, 1, 3]⟩
abbrev S8x512x1 : Shape := ⟨3, ![8, 512, 1]⟩
abbrev S8x512x3 : Shape := ⟨3, ![8, 512, 3]⟩
abbrev S8x512x1x3 : Shape := ⟨4, ![8, 512, 1, 3]⟩
abbrev S8x1x4096x3 : Shape := ⟨4, ![8, 1, 4096, 3]⟩
abbrev S8x512x4096x3 : Shape := ⟨4, ![8, 512, 4096, 3]⟩
abbrev S8x512x4096 : Shape := ⟨3, ![8, 512, 4096]⟩
abbrev S8x512x32 : Shape := ⟨3, ![8, 512, 32]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S_, .i32⟩
  | .hbm, ⟨2, _⟩ => ⟨S8x512, .i32⟩
  | .hbm, ⟨3, _⟩ => ⟨S_, .f32⟩
  | .hbm, ⟨4, _⟩ => ⟨S8x4096, .f32⟩
  | .hbm, ⟨5, _⟩ => ⟨S_, .i32⟩
  | .hbm, ⟨6, _⟩ => ⟨S8, .i32⟩
  | .hbm, ⟨7, _⟩ => ⟨S_, .i32⟩
  | .hbm, ⟨8, _⟩ => ⟨S_, .i32⟩
  | .hbm, ⟨9, _⟩ => ⟨S8x4096x3, .f32⟩
  | .hbm, ⟨10, _⟩ => ⟨S_, .i32⟩
  | .hbm, ⟨11, _⟩ => ⟨S_, .i32⟩
  | .hbm, ⟨12, _⟩ => ⟨S8x512, .i32⟩
  | .hbm, ⟨13, _⟩ => ⟨S8x4096, .f32⟩
  | .hbm, ⟨14, _⟩ => ⟨S8, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S8x1, .i32⟩
  | .hbm, ⟨20, _⟩ => ⟨S8x1x1, .i32⟩
  | .hbm, ⟨21, _⟩ => ⟨S8x1x3, .f32⟩
  | .hbm, ⟨22, _⟩ => ⟨S8x4096x3, .f32⟩
  | .hbm, ⟨23, _⟩ => ⟨S8x4096x3, .f32⟩
  | .hbm, ⟨24, _⟩ => ⟨S8x4096x3, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S8x1, .f32⟩
  | .hbm, ⟨29, _⟩ => ⟨S8x1, .i32⟩
  | .hbm, ⟨30, _⟩ => ⟨S8, .i32⟩
  | .hbm, ⟨31, _⟩ => ⟨S8x1, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S8x512, .i32⟩
  | .hbm, ⟨40, _⟩ => ⟨S_, .i32⟩
  | .hbm, ⟨41, _⟩ => ⟨S_, .i32⟩
  | .hbm, ⟨42, _⟩ => ⟨S8x512x1, .i32⟩
  | .hbm, ⟨43, _⟩ => ⟨S8x512x3, .f32⟩
  | .hbm, ⟨44, _⟩ => ⟨S8x512x1x3, .f32⟩
  | .hbm, ⟨45, _⟩ => ⟨S8x1x4096x3, .f32⟩
  | .hbm, ⟨46, _⟩ => ⟨S8x512x4096x3, .f32⟩
  | .hbm, ⟨47, _⟩ => ⟨S8x512x4096x3, .f32⟩
  | .hbm, ⟨48, _⟩ => ⟨S8x512x4096x3, .f32⟩
  | .hbm, ⟨49, _⟩ => ⟨S8x512x4096x3, .f32⟩
  | .hbm, ⟨50, _⟩ => ⟨S_, .f32⟩
  | .hbm, ⟨51, _⟩ => ⟨S8x512x4096, .f32⟩
  | .hbm, ⟨52, _⟩ => ⟨S8x512x4096, .f32⟩
  | .hbm, ⟨53, _⟩ => ⟨S8x512x32, .f32⟩
  | .hbm, ⟨54, _⟩ => ⟨S8x512x32, .i32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_9 : Ref sig .tc := ⟨.hbm, 15, rfl⟩
abbrev main_while0c_v14 : Ref sig .tc := ⟨.hbm, 16, rfl⟩
abbrev main_while0b_c_9 : Ref sig .tc := ⟨.hbm, 17, rfl⟩
abbrev main_while0b_v14 : Ref sig .tc := ⟨.hbm, 18, rfl⟩
abbrev main_while0b_v15 : Ref sig .tc := ⟨.hbm, 19, rfl⟩
abbrev main_while0b_v16 : Ref sig .tc := ⟨.hbm, 20, rfl⟩
abbrev main_while0b_v17 : Ref sig .tc := ⟨.hbm, 21, rfl⟩
abbrev main_while0b_v18 : Ref sig .tc := ⟨.hbm, 22, rfl⟩
abbrev main_while0b_v19 : Ref sig .tc := ⟨.hbm, 23, rfl⟩
abbrev main_while0b_v20 : Ref sig .tc := ⟨.hbm, 24, rfl⟩
abbrev main_while0b_cst_10 : Ref sig .tc := ⟨.hbm, 25, rfl⟩
abbrev main_while0b_v21 : Ref sig .tc := ⟨.hbm, 26, rfl⟩
abbrev main_while0b_v22 : Ref sig .tc := ⟨.hbm, 27, rfl⟩
abbrev main_while0b_values_11 : Ref sig .tc := ⟨.hbm, 28, rfl⟩
abbrev main_while0b_indices_12 : Ref sig .tc := ⟨.hbm, 29, rfl⟩
abbrev main_while0b_v23 : Ref sig .tc := ⟨.hbm, 30, rfl⟩
abbrev main_while0b_v24 : Ref sig .tc := ⟨.hbm, 31, rfl⟩
abbrev main_while0b_c_13 : Ref sig .tc := ⟨.hbm, 32, rfl⟩
abbrev main_while0b_v25 : Ref sig .tc := ⟨.hbm, 33, rfl⟩
abbrev main_while0b_v26 : Ref sig .tc := ⟨.hbm, 34, rfl⟩
abbrev main_while0b_c_14 : Ref sig .tc := ⟨.hbm, 35, rfl⟩
abbrev main_while0b_v27 : Ref sig .tc := ⟨.hbm, 36, rfl⟩
abbrev main_while0b_v28 : Ref sig .tc := ⟨.hbm, 37, rfl⟩
abbrev main_while0b_c_15 : Ref sig .tc := ⟨.hbm, 38, rfl⟩
abbrev main_while0b_v29 : Ref sig .tc := ⟨.hbm, 39, rfl⟩
abbrev main_while0b_c_16 : Ref sig .tc := ⟨.hbm, 40, rfl⟩
abbrev main_while0b_v30 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_3 : Ref sig .tc := ⟨.hbm, 50, rfl⟩
abbrev main_v12 : Ref sig .tc := ⟨.hbm, 51, rfl⟩
abbrev main_v13 : Ref sig .tc := ⟨.hbm, 52, rfl⟩
abbrev main_values : Ref sig .tc := ⟨.hbm, 53, rfl⟩
abbrev main_indices : Ref sig .tc := ⟨.hbm, 54, rfl⟩

abbrev nD : Nat := 1
abbrev τ : Topo := Topo.v7x

variable {F : FTy → Type} [FloatOps F]

abbrev main_while0_count : Scf.Loop 32 := ⟨0#32, 511#32, 1#32⟩
-- ==== Points.lean ====
abbrev S131072x128 : Shape := ⟨2, ![131072, 128]⟩
abbrev S8x3x512 : Shape := ⟨3, ![8, 3, 512]⟩
abbrev S67x128 : Shape := ⟨2, ![67, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S_ : Shape := ⟨0, ![]⟩
abbrev S61x128 : Shape := ⟨2, ![61, 128]⟩
abbrev S1x128 : Shape := ⟨2, ![1, 128]⟩
abbrev S1x256 : Shape := ⟨2, ![1, 256]⟩
abbrev S8x512x256 : Shape := ⟨3, ![8, 512, 256]⟩
abbrev S4096x128 : Shape := ⟨2, ![4096, 128]⟩
abbrev S1x3x128 : Shape := ⟨3, ![1, 3, 128]⟩
abbrev S1x128x256 : Shape := ⟨3, ![1, 128, 256]⟩
abbrev S3x128 : Shape := ⟨2, ![3, 128]⟩
abbrev S128x1x128 : Shape := ⟨3, ![128, 1, 128]⟩
abbrev S128x32x128 : Shape := ⟨3, ![128, 32, 128]⟩
abbrev S4096x256 : Shape := ⟨2, ![4096, 256]⟩
abbrev S128x32x256 : Shape := ⟨3, ![128, 32, 256]⟩

abbrev nBuf : Space → Nat
  | .hbm => 27
  | .vmem => 18
  | .smem => 0
  | _ => 0

abbrev bufTy : (tb : Table) → Fin (tcTables nBuf tb) → BufTy
  | .hbm, ⟨0, _⟩ => ⟨S131072x128, .f32⟩
  | .hbm, ⟨1, _⟩ => ⟨S8x3x512, .f32⟩
  | .hbm, ⟨2, _⟩ => ⟨S67x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S_, .f32⟩
  | .hbm, ⟨15, _⟩ => ⟨S61x128, .f32⟩
  | .hbm, ⟨16, _⟩ => ⟨S128x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S8x512x256, .f32⟩
  | .local _ .vmem, ⟨0, _⟩ => ⟨S4096x128, .f32⟩
  | .local _ .vmem, ⟨1, _⟩ => ⟨S4096x128, .f32⟩
  | .local _ .vmem, ⟨2, _⟩ => ⟨S1x3x128, .f32⟩
  | .local _ .vmem, ⟨3, _⟩ => ⟨S1x3x128, .f32⟩
  | .local _ .vmem, ⟨4, _⟩ => ⟨S128x128, .f32⟩
  | .local _ .vmem, ⟨5, _⟩ => ⟨S128x128, .f32⟩
  | .local _ .vmem, ⟨6, _⟩ => ⟨S128x256, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x128x256, .f32⟩
  | .local _ .vmem, ⟨17, _⟩ => ⟨S1x128x256, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== PointsIdeal.lean ====
variable {F : FTy → Type} [FloatOps F] [Named F]
def κ : String → Option EReal := fun
  | "rs" => some (((Real.sqrt (1001 / 1000))⁻¹ : ℝ) : EReal)
  | _ => none
-- ==== PointsReferenceIdeal.lean ====
abbrev S131072x128 : Shape := ⟨2, ![131072, 128]⟩
abbrev S8x3x512 : Shape := ⟨3, ![8, 3, 512]⟩
abbrev S67x128 : Shape := ⟨2, ![67, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S8x512x32x128 : Shape := ⟨4, ![8, 512, 32, 128]⟩
abbrev S8x512x3 : Shape := ⟨3, ![8, 512, 3]⟩
abbrev S8x512x32x3 : Shape := ⟨4, ![8, 512, 32, 3]⟩
abbrev S8x512x1x3 : Shape := ⟨4, ![8, 512, 1, 3]⟩
abbrev S8x512x32x64 : Shape := ⟨4, ![8, 512, 32, 64]⟩
abbrev S8x512x32x67 : Shape := ⟨4, ![8, 512, 32, 67]⟩
abbrev S1x1x1x128 : Shape := ⟨4, ![1, 1, 1, 128]⟩
abbrev S_ : Shape := ⟨0, ![]⟩
abbrev S8x512x32x256 : Shape := ⟨4, ![8, 512, 32, 256]⟩
abbrev S1x1x1x256 : Shape := ⟨4, ![1, 1, 1, 256]⟩
abbrev S8x512x256 : Shape := ⟨3, ![8, 512, 256]⟩

abbrev nBuf : Space → Nat
  | .hbm => 81
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S8x3x512, .f32⟩
  | .hbm, ⟨2, _⟩ => ⟨S67x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S8x512x32x128, .f32⟩
  | .hbm, ⟨15, _⟩ => ⟨S8x512x3, .f32⟩
  | .hbm, ⟨16, _⟩ => ⟨S8x512x32x3, .f32⟩
  | .hbm, ⟨17, _⟩ => ⟨S8x512x1x3, .f32⟩
  | .hbm, ⟨18, _⟩ => ⟨S8x512x32x3, .f32⟩
  | .hbm, ⟨19, _⟩ => ⟨S8x512x32x3, .f32⟩
  | .hbm, ⟨20, _⟩ => ⟨S8x512x32x64, .f32⟩
  | .hbm, ⟨21, _⟩ => ⟨S8x512x32x67, .f32⟩
  | .hbm, ⟨22, _⟩ => ⟨S8x512x32x128, .f32⟩
  | .hbm, ⟨23, _⟩ => ⟨S1x1x1x128, .f32⟩
  | .hbm, ⟨24, _⟩ => ⟨S8x512x32x128, .f32⟩
  | .hbm, ⟨25, _⟩ => ⟨S8x512x32x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x512x32x128, .f32⟩
  | .hbm, ⟨31, _⟩ => ⟨S8x512x32x128, .f32⟩
  | .hbm, ⟨32, _⟩ => ⟨S1x1x1x128, .f32⟩
  | .hbm, ⟨33, _⟩ => ⟨S8x512x32x128, .f32⟩
  | .hbm, ⟨34, _⟩ => ⟨S8x512x32x128, .f32⟩
  | .hbm, ⟨35, _⟩ => ⟨S1x1x1x128, .f32⟩
  | .hbm, ⟨36, _⟩ => ⟨S8x512x32x128, .f32⟩
  | .hbm, ⟨37, _⟩ => ⟨S8x512x32x128, .f32⟩
  | .hbm, ⟨38, _⟩ => ⟨S_, .f32⟩
  | .hbm, ⟨39, _⟩ => ⟨S8x512x32x128, .f32⟩
  | .hbm, ⟨40, _⟩ => ⟨S8x512x32x128, .f32⟩
  | .hbm, ⟨41, _⟩ => ⟨S8x512x32x128, .f32⟩
  | .hbm, ⟨42, _⟩ => ⟨S1x1x1x128, .f32⟩
  | .hbm, ⟨43, _⟩ => ⟨S8x512x32x128, .f32⟩
  | .hbm, ⟨44, _⟩ => ⟨S8x512x32x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8x512x32x128, .f32⟩
  | .hbm, ⟨50, _⟩ => ⟨S8x512x32x128, .f32⟩
  | .hbm, ⟨51, _⟩ => ⟨S1x1x1x128, .f32⟩
  | .hbm, ⟨52, _⟩ => ⟨S8x512x32x128, .f32⟩
  | .hbm, ⟨53, _⟩ => ⟨S8x512x32x128, .f32⟩
  | .hbm, ⟨54, _⟩ => ⟨S1x1x1x128, .f32⟩
  | .hbm, ⟨55, _⟩ => ⟨S8x512x32x128, .f32⟩
  | .hbm, ⟨56, _⟩ => ⟨S8x512x32x128, .f32⟩
  | .hbm, ⟨57, _⟩ => ⟨S_, .f32⟩
  | .hbm, ⟨58, _⟩ => ⟨S8x512x32x128, .f32⟩
  | .hbm, ⟨59, _⟩ => ⟨S8x512x32x128, .f32⟩
  | .hbm, ⟨60, _⟩ => ⟨S8x512x32x256, .f32⟩
  | .hbm, ⟨61, _⟩ => ⟨S1x1x1x256, .f32⟩
  | .hbm, ⟨62, _⟩ => ⟨S8x512x32x256, .f32⟩
  | .hbm, ⟨63, _⟩ => ⟨S8x512x32x256, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8x512x32x256, .f32⟩
  | .hbm, ⟨69, _⟩ => ⟨S8x512x32x256, .f32⟩
  | .hbm, ⟨70, _⟩ => ⟨S1x1x1x256, .f32⟩
  | .hbm, ⟨71, _⟩ => ⟨S8x512x32x256, .f32⟩
  | .hbm, ⟨72, _⟩ => ⟨S8x512x32x256, .f32⟩
  | .hbm, ⟨73, _⟩ => ⟨S1x1x1x256, .f32⟩
  | .hbm, ⟨74, _⟩ => ⟨S8x512x32x256, .f32⟩
  | .hbm, ⟨75, _⟩ => ⟨S8x512x32x256, .f32⟩
  | .hbm, ⟨76, _⟩ => ⟨S_, .f32⟩
  | .hbm, ⟨77, _⟩ => ⟨S8x512x32x256, .f32⟩
  | .hbm, ⟨78, _⟩ => ⟨S8x512x32x256, .f32⟩
  | .hbm, ⟨79, _⟩ => ⟨S_, .f32⟩
  | .hbm, ⟨80, _⟩ => ⟨S8x512x256, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== WholeIdeal.lean ====
abbrev S8x4096x3 : Shape := ⟨3, ![8, 4096, 3]⟩
abbrev S8x4096x64 : Shape := ⟨3, ![8, 4096, 64]⟩
abbrev S_ : Shape := ⟨0, ![]⟩
abbrev S67x128 : Shape := ⟨2, ![67, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S3x8x4096 : Shape := ⟨3, ![3, 8, 4096]⟩
abbrev S8x512 : Shape := ⟨2, ![8, 512]⟩
abbrev S3x8x512 : Shape := ⟨3, ![3, 8, 512]⟩
abbrev S1x8x4096 : Shape := ⟨3, ![1, 8, 4096]⟩
abbrev S8x4096 : Shape := ⟨2, ![8, 4096]⟩
abbrev S8x1 : Shape := ⟨2, ![8, 1]⟩
abbrev S8 : Shape := ⟨1, ![8]⟩
abbrev S1x8x512 : Shape := ⟨3, ![1, 8, 512]⟩
abbrev S8x3x512 : Shape := ⟨3, ![8, 3, 512]⟩
abbrev S8x32x512 : Shape := ⟨3, ![8, 32, 512]⟩
abbrev S1x4096x3 : Shape := ⟨3, ![1, 4096, 3]⟩
abbrev S1x3x256 : Shape := ⟨3, ![1, 3, 256]⟩
abbrev S1x32x256 : Shape := ⟨3, ![1, 32, 256]⟩
abbrev S1x4096x1 : Shape := ⟨3, ![1, 4096, 1]⟩
abbrev S4096x1 : Shape := ⟨2, ![4096, 1]⟩
abbrev S1x1x256 : Shape := ⟨3, ![1, 1, 256]⟩
abbrev S1x256 : Shape := ⟨2, ![1, 256]⟩
abbrev S4096x256 : Shape := ⟨2, ![4096, 256]⟩
abbrev S32x256 : Shape := ⟨2, ![32, 256]⟩
abbrev S8x512x32 : Shape := ⟨3, ![8, 512, 32]⟩
abbrev S131072 : Shape := ⟨1, ![131072]⟩
abbrev S8x4096x61 : Shape := ⟨3, ![8, 4096, 61]⟩
abbrev S8x4096x128 : Shape := ⟨3, ![8, 4096, 128]⟩
abbrev S32768x128 : Shape := ⟨2, ![32768, 128]⟩
abbrev S131072x128 : Shape := ⟨2, ![131072, 128]⟩
abbrev S61x128 : Shape := ⟨2, ![61, 128]⟩
abbrev S1x128 : Shape := ⟨2, ![1, 128]⟩
abbrev S8x512x256 : Shape := ⟨3, ![8, 512, 256]⟩
abbrev S4096x128 : Shape := ⟨2, ![4096, 128]⟩
abbrev S1x3x128 : Shape := ⟨3, ![1, 3, 128]⟩
abbrev S1x128x256 : Shape := ⟨3, ![1, 128, 256]⟩
abbrev S3x128 : Shape := ⟨2, ![3, 128]⟩
abbrev S128x1x128 : Shape := ⟨3, ![128, 1, 128]⟩
abbrev S128x32x128 : Shape := ⟨3, ![128, 32, 128]⟩
abbrev S128x32x256 : Shape := ⟨3, ![128, 32, 256]⟩
abbrev S8x512x3 : Shape := ⟨3, ![8, 512, 3]⟩

abbrev nBuf : Table → Nat
  | .hbm => 43
  | .local .tc .vmem => 29
  | .local .scVector .vmem => 4
  | _ => 0

abbrev bufTy : (tb : Table) → Fin (nBuf tb) → BufTy
  | .hbm, ⟨0, _⟩ => ⟨S8x4096x3, .f32⟩
  | .hbm, ⟨1, _⟩ => ⟨S8x4096x64, .f32⟩
  | .hbm, ⟨2, _⟩ => ⟨S_, .i1⟩
  | .hbm, ⟨3, _⟩ => ⟨S67x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S3x8x4096, .f32⟩
  | .hbm, ⟨16, _⟩ => ⟨S8x512, .i32⟩
  | .hbm, ⟨17, _⟩ => ⟨S3x8x512, .f32⟩
  | .hbm, ⟨18, _⟩ => ⟨S8x3x512, .f32⟩
  | .hbm, ⟨19, _⟩ => ⟨S8x32x512, .i32⟩
  | .hbm, ⟨20, _⟩ => ⟨S8x32x512, .i32⟩
  | .hbm, ⟨21, _⟩ => ⟨S8x512x32, .i32⟩
  | .hbm, ⟨22, _⟩ => ⟨S8x512x32, .i32⟩
  | .hbm, ⟨23, _⟩ => ⟨S131072, .i32⟩
  | .hbm, ⟨24, _⟩ => ⟨S_, .f32⟩
  | .hbm, ⟨25, _⟩ => ⟨S8x4096x61, .f32⟩
  | .hbm, ⟨26, _⟩ => ⟨S8x4096x128, .f32⟩
  | .hbm, ⟨27, _⟩ => ⟨S32768x128, .f32⟩
  | .hbm, ⟨28, _⟩ => ⟨S131072x128, .f32⟩
  | .hbm, ⟨29, _⟩ => ⟨S_, .f32⟩
  | .hbm, ⟨30, _⟩ => ⟨S61x128, .f32⟩
  | .hbm, ⟨31, _⟩ => ⟨S128x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S8x512x256, .f32⟩
  | .hbm, ⟨42, _⟩ => ⟨S8x512x3, .f32⟩
  | .local .tc .vmem, ⟨0, _⟩ => ⟨S3x8x4096, .f32⟩
  | .local .tc .vmem, ⟨1, _⟩ => ⟨S8x512, .i32⟩
  | .local .tc .vmem, ⟨2, _⟩ => ⟨S3x8x512, .f32⟩
  | .local .tc .vmem, ⟨3, _⟩ => ⟨S1x4096x3, .f32⟩
  | .local .tc .vmem, ⟨4, _⟩ => ⟨S1x4096x3, .f32⟩
  | .local .tc .vmem, ⟨5, _⟩ => ⟨S1x3x256, .f32⟩
  | .local .tc .vmem, ⟨6, _⟩ => ⟨S1x3x256, .f32⟩
  | .local .tc .vmem, ⟨7, _⟩ => ⟨S1x32x256, .i32⟩
  | .local .tc .vmem, ⟨8, _⟩ => ⟨S1x32x256, .i32⟩
  | .local .tc .vmem, ⟨9, _⟩ => ⟨S1x32x256, .i32⟩
  | .local .tc .vmem, ⟨10, _⟩ => ⟨S1x32x256, .i32⟩
  | .local .tc .vmem, ⟨11, _⟩ => ⟨S4096x128, .f32⟩
  | .local .tc .vmem, ⟨12, _⟩ => ⟨S4096x128, .f32⟩
  | .local .tc .vmem, ⟨13, _⟩ => ⟨S1x3x128, .f32⟩
  | .local .tc .vmem, ⟨14, _⟩ => ⟨S1x3x128, .f32⟩
  | .local .tc .vmem, ⟨15, _⟩ => ⟨S128x128, .f32⟩
  | .local .tc .vmem, ⟨16, _⟩ => ⟨S128x128, .f32⟩
  | .local .tc .vmem, ⟨17, _⟩ => ⟨S128x256, .f32⟩
  | .local .tc .vmem, ⟨18, _⟩ => ⟨S1x128, .f32⟩
  | .local .tc .vmem, ⟨19, _⟩ => ⟨S1x128, .f32⟩
  | .local .tc .vmem, ⟨20, _⟩ => ⟨S1x128, .f32⟩
  | .local .tc .vmem, ⟨21, _⟩ => ⟨S1x128, .f32⟩
  | .local .tc .vmem, ⟨22, _⟩ => ⟨S1x128, .f32⟩
  | .local .tc .vmem, ⟨23, _⟩ => ⟨S1x128, .f32⟩
  | .local .tc .vmem, ⟨24, _⟩ => ⟨S1x256, .f32⟩
  | .local .tc .vmem, ⟨25, _⟩ => ⟨S1x256, .f32⟩
  | .local .tc .vmem, ⟨26, _⟩ => ⟨S1x256, .f32⟩
  | .local .tc .vmem, ⟨27, _⟩ => ⟨S1x128x256, .f32⟩
  | .local .tc .vmem, ⟨28, _⟩ => ⟨S1x128x256, .f32⟩
  | .local .scVector .vmem, ⟨0, _⟩ => ⟨S128, .i32⟩
  | .local .scVector .vmem, ⟨1, _⟩ => ⟨S128x128, .f32⟩
  | .local .scVector .vmem, ⟨2, _⟩ => ⟨S128, .i32⟩
  | .local .scVector .vmem, ⟨3, _⟩ => ⟨S128x128, .f32⟩
  | _, _ => ⟨S8x4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTables nBuf rfl bufTy 4 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1_0 : Ref sig .tc := ⟨.hbm, 16, rfl⟩
abbrev main_v1_1 : Ref sig .tc := ⟨.hbm, 17, rfl⟩
abbrev main_v2 : Ref sig .tc := ⟨.hbm, 18, rfl⟩
abbrev main_v3_0 : Ref sig .tc := ⟨.hbm, 19, rfl⟩
abbrev main_v3_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v9_scv : Ref sig .scVector := ⟨.hbm, 27, rfl⟩
abbrev main_v6_scv : Ref sig .scVector := ⟨.hbm, 23, rfl⟩
abbrev main_v10_scv : Ref sig .scVector := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg4_0 : Ref sig .tc := ⟨.vmem, 17, rfl⟩
abbrev cc3_stg5_0 : Ref sig .tc := ⟨.vmem, 18, rfl⟩
abbrev cc3_stg6_0 : Ref sig .tc := ⟨.vmem, 19, rfl⟩
abbrev cc3_stg7_0 : Ref sig .tc := ⟨.vmem, 20, rfl⟩
abbrev cc3_stg8_0 : Ref sig .tc := ⟨.vmem, 21, rfl⟩
abbrev cc3_stg9_0 : Ref sig .tc := ⟨.vmem, 22, rfl⟩
abbrev cc3_stg10_0 : Ref sig .tc := ⟨.vmem, 23, rfl⟩
abbrev cc3_stg11_0 : Ref sig .tc := ⟨.vmem, 24, rfl⟩
abbrev cc3_stg12_0 : Ref sig .tc := ⟨.vmem, 25, rfl⟩
abbrev cc3_stg13_0 : Ref sig .tc := ⟨.vmem, 26, rfl⟩
abbrev cc3_stg14_0 : Ref sig .tc := ⟨.vmem, 27, rfl⟩
abbrev cc3_stg14_1 : Ref sig .tc := ⟨.vmem, 28, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc3_sem0_0 : DmaSem sig := 77
abbrev cc3_sem0_1 : DmaSem sig := 78
abbrev cc3_sem1_0 : DmaSem sig := 79
abbrev cc3_sem1_1 : DmaSem sig := 80
abbrev cc3_sem2_0 : DmaSem sig := 81
abbrev cc3_sem3_0 : DmaSem sig := 82
abbrev cc3_sem4_0 : DmaSem sig := 83
abbrev cc3_sem5_0 : DmaSem sig := 84
abbrev cc3_sem6_0 : DmaSem sig := 85
abbrev cc3_sem7_0 : DmaSem sig := 86
abbrev cc3_sem8_0 : DmaSem sig := 87
abbrev cc3_sem9_0 : DmaSem sig := 88
abbrev cc3_sem10_0 : DmaSem sig := 89
abbrev cc3_sem11_0 : DmaSem sig := 90
abbrev cc3_sem12_0 : DmaSem sig := 91
abbrev cc3_sem13_0 : DmaSem sig := 92
abbrev cc3_sem14_0 : DmaSem sig := 93
abbrev cc3_sem14_1 : DmaSem sig := 94
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "rs" => some (((Real.sqrt (1001 / 1000))⁻¹ : ℝ) : EReal)
  | _ => none

abbrev grid0 : Pipeline.Grid := .none

@[reducible] def k0_t1_loop : Scf.Loop 32 :=
  let c1_i32 : BitVec 32 := 1#32
  let c511_i32 : BitVec 32 := 511#32
  let v31 : BitVec 32 := Scalar.addi c1_i32 c511_i32
  let c1_i32_12 : BitVec 32 := 1#32
  ⟨c1_i32, v31, c1_i32_12⟩
abbrev stage0_0 : Fin 1 → Memref sig .tc .vmem S3x8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![8, 2], ![false, false]⟩

@[reducible] def k1_t1_loop : Scf.Loop 32 :=
  let c0_i32_15 : BitVec 32 := 0#32
  let c32_i32 : BitVec 32 := 32#32
  let v29 : BitVec 32 := Scalar.addi c0_i32_15 c32_i32
  let c1_i32 : BitVec 32 := 1#32
  ⟨c0_i32_15, v29, c1_i32⟩
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x4096x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x3x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
def k2_off2 (i : grid2.Coords) (c128_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v4 : BitVec 32 := Scalar.addi v2 c128_i32
  ![v4.toNat]
def k2_off3 (i : grid2.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v7 : BitVec 32 := Scalar.addi v2 c0_i32_5
  let c0_i32_159_r2 : BitVec 32 := 0#32
  ![v7.toNat, 0]
abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x3x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 1 → Memref sig .tc .vmem S1x256 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 1 → Memref sig .tc .vmem S1x256 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, false]

abbrev stage3_14 : Fin 2 → Memref sig .tc .vmem S1x128x256 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== WholeReferenceIdeal.lean ====
abbrev S8x4096x3 : Shape := ⟨3, ![8, 4096, 3]⟩
abbrev S8x4096x64 : Shape := ⟨3, ![8, 4096, 64]⟩
abbrev S_ : Shape := ⟨0, ![]⟩
abbrev S67x128 : Shape := ⟨2, ![67, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S8x512 : Shape := ⟨2, ![8, 512]⟩
abbrev S8x4096 : Shape := ⟨2, ![8, 4096]⟩
abbrev S8 : Shape := ⟨1, ![8]⟩
abbrev S8x1 : Shape := ⟨2, ![8, 1]⟩
abbrev S8x1x1 : Shape := ⟨3, ![8, 1, 1]⟩
abbrev S8x1x3 : Shape := ⟨3, ![8, 1, 3]⟩
abbrev S8x512x1 : Shape := ⟨3, ![8, 512, 1]⟩
abbrev S8x512x3 : Shape := ⟨3, ![8, 512, 3]⟩
abbrev S8x512x1x3 : Shape := ⟨4, ![8, 512, 1, 3]⟩
abbrev S8x1x4096x3 : Shape := ⟨4, ![8, 1, 4096, 3]⟩
abbrev S8x512x4096x3 : Shape := ⟨4, ![8, 512, 4096, 3]⟩
abbrev S8x512x4096 : Shape := ⟨3, ![8, 512, 4096]⟩
abbrev S8x512x32 : Shape := ⟨3, ![8, 512, 32]⟩
abbrev S8x512x32x1 : Shape := ⟨4, ![8, 512, 32, 1]⟩
abbrev S8x512x32x3 : Shape := ⟨4, ![8, 512, 32, 3]⟩
abbrev S8x512x32x64 : Shape := ⟨4, ![8, 512, 32, 64]⟩
abbrev S8x512x32x67 : Shape := ⟨4, ![8, 512, 32, 67]⟩
abbrev S8x512x32x128 : Shape := ⟨4, ![8, 512, 32, 128]⟩
abbrev S1x1x1x128 : Shape := ⟨4, ![1, 1, 1, 128]⟩
abbrev S8x512x32x256 : Shape := ⟨4, ![8, 512, 32, 256]⟩
abbrev S1x1x1x256 : Shape := ⟨4, ![1, 1, 1, 256]⟩
abbrev S8x512x256 : Shape := ⟨3, ![8, 512, 256]⟩

abbrev nBuf : Space → Nat
  | .hbm => 136
  | .vmem => 0
  | .smem => 0
  | _ => 0

abbrev hbmTy0_0 (i : Nat) : BufTy := match i % 128 with
  | 0 => ⟨S8x4096x3, .f32⟩
  | 1 => ⟨S8x4096x64, .f32⟩
  | 2 => ⟨S_, .i1⟩
  | 3 => ⟨S67x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x256, .f32⟩
  | 12 => ⟨S256, .f32⟩
  | 13 => ⟨S256, .f32⟩
  | 14 => ⟨S256, .f32⟩
  | 15 => ⟨S_, .i32⟩
  | 16 => ⟨S8x512, .i32⟩
  | 17 => ⟨S_, .f32⟩
  | 18 => ⟨S8x4096, .f32⟩
  | 19 => ⟨S_, .i32⟩
  | 20 => ⟨S8, .i32⟩
  | 21 => ⟨S_, .i32⟩
  | 22 => ⟨S_, .i32⟩
  | 23 => ⟨S8x4096x3, .f32⟩
  | 24 => ⟨S_, .i32⟩
  | 25 => ⟨S_, .i32⟩
  | 26 => ⟨S8x512, .i32⟩
  | 27 => ⟨S8x4096, .f32⟩
  | 28 => ⟨S8, .i32⟩
  | 29 => ⟨S_, .i32⟩
  | 30 => ⟨S_, .i1⟩
  | 31 => ⟨S_, .i32⟩
  | 32 => ⟨S_, .i32⟩
  | 33 => ⟨S8x1, .i32⟩
  | 34 => ⟨S8x1x1, .i32⟩
  | 35 => ⟨S8x1x3, .f32⟩
  | 36 => ⟨S8x4096x3, .f32⟩
  | 37 => ⟨S8x4096x3, .f32⟩
  | 38 => ⟨S8x4096x3, .f32⟩
  | 39 => ⟨S_, .f32⟩
  | 40 => ⟨S8x4096, .f32⟩
  | 41 => ⟨S8x4096, .f32⟩
  | 42 => ⟨S8x1, .f32⟩
  | 43 => ⟨S8x1, .i32⟩
  | 44 => ⟨S8, .i32⟩
  | 45 => ⟨S8x1, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S8x512, .i32⟩
  | 54 => ⟨S_, .i32⟩
  | 55 => ⟨S_, .i32⟩
  | 56 => ⟨S8x512x1, .i32⟩
  | 57 => ⟨S8x512x3, .f32⟩
  | 58 => ⟨S8x512x1x3, .f32⟩
  | 59 => ⟨S8x1x4096x3, .f32⟩
  | 60 => ⟨S8x512x4096x3, .f32⟩
  | 61 => ⟨S8x512x4096x3, .f32⟩
  | 62 => ⟨S8x512x4096x3, .f32⟩
  | 63 => ⟨S8x512x4096x3, .f32⟩
  | 64 => ⟨S_, .f32⟩
  | 65 => ⟨S8x512x4096, .f32⟩
  | 66 => ⟨S8x512x4096, .f32⟩
  | 67 => ⟨S8x512x32, .f32⟩
  | 68 => ⟨S8x512x32, .i32⟩
  | 69 => ⟨S8x512x32x1, .i32⟩
  | 70 => ⟨S8x512x32x3, .f32⟩
  | 71 => ⟨S8x512x1x3, .f32⟩
  | 72 => ⟨S8x512x32x3, .f32⟩
  | 73 => ⟨S8x512x32x3, .f32⟩
  | 74 => ⟨S8x512x32x1, .i32⟩
  | 75 => ⟨S8x512x32x64, .f32⟩
  | 76 => ⟨S8x512x32x67, .f32⟩
  | 77 => ⟨S8x512x32x128, .f32⟩
  | 78 => ⟨S1x1x1x128, .f32⟩
  | 79 => ⟨S8x512x32x128, .f32⟩
  | 80 => ⟨S8x512x32x128, .f32⟩
  | 81 => ⟨S_, .f32⟩
  | 82 => ⟨S_, .f32⟩
  | 83 => ⟨S_, .f32⟩
  | 84 => ⟨S_, .f32⟩
  | 85 => ⟨S8x512x32x128, .f32⟩
  | 86 => ⟨S8x512x32x128, .f32⟩
  | 87 => ⟨S1x1x1x128, .f32⟩
  | 88 => ⟨S8x512x32x128, .f32⟩
  | 89 => ⟨S8x512x32x128, .f32⟩
  | 90 => ⟨S1x1x1x128, .f32⟩
  | 91 => ⟨S8x512x32x128, .f32⟩
  | 92 => ⟨S8x512x32x128, .f32⟩
  | 93 => ⟨S_, .f32⟩
  | 94 => ⟨S8x512x32x128, .f32⟩
  | 95 => ⟨S8x512x32x128, .f32⟩
  | 96 => ⟨S8x512x32x128, .f32⟩
  | 97 => ⟨S1x1x1x128, .f32⟩
  | 98 => ⟨S8x512x32x128, .f32⟩
  | 99 => ⟨S8x512x32x128, .f32⟩
  | 100 => ⟨S_, .f32⟩
  | 101 => ⟨S_, .f32⟩
  | 102 => ⟨S_, .f32⟩
  | 103 => ⟨S_, .f32⟩
  | 104 => ⟨S8x512x32x128, .f32⟩
  | 105 => ⟨S8x512x32x128, .f32⟩
  | 106 => ⟨S1x1x1x128, .f32⟩
  | 107 => ⟨S8x512x32x128, .f32⟩
  | 108 => ⟨S8x512x32x128, .f32⟩
  | 109 => ⟨S1x1x1x128, .f32⟩
  | 110 => ⟨S8x512x32x128, .f32⟩
  | 111 => ⟨S8x512x32x128, .f32⟩
  | 112 => ⟨S_, .f32⟩
  | 113 => ⟨S8x512x32x128, .f32⟩
  | 114 => ⟨S8x512x32x128, .f32⟩
  | 115 => ⟨S8x512x32x256, .f32⟩
  | 116 => ⟨S1x1x1x256, .f32⟩
  | 117 => ⟨S8x512x32x256, .f32⟩
  | 118 => ⟨S8x512x32x256, .f32⟩
  | 119 => ⟨S_, .f32⟩
  | 120 => ⟨S_, .f32⟩
  | 121 => ⟨S_, .f32⟩
  | 122 => ⟨S_, .f32⟩
  | 123 => ⟨S8x512x32x256, .f32⟩
  | 124 => ⟨S8x512x32x256, .f32⟩
  | 125 => ⟨S1x1x1x256, .f32⟩
  | 126 => ⟨S8x512x32x256, .f32⟩
  | 127 => ⟨S8x512x32x256, .f32⟩
  | _ => ⟨S8x4096x3, .f32⟩

abbrev hbmTy0_1 (i : Nat) : BufTy := match i % 128 with
  | 0 => ⟨S1x1x1x256, .f32⟩
  | 1 => ⟨S8x512x32x256, .f32⟩
  | 2 => ⟨S8x512x32x256, .f32⟩
  | 3 => ⟨S_, .f32⟩
  | 4 => ⟨S8x512x32x256, .f32⟩
  | 5 => ⟨S8x512x32x256, .f32⟩
  | 6 => ⟨S_, .f32⟩
  | 7 => ⟨S8x512x256, .f32⟩
  | _ => ⟨S8x4096x3, .f32⟩

abbrev hbmTy (i : Nat) : BufTy := match i / 128 with
  | 0 => hbmTy0_0 i
  | 1 => hbmTy0_1 i
  | _ => ⟨S8x4096x3, .f32⟩

abbrev bufTy : (tb : Table) → Fin (tcTables nBuf tb) → BufTy
  | .hbm, ⟨i, _⟩ => hbmTy i
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_c_1 : Ref sig .tc := ⟨.hbm, 21, rfl⟩
abbrev main_c_2 : Ref sig .tc := ⟨.hbm, 22, rfl⟩
abbrev main_v3_0 : Ref sig .tc := ⟨.hbm, 23, rfl⟩
abbrev main_v3_1 : Ref sig .tc := ⟨.hbm, 24, rfl⟩
abbrev main_v3_2 : Ref sig .tc := ⟨.hbm, 25, rfl⟩
abbrev main_v3_3 : Ref sig .tc := ⟨.hbm, 26, rfl⟩
abbrev main_v3_4 : Ref sig .tc := ⟨.hbm, 27, rfl⟩
abbrev main_v3_5 : Ref sig .tc := ⟨.hbm, 28, rfl⟩
abbrev main_while0c_c_19 : Ref sig .tc := ⟨.hbm, 29, rfl⟩
abbrev main_while0c_v71 : Ref sig .tc := ⟨.hbm, 30, rfl⟩
abbrev main_while0b_c_19 : Ref sig .tc := ⟨.hbm, 31, rfl⟩
abbrev main_while0b_v71 : Ref sig .tc := ⟨.hbm, 32, rfl⟩
abbrev main_while0b_v72 : Ref sig .tc := ⟨.hbm, 33, rfl⟩
abbrev main_while0b_v73 : Ref sig .tc := ⟨.hbm, 34, rfl⟩
abbrev main_while0b_v74 : Ref sig .tc := ⟨.hbm, 35, rfl⟩
abbrev main_while0b_v75 : Ref sig .tc := ⟨.hbm, 36, rfl⟩
abbrev main_while0b_v76 : Ref sig .tc := ⟨.hbm, 37, rfl⟩
abbrev main_while0b_v77 : Ref sig .tc := ⟨.hbm, 38, rfl⟩
abbrev main_while0b_cst_20 : Ref sig .tc := ⟨.hbm, 39, rfl⟩
abbrev main_while0b_v78 : Ref sig .tc := ⟨.hbm, 40, rfl⟩
abbrev main_while0b_v79 : Ref sig .tc := ⟨.hbm, 41, rfl⟩
abbrev main_while0b_values_21 : Ref sig .tc := ⟨.hbm, 42, rfl⟩
abbrev main_while0b_indices_22 : Ref sig .tc := ⟨.hbm, 43, rfl⟩
abbrev main_while0b_v80 : Ref sig .tc := ⟨.hbm, 44, rfl⟩
abbrev main_while0b_v81 : Ref sig .tc := ⟨.hbm, 45, rfl⟩
abbrev main_while0b_c_23 : Ref sig .tc := ⟨.hbm, 46, rfl⟩
abbrev main_while0b_v82 : Ref sig .tc := ⟨.hbm, 47, rfl⟩
abbrev main_while0b_v83 : Ref sig .tc := ⟨.hbm, 48, rfl⟩
abbrev main_while0b_c_24 : Ref sig .tc := ⟨.hbm, 49, rfl⟩
abbrev main_while0b_v84 : Ref sig .tc := ⟨.hbm, 50, rfl⟩
abbrev main_while0b_v85 : Ref sig .tc := ⟨.hbm, 51, rfl⟩
abbrev main_while0b_c_25 : Ref sig .tc := ⟨.hbm, 52, rfl⟩
abbrev main_while0b_v86 : Ref sig .tc := ⟨.hbm, 53, rfl⟩
abbrev main_while0b_c_26 : Ref sig .tc := ⟨.hbm, 54, rfl⟩
abbrev main_while0b_v87 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_cst_3 : Ref sig .tc := ⟨.hbm, 64, rfl⟩
abbrev main_v12 : Ref sig .tc := ⟨.hbm, 65, rfl⟩
abbrev main_v13 : Ref sig .tc := ⟨.hbm, 66, rfl⟩
abbrev main_values : Ref sig .tc := ⟨.hbm, 67, rfl⟩
abbrev main_indices : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_cst_4 : Ref sig .tc := ⟨.hbm, 81, rfl⟩
abbrev main_cst_5 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_cst_6 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_cst_7 : Ref sig .tc := ⟨.hbm, 100, rfl⟩
abbrev main_cst_8 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_cst_9 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_cst_10 : Ref sig .tc := ⟨.hbm, 119, rfl⟩
abbrev main_cst_11 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_cst_12 : Ref sig .tc := ⟨.hbm, 131, rfl⟩
abbrev main_v68 : Ref sig .tc := ⟨.hbm, 132, rfl⟩
abbrev main_v69 : Ref sig .tc := ⟨.hbm, 133, rfl⟩
abbrev main_cst_13 : Ref sig .tc := ⟨.hbm, 134, rfl⟩
abbrev main_v70 : Ref sig .tc := ⟨.hbm, 135, rfl⟩

abbrev nD : Nat := 1
abbrev τ : Topo := Topo.v7x

variable {F : FTy → Type} [FloatOps F]

abbrev main_while0_count : Scf.Loop 32 := ⟨0#32, 511#32, 1#32⟩
-- ==== Proof.Chunks.lean ====
/-
  The tile's program of the SparseCore call, as the run of equal steps it is: per chunk of 128 indices one fetch of
  the chunk's indices, one indirect gather of the table's rows they name, the wait for it, and one copy of the gathered
  rows to the result, two buffers of each kind in turn. The printed program writes the 32 chunks out; `tile_eq` says
  that it is the program below.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.SL Idealize.SL.Sem

variable {F : FTy → Type} [FloatOps F]

/-! ## The names of this program -/

/-- The table, the indices and the result as a vector subcore addresses them. -/
abbrev tV : Memref sig .scVector .hbm S32768x128 .f32 := Memref.whole main_arg0_scv
abbrev iV : Memref sig .scVector .hbm S131072 .i32 := Memref.whole main_arg1_scv
abbrev oV : Memref sig .scVector .hbm S131072x128 .f32 := Memref.whole main_v0_scv

/-- The buffer of a chunk's indices: the first for the even chunks, the second for the odd. -/
abbrev listRef : Bool → Ref sig .scVector
  | false => cc0_scratch0
  | true => cc0_scratch2
/-- The buffer of a chunk's gathered rows. -/
abbrev rowsRef : Bool → Ref sig .scVector
  | false => cc0_scratch1
  | true => cc0_scratch3
abbrev listV : Bool → Memref sig .scVector .vmem S128 .i32
  | false => Memref.whole cc0_scratch0
  | true => Memref.whole cc0_scratch2
abbrev rowsV : Bool → Memref sig .scVector .vmem S128x128 .f32
  | false => Memref.whole cc0_scratch1
  | true => Memref.whole cc0_scratch3
/-- The semaphore of a buffer's gathers. -/
abbrev gSem : Bool → DmaSems sig S_
  | false => cc0_scratch4
  | true => cc0_scratch5

theorem listV_whole : ∀ b, (listV b).IsWhole
  | false => Memref.isWhole_whole _
  | true => Memref.isWhole_whole _
theorem rowsV_whole : ∀ b, (rowsV b).IsWhole
  | false => Memref.isWhole_whole _
  | true => Memref.isWhole_whole _

theorem cSem_inb (n : Fin 64) : n.val + 2 + S_.numel ≤ 66 := by have := n.isLt; have : S_.numel = 1 := rfl; omega
/-- The semaphore of the tile's `n`-th copy. -/
abbrev cSem (n : Fin 64) : DmaSems sig S_ := SemArray.consecutive (n.val + 2) S_ (cSem_inb n)

/-! ## The steps -/

section
variable (L : grid0.Coords)

abbrev Eff : Type → Type _ := TpuEff nD τ sig (Elt F) Λ₀ (.scVector ((L 0).castLE hcore0) ((L 1).castLE hsub0))

/-- The whole table, as the gathers name it. -/
abbrev tAll : Memref sig .scVector .hbm S32768x128 .f32 :=
  tV.slice (Rect.unit (s := S32768x128) ![0, 0] S32768x128.size inb_S32768x128_S32768x128_0_0) (fun _ => rfl)
/-- 128 of the indices, from offset `o`. -/
abbrev idxAt (o : Fin 1 → ℕ) (h : ∀ a, o a + S128.size a ≤ S131072.size a) : Memref sig .scVector .hbm S128 .i32 :=
  iV.slice (Rect.unit (s := S131072) o S128.size h) (fun _ => rfl)
/-- 128 rows of the result, from offset `o`. -/
abbrev outAt (o : Fin 2 → ℕ) (h : ∀ a, o a + S128x128.size a ≤ S131072x128.size a) : Memref sig .scVector .hbm S128x128 .f32 :=
  oV.slice (Rect.unit (s := S131072x128) o S128x128.size h) (fun _ => rfl)

/-- Copy 128 indices into buffer `b` and wait for them. -/
def fetch (o : Fin 1 → ℕ) (h : ∀ a, o a + S128.size a ≤ S131072.size a) (b : Bool) (s : DmaSems sig S_) : Prog (Eff (F := F) L) PUnit := do
  Prog.lift (.enqueueDma (idxAt o h) (.here (listV b)) (.dma s.sem) (View.wordExact_bits rfl) (listV_whole b).wordExact ⟨Or.inl rfl, trivial⟩)
  Prog.lift (.waitDma2 s.sem (idxAt o h) (listV b) (View.wordExact_bits rfl) (listV_whole b).wordExact)

/-- Start gathering the rows buffer `b`'s indices name. -/
def gstart (b : Bool) : Prog (Eff (F := F) L) PUnit :=
  SparseCore.enqueueIndirectGather rfl tAll (rowsV b) gathers_S32768x128_S128x128 (listV b) rfl (gSem b).sem (View.wordExact_bits rfl) rfl (Or.inl rfl)

/-- Wait for buffer `b`'s gather. -/
def gwait (b : Bool) : Prog (Eff (F := F) L) PUnit :=
  SparseCore.waitIndirectGather (gSem b).sem tAll (rowsV b) (View.wordExact_bits rfl) (rowsV_whole b).wordExact

/-- Copy buffer `b`'s rows to the result and wait for the copy. -/
def put (o : Fin 2 → ℕ) (h : ∀ a, o a + S128x128.size a ≤ S131072x128.size a) (b : Bool) (s : DmaSems sig S_) : Prog (Eff (F := F) L) PUnit := do
  Prog.lift (.enqueueDma (rowsV b) (.here (outAt o h)) (.dma s.sem) (rowsV_whole b).wordExact (View.wordExact_bits rfl) ⟨Or.inl rfl, trivial⟩)
  Prog.lift (.waitDma2 s.sem (rowsV b) (outAt o h) (rowsV_whole b).wordExact (View.wordExact_bits rfl))

/-- Chunk `n`'s buffer. -/
abbrev side : ℕ → Bool
  | 0 => false
  | n + 1 => !side n

/-- Chunk `r`'s turn: fetch chunk `r + 1` and start its gather, then wait for chunk `r`'s and copy it out. -/
def turn (r : Fin 31) : Prog (Eff (F := F) L) PUnit := do
  fetch L (k0_off2 L (BitVec.ofNat 32 (128 + 128 * r.val))) (k0_off2_inb L r) (side (r.val + 1)) (cSem ⟨2 * r.val + 1, by have := r.isLt; omega⟩)
  gstart L (side (r.val + 1))
  gwait L (side r.val)
  put L (k0_off3 L (BitVec.ofNat 32 (128 * r.val))) (k0_off3_inb L ⟨r.val, by have := r.isLt; omega⟩) (side r.val) (cSem ⟨2 * r.val + 2, by have := r.isLt; omega⟩)

/-- The turns of the first `n` chunks. -/
def turns : (n : ℕ) → n ≤ 31 → Prog (Eff (F := F) L) PUnit
  | 0, _ => pure ⟨⟩
  | n + 1, h => do turns n (Nat.le_of_succ_le h); turn L ⟨n, h⟩

/-- The tile's program. -/
def tile : Prog (Eff (F := F) L) PUnit := do
  fetch L (k0_off1 L) (k0_off1_inb L) false (cSem 0)
  gstart L false
  turns L 31 (le_refl _)
  gwait L true
  put L (k0_off3 L 3968#32) (k0_off3_inb L 31) true (cSem 63)

end

end Cert.Proof.Tile
-- ==== Proof.Steps.lean ====
/-
  What each of the tile's steps does, for a symbolic tile: the rules of its copies, of its gathers and of the waits for
  them, with the contents they leave.
-/
module

public import proofs.«01_k».proof.Proof.Chunks

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U]

local notation "𝕄" => MT nD τ sig (HIx 1) (Elt F) ℕ U ℕ

abbrev 𝒱₀ : Variants := Variants.none
abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-! ## What the call computes -/

/-- The index list's entry `n`. -/
def iIx (n : ℕ) (h : n < 131072) : S131072.Idx := fun | 0 => ⟨n, h⟩
/-- The table's entry in the row word `w` names (the last row, were it past the end) and column `c`. -/
def tIx (w : BitVec 32) (c : Fin 128) : S32768x128.Idx := fun | 0 => ⟨min w.toNat 32767, Nat.lt_of_le_of_lt (Nat.min_le_right _ _) (by decide)⟩ | 1 => c
/-- Every row of the result is the row of the table its index names. -/
def gathered (tab : S32768x128.Idx → Elt F .f32) (idx : S131072.Idx → Elt F .i32) : S131072x128.Idx → Elt F .f32 :=
  fun j => tab (tIx (idx (iIx (j 0).val (j 0).isLt)) (j 1))

/-! ## The tile's rows -/

/-- The first row of the tile's chunk `r`. -/
def base (L : grid0.Coords) (r : ℕ) : ℕ := 8192 * (L 1).val + 4096 * (L 0).val + 128 * r

theorem base_lt (L : grid0.Coords) (r : Fin 32) {x : ℕ} (hx : x < 128) : base L r.val + x < 131072 := by
  have h0 : (L 0).val < 2 := (L 0).isLt
  have h1 : (L 1).val < 16 := (L 1).isLt
  have := r.isLt
  unfold base; omega

section
variable (d : Dev nD) (L : grid0.Coords)
variable (EC : UEmb Counters (MT nD τ sig (HIx 1) (Elt F) ℕ U ℕ)) [EC.LandsIn (upEmb : UEmb _ (MT nD τ sig (HIx 1) (Elt F) ℕ U ℕ))]

include EC in
/-- A copy on a semaphore at zero and the wait for it. -/
theorem wp_copy {sp sp' : Space} {s : Shape} {e : EltTy} (src : Memref sig .scVector sp s e) (dst : Memref sig .scVector sp' s e) (sm : DmaSem sig)
    (hsrc : src.view.WordExact) (hdst : dst.view.WordExact) (hsem : DmaTarget.Typed (nD := nD) (τ := τ) (p := (thr d L).2) sp (.dma sm) (.here dst)) (hs : 0 < s.numel)
    {q : PosShare TreeShare} {fs : Buf (Elt F) (src.view.loc (thr d L))} {fd : Buf (Elt F) (dst.view.loc (thr d L))}
    {O : CellTallies nD τ sig (HIx 1)} {W : Waits sig (HIx 1)} :
    iprop(Transfers.MayWaits (thr d L) none O ∗ (src.view.loc (thr d L) ↦[src.view.set]{q} fs) ∗ (dst.view.loc (thr d L) ↦[dst.view.set]{fullShare} fd)
        ∗ semVal ((thr d L), SemLoc.dma sm) 0 ∗ owes (thr d L) O W)
      ⊢ wp frame (wpE (defs₀ (F := F)) 𝒱₀ (thr d L) none) Set.univ
          (Prog.lift (.enqueueDma src (.here dst) (.dma sm) hsrc hdst hsem) >>= fun _ => Prog.lift (.waitDma2 sm src dst hsrc hdst))
          fun _ => iprop((dst.view.loc (thr d L) ↦[dst.view.set]{fullShare} (dst.view.write (Elt F) fd (src.view.read (Elt F) fs) Finset.univ) : sProp 𝕄)
            ∗ (src.view.loc (thr d L) ↦[src.view.set]{q} fs) ∗ semVal ((thr d L), SemLoc.dma sm) 0
            ∗ owes (thr d L) O (insert (SemLoc.dma sm, none) W)) := by
  iintro ⟨Hmw, Hs, Hd, Hv, HO⟩
  rw [Prog.bind_lift]
  iapply (Transfers.wp_dmaLocal EC 𝒱₀ (thr d L) none (none : HIx 1) dst.view.dmaCredit rfl (View.dmaCredit_pos _ hs) (Finset.Subset.refl _)) $$ [Hs Hd Hv]
  · isplitl [Hs]; · iexact Hs
    isplitl [Hd]; · iexact Hd
    iexact Hv
  iintro Hfl
  iapply (Transfers.wp_waitLocalO EC 𝒱₀ (thr d L) none (none : HIx 1) (rfl : dst.view.dmaCredit = _)) $$ [Hfl HO Hmw]
  · isplitl [Hfl]; · iexact Hfl
    isplitl [HO]; · iexact HO
    iapply (Transfers.MayWaits.elim (SemLoc.dma sm)) $$ Hmw
  iintro ⟨⟨Hd, Hs⟩, Hv, HO⟩
  sl_step
  isplitl [Hd]; · iexact Hd
  isplitl [Hs]; · iexact Hs
  isplitl [Hv]; · iexact Hv
  iexact HO

/-! ## The launch memory, the tile's shares and buffers -/

variable (m : (ℓ : Loc nD τ sig) → Buf (Elt F) ℓ)

abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

/-- What the call leaves in its result. -/
abbrev want : Buf (Elt F) (oLoc d) := gathered (m (tLoc d)) (m (iLoc d))

abbrev listPts (b : Bool) (f : Buf (Elt F) ((listV b).view.loc (thr d L))) : sProp 𝕄 :=
  (listV b).view.loc (thr d L) ↦[(listV b).view.set]{fullShare} f
abbrev rowsPts (b : Bool) (f : Buf (Elt F) ((rowsV b).view.loc (thr d L))) : sProp 𝕄 :=
  (rowsV b).view.loc (thr d L) ↦[(rowsV b).view.set]{fullShare} f
/-- Buffer `b`'s share of the table: half of the tile's. -/
abbrev half (q : PosShare TreeShare) : Bool → PosShare TreeShare
  | false => q.left
  | true => q.right
abbrev tabPts (q : PosShare TreeShare) (b : Bool) : sProp 𝕄 :=
  (tAll).view.loc (thr d L) ↦[(tAll).view.set]{half q b} m (tLoc d)

theorem out_inb (r : Fin 32) : ∀ a, (![base L r.val, 0] : Fin 2 → ℕ) a + S128x128.size a ≤ S131072x128.size a
  | 0 => by have := base_lt L r (x := 127) (by decide); show base L r.val + 128 ≤ 131072; omega
  | 1 => by show 0 + 128 ≤ 128; omega
/-- The result's rows of the tile's chunk `r`. -/
abbrev outSet (r : Fin 32) : Finset S131072x128.Idx := (outAt (![base L r.val, 0]) (out_inb L r)).view.set
abbrev outPts (r : Fin 32) (f : Buf (Elt F) (oLoc d)) : sProp 𝕄 := oLoc d ↦[outSet L r]{fullShare} f

/-- The list in buffer `b` is chunk `r`'s. -/
def ListOK (b : Bool) (r : Fin 32) (f : Buf (Elt F) ((listV b).view.loc (thr d L))) : Prop :=
  ∀ x : S128.Idx, (listV b).view.read (Elt F) f x = m (iLoc d) (iIx (base L r.val + (x 0).val) (base_lt L r (x 0).isLt))

/-- The rows in buffer `b` are those of chunk `r`. -/
def RowsOK (b : Bool) (r : Fin 32) (f : Buf (Elt F) ((rowsV b).view.loc (thr d L))) : Prop :=
  ∀ x : S128x128.Idx, (rowsV b).view.read (Elt F) f x = want d m ((outAt (![base L r.val, 0]) (out_inb L r)).view.emb x)

/-- The waits recorded so far: what they were at the start, and the tile's own. -/
abbrev owesSince (O : CellTallies nD τ sig (HIx 1)) (W : Waits sig (HIx 1)) : sProp 𝕄 :=
  iprop(∃ W', ⌜∀ p ∈ W', p ∈ W ∨ p.2 = none⌝ ∗ owes (thr d L) O W')

/-- What every step has by it: the right to wait, a share of the index list, the copies' semaphores at zero. -/
abbrev Base (q : PosShare TreeShare) (O : CellTallies nD τ sig (HIx 1)) (W : Waits sig (HIx 1)) : sProp 𝕄 :=
  iprop(Transfers.MayWaits (thr d L) none O ∗ (iLoc d ↦{q} m (iLoc d))
    ∗ (bigSep Finset.univ fun n : Fin 64 => semVal (thr d L, SemLoc.dma (cSem n).sem) 0) ∗ owesSince d L O W)

/-- What a finished gather hands back. -/
abbrev Landed (q : PosShare TreeShare) (b : Bool) (r : Fin 32) : sProp 𝕄 :=
  iprop((∃ f, ⌜RowsOK d L m b r f⌝ ∗ rowsPts d L b f) ∗ (∃ f, listPts d L b f) ∗ tabPts d L m q b)

/-- Chunk `r`'s gather into buffer `b` under way. -/
def Flying (q : PosShare TreeShare) (b : Bool) (r : Fin 32) : sProp 𝕄 :=
  iprop(∃ D : sProp 𝕄, ⌜D ⊢ Landed d L m q b r⌝ ∗ Transfers.Flight EC (thr d L) (.dma (gSem b).sem) (none : HIx 1) (rowsV b).view.dmaCredit D)

variable {q : PosShare TreeShare} {O : CellTallies nD τ sig (HIx 1)} {W : Waits sig (HIx 1)}

include EC in
theorem fetch_step (o : Fin 1 → ℕ) (h : ∀ a, o a + S128.size a ≤ S131072.size a) (b : Bool) (n : Fin 64) (r : Fin 32) (ho : o = ![base L r.val]) :
    iprop(Base d L m q O W ∗ ∃ f, listPts d L b f)
      ⊢ wp frame (wpE (defs₀ (F := F)) 𝒱₀ (thr d L) none) Set.univ (fetch L o h b (cSem n))
          fun _ => (iprop(Base d L m q O W ∗ ∃ f, ⌜ListOK d L m b r f⌝ ∗ listPts d L b f) : sProp 𝕄) := by
  subst ho
  unfold Base
  rw [SparseCore.bigSep_erase' (Finset.mem_univ n)]
  iintro ⟨⟨#Hmw, Hi, ⟨Hv, Hsems⟩, ⟨%W', %hW', HO⟩⟩, ⟨%f, Hl⟩⟩
  ihave Hi' := (pointsTo_split_subset (q := q) (f := m (iLoc d)) (S := Finset.univ) (Finset.subset_univ (idxAt (![base L r.val]) h).view.set)).1 $$ Hi
  icases Hi' with ⟨Hi, Hirest⟩
  unfold fetch
  iapply (wp_wand_r frame _ _)
  isplitl [Hi Hl Hv HO]
  · iapply (wp_copy d L EC (idxAt (![base L r.val]) h) (listV b) (cSem n).sem _ _ _ (by decide) (q := q) (fs := m (iLoc d)) (fd := f) (O := O) (W := W'))
    isplitr; · iexact Hmw
    isplitl [Hi]; · iexact Hi
    isplitl [Hl]; · iexact Hl
    isplitl [Hv]; · iexact Hv
    iexact HO
  iintro %u ⟨Hl, Hi, Hv, HO⟩
  ihave Hi' := (pointsTo_split_subset (q := q) (f := m (iLoc d)) (S := Finset.univ) (Finset.subset_univ (idxAt (![base L r.val]) h).view.set)).2 $$ [Hi Hirest]; · isplitl [Hi] <;> iassumption
  isplitl [Hi' Hv Hsems HO]
  · isplitr; · iexact Hmw
    isplitl [Hi']; · iexact Hi'
    isplitl [Hv Hsems]; · isplitl [Hv] <;> iassumption
    iexists _; isplitr
    swap; · iexact HO
    ipureintro; intro p hp
    rcases Finset.mem_insert.mp hp with hp | hp; · exact .inr (hp ▸ rfl)
    exact hW' p hp
  iexists _; isplitr
  swap; · iexact Hl
  ipureintro
  intro x
  rw [View.read_write_univ, View.read_apply]
  refine (cast_eq _ _).trans (congrArg (m (iLoc d)) (funext fun a => ?_))
  match a with
  | 0 => refine Fin.ext ?_; show base L r.val + 1 * (x 0).val = base L r.val + (x 0).val; omega

/-- The gathers' credit is the row buffer's. -/
theorem gather_credit (b : Bool) : ∑ j, ((rowsV b).slice (S128x128.rowRect gathers_S32768x128_S128x128.axis' j) (S128x128.stride_rowRect gathers_S32768x128_S128x128.axis' j)).view.dmaCredit
    = (rowsV b).view.dmaCredit := by
  cases b <;> decide

/-- The launch's index list names rows of the table. -/
def InTable : Prop := ∀ j : S131072.Idx, (show BitVec 32 from m (iLoc d) j).toNat < 32768

theorem list_in {b : Bool} {r : Fin 32} {f : Buf (Elt F) ((listV b).view.loc (thr d L))} (hpre : InTable d m) (hf : ListOK d L m b r f) :
    ∀ x, ((listV b).view.read (Elt F) f x).toNat < S32768x128.size gathers_S32768x128_S128x128.axis := by
  intro x
  rw [hf x]
  exact hpre _

/-- What a gather lands at an index of the row buffer is what the call is to leave there in the result. -/
theorem payload_eq {b : Bool} {r : Fin 32} {f : Buf (Elt F) ((listV b).view.loc (thr d L))} (hpre : InTable d m) (hf : ListOK d L m b r f) (x : S128x128.Idx) :
    SparseCore.gatherPayload gathers_S32768x128_S128x128 ((tAll).view.read (Elt F) (m (tLoc d)))
        (SparseCore.rows (o := S128x128.size gathers_S32768x128_S128x128.axis') ((listV b).view.read (Elt F) f) rfl (list_in d L m hpre hf)) x
      = want d m ((outAt (![base L r.val, 0]) (out_inb L r)).view.emb x) := by
  unfold SparseCore.gatherPayload want gathered
  rw [View.read_apply]
  refine (cast_eq _ _).trans (congrArg (m (tLoc d)) (funext fun a => ?_))
  match a with
  | 0 =>
    refine Fin.ext ?_
    show 0 + 1 * (gathers_S32768x128_S128x128.idx _ x gathers_S32768x128_S128x128.axis).val = _
    rw [Shape.Gathers.idx_axis]
    show 0 + 1 * (show BitVec 32 from (listV b).view.read (Elt F) f (S128.rowMajor.symm (Fin.cast rfl (x 0)))).toNat
      = min (show BitVec 32 from m (iLoc d) (iIx (base L r.val + 1 * (x 0).val) _)).toNat 32767
    have hx : ((S128.rowMajor.symm (Fin.cast rfl (x 0))) 0).val = (x 0).val := by
      rw [← Shape.rowMajor_val_one (d := ![128]), Equiv.apply_symm_apply]; rfl
    rw [hf]
    have e : iIx (base L r.val + ((S128.rowMajor.symm (Fin.cast rfl (x 0))) 0).val) (base_lt L r ((S128.rowMajor.symm (Fin.cast rfl (x 0))) 0).isLt)
        = iIx (base L r.val + 1 * (x 0).val) (by rw [Nat.one_mul]; exact base_lt L r (x 0).isLt) := by
      congr 1; rw [hx, Nat.one_mul]
    rw [e]
    have := hpre (iIx (base L r.val + 1 * (x 0).val) (by rw [Nat.one_mul]; exact base_lt L r (x 0).isLt))
    omega
  | 1 =>
    refine Fin.ext ?_
    show 0 + 1 * (gathers_S32768x128_S128x128.idx _ x 1).val = 0 + 1 * (x 1).val
    rw [Shape.Gathers.idx_of_ne _ _ _ _ (by decide)]
    rfl

include EC in
theorem gstart_step (hpre : InTable d m) (b : Bool) (r : Fin 32) :
    iprop(tabPts d L m q b ∗ (∃ f, rowsPts d L b f) ∗ (∃ f, ⌜ListOK d L m b r f⌝ ∗ listPts d L b f) ∗ semVal (thr d L, SemLoc.dma (gSem b).sem) 0)
      ⊢ wp frame (wpE (defs₀ (F := F)) 𝒱₀ (thr d L) none) Set.univ (gstart L b) fun _ => (Flying d L EC m q b r : sProp 𝕄) := by
  iintro ⟨Ht, ⟨%fr, Hr⟩, ⟨%fl, %hl, Hl⟩, Hv⟩
  rw [show gstart (F := F) L b = (gstart L b >>= pure) from (bind_pure _).symm]
  unfold gstart
  iapply (SparseCore.wp_indirectGatherLocal EC 𝒱₀ (thr d L) none (hg := gathers_S32768x128_S128x128) (none : HIx 1)
      (rowsV b).view.dmaCredit (gather_credit b) (by decide) (list_in d L m hpre hl)) $$ [Ht Hr Hl Hv]
  · isplitl [Ht]; · iexact Ht
    isplitl [Hr]; · iexact Hr
    isplitl [Hl]; · iexact Hl
    iexact Hv
  iintro Hfl
  sl_step
  unfold Flying
  iexists _
  isplitr
  swap; · iexact Hfl
  ipureintro
  iintro ⟨Hr, Ht, Hl⟩
  isplitl [Hr]
  · iexists _; isplitr
    swap; · iexact Hr
    ipureintro
    intro x
    rw [View.read_write_univ]
    exact payload_eq d L m hpre hl x
  isplitl [Hl]; · iexists _; iexact Hl
  iexact Ht

include EC in
theorem gwait_step (b : Bool) (r : Fin 32) :
    iprop(Base d L m q O W ∗ Flying d L EC m q b r)
      ⊢ wp frame (wpE (defs₀ (F := F)) 𝒱₀ (thr d L) none) Set.univ (gwait L b)
          fun _ => (iprop(Base d L m q O W ∗ Landed d L m q b r ∗ semVal (thr d L, SemLoc.dma (gSem b).sem) 0) : sProp 𝕄) := by
  unfold Flying
  iintro ⟨⟨#Hmw, Hi, Hsems, ⟨%W', %hW', HO⟩⟩, ⟨%D, %hD, Hfl⟩⟩
  unfold gwait SparseCore.waitIndirectGather
  iapply (Transfers.wp_waitLocalO EC 𝒱₀ (thr d L) none (none : HIx 1) (rfl : (rowsV b).view.dmaCredit = _)) $$ [Hfl HO]
  · isplitl [Hfl]; · iexact Hfl
    isplitl [HO]; · iexact HO
    iapply (Transfers.MayWaits.elim (SemLoc.dma (gSem b).sem)) $$ Hmw
  iintro ⟨HD, Hv, HO⟩
  sl_step
  isplitl [Hi Hsems HO]
  · isplitr; · iexact Hmw
    isplitl [Hi]; · iexact Hi
    isplitl [Hsems]; · iexact Hsems
    iexists _; isplitr
    swap; · iexact HO
    ipureintro; intro p hp
    rcases Finset.mem_insert.mp hp with hp | hp; · exact .inr (hp ▸ rfl)
    exact hW' p hp
  isplitl [HD]; · iapply hD; iexact HD
  iexact Hv

include EC in
theorem put_step (o : Fin 2 → ℕ) (h : ∀ a, o a + S128x128.size a ≤ S131072x128.size a) (b : Bool) (n : Fin 64) (r : Fin 32) (ho : o = ![base L r.val, 0]) :
    iprop(Base d L m q O W ∗ (∃ f, ⌜RowsOK d L m b r f⌝ ∗ rowsPts d L b f) ∗ outPts d L r (m (oLoc d)))
      ⊢ wp frame (wpE (defs₀ (F := F)) 𝒱₀ (thr d L) none) Set.univ (put L o h b (cSem n))
          fun _ => (iprop(Base d L m q O W ∗ (∃ f, rowsPts d L b f) ∗ outPts d L r (want d m)) : sProp 𝕄) := by
  subst ho
  unfold Base
  rw [SparseCore.bigSep_erase' (Finset.mem_univ n)]
  iintro ⟨⟨#Hmw, Hi, ⟨Hv, Hsems⟩, ⟨%W', %hW', HO⟩⟩, ⟨%f, %hf, Hr⟩, Ho⟩
  unfold put
  iapply (wp_wand_r frame _ _)
  isplitl [Hr Ho Hv HO]
  · iapply (wp_copy d L EC (rowsV b) (outAt (![base L r.val, 0]) h) (cSem n).sem _ _ _ (by decide) (q := fullShare) (fs := f) (fd := m (oLoc d)) (O := O) (W := W'))
    isplitr; · iexact Hmw
    isplitl [Hr]; · iexact Hr
    isplitl [Ho]; · iexact Ho
    isplitl [Hv]; · iexact Hv
    iexact HO
  iintro %u ⟨Ho, Hr, Hv, HO⟩
  isplitl [Hi Hv Hsems HO]
  · isplitr; · iexact Hmw
    isplitl [Hi]; · iexact Hi
    isplitl [Hv Hsems]; · isplitl [Hv] <;> iassumption
    iexists _; isplitr
    swap; · iexact HO
    ipureintro; intro p hp
    rcases Finset.mem_insert.mp hp with hp | hp; · exact .inr (hp ▸ rfl)
    exact hW' p hp
  isplitl [Hr]; · iexists _; iexact Hr
  iapply (Entails.of_eq (pointsTo_congr (g := want d m) fun i hi => ?_)) $$ Ho
  obtain ⟨x, -, rfl⟩ := Finset.mem_map.mp hi
  rw [View.write_emb_of_mem _ _ (Finset.mem_univ _)]
  exact (cast_eq _ _).trans (hf x)

end

end Cert.Proof.Tile
-- ==== Proof.TileRun.lean ====
/-
  The tile's run: from the launch contents of its rows of the result to the gathered rows, its buffers and semaphores
  handed back.
-/
module

public import proofs.«01_k».proof.Proof.Steps

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U]

local notation "𝕄" => MT nD τ sig (HIx 1) (Elt F) ℕ U ℕ

variable (d : Dev nD) (L : grid0.Coords)
variable (EC : UEmb Counters (MT nD τ sig (HIx 1) (Elt F) ℕ U ℕ)) [EC.LandsIn (upEmb : UEmb _ (MT nD τ sig (HIx 1) (Elt F) ℕ U ℕ))]
variable (m : (ℓ : Loc nD τ sig) → Buf (Elt F) ℓ)
variable {q : PosShare TreeShare} {O : CellTallies nD τ sig (HIx 1)} {W : Waits sig (HIx 1)}

/-- Buffer pair `b` between gathers. -/
abbrev Idle (q : PosShare TreeShare) (b : Bool) : sProp 𝕄 :=
  iprop((∃ f, rowsPts d L b f) ∗ (∃ f, listPts d L b f) ∗ tabPts d L m q b ∗ semVal (thr d L, SemLoc.dma (gSem b).sem) 0)

/-- The tile's rows of the result when its first `n` chunks are done. -/
abbrev Outs (n : ℕ) : sProp 𝕄 :=
  bigSep Finset.univ fun r : Fin 32 => outPts d L r (if r.val < n then want d m else m (oLoc d))

theorem outs_take (r : Fin 32) : (Outs d L m r.val : sProp 𝕄)
    = iprop(outPts d L r (m (oLoc d)) ∗ bigSep (Finset.univ.erase r) fun r' : Fin 32 => outPts d L r' (if r'.val < r.val then want d m else m (oLoc d))) := by
  unfold Outs
  rw [SparseCore.bigSep_erase' (Finset.mem_univ r), if_neg (Nat.lt_irrefl _)]

theorem outs_put (r : Fin 32) : (Outs d L m (r.val + 1) : sProp 𝕄)
    = iprop(outPts d L r (want d m) ∗ bigSep (Finset.univ.erase r) fun r' : Fin 32 => outPts d L r' (if r'.val < r.val then want d m else m (oLoc d))) := by
  unfold Outs
  rw [SparseCore.bigSep_erase' (Finset.mem_univ r), if_pos (Nat.lt_succ_self _)]
  congr 1
  refine bigSep_congr fun r' hr' => ?_
  have hne : r'.val ≠ r.val := fun h => (Finset.mem_erase.mp hr').1 (Fin.ext h)
  by_cases h : r'.val < r.val
  · rw [if_pos h, if_pos (Nat.lt_succ_of_lt h)]
  · rw [if_neg h, if_neg (by omega)]

/-- Before the turn of chunk `n`: its gather is under way, the other buffers are free, the earlier chunks are out. -/
abbrev Inv (q : PosShare TreeShare) (O : CellTallies nD τ sig (HIx 1)) (W : Waits sig (HIx 1)) (n : Fin 32) : sProp 𝕄 :=
  iprop(Base d L m q O W ∗ Flying d L EC m q (side n.val) n ∗ Idle d L m q (side (n.val + 1)) ∗ Outs d L m n.val)

theorem off2_eq (r : Fin 31) : k0_off2 L (BitVec.ofNat 32 (128 + 128 * r.val)) = ![base L (r.val + 1)] := by
  rw [k0_off2_eq]; unfold base; congr 1
theorem off3_eq (r : Fin 32) : k0_off3 L (BitVec.ofNat 32 (128 * r.val)) = ![base L r.val, 0] := by
  rw [k0_off3_eq]; rfl
theorem off1_eq : k0_off1 L = ![base L (0 : Fin 32).val] := by
  rw [k0_off1_eq]; rfl

include EC in
theorem turn_run (hpre : InTable d m) (r : Fin 31) :
    Inv d L EC m q O W r.castSucc
      ⊢ wp frame (wpE (defs₀ (F := F)) 𝒱₀ (thr d L) none) Set.univ (turn L r)
          fun _ => (Inv d L EC m q O W r.succ : sProp 𝕄) := by
  unfold Inv turn
  simp only [Fin.val_castSucc, Fin.val_succ]
  have hput := outs_put (U := U) d L m r.castSucc
  have htake := outs_take (U := U) d L m r.castSucc
  simp only [Fin.val_castSucc] at hput htake
  rw [htake, hput, show side (r.val + 1 + 1) = side r.val from Bool.not_not _]
  iintro ⟨HB, Hfl, ⟨Hr, Hl, Ht, Hv⟩, ⟨Ho, Houts⟩⟩
  iapply (Entails.of_eq (wp_bind frame _ _ _ _ _).symm)
  iapply (wp_wand_r frame _ _)
  isplitl [HB Hl]
  · iapply (fetch_step d L EC m _ _ _ _ r.succ (off2_eq L r))
    isplitl [HB]; · iexact HB
    iexact Hl
  iintro %u ⟨HB, Hl⟩
  iapply (Entails.of_eq (wp_bind frame _ _ _ _ _).symm)
  iapply (wp_wand_r frame _ _)
  isplitl [Ht Hr Hl Hv]
  · iapply (gstart_step d L EC m hpre (side (r.val + 1)) r.succ)
    isplitl [Ht]; · iexact Ht
    isplitl [Hr]; · iexact Hr
    isplitl [Hl]; · iexact Hl
    iexact Hv
  iintro %u Hfl'
  iapply (Entails.of_eq (wp_bind frame _ _ _ _ _).symm)
  iapply (wp_wand_r frame _ _)
  isplitl [HB Hfl]
  · iapply (gwait_step d L EC m (side r.val) r.castSucc)
    isplitl [HB]; · iexact HB
    iexact Hfl
  iintro %u ⟨HB, ⟨Hr, Hl, Ht⟩, Hv⟩
  iapply (wp_wand_r frame _ _)
  isplitl [HB Hr Ho]
  · iapply (put_step d L EC m _ _ (side r.val) _ r.castSucc (off3_eq L r.castSucc))
    isplitl [HB]; · iexact HB
    isplitl [Hr]; · iexact Hr
    iexact Ho
  iintro %u ⟨HB, Hr, Ho⟩
  isplitl [HB]; · iexact HB
  isplitl [Hfl']; · iexact Hfl'
  isplitl [Hr Hl Ht Hv]
  · isplitl [Hr]; · iexact Hr
    isplitl [Hl]; · iexact Hl
    isplitl [Ht]; · iexact Ht
    iexact Hv
  isplitl [Ho]; · iexact Ho
  iexact Houts

include EC in
theorem turns_run (hpre : InTable d m) : ∀ (n : ℕ) (h : n ≤ 31),
    Inv d L EC m q O W 0
      ⊢ wp frame (wpE (defs₀ (F := F)) 𝒱₀ (thr d L) none) Set.univ (turns L n h)
          fun _ => (Inv d L EC m q O W ⟨n, by omega⟩ : sProp 𝕄)
  | 0, _ => by
    unfold turns
    iintro H
    sl_step
    iexact H
  | n + 1, h => by
    unfold turns
    refine ((turns_run hpre n (Nat.le_of_succ_le h)).trans (wp_mono frame _ _ fun _ => ?_)).trans (Entails.of_eq (wp_bind frame _ _ _ _ _).symm)
    exact turn_run d L EC m hpre ⟨n, h⟩

theorem inv_last : (Inv d L EC m q O W ⟨31, by decide⟩ : sProp 𝕄)
    = iprop(Base d L m q O W ∗ Flying d L EC m q true 31 ∗ Idle d L m q false ∗ Outs d L m (31 : Fin 32).val) := by
  unfold Inv
  rw [show side (31 + 1) = false by decide, show side (⟨31, by decide⟩ : Fin 32).val = true by decide]
  rfl

attribute [local irreducible] turns in
include EC in
/-- The tile's whole run. -/
theorem tile_run (hpre : InTable d m) :
    iprop(Base d L m q O W ∗ Idle d L m q false ∗ Idle d L m q true ∗ Outs d L m 0)
      ⊢ wp frame (wpE (defs₀ (F := F)) 𝒱₀ (thr d L) none) Set.univ (tile L)
          fun _ => (iprop(Base d L m q O W ∗ Idle d L m q false ∗ Idle d L m q true ∗ Outs d L m 32) : sProp 𝕄) := by
  unfold tile
  iintro ⟨HB, ⟨Hr, Hl, Ht, Hv⟩, Hidle, Houts⟩
  iapply (Entails.of_eq (wp_bind frame _ _ _ _ _).symm)
  iapply (wp_wand_r frame _ _)
  isplitl [HB Hl]
  · iapply (fetch_step d L EC m _ _ _ _ 0 (off1_eq L))
    isplitl [HB]; · iexact HB
    iexact Hl
  iintro %u ⟨HB, Hl⟩
  iapply (Entails.of_eq (wp_bind frame _ _ _ _ _).symm)
  iapply (wp_wand_r frame _ _)
  isplitl [Ht Hr Hl Hv]
  · iapply (gstart_step d L EC m hpre false 0)
    isplitl [Ht]; · iexact Ht
    isplitl [Hr]; · iexact Hr
    isplitl [Hl]; · iexact Hl
    iexact Hv
  iintro %u Hfl
  iapply (Entails.of_eq (wp_bind frame _ _ _ _ _).symm)
  iapply (wp_wand_r frame _ _)
  isplitl [HB Hfl Hidle Houts]
  · iapply (turns_run d L EC m hpre 31 (le_refl _))
    isplitl [HB]; · iexact HB
    isplitl [Hfl]; · iexact Hfl
    isplitl [Hidle]; · iexact Hidle
    iexact Houts
  iintro %u Hinv
  ihave Hinv' := (Entails.of_eq (inv_last d L EC m)) $$ Hinv
  icases Hinv' with ⟨HB, Hfl, Hidle, Houts⟩
  ihave Houts' := (Entails.of_eq (outs_take d L m 31)) $$ Houts
  icases Houts' with ⟨Ho, Houts⟩
  iapply (Entails.of_eq (wp_bind frame _ _ _ _ _).symm)
  iapply (wp_wand_r frame _ _)
  isplitl [HB Hfl]
  · iapply (gwait_step d L EC m true 31)
    isplitl [HB]; · iexact HB
    iexact Hfl
  iintro %u ⟨HB, ⟨Hr, Hl, Ht⟩, Hv⟩
  iapply (wp_wand_r frame _ _)
  isplitl [HB Hr Ho]
  · iapply (put_step d L EC m _ _ true _ 31 (off3_eq L 31))
    isplitl [HB]; · iexact HB
    isplitl [Hr]; · iexact Hr
    iexact Ho
  iintro %u ⟨HB, Hr, Ho⟩
  isplitl [HB]; · iexact HB
  isplitl [Hidle]; · iexact Hidle
  isplitl [Hr Hl Ht Hv]
  · isplitl [Hr]; · iexact Hr
    isplitl [Hl]; · iexact Hl
    isplitl [Ht]; · iexact Ht
    iexact Hv
  iapply (Entails.of_eq (outs_put d L m 31).symm)
  isplitl [Ho]; · iexact Ho
  iexact Houts

end Cert.Proof.Tile
-- ==== Proof.Program.lean ====
/-
  The printed tile program, its 32 chunks written out, is the run of steps `tile`.
-/
module

public import proofs.«01_k».proof.Proof.Chunks

@[expose] public section

noncomputable section

namespace Cert.Proof.Tile

open Cert.KernelIdeal Cert.KernelIdeal.Gen

open Idealize.ShloMosaic
open Idealize.SL Idealize.SL.Sem

variable {F : FTy → Type} [FloatOps F]

/-- The printed program is the run of steps. -/
theorem tile_eq (L : grid0.Coords) : cc0_k (F := F) L tV (Memref.isWhole_whole _) iV (Memref.isWhole_whole _) oV (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    cc0_scratch4 cc0_scratch5 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 = tile L := by
  simp only [cc0_k_eq_skeleton, cc0_k_skel, k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel, k0_part11_eq_skeleton, k0_part11_skel,
    k0_part12_eq_skeleton, k0_part12_skel, k0_part13_eq_skeleton, k0_part13_skel, k0_part14_eq_skeleton, k0_part14_skel, k0_part15_eq_skeleton, k0_part15_skel,
    tile, turns, turn, fetch, put, gstart, gwait, bind_assoc, pure_bind]
  rfl

end Cert.Proof.Tile
-- ==== Proof.Task.lean ====
/-
  The tile's task as the launch asks for it: from the subcore's buffers and semaphores as the launch hands them over to
  the same again, the tile's rows of the result gathered.
-/
module

public import proofs.«01_k».proof.Proof.TileRun
public import proofs.«01_k».proof.Proof.Program

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {U : Type} [URA U]

local notation "𝕄" => MT nD τ sig (HIx 1) (Elt F) ℕ U ℕ

/-! ## The program as the launch theorem sees it -/

abbrev PLab : Labels := Pipeline.Sig Λ₀ _ fun p => (pcfgs (F := F) p).Adm
abbrev K : SparseCore.Cfg τ sig (PLab (F := F)) 1 := sc (F := F)
abbrev D : Defs nD τ sig (Elt F) (PLab (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (L : grid0.Coords)
variable (EC : UEmb Counters (MT nD τ sig (HIx 1) (Elt F) ℕ U ℕ)) [EC.LandsIn (upEmb : UEmb _ (MT nD τ sig (HIx 1) (Elt F) ℕ U ℕ))]
variable (m : (ℓ : Loc nD τ sig) → Buf (Elt F) ℓ)

/-! ## The subcore's semaphores and buffers -/

/-- A family's members that `f`, one-to-one, names, and the others. -/
theorem bigSep_named {I J : Type} [DecidableEq I] [Fintype J] [DecidableEq J] {s : Finset I} {f : J → I} (inj : Function.Injective f) (sub : ∀ j, f j ∈ s) {Φ : I → sProp 𝕄} :
    bigSep s Φ = iprop((bigSep Finset.univ fun j => Φ (f j)) ∗ bigSep (s \ Finset.univ.image f) Φ) := by
  rw [SparseCore.bigSep_sdiff_split' (t := Finset.univ.image f) (fun x hx => by obtain ⟨j, -, rfl⟩ := Finset.mem_image.mp hx; exact sub j),
    bigSep_image_of_injOn (inj.injOn)]

/-- The semaphores the task uses. -/
def semOf : Bool ⊕ Fin 64 → DmaSem sig := Sum.elim (fun b => (gSem b).sem) (fun n => (cSem n).sem)

/-- The first semaphore of the program's pool that is the task's. -/
theorem semOf_inl : ∀ b : Bool, (semOf (.inl b)).val = cond b 1 0
  | false => rfl
  | true => rfl
theorem semOf_inr (n : Fin 64) : (semOf (.inr n)).val = n.val + 2 := by
  have h : (S_.rowMajor fun i => i.elim0).val < 1 := (S_.rowMajor fun i => i.elim0).isLt
  show n.val + 2 + (S_.rowMajor fun i => i.elim0).val = _
  omega

theorem semOf_injective : Function.Injective semOf := by
  intro a b h
  have hv := congrArg Fin.val h
  match a, b with
  | .inl x, .inl y => rw [semOf_inl, semOf_inl] at hv; revert hv; cases x <;> cases y <;> decide
  | .inl x, .inr y => rw [semOf_inl, semOf_inr] at hv; cases x <;> simp at hv <;> omega
  | .inr x, .inl y => rw [semOf_inl, semOf_inr] at hv; cases y <;> simp at hv <;> omega
  | .inr x, .inr y => rw [semOf_inr, semOf_inr] at hv; exact congrArg Sum.inr (Fin.ext (by omega))

abbrev cellOf (j : Bool ⊕ Fin 64) : GSem nD τ sig := (thr d L, SemLoc.dma (semOf j))

theorem cellOf_injective : Function.Injective (cellOf d L) := fun _ _ h => semOf_injective (SemLoc.dma.inj (Prod.ext_iff.mp h).2)

theorem dma_scoped : ∀ s : DmaSem sig, (SemLoc.dma s : SemLoc sig).isScoped .scVector = true := by decide

theorem ownSems0_V : (ownSems0 (thr d L) : sProp 𝕄)
    = iprop(((semVal (thr d L, SemLoc.dma (gSem true).sem) 0 ∗ semVal (thr d L, SemLoc.dma (gSem false).sem) 0)
        ∗ (bigSep Finset.univ fun n : Fin 64 => semVal (thr d L, SemLoc.dma (cSem n).sem) 0))
        ∗ bigSep (ownCells (thr d L) \ Finset.univ.image (cellOf d L)) fun g => semVal g 0) := by
  unfold SparseCore.Cfg.ownSems0
  rw [bigSep_named (f := cellOf d L) (cellOf_injective d L) (fun j => mem_ownCells.mpr ⟨rfl, show (SemLoc.dma (semOf j) : SemLoc sig).isScoped .scVector = true from dma_scoped _⟩), bigSep_univ_sum]
  rw [show (Finset.univ : Finset Bool) = {true, false} from rfl, SparseCore.bigSep_insert' (by decide), bigSep_singleton]
  rfl

/-- The buffers the task uses. -/
def refOf : Bool ⊕ Bool → Ref sig .scVector := Sum.elim rowsRef listRef
theorem refOf_injective : Function.Injective refOf := by decide

abbrev devRefOf (j : Bool ⊕ Bool) : DevRef τ sig := (Proc.scVector (cV L) (jV L)).devRef (refOf j)
theorem devRefOf_injective : Function.Injective (devRefOf L) := fun _ _ h => refOf_injective (Proc.devRef_injective _ h)

theorem ownBufs_V : (ownBufs (thr d L) : sProp 𝕄)
    = iprop((((∃ f, rowsPts d L true f) ∗ (∃ f, rowsPts d L false f)) ∗ ((∃ f, listPts d L true f) ∗ (∃ f, listPts d L false f)))
        ∗ bigSep (ownRefs (τ := τ) (.scVector (cV L) (jV L)) \ Finset.univ.image (devRefOf L)) fun b => iprop(∃ f, ((d, b) : Loc nD τ sig) ↦{fullShare} f)) := by
  unfold SparseCore.Cfg.ownBufs
  refine (bigSep_named (f := devRefOf L) (devRefOf_injective L)
    (fun j => SparseCore.Cfg.mem_ownRefs_of_owner (p := Proc.scVector (cV L) (jV L)) (b := devRefOf L j) (by match j with | .inl true => rfl | .inl false => rfl | .inr true => rfl | .inr false => rfl))).trans ?_
  rw [bigSep_univ_sum, show (Finset.univ : Finset Bool) = {true, false} from rfl, SparseCore.bigSep_insert' (by decide), bigSep_singleton,
    SparseCore.bigSep_insert' (by decide), bigSep_singleton]
  unfold rowsPts listPts
  rw [show (rowsV true).view.set = Finset.univ from View.set_whole _, show (rowsV false).view.set = Finset.univ from View.set_whole _,
    show (listV true).view.set = Finset.univ from View.set_whole _, show (listV false).view.set = Finset.univ from View.set_whole _]
  rfl

/-! ## The task -/

/-- What a task is handed: a share of the table and of the index list, its rows of the result. -/
abbrev Go (q : PosShare TreeShare) : sProp 𝕄 :=
  iprop((tLoc d ↦{q} m (tLoc d)) ∗ (iLoc d ↦{q} m (iLoc d)) ∗ Outs d L m 0)
/-- What it hands back. -/
abbrev Td (q : PosShare TreeShare) : sProp 𝕄 :=
  iprop((tLoc d ↦{q} m (tLoc d)) ∗ (iLoc d ↦{q} m (iLoc d)) ∗ Outs d L m 32)

theorem tab_halves (q : PosShare TreeShare) : (tLoc d ↦{q} m (tLoc d) : sProp 𝕄) = iprop(tabPts d L m q false ∗ tabPts d L m q true) := by
  have e : (tAll).view.set = (Finset.univ : Finset S32768x128.Idx) := Finset.univ_map_embedding _
  unfold tabPts
  rw [e]
  exact BI.Entails.antisymm (pointsTo_share (PosShare.mem_left_op_right q)).1 (pointsTo_share (PosShare.mem_left_op_right q)).2

include EC in
theorem tile_body (hF : (K (F := F)).Facts) (hpre : InTable d m) (q : PosShare TreeShare) (O : CellTallies nD τ sig (HIx 1)) (W : Waits sig (HIx 1)) (hO : ∀ g, O g none = 0) :
    iprop(levAts (K (F := F)).L (K (F := F)).lev ∗ emp ∗ Go d L m q ∗ scopedBufs (thr d L) ∗ scopedSems0 (thr d L) ∗ owes (thr d L) O W)
      ⊢ wp frame (wpE (defs₀ (F := F)) 𝒱₀ (thr d L) none) Set.univ (tile L)
          fun _ => (iprop(Td d L m q ∗ scopedBufs (thr d L) ∗ scopedSems0 (thr d L)
            ∗ ∃ W', ⌜∀ p ∈ W', p ∈ W ∨ p.2 = none⌝ ∗ owes (thr d L) O W') : sProp 𝕄) := by
  rw [(K (F := F)).scopedBufs_V hF d (cV L) (jV L), SparseCore.Cfg.scopedSems0_V (Val := Elt F) d (cV L) (jV L), ownSems0_V, ownBufs_V]
  unfold Go Td
  rw [tab_halves d L m q]
  iintro ⟨#Hlv, -, ⟨⟨Ht0, Ht1⟩, Hi, Ho⟩, ⟨⟨⟨Hr1, Hr0⟩, ⟨Hl1, Hl0⟩⟩, Hbufs⟩, ⟨⟨⟨Hv1, Hv0⟩, Hc⟩, Hsems⟩, HO⟩
  ihave Hmw := (show levAts (K (F := F)).L (K (F := F)).lev ⊢ Transfers.MayWaits (thr d L) (none : HIx 1) O from
    (K (F := F)).mayWaits_none (thr := thr d L) hO) $$ Hlv
  iapply (wp_wand_r frame _ _)
  isplitl [Ht0 Ht1 Hi Ho Hr1 Hr0 Hl1 Hl0 Hv1 Hv0 Hc HO Hmw]
  · iapply (tile_run d L EC m (q := q) (O := O) (W := W) hpre)
    isplitl [Hmw Hi Hc HO]
    · isplitl [Hmw]; · iexact Hmw
      isplitl [Hi]; · iexact Hi
      isplitl [Hc]; · iexact Hc
      iexists W; isplitr
      · ipureintro; exact fun p hp => .inl hp
      iexact HO
    isplitl [Hr0 Hl0 Ht0 Hv0]
    · isplitl [Hr0]; · iexact Hr0
      isplitl [Hl0]; · iexact Hl0
      isplitl [Ht0]; · iexact Ht0
      iexact Hv0
    isplitl [Hr1 Hl1 Ht1 Hv1]
    · isplitl [Hr1]; · iexact Hr1
      isplitl [Hl1]; · iexact Hl1
      isplitl [Ht1]; · iexact Ht1
      iexact Hv1
    iexact Ho
  iintro %u ⟨⟨-, Hi, Hc, HO⟩, ⟨Hr0, Hl0, Ht0, Hv0⟩, ⟨Hr1, Hl1, Ht1, Hv1⟩, Ho⟩
  isplitl [Ht0 Ht1 Hi Ho]
  · isplitl [Ht0 Ht1]; · isplitl [Ht0] <;> iassumption
    isplitl [Hi]; · iexact Hi
    iexact Ho
  isplitl [Hr0 Hl0 Hr1 Hl1 Hbufs]
  · isplitr [Hbufs]
    · isplitl [Hr0 Hr1]
      · isplitl [Hr1] <;> iassumption
      · isplitl [Hl1] <;> iassumption
    · iexact Hbufs
  isplitl [Hv0 Hv1 Hc Hsems]
  · isplitr [Hsems]
    · isplitl [Hv0 Hv1]
      · isplitl [Hv1] <;> iassumption
      · iexact Hc
    · iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

set_option maxRecDepth 65536 in
theorem defs₀_vector (c : Fin τ.nSC) (s : Fin τ.nSub) :
    defs₀ (F := F) (.scVector c s) 0 () = SparseCore.onTile hcore0 hsub0 (fun c s => tile (coordsV c s)) ⟨⟩ c s := by
  simp only [← tile_eq]
  rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Tile
-- ==== Proof.Split.lean ====
/-
  The call's operands as its 32 tasks hold them: the table and the index list in 32 equal shares, the result in
  2 × 16 × 32 blocks of 128 rows, one for each SparseCore, tile and chunk.
-/
module

public import proofs.«01_k».proof.Proof.Task

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig (HIx 1) (Elt F) ℕ U ℕ

variable (d : Dev nD) (m : (ℓ : Loc nD τ sig) → Buf (Elt F) ℓ)

/-! ## The blocks of the result -/

/-- The tile on SparseCore `c`, subcore `s`. -/
abbrev tileAt (c : Fin 2) (s : Fin 16) : grid0.Coords := coordsV c s

theorem base_tileAt (c : Fin 2) (s : Fin 16) (r : ℕ) : base (tileAt c s) r = 128 * (64 * s.val + 32 * c.val + r) := by
  show 8192 * s.val + 4096 * c.val + 128 * r = _
  omega

theorem mem_outSet (L : grid0.Coords) (r : Fin 32) (j : S131072x128.Idx) :
    j ∈ outSet L r ↔ base L r.val ≤ (j 0).val ∧ (j 0).val < base L r.val + 128 := by
  constructor
  · intro hj
    obtain ⟨x, -, rfl⟩ := Finset.mem_map.mp hj
    have hx : (x 0).val < 128 := (x 0).isLt
    show base L r.val ≤ base L r.val + 1 * (x 0).val ∧ base L r.val + 1 * (x 0).val < _
    omega
  · rintro ⟨h1, h2⟩
    refine Finset.mem_map.mpr ⟨fun | 0 => ⟨(j 0).val - base L r.val, by show _ < 128; omega⟩ | 1 => j 1, Finset.mem_univ _, funext fun a => Fin.ext ?_⟩
    match a with
    | 0 => show base L r.val + 1 * ((j 0).val - base L r.val) = (j 0).val; omega
    | 1 => show 0 + 1 * (j 1).val = (j 1).val; omega

abbrev blk (t : Fin 2 × Fin 16 × Fin 32) : Finset S131072x128.Idx := outSet (tileAt t.1 t.2.1) t.2.2

theorem blk_disjoint : ∀ t ∈ (Finset.univ : Finset (Fin 2 × Fin 16 × Fin 32)), ∀ t' ∈ (Finset.univ : Finset (Fin 2 × Fin 16 × Fin 32)), t ≠ t' → Disjoint (blk t) (blk t') := by
  intro t _ t' _ hne
  refine Finset.disjoint_left.mpr fun j hj hj' => hne ?_
  obtain ⟨c, s, r⟩ := t
  obtain ⟨c', s', r'⟩ := t'
  rw [mem_outSet, base_tileAt] at hj hj'
  dsimp only at hj hj'
  have hc := c.isLt; have hs := s.isLt; have hr := r.isLt
  have hc' := c'.isLt; have hs' := s'.isLt; have hr' := r'.isLt
  have hb : 64 * s.val + 32 * c.val + r.val = 64 * s'.val + 32 * c'.val + r'.val := by omega
  have h1 : s.val = s'.val := by omega
  have h2 : c.val = c'.val := by omega
  have h3 : r.val = r'.val := by omega
  rw [Fin.ext h1, Fin.ext h2, Fin.ext h3]

theorem exists_blk (j : S131072x128.Idx) : ∃ t : Fin 2 × Fin 16 × Fin 32, j ∈ blk t := by
  have hj : (j 0).val < 131072 := (j 0).isLt
  refine ⟨(⟨(j 0).val / 4096 % 2, Nat.mod_lt _ (by decide)⟩, ⟨(j 0).val / 8192, by omega⟩, ⟨(j 0).val / 128 % 32, Nat.mod_lt _ (by decide)⟩), ?_⟩
  rw [mem_outSet, base_tileAt]
  dsimp only
  omega

theorem blk_cover : (Finset.univ : Finset (Fin 2 × Fin 16 × Fin 32)).biUnion blk = Finset.univ := by
  ext j
  obtain ⟨t, ht⟩ := exists_blk j
  simp only [Finset.mem_biUnion, Finset.mem_univ, true_and, iff_true]
  exact ⟨t, ht⟩

/-- The result, whole, is its blocks. -/
theorem out_blocks (f : Buf (Elt F) (oLoc d)) : (oLoc d ↦{fullShare} f : sProp 𝕄)
    = bigSep Finset.univ fun c : Fin 2 => bigSep Finset.univ fun s : Fin 16 => bigSep Finset.univ fun r : Fin 32 => outPts d (tileAt c s) r f := by
  have h := pointsTo_biUnion (Name := ℕ) (Ix := HIx 1) (Lvl := ℕ) (U := U) (Val := Elt F) (ℓ := oLoc d) (q := fullShare) (f := f) Finset.univ blk blk_disjoint
  rw [blk_cover, bigSep_univ_prod] at h
  refine h.trans (bigSep_congr fun c _ => ?_)
  rw [bigSep_univ_prod]

theorem outs_first (L : grid0.Coords) : (Outs d L m 0 : sProp 𝕄) = bigSep Finset.univ fun r : Fin 32 => outPts d L r (m (oLoc d)) :=
  bigSep_congr fun r _ => by rw [if_neg (Nat.not_lt_zero _)]
theorem outs_last (L : grid0.Coords) : (Outs d L m 32 : sProp 𝕄) = bigSep Finset.univ fun r : Fin 32 => outPts d L r (want d m) :=
  bigSep_congr fun r _ => by rw [if_pos r.isLt]

/-! ## The shares of the operands -/

/-- The share of the table and of the index list that the tile on SparseCore `c`, subcore `s` holds. -/
def shareOf (c : Fin 2) (s : Fin 16) : PosShare TreeShare :=
  Idealize.ShloMosaic.pieceOf (Idealize.ShloMosaic.pieceOf fullShare 2 (by decide) c) 16 (by decide) s

theorem shares {ℓ : Loc nD τ sig} (f : Buf (Elt F) ℓ) : (ℓ ↦{fullShare} f : sProp 𝕄)
    = bigSep Finset.univ fun c : Fin 2 => bigSep Finset.univ fun s : Fin 16 => ℓ ↦{shareOf c s} f := by
  rw [Idealize.ShloMosaic.pointsTo_piecesOf Finset.univ f (o := 2) (by decide)]
  exact bigSep_congr fun c _ => Idealize.ShloMosaic.pointsTo_piecesOf Finset.univ f (o := 16) (by decide) _

/-- The operands whole are what the tasks are handed; -/
theorem go_split : (iprop((tLoc d ↦{fullShare} m (tLoc d)) ∗ (iLoc d ↦{fullShare} m (iLoc d)) ∗ (oLoc d ↦{fullShare} m (oLoc d))) : sProp 𝕄)
    = bigSep Finset.univ fun c : Fin 2 => bigSep Finset.univ fun s : Fin 16 => Go d (tileAt c s) m (shareOf c s) := by
  unfold Go
  simp only [outs_first, bigSep_sep']
  rw [← shares, ← shares, ← out_blocks]

/-- what the tasks hand back is the operands whole again, the result at the gathered rows. -/
theorem td_join : (bigSep Finset.univ fun c : Fin 2 => bigSep Finset.univ fun s : Fin 16 => Td d (tileAt c s) m (shareOf c s) : sProp 𝕄)
    = iprop((tLoc d ↦{fullShare} m (tLoc d)) ∗ (iLoc d ↦{fullShare} m (iLoc d)) ∗ (oLoc d ↦{fullShare} want d m)) := by
  unfold Td
  simp only [outs_last, bigSep_sep']
  rw [← shares, ← shares, ← out_blocks]

end Cert.Proof.Tile
-- ==== Proof.Launch.lean ====
/-
  The whole launch: @main starts the call on both SparseCores, each sequencer its sixteen tiles, and every execution ends
  with the result at the gathered rows, the arguments unchanged and every semaphore at zero.
-/
module

public import proofs.«01_k».proof.Proof.Split

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-! ## What the handshakes carry -/

/-- A SparseCore is handed its sixteen tasks' operands, each tile its own, and they bring their results back. -/
def P : (K (F := F)).Pay (nD := nD) (Val := Elt F) (Name := ℕ) (U := UU) where
  st := fun q d c => match q with | 0 => bigSep Finset.univ fun s : Fin 16 => Go d (tileAt c s) m (shareOf c s)
  dn := fun q d c => match q with | 0 => bigSep Finset.univ fun s : Fin 16 => Td d (tileAt c s) m (shareOf c s)
  go := fun q d c s => match q with | 0 => Go d (tileAt c s) m (shareOf c s)
  td := fun q d c s => match q with | 0 => Td d (tileAt c s) m (shareOf c s)
  x := fun _ _ => iprop(emp)

instance P_storable : (P (F := F) m).IsStorable where
  st q d c := match q with
    | 0 => (inferInstance : BI.Storable (upEmb : UEmb _ 𝕄) (bigSep Finset.univ fun s : Fin 16 => Go d (tileAt c s) m (shareOf c s)))
  dn q d c := match q with
    | 0 => (inferInstance : BI.Storable (upEmb : UEmb _ 𝕄) (bigSep Finset.univ fun s : Fin 16 => Td d (tileAt c s) m (shareOf c s)))
  go q d c s := match q with
    | 0 => (inferInstance : BI.Storable (upEmb : UEmb _ 𝕄) (Go d (tileAt c s) m (shareOf c s)))
  td q d c s := match q with
    | 0 => (inferInstance : BI.Storable (upEmb : UEmb _ 𝕄) (Td d (tileAt c s) m (shareOf c s)))

attribute [local irreducible] tile in
set_option maxRecDepth 16384 in
theorem tileObl (hF : (K (F := F)).Facts) (hpre : ∀ d, InTable d m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body (U := UU) d (tileAt c i) countersEmb m hF (hpre d) (shareOf c i) O W hO
  exact h.trans (wp_mono frame _ _ fun _ => obl_post)

theorem vecSplit : (K (F := F)).VecSplit' (P m) 0 := by
  intro d c
  show (bigSep Finset.univ fun s : Fin 16 => Go d (tileAt c s) m (shareOf c s)) ⊢ |={Set.univ}=> iprop(
      (bigSep Finset.univ fun s : Fin 16 => Go d (tileAt c s) m (shareOf c s))
      ∗ ((bigSep Finset.univ fun s : Fin 16 => Td d (tileAt c s) m (shareOf c s)) -∗ (bigSep Finset.univ fun s : Fin 16 => Td d (tileAt c s) m (shareOf c s))))
  iintro H; imodintro
  isplitl [H]; · iexact H
  iintro H; iexact H

/-! ## The launch's ghost element -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

theorem unscopedBufs_eq (d : Dev nD) (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main ends with. -/
abbrev FIN (d : Dev nD) : sProp 𝕄 :=
  iprop((tLoc d ↦{fullShare} m (tLoc d)) ∗ (iLoc d ↦{fullShare} m (iLoc d)) ∗ (oLoc d ↦{fullShare} want d m))

theorem st_eq (d : Dev nD) : (bigSep Finset.univ fun c : Fin ((K (F := F)).nCore 0) => (P m).st 0 d c)
    = iprop((tLoc d ↦{fullShare} m (tLoc d)) ∗ (iLoc d ↦{fullShare} m (iLoc d)) ∗ (oLoc d ↦{fullShare} m (oLoc d))) := (go_split d m).symm
theorem dn_eq (d : Dev nD) : (bigSep Finset.univ fun c : Fin ((K (F := F)).nCore 0) => (P m).dn 0 d c) = FIN m d := td_join d m

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hops, Hts, -⟩, -⟩
  iapply ((K (F := F)).wp_run (D (F := F)) 𝒱 (EH := EH) (P := P m) κ d 0) $$ [Hst Hops Hb Hts]
  isplitr; · iexact Hctx
  isplitl [Hst]; · iexact Hst
  isplitl [Hops]
  · rw [st_eq]; iexact Hops
  iintro ⟨Hst, Hdn⟩
  ihave Hdn' := (Entails.of_eq (dn_eq m d)) $$ Hdn
  imodintro
  isplitl [Hst]; · iexact Hst
  isplitl [Hdn']; · iexact Hdn'
  isplitl [Hb] <;> iassumption

/-- What a final state's memory holds on device `d`. -/
def fq (d : Dev nD) (s' : Phys nD τ sig (Elt F)) : Prop :=
  s'.mem.mem (tLoc d) = m (tLoc d) ∧ s'.mem.mem (iLoc d) = m (iLoc d) ∧ s'.mem.mem (oLoc d) = want d m

/-- A buffer held whole reads the same in the state. -/
theorem agree {ℓ : Loc nD τ sig} {f : Buf (Elt F) ℓ} (s' : Phys nD τ sig (Elt F)) :
    iprop(SI s' ∗ (ℓ ↦{fullShare} f)) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Ht, Hi, Ho⟩, HSI⟩
  ihave H := (agree s') $$ [HSI Ht]; · isplitl [HSI] <;> iassumption
  icases H with ⟨%h1, HSI⟩
  ihave H := (agree s') $$ [HSI Hi]; · isplitl [HSI] <;> iassumption
  icases H with ⟨%h2, HSI⟩
  ihave H := (agree s') $$ [HSI Ho]; · isplitl [HSI] <;> iassumption
  icases H with ⟨%h3, HSI⟩
  ipureintro
  exact ⟨h1, h2, h3⟩

/-! ## The run -/

def QC : PUnit × MemSt nD τ sig (Elt F) → Prop := fun r =>
  (∀ c : Dev nD, r.2.mem (tLoc c) = m (tLoc c) ∧ r.2.mem (iLoc c) = m (iLoc c) ∧ r.2.mem (oLoc c) = want c m) ∧ r.2.sem = fun _ => 0

theorem run_main [∀ e, Nonempty (Elt F e)] (hpre : ∀ d, InTable d m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile
-- ==== Proof.Value.lean ====
/-
  The five claims. The precondition says that every index names a row of the table (`inTable_of_pre`); the reference's
  gather, which clamps an index into the table, then reads the rows that the kernel's copies read (`gather_rows`).
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_rows_in_table
public import Idealize.ShloMosaic.Lib.ReduceAll
public import Idealize.ShloMosaic.Lib.WordCmp
public import Idealize.ShloMosaic.Lib.Quiescent

@[expose] public section

noncomputable section

namespace Cert.Proof.Tile

open Cert.KernelIdeal
open Idealize.ShloMosaic Idealize.SL.Sem

variable {F : FTy → Type} [FloatOps F]

/-! ## The precondition -/

/-- A word at least 0 and below 32768, read signed, is below 32768 read unsigned. -/
theorem toNat_lt_of_range {v : BitVec 32} (e : IntOp.andi (IntOp.cmpi .sge v 0#32) (IntOp.cmpi .slt v 32768#32) = 1#1) : v.toNat < 32768 := by
  rw [WordCmp.cmpi_sge_eq, WordCmp.cmpi_slt_eq] at e
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [andi_ofBool, ofBool_eq_one, Bool.and_eq_true, decide_eq_true_eq, BitVec.toInt_eq_toNat_cond, BitVec.toNat_ofNat, Nat.reducePow, Nat.reduceMod] at e
  have := v.isLt
  omega

theorem inTable_of_pre (m : (ℓ : Loc nD τ sig) → Buf (Elt F) ℓ)
    (h : ∀ c : Dev nD, Cert.Pre_rows_in_table.fn (F := F) (m (tLoc c)) (m (iLoc c)) = fun _ => 1#1) : ∀ d, InTable d m := by
  intro d j
  have e := congrFun (h d) (fun a => a.elim0)
  have : Subsingleton Cert.Pre_rows_in_table.S_.Idx := ⟨fun a b => funext fun i => i.elim0⟩
  exact toNat_lt_of_range (Host.reduce_andi_all _ _ _ _ _ e j)

/-! ## The reference's gather -/

theorem gather_rows (x : S32768x128.Idx → Elt F .f32) (idx : S131072.Idx → Elt F .i32) (hin : ∀ j, (idx j).toNat < 32768)
    (wf : GatherDims.WF S32768x128 Cert.ReferenceIdeal.S131072x1 S131072x128 [1] [0] [] [0] [] 1 ![1, 128]) (hb : S131072.BroadcastsInDim Cert.ReferenceIdeal.S131072x1 ![0]) :
    Host.gather (w := 32) (⟨[1], [0], [], [], [0], 1, ![1, 128], wf⟩ : GatherDims S32768x128 Cert.ReferenceIdeal.S131072x1 S131072x128) x (broadcastInDim Cert.ReferenceIdeal.S131072x1 ![0] hb idx)
      = gathered x idx := by
  funext y
  unfold Host.gather gathered
  congr 1
  funext a
  refine Fin.ext ?_
  have h01 : a = 0 ∨ a = 1 := by
    match a with
    | ⟨0, _⟩ => exact Or.inl rfl
    | ⟨1, _⟩ => exact Or.inr rfl
  generalize hd : (⟨[1], [0], [], [], [0], 1, ![1, 128], wf⟩ : GatherDims S32768x128 Cert.ReferenceIdeal.S131072x1 S131072x128) = dims
  show dims.start y _ a + dims.batchCoord y a + dims.offCoord y a = _
  rcases h01 with rfl | rfl
  · subst hd
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hb' : ∀ k, broadcastInDim Cert.ReferenceIdeal.S131072x1 ![0] hb idx (GatherDims.siIdx (⟨[1], [0], [], [], [0], 1, ![1, 128], wf⟩ : GatherDims S32768x128 Cert.ReferenceIdeal.S131072x1 S131072x128) y k)
        = idx (iIx (y 0).val (y 0).isLt) := by
      intro k
      unfold broadcastInDim
      refine congrArg idx (funext fun b => ?_)
      obtain rfl : b = 0 := Subsingleton.elim _ _
      rw [dif_neg (by decide)]
      rfl
    rw [hb']
    have hlt := hin (iIx (y 0).val (y 0).isLt)
    show min (BitVec.toInt (idx (iIx (y 0).val (y 0).isLt))).toNat (32768 - 1) = min (BitVec.toNat (idx (iIx (y 0).val (y 0).isLt))) 32767
    rw [BitVec.toInt_eq_toNat_cond, if_pos (by omega)]
    omega
  · subst hd
    unfold GatherDims.start
    rw [dif_neg (show (1 : Fin 2) ∉ [(0 : Fin 2)] by decide), GatherDims.batchCoord_eq_zero _ _ _ List.not_mem_nil, Nat.zero_add]
    unfold GatherDims.offCoord
    rw [dif_pos ((GatherDims.mem_sKept _ _).mpr ⟨show (1 : Fin 2) ∉ [(0 : Fin 2)] by decide, List.not_mem_nil⟩)]
    rfl

/-! ## The claims -/

theorem frame_kernelIdeal : Cert.quiescent_KernelIdeal := fun m ρ hpre =>
  (θ_run Cert.KernelIdeal.defs _ _).mono (fun _ h => ⟨fun c => ⟨(h.1 c).1, (h.1 c).2.1⟩, h.2⟩) (run_main (F := Ideal) m ρ (inTable_of_pre m hpre))

/-- The kernel's text is its ideal program's, so its frame is the same run over words. -/
theorem frame_kernel : Cert.quiescent_Kernel := fun m ρ hpre =>
  (θ_run Cert.KernelIdeal.defs _ _).mono (fun _ h => ⟨fun c => ⟨(h.1 c).1, (h.1 c).2.1⟩, h.2⟩) (run_main (F := Bits) m ρ (inTable_of_pre m hpre))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m ρ m' ρ' hpre hagree
  have hin := inTable_of_pre m hpre
  refine ⟨fun c => want c m, ?_, ?_⟩
  · exact (θ_run Cert.KernelIdeal.defs _ _).mono (fun _ h c => ⟨(h.1 c).2.2, (h.1 c).1, (h.1 c).2.1⟩) (run_main (F := Ideal) m ρ hin)
  · refine (θ_run Cert.ReferenceIdeal.defs _ _).mono (fun _ h c => ⟨(h c).1.trans ?_, (h c).2⟩) (Cert.ReferenceIdeal.Value.run (F := Ideal) m' ρ')
    rw [(hagree c).1, (hagree c).2]
    exact gather_rows (F := Ideal) (m (tLoc c)) (m (iLoc c)) (hin c) _ _

end Cert.Proof.Tile

end
-- ==== Proof.Spec.lean ====
/-
  The mathematics of the two searches, on plain functions of an index.

  * `far d` is the least index at which `d` is greatest, `near d` the least index at which `d` is least;
  * `walk x k` is the state of farthest point sampling after `k` steps: the distance of every point to the points chosen so
    far, and the point chosen last;
  * `rest d k` is the column of distances after `k` picks (a picked entry holds the top value), `pick d k` the index picked
    by pick `k`; where every distance is below the top, the picks are the first entries of the stable sort by distance.
-/
module

public import Idealize.ShloMosaic.Lib.SortPrefix
public import Idealize.ShloMosaic.Lib.Pointwise
public import Idealize.ShloMosaic.Lib.Exec.Context

@[expose] public section

namespace Cert.Proof.Spec

open Idealize.ShloMosaic

/-! ## The least index of a greatest and of a least value -/

theorem exists_far {n : ℕ} [NeZero n] (d : Fin n → EReal) : ∃ i, (∀ k, d k ≤ d i) ∧ ∀ k, k < i → d k < d i := by
  classical
  obtain ⟨m, -, hm⟩ := Finset.exists_max_image (Finset.univ : Finset (Fin n)) d ⟨0, Finset.mem_univ _⟩
  have hne : (Finset.univ.filter fun i => ∀ k, d k ≤ d i).Nonempty :=
    ⟨m, Finset.mem_filter.mpr ⟨Finset.mem_univ _, fun k => hm k (Finset.mem_univ _)⟩⟩
  refine ⟨(Finset.univ.filter fun i => ∀ k, d k ≤ d i).min' hne, ?_, ?_⟩
  · exact (Finset.mem_filter.mp (Finset.min'_mem _ hne)).2
  · intro k hk
    have h1 := (Finset.mem_filter.mp (Finset.min'_mem _ hne)).2
    refine lt_of_le_of_ne (h1 k) fun e => ?_
    have : k ∈ Finset.univ.filter fun i => ∀ k, d k ≤ d i :=
      Finset.mem_filter.mpr ⟨Finset.mem_univ _, fun q => by rw [e]; exact h1 q⟩
    exact absurd (Finset.min'_le _ k this) (not_le.mpr hk)

/-- The least index at which `d` is greatest. -/
noncomputable def far {n : ℕ} [NeZero n] (d : Fin n → EReal) : Fin n := Classical.choose (exists_far d)

theorem le_far {n : ℕ} [NeZero n] (d : Fin n → EReal) (k : Fin n) : d k ≤ d (far d) :=
  (Classical.choose_spec (exists_far d)).1 k

theorem lt_far {n : ℕ} [NeZero n] (d : Fin n → EReal) (k : Fin n) (h : k < far d) : d k < d (far d) :=
  (Classical.choose_spec (exists_far d)).2 k h

theorem eq_far {n : ℕ} [NeZero n] (d : Fin n → EReal) (i : Fin n) (h1 : ∀ k, d k ≤ d i) (h2 : ∀ k, k < i → d k < d i) :
    i = far d := by
  rcases lt_trichotomy i (far d) with h | h | h
  · exact absurd (h1 (far d)) (not_le.mpr (lt_far d i h))
  · exact h
  · exact absurd (le_far d i) (not_le.mpr (h2 _ h))

/-- The least index at which `d` is least. -/
noncomputable def near {n : ℕ} [NeZero n] (d : Fin n → EReal) : Fin n := far fun k => -d k

theorem near_le {n : ℕ} [NeZero n] (d : Fin n → EReal) (k : Fin n) : d (near d) ≤ d k :=
  EReal.neg_le_neg_iff.mp (le_far (fun k => -d k) k)

theorem near_lt {n : ℕ} [NeZero n] (d : Fin n → EReal) (k : Fin n) (h : k < near d) : d (near d) < d k :=
  EReal.neg_lt_neg_iff.mp (lt_far (fun k => -d k) k h)

/-! ## The words the search spells -/

/-- The word of a number below 4096 reads back as that number, signed. -/
theorem toInt_ofNat (k : ℕ) (h : k < 2 ^ 31) : (BitVec.ofNat 32 k).toInt = (k : ℤ) := by
  rw [BitVec.toInt_eq_toNat_of_lt]
  · rw [BitVec.toNat_ofNat, Nat.mod_eq_of_lt (by omega)]
  · rw [BitVec.toNat_ofNat, Nat.mod_eq_of_lt (by omega)]; omega

theorem toInt_minsi (a b : BitVec 32) : (IntOp.minsi a b).toInt = min a.toInt b.toInt := by
  unfold IntOp.minsi
  simp only [BitVec.slt, BitVec.sle, decide_eq_true_eq]
  split <;> omega

/-- The least of the words of the marked positions, where the least marked position is `i`. -/
theorem fold_minsi {n : ℕ} (hn : n < 2 ^ 31) (P : Fin n → Prop) [DecidablePred P] (u : BitVec 32) (hu : (n : ℤ) ≤ u.toInt) (i : Fin n) (hi : P i)
    (hlt : ∀ k, k < i → ¬ P k) :
    (Finset.univ : Finset (Fin n)).fold IntOp.minsi 2147483647#32 (fun k => if P k then BitVec.ofNat 32 k.val else u)
      = BitVec.ofNat 32 i.val := by
  apply BitVec.eq_of_toInt_eq
  have h1 := Finset.fold_hom (op := IntOp.minsi) (op' := (min : ℤ → ℤ → ℤ)) (m := @BitVec.toInt 32) (b := 2147483647#32)
    (s := (Finset.univ : Finset (Fin n))) (f := fun k => if P k then BitVec.ofNat 32 k.val else u) toInt_minsi
  rw [← h1, toInt_ofNat i.val (by have := i.isLt; omega)]
  apply le_antisymm
  · apply Finset.fold_min_le _ |>.mpr
    right
    refine ⟨i, Finset.mem_univ _, ?_⟩
    rw [if_pos hi, toInt_ofNat _ (by have := i.isLt; omega)]
  · apply Finset.le_fold_min _ |>.mpr
    refine ⟨?_, fun k _ => ?_⟩
    · have := i.isLt
      have h2 : (2147483647#32 : BitVec 32).toInt = 2147483647 := by decide
      rw [h2]; omega
    · by_cases hk : P k
      · rw [if_pos hk, toInt_ofNat _ (by have := k.isLt; omega)]
        have : ¬ k < i := fun h => hlt k h hk
        have : i.val ≤ k.val := not_lt.mp this
        omega
      · rw [if_neg hk]; have := i.isLt; omega

theorem fold_max_far {n : ℕ} [NeZero n] (d : Fin n → EReal) : (Finset.univ : Finset (Fin n)).fold max ⊥ d = d (far d) := by
  apply le_antisymm
  · exact Finset.fold_max_le _ |>.mpr ⟨bot_le, fun k _ => le_far d k⟩
  · exact Finset.le_fold_max _ |>.mpr (Or.inr ⟨far d, Finset.mem_univ _, le_rfl⟩)

theorem fold_min_near {n : ℕ} [NeZero n] (d : Fin n → EReal) : (Finset.univ : Finset (Fin n)).fold min ⊤ d = d (near d) := by
  apply le_antisymm
  · exact Finset.fold_min_le _ |>.mpr (Or.inr ⟨near d, Finset.mem_univ _, le_rfl⟩)
  · exact Finset.le_fold_min _ |>.mpr ⟨le_top, fun k _ => near_le d k⟩

/-- The first position of the greatest value, as the word the search leaves. -/
theorem fold_far {n : ℕ} [NeZero n] (hn : n < 2 ^ 31) (d : Fin n → EReal) (u : BitVec 32) (hu : (n : ℤ) ≤ u.toInt) :
    (Finset.univ : Finset (Fin n)).fold IntOp.minsi 2147483647#32 (fun k => if d k = d (far d) then BitVec.ofNat 32 k.val else u)
      = BitVec.ofNat 32 (far d).val :=
  fold_minsi hn (fun k => d k = d (far d)) u hu (far d) rfl fun k hk e => absurd e (lt_far d k hk).ne

/-- The first position of the least value, as the word the search leaves. -/
theorem fold_near {n : ℕ} [NeZero n] (hn : n < 2 ^ 31) (d : Fin n → EReal) (u : BitVec 32) (hu : (n : ℤ) ≤ u.toInt) :
    (Finset.univ : Finset (Fin n)).fold IntOp.minsi 2147483647#32 (fun k => if d k = d (near d) then BitVec.ofNat 32 k.val else u)
      = BitVec.ofNat 32 (near d).val :=
  fold_minsi hn (fun k => d k = d (near d)) u hu (near d) rfl fun k hk e => absurd e (near_lt d k hk).ne'

/-- The words of two small numbers are equal exactly where the numbers are. -/
theorem cmpi_ofNat (a b : ℕ) (ha : a < 2 ^ 32) (hb : b < 2 ^ 32) :
    IntOp.cmpi .eq (BitVec.ofNat 32 a) (BitVec.ofNat 32 b) = if a = b then 1#1 else 0#1 := by
  have h : (BitVec.ofNat 32 a = BitVec.ofNat 32 b) ↔ a = b := by
    constructor
    · intro e
      have := congrArg BitVec.toNat e
      rwa [BitVec.toNat_ofNat, BitVec.toNat_ofNat, Nat.mod_eq_of_lt ha, Nat.mod_eq_of_lt hb] at this
    · intro e; rw [e]
  unfold IntOp.cmpi
  by_cases e : a = b
  · subst e; simp
  · have : ¬ BitVec.ofNat 32 a = BitVec.ofNat 32 b := fun h' => e (h.mp h')
    have e' : (BitVec.ofNat 32 a == BitVec.ofNat 32 b) = false := beq_eq_false_iff_ne.mpr this
    rw [if_neg e, e']
    rfl

theorem cmpi_ofNat_fin {n : ℕ} (hn : n < 2 ^ 32) (a b : Fin n) :
    IntOp.cmpi .eq (BitVec.ofNat 32 a.val) (BitVec.ofNat 32 b.val) = if a = b then 1#1 else 0#1 := by
  rw [cmpi_ofNat _ _ (by have := a.isLt; omega) (by have := b.isLt; omega)]
  simp only [Fin.ext_iff]

theorem select_ite {α : Type} (P : Prop) [Decidable P] (x y : α) :
    Scalar.select (if P then 1#1 else 0#1) x y = if P then x else y := by
  unfold Scalar.select
  by_cases h : P <;> simp [h]

/-- A loop's value has what its start has and every trip keeps. -/
theorem fold_inv {n : ℕ} {σ : Type} (g : Fin n → σ → σ) (init : σ) (P : ℕ → σ → Prop) (h0 : P 0 init)
    (hs : ∀ (k : Fin n) (s : σ), P k.val s → P (k.val + 1) (g k s)) : P n (Scf.fold g init) := by
  rw [Scf.fold_eq]
  have key : ∀ m, ∀ hm : m ≤ n, P m (((List.finRange n).take m).foldl (fun acc k => g k acc) init) := by
    intro m
    induction m with
    | zero => intro _; exact h0
    | succ m ih =>
      intro hm
      have hlen : m < (List.finRange n).length := by rw [List.length_finRange]; exact hm
      rw [List.take_succ_eq_append_getElem hlen, List.foldl_append]
      have := hs ⟨m, hm⟩ _ (ih (Nat.le_of_succ_le hm))
      simpa using this
  have := key n le_rfl
  rwa [List.take_of_length_le (by rw [List.length_finRange])] at this

theorem word_bot : Ideal.ofBits .f32 4286578688#32 = ⊥ := by simp [Ideal.ofBits, Ideal.ieee]
theorem word_top : Ideal.ofBits .f32 2139095040#32 = ⊤ := by simp [Ideal.ofBits, Ideal.ieee]

/-! ## Farthest point sampling -/

/-- The squared distance of two points. -/
noncomputable def sqd (p q : Fin 3 → EReal) : EReal :=
  (p 0 - q 0) * (p 0 - q 0) + (p 1 - q 1) * (p 1 - q 1) + (p 2 - q 2) * (p 2 - q 2)

/-- The distances after one more step whose last chosen point is `q`. -/
noncomputable def closer {n : ℕ} (x : Fin n → Fin 3 → EReal) (d : Fin n → EReal) (q : Fin 3 → EReal) (i : Fin n) : EReal :=
  min (d i) (sqd (x i) q)

/-- Farthest point sampling after `k` steps. -/
noncomputable def walk {n : ℕ} [NeZero n] (x : Fin n → Fin 3 → EReal) (c : EReal) : ℕ → (Fin n → EReal) × Fin n
  | 0 => (fun _ => c, 0)
  | k + 1 => (closer x (walk x c k).1 (x (walk x c k).2), far (closer x (walk x c k).1 (x (walk x c k).2)))

/-! ## Nearest neighbours -/

/-- The column of distances after `k` picks. -/
noncomputable def rest {n : ℕ} [NeZero n] (d : Fin n → EReal) : ℕ → Fin n → EReal
  | 0 => d
  | k + 1 => fun i => if i = near (rest d k) then ⊤ else rest d k i

theorem rest_succ {n : ℕ} [NeZero n] (d : Fin n → EReal) (k : ℕ) (i : Fin n) :
    rest d (k + 1) i = if i = near (rest d k) then ⊤ else rest d k i := rfl

/-- The index pick `k` takes. -/
noncomputable def pick {n : ℕ} [NeZero n] (d : Fin n → EReal) (k : ℕ) : Fin n := near (rest d k)

theorem rest_picked {n : ℕ} [NeZero n] (d : Fin n → EReal) (k : ℕ) : ∀ j, j < k → rest d k (pick d j) = ⊤ := by
  induction k with
  | zero => intro j h; exact absurd h (Nat.not_lt_zero _)
  | succ k ih =>
    intro j h
    show (if pick d j = near (rest d k) then ⊤ else rest d k (pick d j)) = ⊤
    split
    · rfl
    · next hne =>
      rcases Nat.lt_succ_iff_lt_or_eq.mp h with h | h
      · exact ih j h
      · subst h; exact absurd rfl hne

theorem rest_left {n : ℕ} [NeZero n] (d : Fin n → EReal) (k : ℕ) (p : Fin n) (h : ∀ j, j < k → pick d j ≠ p) :
    rest d k p = d p := by
  induction k with
  | zero => rfl
  | succ k ih =>
    show (if p = near (rest d k) then ⊤ else rest d k p) = d p
    rw [if_neg fun e => h k (Nat.lt_succ_self k) e.symm]
    exact ih fun j hj => h j (Nat.lt_succ_of_lt hj)

/-- A position is left among `n` after fewer than `n` picks. -/
theorem exists_left {n : ℕ} [NeZero n] (d : Fin n → EReal) (k : ℕ) (hk : k < n) : ∃ p, ∀ j, j < k → pick d j ≠ p := by
  classical
  by_contra hc
  have hc' : ∀ p : Fin n, ∃ j : Fin k, pick d j.val = p := fun p => by
    by_contra h
    exact hc ⟨p, fun j hj e => h ⟨⟨j, hj⟩, e⟩⟩
  have := Fintype.card_le_of_surjective (fun j : Fin k => pick d j.val) hc'
  simp only [Fintype.card_fin] at this
  omega

variable {n : ℕ} [NeZero n] (d : Fin n → EReal) (hd : ∀ i, d i < ⊤)

include hd in
/-- Pick `k` takes a position not taken before. -/
theorem pick_ne (k : ℕ) (hk : k < n) (j : ℕ) (hj : j < k) : pick d j ≠ pick d k := by
  intro e
  obtain ⟨p, hp⟩ := exists_left d k hk
  have h1 : rest d k (pick d k) ≤ rest d k p := near_le (rest d k) p
  rw [← e, rest_picked d k j hj, rest_left d k p hp] at h1
  exact absurd (hd p) (not_lt.mpr h1)

include hd in
/-- Pick `k` takes the first of the positions left, by distance and then by index. -/
theorem pick_first (k : ℕ) (hk : k < n) (p : Fin n) (hp : ∀ j, j < k → pick d j ≠ p) :
    d (pick d k) < d p ∨ d (pick d k) = d p ∧ pick d k ≤ p := by
  have h0 := rest_left d k (pick d k) fun j hj => pick_ne d hd k hk j hj
  have h1 : rest d k (pick d k) ≤ rest d k p := near_le (rest d k) p
  rw [h0, rest_left d k p hp] at h1
  rcases lt_or_eq_of_le h1 with h | h
  · exact Or.inl h
  · refine Or.inr ⟨h, not_lt.mp fun hlt => ?_⟩
    have h2 : rest d k (pick d k) < rest d k p := near_lt (rest d k) p hlt
    rw [h0, rest_left d k p hp, h] at h2
    exact absurd h2 (lt_irrefl _)

/-! ## The sort -/

theorem insertBefore_congr {ι : Type} (B B' : ι → ι → Bool) (a : ι) (l : List ι) (h : ∀ b ∈ l, B b a = B' b a) :
    insertBefore B a l = insertBefore B' a l := by
  induction l with
  | nil => rfl
  | cons b l ih =>
    unfold insertBefore
    rw [h b (List.mem_cons_self ..), ih fun c hc => h c (List.mem_cons_of_mem _ hc)]

theorem stableSort_congr {ι : Type} (B B' : ι → ι → Bool) (l : List ι) (h : l.Pairwise fun a b => B b a = B' b a) :
    stableSort B l = stableSort B' l := by
  induction l with
  | nil => rfl
  | cons a l ih =>
    unfold stableSort
    rw [List.pairwise_cons] at h
    rw [ih h.2]
    exact insertBefore_congr B B' a _ fun b hb => h.1 b ((perm_stableSort B' l).mem_iff.mp hb)

/-- A stable sort by a key is the sort by the key and then the position. -/
theorem sortedFrom_congr {m : ℕ} (B B' : Fin m → Fin m → Bool) (h : ∀ a b, a < b → B b a = B' b a) (k : Fin m) :
    sortedFrom B k = sortedFrom B' k := by
  have e : sortPositions m B = sortPositions m B' :=
    stableSort_congr B B' _ ((List.pairwise_lt_finRange m).imp fun {a b} hab => h a b hab)
  unfold sortedFrom
  exact List.getElem_of_eq e _

include hd in
/-- The picks are the first entries of the stable sort by distance. -/
theorem sortedFrom_pick (k : ℕ) (hk : k ≤ n) (hk' : k < n + 1) (B : Fin n → Fin n → Bool) (hB : ∀ a b, B a b = decide (d a < d b)) (i : Fin k) :
    sortedFrom B (i.castLE hk) = pick d i.val := by
  classical
  have hT := StrictTotalBefore.of_key_then_position (n := n) (fun a b : EReal => decide (a < b)) d
    (fun a => by simp) (fun a b c h1 h2 => by simp only [decide_eq_true_eq] at *; exact lt_trans h1 h2)
    (fun a b => by simp only [decide_eq_true_eq]; exact lt_trichotomy a b)
  rw [sortedFrom_congr B _ (fun a b hab => ?_) _]
  · refine hT.sortedFrom_eq_of_prefix hk (fun j => pick d j.val) ?_ ?_ ?_ i
    · intro a b e
      apply Fin.ext
      rcases lt_trichotomy a.val b.val with h | h | h
      · exact absurd e (pick_ne d hd b.val (lt_of_lt_of_le b.isLt hk) a.val h)
      · exact h
      · exact absurd e.symm (pick_ne d hd a.val (lt_of_lt_of_le a.isLt hk) b.val h)
    · intro a b hab
      have h1 := pick_first d hd a.val (lt_of_lt_of_le a.isLt hk) (pick d b.val)
        (fun j hj => pick_ne d hd b.val (lt_of_lt_of_le b.isLt hk) j (lt_trans hj hab))
      simp only [Bool.or_eq_false_iff, decide_eq_false_iff_not, Bool.and_eq_false_imp, decide_eq_true_eq]
      rcases h1 with h | ⟨h, h'⟩
      · exact ⟨not_lt.mpr h.le, fun e => absurd e h.ne'⟩
      · exact ⟨not_lt.mpr h.le, fun _ => not_lt.mpr h'⟩
    · intro a p hp
      have h1 := pick_first d hd a.val (lt_of_lt_of_le a.isLt hk) p
        (fun j hj => hp ⟨j, lt_trans hj a.isLt⟩)
      simp only [Bool.or_eq_false_iff, decide_eq_false_iff_not, Bool.and_eq_false_imp, decide_eq_true_eq]
      rcases h1 with h | ⟨h, h'⟩
      · exact ⟨not_lt.mpr h.le, fun e => absurd e h.ne'⟩
      · exact ⟨not_lt.mpr h.le, fun _ => not_lt.mpr h'⟩
  · rw [hB]
    have : ¬ b < a := not_lt.mpr hab.le
    simp [this]

/-- The first entry of the stable sort by decreasing value is the least index of the greatest value. -/
theorem sortedFrom_far (B : Fin n → Fin n → Bool) (hB : ∀ a b, B a b = decide (d b < d a)) :
    sortedFrom B 0 = far d := by
  classical
  have hT := StrictTotalBefore.of_key_then_position (n := n) (fun a b : EReal => decide (b < a)) d
    (fun a => by simp) (fun a b c h1 h2 => by simp only [decide_eq_true_eq] at *; exact lt_trans h2 h1)
    (fun a b => by simp only [decide_eq_true_eq]; rcases lt_trichotomy a b with h | h | h <;> simp [h])
  rw [sortedFrom_congr B _ (fun a b hab => ?_) _]
  · have h1 : 1 ≤ n := Nat.one_le_iff_ne_zero.mpr (NeZero.ne n)
    have := hT.sortedFrom_eq_of_prefix h1 (fun _ : Fin 1 => far d) (fun a b _ => Subsingleton.elim a b)
      (fun a b hab => absurd hab (by have := a.isLt; have := b.isLt; intro h; have : a.val < b.val := h; omega)) ?_ 0
    · exact this
    · intro _ p hp
      simp only [Bool.or_eq_false_iff, decide_eq_false_iff_not, Bool.and_eq_false_imp, decide_eq_true_eq]
      exact ⟨not_lt.mpr (le_far d p), fun e h => absurd e (lt_far d p h).ne⟩
  · rw [hB]
    have : ¬ b < a := not_lt.mpr hab.le
    simp [this]

/-! ## Sums over a marked entry -/

theorem sum_one_hot {m : ℕ} (i : Fin m) (f : Fin m → EReal) : (∑ k, if k = i then f k else 0) = f i := by
  rw [Finset.sum_ite_eq' Finset.univ i f, if_pos (Finset.mem_univ _)]

end Cert.Proof.Spec
-- ==== Proof.FpsStep.lean ====
/-
  The sampling call's loop: the planes of a batch's coordinates go in, and after the loop the distances, the chosen indices
  and the chosen points are those of `walk`.
-/
module

public import proofs.«01_k».proof.Proof.Spec
public import proofs.«01_k».proof.Proof.Gen.GroupsIdeal.Frame
public import Idealize.ShloMosaic.Lib.WholeRead

@[expose] public section

namespace Cert.Proof.Fps

open Idealize.ShloMosaic Cert.GroupsIdeal Cert.GroupsIdeal.Gen Cert.Proof.Spec

/-- The point `i` of batch `b`, from the three coordinate planes. -/
noncomputable def point (v0 v2 v4 : Vec Ideal S1x8x4096 .f32) (b : Fin 8) (i : Fin 4096) : Fin 3 → EReal :=
  ![v0 (ix3 0 b i), v2 (ix3 0 b i), v4 (ix3 0 b i)]

variable (v0 v2 v4 : Vec Ideal S1x8x4096 .f32) (a4 : FVec Ideal S8x4096 .f32) (a9 a10 a11 : FVec Ideal S8x1 .f32)

/-- The distances a step leaves in batch `b`. -/
noncomputable def near1 (b : Fin 8) : Fin 4096 → EReal :=
  closer (point v0 v2 v4 b) (fun i => a4 (ix2 b i)) ![a9 (ix2 b 0), a10 (ix2 b 0), a11 (ix2 b 0)]

theorem dists_apply (b : Fin 8) (i : Fin 4096) :
    k0_pay15 v0 v2 v4 a4 a9 a10 a11 (ix2 b i) = near1 v0 v2 v4 a4 a9 a10 a11 b i := by
  unfold near1 closer sqd point
  pointwise [k0_pay15, k0_pay4, k0_pay5, k0_pay6]

theorem nxt_apply (b : Fin 8) :
    k0_pay16 v0 v2 v4 a4 a9 a10 a11 (ix2 b 0) = BitVec.ofNat 32 (far (near1 v0 v2 v4 a4 a9 a10 a11 b)).val := by
  pointwise [k0_pay16]
  simp only [dists_apply, word_bot]
  rw [fold_max_far (near1 v0 v2 v4 a4 a9 a10 a11 b)]
  exact fold_far (by decide) (near1 v0 v2 v4 a4 a9 a10 a11 b) 4096#32 (by decide)

theorem hot_apply (b : Fin 8) (i : Fin 4096) :
    k0_pay17 v0 v2 v4 a4 a9 a10 a11 (ix2 b i)
      = if i = far (near1 v0 v2 v4 a4 a9 a10 a11 b) then 1#1 else 0#1 := by
  pointwise [k0_pay17]
  rw [nxt_apply, cmpi_ofNat_fin (by decide)]

theorem cx_apply (b : Fin 8) :
    k0_pay18 v0 v2 v4 a4 a9 a10 a11 (ix2 b 0) = point v0 v2 v4 b (far (near1 v0 v2 v4 a4 a9 a10 a11 b)) 0 := by
  pointwise [k0_pay18, k0_pay4]
  simp only [hot_apply, select_ite]
  exact sum_one_hot _ fun x => v0 (ix3 0 b x)

theorem cy_apply (b : Fin 8) :
    k0_pay19 v0 v2 v4 a4 a9 a10 a11 (ix2 b 0) = point v0 v2 v4 b (far (near1 v0 v2 v4 a4 a9 a10 a11 b)) 1 := by
  pointwise [k0_pay19, k0_pay5]
  simp only [hot_apply, select_ite]
  exact sum_one_hot _ fun x => v2 (ix3 0 b x)

theorem cz_apply (b : Fin 8) :
    k0_pay20 v0 v2 v4 a4 a9 a10 a11 (ix2 b 0) = point v0 v2 v4 b (far (near1 v0 v2 v4 a4 a9 a10 a11 b)) 2 := by
  pointwise [k0_pay20, k0_pay6]
  simp only [hot_apply, select_ite]
  exact sum_one_hot _ fun x => v4 (ix3 0 b x)

theorem trips_eq : k0_t1_loop.trips = 511 := by decide

theorem slot_apply (t : Fin k0_t1_loop.trips) (b : Fin 8) (s : Fin 512) :
    k0_pay21 t (ix2 b s) = if s.val = t.val + 1 then 1#1 else 0#1 := by
  have ht : t.val < 511 := lt_of_lt_of_eq t.isLt trips_eq
  have hw : Scf.iv 1#32 1#32 t.val = BitVec.ofNat 32 (t.val + 1) := by
    apply BitVec.eq_of_toNat_eq
    simp only [Scf.iv, BitVec.toNat_add, BitVec.toNat_mul, BitVec.toNat_ofNat]
    omega
  pointwise [k0_pay21]
  rw [hw, cmpi_ofNat _ _ (by have := s.isLt; omega) (by omega)]

theorem idxs_apply (t : Fin k0_t1_loop.trips) (a5 : IVec S8x512 32) (b : Fin 8) (s : Fin 512) :
    k0_pay22 v0 v2 v4 t a4 a5 a9 a10 a11 (ix2 b s) = if s.val = t.val + 1 then
      BitVec.ofNat 32 (far (near1 v0 v2 v4 a4 a9 a10 a11 b)).val else a5 (ix2 b s) := by
  pointwise [k0_pay22]
  simp only [slot_apply, nxt_apply, select_ite]

theorem qx_apply (t : Fin k0_t1_loop.trips) (a6 : FVec Ideal S8x512 .f32) (b : Fin 8) (s : Fin 512) :
    k0_pay23 v0 v2 v4 t a4 a6 a9 a10 a11 (ix2 b s) = if s.val = t.val + 1 then
      point v0 v2 v4 b (far (near1 v0 v2 v4 a4 a9 a10 a11 b)) 0 else a6 (ix2 b s) := by
  pointwise [k0_pay23]
  simp only [slot_apply, cx_apply, select_ite]

theorem qy_apply (t : Fin k0_t1_loop.trips) (a6 : FVec Ideal S8x512 .f32) (b : Fin 8) (s : Fin 512) :
    k0_pay24 v0 v2 v4 t a4 a6 a9 a10 a11 (ix2 b s) = if s.val = t.val + 1 then
      point v0 v2 v4 b (far (near1 v0 v2 v4 a4 a9 a10 a11 b)) 1 else a6 (ix2 b s) := by
  pointwise [k0_pay24]
  simp only [slot_apply, cy_apply, select_ite]

theorem qz_apply (t : Fin k0_t1_loop.trips) (a6 : FVec Ideal S8x512 .f32) (b : Fin 8) (s : Fin 512) :
    k0_pay25 v0 v2 v4 t a4 a6 a9 a10 a11 (ix2 b s) = if s.val = t.val + 1 then
      point v0 v2 v4 b (far (near1 v0 v2 v4 a4 a9 a10 a11 b)) 2 else a6 (ix2 b s) := by
  pointwise [k0_pay25]
  simp only [slot_apply, cz_apply, select_ite]

/-! ## The loop -/

/-- What the loop carries. -/
abbrev St : Type := FVec Ideal S8x4096 .f32 × IVec S8x512 32 × FVec Ideal S8x512 .f32 × FVec Ideal S8x512 .f32
  × FVec Ideal S8x512 .f32 × FVec Ideal S8x1 .f32 × FVec Ideal S8x1 .f32 × FVec Ideal S8x1 .f32

/-- One trip. -/
noncomputable def trip (t : Fin k0_t1_loop.trips) (s : St) : St :=
  (k0_pay15 v0 v2 v4 s.1 s.2.2.2.2.2.1 s.2.2.2.2.2.2.1 s.2.2.2.2.2.2.2,
   k0_pay22 v0 v2 v4 t s.1 s.2.1 s.2.2.2.2.2.1 s.2.2.2.2.2.2.1 s.2.2.2.2.2.2.2,
   k0_pay23 v0 v2 v4 t s.1 s.2.2.1 s.2.2.2.2.2.1 s.2.2.2.2.2.2.1 s.2.2.2.2.2.2.2,
   k0_pay24 v0 v2 v4 t s.1 s.2.2.2.1 s.2.2.2.2.2.1 s.2.2.2.2.2.2.1 s.2.2.2.2.2.2.2,
   k0_pay25 v0 v2 v4 t s.1 s.2.2.2.2.1 s.2.2.2.2.2.1 s.2.2.2.2.2.2.1 s.2.2.2.2.2.2.2,
   k0_pay18 v0 v2 v4 s.1 s.2.2.2.2.2.1 s.2.2.2.2.2.2.1 s.2.2.2.2.2.2.2,
   k0_pay19 v0 v2 v4 s.1 s.2.2.2.2.2.1 s.2.2.2.2.2.2.1 s.2.2.2.2.2.2.2,
   k0_pay20 v0 v2 v4 s.1 s.2.2.2.2.2.1 s.2.2.2.2.2.2.1 s.2.2.2.2.2.2.2)

/-- What the loop starts from. -/
noncomputable def start : St :=
  (k0_pay14, k0_pay10, k0_pay11 v0, k0_pay12 v2, k0_pay13 v4, k0_pay7 v0, k0_pay8 v2, k0_pay9 v4)

/-- The distance every point starts from. -/
noncomputable abbrev cap : EReal := Ideal.ofBits .f32 0x501502F9#32

/-- The carried values after `k` trips. -/
structure Inv (k : ℕ) (s : St) : Prop where
  dists : ∀ b i, s.1 (ix2 b i) = (walk (point v0 v2 v4 b) cap k).1 i
  cx : ∀ b, s.2.2.2.2.2.1 (ix2 b 0) = point v0 v2 v4 b (walk (point v0 v2 v4 b) cap k).2 0
  cy : ∀ b, s.2.2.2.2.2.2.1 (ix2 b 0) = point v0 v2 v4 b (walk (point v0 v2 v4 b) cap k).2 1
  cz : ∀ b, s.2.2.2.2.2.2.2 (ix2 b 0) = point v0 v2 v4 b (walk (point v0 v2 v4 b) cap k).2 2
  idxs : ∀ b (j : Fin 512), j.val ≤ k → s.2.1 (ix2 b j) = BitVec.ofNat 32 (walk (point v0 v2 v4 b) cap j.val).2.val
  qx : ∀ b (j : Fin 512), j.val ≤ k → s.2.2.1 (ix2 b j) = point v0 v2 v4 b (walk (point v0 v2 v4 b) cap j.val).2 0
  qy : ∀ b (j : Fin 512), j.val ≤ k → s.2.2.2.1 (ix2 b j) = point v0 v2 v4 b (walk (point v0 v2 v4 b) cap j.val).2 1
  qz : ∀ b (j : Fin 512), j.val ≤ k → s.2.2.2.2.1 (ix2 b j) = point v0 v2 v4 b (walk (point v0 v2 v4 b) cap j.val).2 2

theorem near1_eq (k : ℕ) (s : St) (h : Inv v0 v2 v4 k s) (b : Fin 8) :
    near1 v0 v2 v4 s.1 s.2.2.2.2.2.1 s.2.2.2.2.2.2.1 s.2.2.2.2.2.2.2 b = (walk (point v0 v2 v4 b) cap (k + 1)).1 := by
  unfold near1
  have h1 : (fun i => s.1 (ix2 b i)) = (walk (point v0 v2 v4 b) cap k).1 := funext (h.dists b)
  have h2 : ![s.2.2.2.2.2.1 (ix2 b 0), s.2.2.2.2.2.2.1 (ix2 b 0), s.2.2.2.2.2.2.2 (ix2 b 0)]
      = point v0 v2 v4 b (walk (point v0 v2 v4 b) cap k).2 := by
    rw [h.cx b, h.cy b, h.cz b]
    funext a
    fin_cases a <;> rfl
  rw [h1, h2]
  rfl

theorem far_near1 (k : ℕ) (s : St) (h : Inv v0 v2 v4 k s) (b : Fin 8) :
    far (near1 v0 v2 v4 s.1 s.2.2.2.2.2.1 s.2.2.2.2.2.2.1 s.2.2.2.2.2.2.2 b) = (walk (point v0 v2 v4 b) cap (k + 1)).2 := by
  rw [near1_eq v0 v2 v4 k s h b]
  rfl

theorem inv_start : Inv v0 v2 v4 0 (start v0 v2 v4) where
  dists b i := by show (k0_pay14 (F := Ideal)) (ix2 b i) = cap; pointwise [k0_pay14]
  cx b := by show k0_pay7 v0 (ix2 b 0) = v0 (ix3 0 b 0); pointwise [k0_pay7, k0_pay4]
  cy b := by show k0_pay8 v2 (ix2 b 0) = v2 (ix3 0 b 0); pointwise [k0_pay8, k0_pay5]
  cz b := by show k0_pay9 v4 (ix2 b 0) = v4 (ix3 0 b 0); pointwise [k0_pay9, k0_pay6]
  idxs b j hj := by
    have e : j = 0 := Fin.ext (Nat.le_zero.mp hj)
    subst e
    show k0_pay10 (ix2 b 0) = 0#32; pointwise [k0_pay10]
  qx b j hj := by
    have e : j = 0 := Fin.ext (Nat.le_zero.mp hj)
    subst e
    show k0_pay11 v0 (ix2 b 0) = v0 (ix3 0 b 0); pointwise [k0_pay11, k0_pay7, k0_pay4]
  qy b j hj := by
    have e : j = 0 := Fin.ext (Nat.le_zero.mp hj)
    subst e
    show k0_pay12 v2 (ix2 b 0) = v2 (ix3 0 b 0); pointwise [k0_pay12, k0_pay8, k0_pay5]
  qz b j hj := by
    have e : j = 0 := Fin.ext (Nat.le_zero.mp hj)
    subst e
    show k0_pay13 v4 (ix2 b 0) = v4 (ix3 0 b 0); pointwise [k0_pay13, k0_pay9, k0_pay6]

theorem inv_trip (t : Fin k0_t1_loop.trips) (s : St) (h : Inv v0 v2 v4 t.val s) : Inv v0 v2 v4 (t.val + 1) (trip v0 v2 v4 t s) where
  dists b i := by
    show k0_pay15 v0 v2 v4 _ _ _ _ (ix2 b i) = _
    rw [dists_apply, near1_eq v0 v2 v4 t.val s h b]
  cx b := by
    show k0_pay18 v0 v2 v4 _ _ _ _ (ix2 b 0) = _
    rw [cx_apply, far_near1 v0 v2 v4 t.val s h b]
  cy b := by
    show k0_pay19 v0 v2 v4 _ _ _ _ (ix2 b 0) = _
    rw [cy_apply, far_near1 v0 v2 v4 t.val s h b]
  cz b := by
    show k0_pay20 v0 v2 v4 _ _ _ _ (ix2 b 0) = _
    rw [cz_apply, far_near1 v0 v2 v4 t.val s h b]
  idxs b j hj := by
    show k0_pay22 v0 v2 v4 t _ _ _ _ _ (ix2 b j) = _
    rw [idxs_apply, far_near1 v0 v2 v4 t.val s h b]
    split
    · next e => rw [e]
    · next e => exact h.idxs b j (by omega)
  qx b j hj := by
    show k0_pay23 v0 v2 v4 t _ _ _ _ _ (ix2 b j) = _
    rw [qx_apply, far_near1 v0 v2 v4 t.val s h b]
    split
    · next e => rw [e]
    · next e => exact h.qx b j (by omega)
  qy b j hj := by
    show k0_pay24 v0 v2 v4 t _ _ _ _ _ (ix2 b j) = _
    rw [qy_apply, far_near1 v0 v2 v4 t.val s h b]
    split
    · next e => rw [e]
    · next e => exact h.qy b j (by omega)
  qz b j hj := by
    show k0_pay25 v0 v2 v4 t _ _ _ _ _ (ix2 b j) = _
    rw [qz_apply, far_near1 v0 v2 v4 t.val s h b]
    split
    · next e => rw [e]
    · next e => exact h.qz b j (by omega)

/-- What the loop leaves. -/
theorem inv_loop : Inv v0 v2 v4 511 (Scf.fold (trip v0 v2 v4) (start v0 v2 v4)) := by
  have h2 : ∀ X : St, Inv v0 v2 v4 k0_t1_loop.trips X → Inv v0 v2 v4 511 X := fun X h => by rw [trips_eq] at h; exact h
  exact h2 _ (fold_inv (trip v0 v2 v4) (start v0 v2 v4) (Inv v0 v2 v4) (inv_start v0 v2 v4) (inv_trip v0 v2 v4))

/-! ## What the body stores -/

section Out

variable (c : Dev nD) (arg0 : Memref sig .tc .vmem S3x8x4096 .f32) (harg0 : arg0.IsWhole) (arg1 : Memref sig .tc .vmem S8x512 .i32)
  (harg1 : arg1.IsWhole) (arg2 : Memref sig .tc .vmem S3x8x512 .f32) (harg2 : arg2.IsWhole) (x0 : Vec Ideal S3x8x4096 .f32)

/-- A batch's points, from the three planes of one array. -/
noncomputable def points (x0 : Vec Ideal S3x8x4096 .f32) (b : Fin 8) (i : Fin 4096) (a : Fin 3) : EReal := x0 (ix3 a b i)

/-- The loads of the three planes. -/
noncomputable abbrev ld0 : Vec Ideal S1x8x4096 .f32 := View.readAt (Elt Ideal) arg0.view
  (Rect.unit (s := S3x8x4096) ![0, 0, 0] S1x8x4096.size inb_S3x8x4096_S1x8x4096_0_0_0).toLoadRect (harg0.unread x0)
noncomputable abbrev ld1 : Vec Ideal S1x8x4096 .f32 := View.readAt (Elt Ideal) arg0.view
  (Rect.unit (s := S3x8x4096) ![1, 0, 0] S1x8x4096.size inb_S3x8x4096_S1x8x4096_1_0_0).toLoadRect (harg0.unread x0)
noncomputable abbrev ld2 : Vec Ideal S1x8x4096 .f32 := View.readAt (Elt Ideal) arg0.view
  (Rect.unit (s := S3x8x4096) ![2, 0, 0] S1x8x4096.size inb_S3x8x4096_S1x8x4096_2_0_0).toLoadRect (harg0.unread x0)

theorem point_ld (b : Fin 8) : point (ld0 arg0 harg0 x0) (ld1 arg0 harg0 x0) (ld2 arg0 harg0 x0) b = points x0 b := by
  funext i a
  have h0 : ld0 arg0 harg0 x0 (ix3 0 b i) = x0 (ix3 0 b i) := by
    unfold ld0
    rw [harg0.readAt_unread]
    congr 1
    funext k; fin_cases k <;> apply Fin.ext <;> simp [LoadRect.idx, Rect.toLoadRect, Rect.unit, Rect.emb]
  have h1 : ld1 arg0 harg0 x0 (ix3 0 b i) = x0 (ix3 1 b i) := by
    unfold ld1
    rw [harg0.readAt_unread]
    congr 1
    funext k; fin_cases k <;> apply Fin.ext <;> simp [LoadRect.idx, Rect.toLoadRect, Rect.unit, Rect.emb]
  have h2 : ld2 arg0 harg0 x0 (ix3 0 b i) = x0 (ix3 2 b i) := by
    unfold ld2
    rw [harg0.readAt_unread]
    congr 1
    funext k; fin_cases k <;> apply Fin.ext <;> simp [LoadRect.idx, Rect.toLoadRect, Rect.unit, Rect.emb]
  fin_cases a
  · exact h0
  · exact h1
  · exact h2

theorem run_eq : kernelRun0_A.sl.r c arg0 harg0 x0
    = Scf.fold (trip (ld0 arg0 harg0 x0) (ld1 arg0 harg0 x0) (ld2 arg0 harg0 x0)) (start (ld0 arg0 harg0 x0) (ld1 arg0 harg0 x0) (ld2 arg0 harg0 x0)) := by
  unfold kernelRun0_A.sl.r
  rfl

theorem inv_run : Inv (ld0 arg0 harg0 x0) (ld1 arg0 harg0 x0) (ld2 arg0 harg0 x0) 511 (kernelRun0_A.sl.r c arg0 harg0 x0) := by
  rw [run_eq]
  exact inv_loop _ _ _

/-- The chosen indices. -/
theorem out1_apply (b : Fin 8) (j : Fin 512) :
    out0_A_1 c arg0 harg0 arg1 harg1 arg2 harg2 x0 (ix2 b j) = BitVec.ofNat 32 (walk (points x0 b) cap j.val).2.val := by
  unfold out0_A_1 kernelRun0_A
  dsimp only
  have h := (inv_run c arg0 harg0 x0).idxs b j (by have := j.isLt; omega)
  rw [point_ld] at h
  refine Eq.trans (View.read_writes_cons_hit_of_coords _ _ _ _ _ (ix2 b j) _ ?_) h
  intro a; fin_cases a <;> simp [Rect.unit]

/-- The chosen points. -/
theorem out2_apply (a : Fin 3) (b : Fin 8) (j : Fin 512) :
    out0_A_2 c arg0 harg0 arg1 harg1 arg2 harg2 x0 (ix3 a b j) = points x0 b (walk (points x0 b) cap j.val).2 a := by
  have hI := inv_run c arg0 harg0 x0
  have hx := hI.qx b j (by have := j.isLt; omega)
  have hy := hI.qy b j (by have := j.isLt; omega)
  have hz := hI.qz b j (by have := j.isLt; omega)
  rw [point_ld] at hx hy hz
  unfold out0_A_2 kernelRun0_A
  dsimp only
  obtain rfl | rfl | rfl : a = 0 ∨ a = 1 ∨ a = 2 := by fin_cases a <;> simp
  · rw [View.read_writes_cons_miss_of_axis _ _ _ _ _ 0 2 1 rfl rfl rfl (Or.inl (by show (0 : ℕ) < 2; omega)),
      View.read_writes_cons_miss_of_axis _ _ _ _ _ 0 1 1 rfl rfl rfl (Or.inl (by show (0 : ℕ) < 1; omega))]
    refine Eq.trans (View.read_writes_cons_hit_of_coords _ _ _ _ _ (ix3 0 b j) _ ?_) (Eq.trans ?_ hx)
    · intro a; fin_cases a <;> simp [Rect.unit]
    pointwise [k0_pay1]
    rfl
  · rw [View.read_writes_cons_miss_of_axis _ _ _ _ _ 0 2 1 rfl rfl rfl (Or.inl (by show (1 : ℕ) < 2; omega))]
    refine Eq.trans (View.read_writes_cons_hit_of_coords _ _ _ _ _ (ix3 0 b j) _ ?_) (Eq.trans ?_ hy)
    · intro a; fin_cases a <;> simp [Rect.unit]
    pointwise [k0_pay2]
    rfl
  · refine Eq.trans (View.read_writes_cons_hit_of_coords _ _ _ _ _ (ix3 0 b j) _ ?_) (Eq.trans ?_ hz)
    · intro a; fin_cases a <;> simp [Rect.unit]
    pointwise [k0_pay3]
    rfl

end Out

end Cert.Proof.Fps
-- ==== Proof.KnnStep.lean ====
/-
  The neighbour call's loop: a batch's points and a block of query points go in, and after the loop the slots hold the
  nearest indices in turn.
-/
module

public import proofs.«01_k».proof.Proof.Spec
public import proofs.«01_k».proof.Proof.Gen.GroupsIdeal.Frame
public import Idealize.ShloMosaic.Lib.WholeRead

@[expose] public section

namespace Cert.Proof.Knn

open Idealize.ShloMosaic Cert.GroupsIdeal Cert.GroupsIdeal.Gen Cert.Proof.Spec

/-- A column of the distance table. -/
def column (d : FVec Ideal S4096x256 .f32) (q : Fin 256) (i : Fin 4096) : EReal := d (ix2 i q)

theorem table_apply (v0 v2 v4 : Vec Ideal S1x4096x1 .f32) (v6 v8 v10 : Vec Ideal S1x1x256 .f32) (i : Fin 4096) (q : Fin 256) :
    k1_pay3 v0 v2 v4 v6 v8 v10 (ix2 i q)
      = sqd ![v0 (ix3 0 i 0), v2 (ix3 0 i 0), v4 (ix3 0 i 0)] ![v6 (ix3 0 0 q), v8 (ix3 0 0 q), v10 (ix3 0 0 q)] := by
  unfold sqd
  pointwise [k1_pay3]

theorem least_apply (d : FVec Ideal S4096x256 .f32) (q : Fin 256) :
    k1_pay5 d (ix2 0 q) = BitVec.ofNat 32 (near (column d q)).val := by
  pointwise [k1_pay5]
  simp only [word_top]
  exact (congrArg (fun m => (Finset.univ : Finset (Fin 4096)).fold IntOp.minsi 2147483647#32
    (fun x => if d (ix2 x q) = m then BitVec.ofNat 32 x.val else 4096#32)) (fold_min_near (column d q))).trans
    (fold_near (by decide) (column d q) 4096#32 (by decide))

theorem mask_apply (d : FVec Ideal S4096x256 .f32) (q : Fin 256) (i : Fin 4096) :
    k1_pay7 d (ix2 i q) = if i = near (column d q) then ⊤ else column d q i := by
  pointwise [k1_pay7]
  rw [least_apply, cmpi_ofNat_fin (by decide), select_ite]
  by_cases h : i = near (column d q)
  · rw [if_pos h, if_pos h]; exact word_top
  · rw [if_neg h, if_neg h]; rfl

theorem trips_eq : k1_t1_loop.trips = 32 := by decide

theorem slot_apply (t : Fin k1_t1_loop.trips) (d : FVec Ideal S4096x256 .f32) (a : IVec S32x256 32) (s : Fin 32) (q : Fin 256) :
    k1_pay6 t d a (ix2 s q) = if s.val = t.val then BitVec.ofNat 32 (near (column d q)).val else a (ix2 s q) := by
  have ht : t.val < 32 := lt_of_lt_of_eq t.isLt trips_eq
  have hw : Scf.iv 0#32 1#32 t.val = BitVec.ofNat 32 t.val := by
    apply BitVec.eq_of_toNat_eq
    simp only [Scf.iv, BitVec.toNat_add, BitVec.toNat_mul, BitVec.toNat_ofNat]
    omega
  pointwise [k1_pay6]
  rw [hw, cmpi_ofNat _ _ (by have := s.isLt; omega) (by omega), least_apply, select_ite]

/-! ## The loop -/

/-- What the loop carries. -/
abbrev St : Type := FVec Ideal S4096x256 .f32 × IVec S32x256 32

/-- One trip. -/
noncomputable def trip (t : Fin k1_t1_loop.trips) (s : St) : St := (k1_pay7 s.1, k1_pay6 t s.1 s.2)

variable (d : FVec Ideal S4096x256 .f32)

/-- The carried values after `k` trips. -/
structure Inv (k : ℕ) (s : St) : Prop where
  dists : ∀ q, column s.1 q = rest (column d q) k
  idxs : ∀ (j : Fin 32) q, j.val < k → s.2 (ix2 j q) = BitVec.ofNat 32 (pick (column d q) j.val).val

theorem inv_trip (t : Fin k1_t1_loop.trips) (s : St) (h : Inv d t.val s) : Inv d (t.val + 1) (trip t s) where
  dists q := by
    funext i
    rw [rest_succ, ← h.dists q]
    rw [← mask_apply]
    unfold trip column
    dsimp only
  idxs j q hj := by
    show k1_pay6 t s.1 s.2 (ix2 j q) = _
    rw [slot_apply]
    by_cases e : j.val = t.val
    · rw [if_pos e, h.dists q, e]; rfl
    · rw [if_neg e]; exact h.idxs j q (by omega)

theorem inv_loop : Inv d 32 (Scf.fold trip (d, k1_pay4)) := by
  have h2 : ∀ X : St, Inv d k1_t1_loop.trips X → Inv d 32 X := fun X h => by rw [trips_eq] at h; exact h
  exact h2 _ (fold_inv trip (d, k1_pay4) (Inv d) ⟨fun q => rfl, fun j q h => absurd h (Nat.not_lt_zero _)⟩ (inv_trip d))

/-! ## What the body stores -/

section Out

variable (c : Dev nD) (i : grid1.Coords) (arg2 : Memref sig .tc .vmem S1x4096x3 .f32) (harg2 : arg2.IsWhole)
  (arg3 : Memref sig .tc .vmem S1x3x256 .f32) (harg3 : arg3.IsWhole) (arg4 : Memref sig .tc .vmem S1x32x256 .i32) (harg4 : arg4.IsWhole)
  (arg5 : Memref sig .tc .vmem S1x32x256 .i32) (harg5 : arg5.IsWhole) (x0 : Vec Ideal S1x4096x3 .f32) (x1 : Vec Ideal S1x3x256 .f32)

/-- The points of a block. -/
noncomputable def cloud (x0 : Vec Ideal S1x4096x3 .f32) (k : Fin 4096) (a : Fin 3) : EReal := x0 (ix3 0 k a)
/-- The query points of a block. -/
noncomputable def query (x1 : Vec Ideal S1x3x256 .f32) (q : Fin 256) (a : Fin 3) : EReal := x1 (ix3 0 a q)

/-- The table the loop starts from. -/
noncomputable def table : FVec Ideal S4096x256 .f32 := k1_pay3
  (View.readAt (Elt Ideal) arg2.view (Rect.unit (s := S1x4096x3) ![0, 0, 0] S1x4096x1.size inb_S1x4096x3_S1x4096x1_0_0_0).toLoadRect (harg2.unread x0))
  (View.readAt (Elt Ideal) arg2.view (Rect.unit (s := S1x4096x3) ![0, 0, 1] S1x4096x1.size inb_S1x4096x3_S1x4096x1_0_0_1).toLoadRect (harg2.unread x0))
  (View.readAt (Elt Ideal) arg2.view (Rect.unit (s := S1x4096x3) ![0, 0, 2] S1x4096x1.size inb_S1x4096x3_S1x4096x1_0_0_2).toLoadRect (harg2.unread x0))
  (View.readAt (Elt Ideal) arg3.view (Rect.unit (s := S1x3x256) ![0, 0, 0] S1x1x256.size inb_S1x3x256_S1x1x256_0_0_0).toLoadRect (harg3.unread x1))
  (View.readAt (Elt Ideal) arg3.view (Rect.unit (s := S1x3x256) ![0, 1, 0] S1x1x256.size inb_S1x3x256_S1x1x256_0_1_0).toLoadRect (harg3.unread x1))
  (View.readAt (Elt Ideal) arg3.view (Rect.unit (s := S1x3x256) ![0, 2, 0] S1x1x256.size inb_S1x3x256_S1x1x256_0_2_0).toLoadRect (harg3.unread x1))

theorem table_column (q : Fin 256) : column (table arg2 harg2 arg3 harg3 x0 x1) q = fun k => sqd (cloud x0 k) (query x1 q) := by
  funext k
  unfold column table
  rw [table_apply]
  congr 1
  · funext a
    fin_cases a
    all_goals
      refine (harg2.readAt_unread _ _ _).trans (congrArg x0 ?_)
      funext j; fin_cases j <;> apply Fin.ext <;> simp [LoadRect.idx, Rect.toLoadRect, Rect.unit, Rect.emb]
  · funext a
    fin_cases a
    all_goals
      refine (harg3.readAt_unread _ _ _).trans (congrArg x1 ?_)
      funext j; fin_cases j <;> apply Fin.ext <;> simp [LoadRect.idx, Rect.toLoadRect, Rect.unit, Rect.emb]

theorem run_eq : kernelRun1_A.sl.r_1 c arg2 harg2 arg3 harg3 x0 x1
    = (Scf.fold trip (table arg2 harg2 arg3 harg3 x0 x1, k1_pay4)).2 := by
  unfold kernelRun1_A.sl.r_1 kernelRun1_A.sl.r
  rfl

/-- The neighbours of every query of the block. -/
theorem out2_apply (j : Fin 32) (q : Fin 256) :
    out1_A_2 c i arg2 harg2 arg3 harg3 arg4 harg4 arg5 harg5 x0 x1 (ix3 0 j q)
      = BitVec.ofNat 32 (pick (fun k => sqd (cloud x0 k) (query x1 q)) j.val).val := by
  have h := (inv_loop (table arg2 harg2 arg3 harg3 x0 x1)).idxs j q j.isLt
  rw [table_column, ← run_eq c] at h
  unfold out1_A_2 kernelRun1_A
  dsimp only
  refine Eq.trans (View.read_writes_cons_hit_of_coords _ _ _ _ _ (ix3 0 j q) _ ?_) (Eq.trans ?_ h)
  · intro a; fin_cases a <;> simp [Rect.unit]
  pointwise [k1_pay1]

end Out

end Cert.Proof.Knn
-- ==== Proof.GroupsArrays.lean ====
/-
  What the sampling and neighbour program's arrays hold at the end, from the points it was given.
-/
module

public import proofs.«01_k».proof.Proof.FpsStep
public import proofs.«01_k».proof.Proof.KnnStep
public import Idealize.ShloMosaic.Lib.StableHlo.RunRead
public import Idealize.ShloMosaic.Lib.Pipeline.ValueKit

@[expose] public section

namespace Cert.Proof.Groups

open Idealize.ShloMosaic Idealize.ShloMosaic.StableHlo Cert.GroupsIdeal Cert.GroupsIdeal.Gen Cert.Proof.Spec

variable (m : (ℓ : Loc nD τ sig) → Buf (Elt Ideal) ℓ) (ρ : Dev nD → PrngReg) (c : Dev nD)

/-- The argument. -/
noncomputable abbrev arg : Vec Ideal S8x4096x3 .f32 := m ((c.tc : Thread nD τ).loc main_arg0)

/-- A batch's points. -/
noncomputable def points (b : Fin 8) (i : Fin 4096) (a : Fin 3) : EReal := arg m c (ix3 b i a)

theorem planes_at (a : Fin 3) (b : Fin 8) (i : Fin 4096) :
    (W1 m ρ c (Proc.devRef .tc main_v0) : Vec Ideal S3x8x4096 .f32) (ix3 a b i) = points m c b i a := by
  unfold W1
  after_reads_simp
  pointwise []
  rfl

theorem whole0 : ∀ t : Fin cfg0.N, win0_0.index t = ![0, 0, 0] := (by decide +kernel : ∀ t : Fin grid0.N, _)
theorem whole2 : ∀ t : Fin cfg0.N, win0_2.index t = ![0, 0, 0] := (by decide +kernel : ∀ t : Fin grid0.N, _)

theorem iblk_at (t : Fin cfg0.N) (a : Fin 3) (b : Fin 8) (i : Fin 4096) :
    (iblk0 (V1 m ρ) c 0 t : Vec Ideal S3x8x4096 .f32) (ix3 a b i) = points m c b i a := by
  rw [← planes_at m ρ c a b i]
  unfold iblk0
  rw [View.read_apply]
  blk_ext [whole0]

theorem coords3 {l m n : ℕ} (y : Shape.Idx ⟨3, ![l, m, n]⟩) : ∃ a b c, y = ix3 a b c := ⟨y 0, y 1, y 2, eq_ix3 y⟩

/-- The chosen points, plane by plane. -/
noncomputable def chosen : Vec Ideal S3x8x512 .f32 :=
  fun i => points m c (i 1) (walk (points m c (i 1)) Fps.cap (i 2).val).2 (i 0)

theorem outs0_2 (t : Fin cfg0.N) : (outsAt0 (V1 m ρ) c t).2
    = out0_A_2 c (ms0_0 t) (hs0_0 t) (ms0_1 t) (hs0_1 t) (ms0_2 t) (hs0_2 t) (iblk0 (V1 m ρ) c 0 t) := by
  dsimp only [outsAt0]

theorem outs_chosen (t : Fin cfg0.N) : (outsAt0 (V1 m ρ) c t).2 = chosen m c := by
  funext i
  have hp : ∀ b, Fps.points (iblk0 (V1 m ρ) c 0 t) b = points m c b := fun b => by
    funext i a; exact iblk_at m ρ c t a b i
  obtain ⟨a, b, j, rfl⟩ := coords3 (l := 3) (m := 8) (n := 512) i
  have h := Fps.out2_apply c (ms0_0 t) (hs0_0 t) (ms0_1 t) (hs0_1 t) (ms0_2 t) (hs0_2 t) (iblk0 (V1 m ρ) c 0 t) a b j
  rw [hp b] at h
  exact (congrFun (outs0_2 m ρ c t) (ix3 a b j)).trans h

/-- The chosen points as the sampling call leaves them. -/
theorem planes_chosen : (W2 m ρ c (Proc.devRef .tc main_v1_1) : Vec Ideal S3x8x512 .f32) = chosen m c := by
  refine (W2_arr m ρ c 2).trans ?_
  refine (dat0 (V1 m ρ) c).arrAt_eq_of_covers 2 (chosen m c) (by decide +kernel) fun t hf y => ?_
  rw [after0_2, outs_chosen]
  blk_ext [whole2]

theorem queries_at (b : Fin 8) (a : Fin 3) (q : Fin 512) :
    (W3 m ρ c (Proc.devRef .tc main_v2) : Vec Ideal S8x3x512 .f32) (ix3 b a q) = chosen m c (ix3 a b q) := by
  rw [← planes_chosen m ρ c]
  unfold W3
  after_reads_simp
  pointwise []

theorem cloud_kept : W3 m ρ c (Proc.devRef .tc main_arg0) = arg m c :=
  (W3_of m ρ c main_arg0 (by decide)).trans ((W2_of m ρ c main_arg0 (by decide)).trans (W1_of m ρ c main_arg0 (by decide)))

theorem at0 : ∀ t : Fin cfg1.N, win1_0.index t = ![(grid1.coords t 0).val, 0, 0] := (by decide +kernel : ∀ t : Fin grid1.N, _)
theorem at1 : ∀ t : Fin cfg1.N, win1_1.index t = ![(grid1.coords t 0).val, 0, (grid1.coords t 1).val] := (by decide +kernel : ∀ t : Fin grid1.N, _)
theorem at2 : ∀ t : Fin cfg1.N, win1_2.index t = ![(grid1.coords t 0).val, 0, (grid1.coords t 1).val] := (by decide +kernel : ∀ t : Fin grid1.N, _)

/-- The batch of a grid point. -/
def batch (t : Fin cfg1.N) : Fin 8 := grid1.coords t 0

/-- The half of a batch's queries at a grid point. -/
def half (t : Fin cfg1.N) : Fin 2 := grid1.coords t 1

theorem batch_val (t : Fin cfg1.N) : (grid1.coords t 0).val = (batch t).val := rfl
theorem half_val (t : Fin cfg1.N) : (grid1.coords t 1).val = (half t).val := rfl

/-- A query point's place in its batch's list. -/
def place (s : Fin 2) (q : Fin 256) : Fin 512 := ⟨s.val * 256 + q.val, by omega⟩

theorem cloud_at (t : Fin cfg1.N) (k : Fin 4096) (a : Fin 3) :
    (iblk1 (V3 m ρ) c 0 t : Vec Ideal S1x4096x3 .f32) (ix3 0 k a) = points m c (batch t) k a := by
  have h : (iblk1 (V3 m ρ) c 0 t : Vec Ideal S1x4096x3 .f32) (ix3 0 k a)
      = (W3 m ρ c (Proc.devRef .tc main_arg0) : Vec Ideal S8x4096x3 .f32) (ix3 (batch t) k a) := by
    unfold iblk1
    rw [View.read_apply]
    blk_ext [at0, batch_val]
  rw [h, cloud_kept]
  rfl

theorem query_at (t : Fin cfg1.N) (a : Fin 3) (q : Fin 256) :
    (iblk1 (V3 m ρ) c 1 t : Vec Ideal S1x3x256 .f32) (ix3 0 a q) = chosen m c (ix3 a (batch t) (place (half t) q)) := by
  rw [← queries_at m ρ c]
  unfold iblk1 place
  rw [View.read_apply]
  blk_ext [at1, batch_val, half_val]

/-- The nearest indices, slot by slot. -/
noncomputable def nearest : Vec Ideal S8x32x512 .i32 :=
  fun i => BitVec.ofNat 32 (pick (fun k => sqd (points m c (i 0) k) fun a => chosen m c (ix3 a (i 0) (i 2))) (i 1).val).val

theorem outs1_2 (t : Fin cfg1.N) : (outsAt1 (V3 m ρ) c t).1
    = out1_A_2 c (grid1.coords t) (ms1_0 t) (hs1_0 t) (ms1_1 t) (hs1_1 t) (ms1_2 t) (hs1_2 t) (ms1_3 t) (hs1_3 t) (iblk1 (V3 m ρ) c 0 t) (iblk1 (V3 m ρ) c 1 t) := by
  dsimp only [outsAt1]

theorem outs_nearest (t : Fin cfg1.N) (j : Fin 32) (q : Fin 256) :
    ((outsAt1 (V3 m ρ) c t).1 : Vec Ideal S1x32x256 .i32) (ix3 0 j q)
      = nearest m c (ix3 (batch t) j (place (half t) q)) := by
  have h := Knn.out2_apply c (grid1.coords t) (ms1_0 t) (hs1_0 t) (ms1_1 t) (hs1_1 t) (ms1_2 t) (hs1_2 t) (ms1_3 t) (hs1_3 t)
    (iblk1 (V3 m ρ) c 0 t) (iblk1 (V3 m ρ) c 1 t) j q
  have h0 : Knn.cloud (iblk1 (V3 m ρ) c 0 t) = points m c (batch t) := by
    funext k a; exact cloud_at m ρ c t k a
  have h1 : Knn.query (iblk1 (V3 m ρ) c 1 t) q = fun a => chosen m c (ix3 a (batch t) (place (half t) q)) := by
    funext a; exact query_at m ρ c t a q
  rw [h0, h1] at h
  exact (congrFun (outs1_2 m ρ c t) (ix3 0 j q)).trans h

/-- The nearest indices as the neighbour call leaves them. -/
theorem slots_nearest : (W4 m ρ c (Proc.devRef .tc main_v3_0) : Vec Ideal S8x32x512 .i32) = nearest m c := by
  refine (W4_arr m ρ c 2).trans ?_
  refine (dat1 (V3 m ρ) c).arrAt_eq_of_covers 2 (nearest m c) (by decide +kernel) fun t hf y => ?_
  rw [after1_2]
  obtain ⟨z, j, q, rfl⟩ := coords3 (l := 1) (m := 32) (n := 256) y
  obtain rfl : z = 0 := Subsingleton.elim _ _
  refine (outs_nearest m ρ c t j q).trans ?_
  unfold place
  blk_ext [at2, batch_val, half_val]

/-- The nearest indices, as the program returns them. -/
theorem nearest_out (b : Fin 8) (q : Fin 512) (j : Fin 32) :
    (W5 m ρ c (Proc.devRef .tc main_v4) : Vec Ideal S8x512x32 .i32) (ix3 b q j) = nearest m c (ix3 b j q) := by
  rw [← slots_nearest m ρ c]
  unfold W5
  after_reads_simp
  pointwise []

/-- The chosen points, as the program returns them. -/
theorem chosen_out (b : Fin 8) (q : Fin 512) (a : Fin 3) :
    (W5 m ρ c (Proc.devRef .tc main_v5) : Vec Ideal S8x512x3 .f32) (ix3 b q a) = chosen m c (ix3 a b q) := by
  have h : W4 m ρ c (Proc.devRef .tc main_v1_1) = chosen m c :=
    (W4_of m ρ c main_v1_1 (by decide)).trans ((W3_of m ρ c main_v1_1 (by decide)).trans (planes_chosen m ρ c))
  rw [← h]
  unfold W5
  after_reads_simp
  pointwise []

end Cert.Proof.Groups
-- ==== Proof.GroupsRef.lean ====
/-
  The sampling and neighbour reference: its loop is the walk, its gathers the walk's points, its two selections the
  farthest and the nearest indices.
-/
module

public import proofs.«01_k».proof.Proof.Spec
public import proofs.«01_k».proof.Proof.Gen.GroupsReferenceIdeal.Run
public import Idealize.ShloMosaic.Lib.WordCmp

@[expose] public section

namespace Cert.Proof.GroupsRef

open Idealize.ShloMosaic Idealize.ShloMosaic.StableHlo Cert.GroupsReferenceIdeal Cert.GroupsReferenceIdeal.Gen Cert.GroupsReferenceIdeal.Value Cert.Proof.Spec

theorem along2 {m n : ℕ} (b : Fin m) (c k : Fin n) : (ix2 b c : Shape.Idx ⟨2, ![m, n]⟩).along (1 : Fin 2) k = ix2 b k := by
  funext a; fin_cases a <;> rfl

theorem along3 {l m n : ℕ} (b : Fin l) (q : Fin m) (c k : Fin n) :
    (ix3 b q c : Shape.Idx ⟨3, ![l, m, n]⟩).along (2 : Fin 3) k = ix3 b q k := by
  funext a; fin_cases a <;> rfl

theorem before_eq (x y : EReal) : (FloatOps.cmpfTotal (F := Ideal) (φ := .f32) .gt x y == 1#1) = decide (y < x) := by
  show (BitVec.ofBool (decide (y < x)) == 1#1) = decide (y < x)
  cases decide (y < x) <;> rfl

theorem along2_at {m n : ℕ} (b : Fin m) (c k : Fin n) : (ix2 b c : Shape.Idx ⟨2, ![m, n]⟩).along (1 : Fin 2) k (1 : Fin 2) = k := by
  rw [along2]; rfl

theorem along3_at {l m n : ℕ} (b : Fin l) (q : Fin m) (c k : Fin n) :
    (ix3 b q c : Shape.Idx ⟨3, ![l, m, n]⟩).along (2 : Fin 3) k (2 : Fin 3) = k := by
  rw [along3]; rfl

/-- The index the first of a descending selection takes: the farthest. -/
theorem top1_at {n : ℕ} [NeZero n] (x : Shape.Idx ⟨2, ![8, n]⟩ → Ideal .f32) (h : (⟨2, ![8, n]⟩ : Shape).Slices (fun _ => 0) ⟨2, ![8, 1]⟩)
    (b : Fin 8) : (Host.topK ⟨2, ![8, 1]⟩ 1 (FloatOps.cmpfTotal (F := Ideal) (φ := .f32) .gt) x h).2 (ix2 b 0)
      = BitVec.ofNat 32 (far fun k => x (ix2 b k)).val := by
  have hB : ∀ a c : Fin n, (FloatOps.cmpfTotal (F := Ideal) (φ := .f32) .gt (x (ix2 b a)) (x (ix2 b c)) == 1#1)
    = decide (x (ix2 b c) < x (ix2 b a)) := fun a c => before_eq _ _
  have key : ∀ J : Shape.Idx ⟨2, ![8, n]⟩, J = ix2 b (0 : Fin n) →
      (Host.sort2 ⟨2, ![8, n]⟩ 1 (fun l r => FloatOps.cmpfTotal (F := Ideal) (φ := .f32) .gt l.1 r.1) x
        (fun i => if hd : 1 < (⟨2, ![8, n]⟩ : Shape).rank then iotaInDim ⟨2, ![8, n]⟩ 32 ⟨1, hd⟩ i else 0#32)).2 J
        = BitVec.ofNat 32 (far fun k => x (ix2 b k)).val := by
    rintro J rfl
    unfold Host.sort2
    rw [dif_pos (show 1 < (⟨2, ![8, n]⟩ : Shape).rank by show 1 < 2; omega)]
    show BitVec.ofNat 32 ((ix2 b (0 : Fin n) : Shape.Idx ⟨2, ![8, n]⟩).along (1 : Fin 2) (sortedFrom (fun k k' : Fin n =>
      FloatOps.cmpfTotal (F := Ideal) (φ := .f32) .gt (x ((ix2 b (0 : Fin n) : Shape.Idx ⟨2, ![8, n]⟩).along (1 : Fin 2) k))
        (x ((ix2 b (0 : Fin n) : Shape.Idx ⟨2, ![8, n]⟩).along (1 : Fin 2) k')) == 1#1) (0 : Fin n)) (1 : Fin 2)).val = _
    refine (congrArg (fun z : Fin n => BitVec.ofNat 32 z.val) (along2_at b 0 _)).trans ?_
    exact congrArg (fun z : Fin n => BitVec.ofNat 32 z.val) (sortedFrom_far (fun k => x (ix2 b k)) _ fun a c =>
      (congrArg₂ (fun u v => FloatOps.cmpfTotal (F := Ideal) (φ := .f32) .gt (x u) (x v) == 1#1) (along2 b 0 a) (along2 b 0 c)).trans (hB a c))
  unfold Host.topK
  refine key _ ?_
  funext a
  apply Fin.ext
  fin_cases a
  · exact Nat.zero_add _
  · show 0 + 0 = ((0 : Fin n) : ℕ)
    simp

theorem top1_apply (x : Vec Ideal S8x4096 .f32) (b : Fin 8) :
    (Host.topK S8x1 1 (FloatOps.cmpfTotal (F := Ideal) (φ := .f32) .gt) x sliceFits_S8x4096_S8x1).2 (ix2 b 0)
      = BitVec.ofNat 32 (far fun k => x (ix2 b k)).val := top1_at x _ b

/-- The indices a descending selection of the opposites takes: the nearest, in turn. -/
theorem top32_at {n : ℕ} [NeZero n] (hn : 32 ≤ n) (x : Shape.Idx ⟨3, ![8, 512, n]⟩ → Ideal .f32) (h : (⟨3, ![8, 512, n]⟩ : Shape).Slices (fun _ => 0) ⟨3, ![8, 512, 32]⟩)
    (d : Fin n → EReal) (b : Fin 8) (q : Fin 512) (hd : ∀ k, d k < ⊤)
    (hx : ∀ k, x (ix3 b q k) = -d k) (j : Fin 32) :
    (Host.topK ⟨3, ![8, 512, 32]⟩ 2 (FloatOps.cmpfTotal (F := Ideal) (φ := .f32) .gt) x h).2 (ix3 b q j)
      = BitVec.ofNat 32 (pick d j.val).val := by
  have hB : ∀ a c : Fin n, (FloatOps.cmpfTotal (F := Ideal) (φ := .f32) .gt (x (ix3 b q a)) (x (ix3 b q c)) == 1#1)
      = decide (d a < d c) := fun a c => by
    rw [hx, hx]
    exact (before_eq _ _).trans (decide_eq_decide.mpr EReal.neg_lt_neg_iff)
  have key : ∀ J : Shape.Idx ⟨3, ![8, 512, n]⟩, J = ix3 b q (j.castLE hn) →
      (Host.sort2 ⟨3, ![8, 512, n]⟩ 2 (fun l r => FloatOps.cmpfTotal (F := Ideal) (φ := .f32) .gt l.1 r.1) x
        (fun i => if hd : 2 < (⟨3, ![8, 512, n]⟩ : Shape).rank then iotaInDim ⟨3, ![8, 512, n]⟩ 32 ⟨2, hd⟩ i else 0#32)).2 J
        = BitVec.ofNat 32 (pick d j.val).val := by
    rintro J rfl
    unfold Host.sort2
    rw [dif_pos (show 2 < (⟨3, ![8, 512, n]⟩ : Shape).rank by show 2 < 3; omega)]
    show BitVec.ofNat 32 ((ix3 b q (j.castLE hn) : Shape.Idx ⟨3, ![8, 512, n]⟩).along (2 : Fin 3) (sortedFrom (fun k k' : Fin n =>
      FloatOps.cmpfTotal (F := Ideal) (φ := .f32) .gt (x ((ix3 b q (j.castLE hn) : Shape.Idx ⟨3, ![8, 512, n]⟩).along (2 : Fin 3) k))
        (x ((ix3 b q (j.castLE hn) : Shape.Idx ⟨3, ![8, 512, n]⟩).along (2 : Fin 3) k')) == 1#1) (j.castLE hn)) (2 : Fin 3)).val = _
    refine (congrArg (fun z : Fin n => BitVec.ofNat 32 z.val) (along3_at b q (j.castLE hn) _)).trans ?_
    exact congrArg (fun z : Fin n => BitVec.ofNat 32 z.val)
      (sortedFrom_pick d hd 32 hn (by omega) _ (fun a c =>
        (congrArg₂ (fun u v => FloatOps.cmpfTotal (F := Ideal) (φ := .f32) .gt (x u) (x v) == 1#1) (along3 b q (j.castLE hn) a)
          (along3 b q (j.castLE hn) c)).trans (hB a c)) j)
  unfold Host.topK
  refine key _ ?_
  funext a
  apply Fin.ext
  fin_cases a
  · exact Nat.zero_add _
  · exact Nat.zero_add _
  · exact Nat.zero_add _

theorem top32_apply (x : Vec Ideal S8x512x4096 .f32) (d : Fin 4096 → EReal) (b : Fin 8) (q : Fin 512) (hd : ∀ k, d k < ⊤)
    (hx : ∀ k, x (ix3 b q k) = -d k) (j : Fin 32) :
    (Host.topK S8x512x32 2 (FloatOps.cmpfTotal (F := Ideal) (φ := .f32) .gt) x sliceFits_S8x512x4096_S8x512x32).2 (ix3 b q j)
      = BitVec.ofNat 32 (pick d j.val).val := top32_at (by decide) x _ d b q hd hx j

/-- One column of a table replaced. -/
theorem column_set {α : Type} (x : S8x512.Idx → α) (u : S8x1.Idx → α) (st : Fin 2 → Int) (h : S8x512.Slices (fun _ => 0) S8x1) (p : Fin 512)
    (h0 : st 0 = 0) (h1 : st 1 = (p.val : ℤ)) (b : Fin 8) (s : Fin 512) :
    Host.dynamicUpdateSlice x u st h (ix2 b s) = if s = p then u (ix2 b 0) else x (ix2 b s) := by
  have c0 : Host.clampedStart S8x512 S8x1 h.1 st (0 : Fin 2) = 0 := Host.clampedStart_of_le h.1 st (0 : Fin 2) 0 h0 (by show 0 + 8 ≤ 8; omega)
  have c1 : Host.clampedStart S8x512 S8x1 h.1 st (1 : Fin 2) = p.val :=
    Host.clampedStart_of_le h.1 st (1 : Fin 2) p.val h1 (by show p.val + 1 ≤ 512; have := p.isLt; omega)
  rw [Host.dynamicUpdateSlice_apply]
  by_cases e : s = p
  · subst e
    rw [if_pos rfl, dif_pos]
    · congr 1
      funext k
      apply Fin.ext
      fin_cases k
      · show b.val - Host.clampedStart S8x512 S8x1 h.1 st (0 : Fin 2) = b.val
        rw [c0]; rfl
      · show s.val - Host.clampedStart S8x512 S8x1 h.1 st (1 : Fin 2) = 0
        rw [c1]; exact Nat.sub_self _
    · intro a
      fin_cases a
      · have := b.isLt
        exact ⟨by simp [c0], by simp [c0]⟩
      · exact ⟨by simp [c1], by simp [c1]⟩
  · rw [if_neg e, dif_neg]
    intro hin
    have h2 := hin (1 : Fin 2)
    rw [c1] at h2
    have h3 : s.val < p.val + 1 := h2.2
    have h4 : p.val ≤ s.val := h2.1
    exact e (Fin.ext (by omega))

/-- A gather of one point per start index, a batch at a time, the index clamped into the batch. -/
theorem gather_point {α : Type} {Q : ℕ} (wf : GatherDims.WF S8x4096x3 ⟨3, ![8, Q, 1]⟩ ⟨3, ![8, Q, 3]⟩ [2] [1] [0] [1] [0] 2 ![1, 1, 3])
    (x : S8x4096x3.Idx → α) (idx : IVec ⟨3, ![8, Q, 1]⟩ 32) (b : Fin 8) (j : Fin Q) (a : Fin 3) :
    Host.gather (⟨[2], [1], [0], [0], [1], 2, ![1, 1, 3], wf⟩ : GatherDims S8x4096x3 ⟨3, ![8, Q, 1]⟩ ⟨3, ![8, Q, 3]⟩) x idx (ix3 b j a)
      = x (ix3 b ⟨min (idx (ix3 b j 0)).toInt.toNat 4095, by omega⟩ a) := by
  unfold Host.gather
  refine congrArg x (funext fun k => Fin.ext ?_)
  generalize hd : (⟨[2], [1], [0], [0], [1], 2, ![1, 1, 3], wf⟩ : GatherDims S8x4096x3 ⟨3, ![8, Q, 1]⟩ ⟨3, ![8, Q, 3]⟩) = dims
  show dims.start _ idx k + dims.batchCoord _ k + dims.offCoord _ k = _
  have hk : k = (0 : Fin 3) ∨ k = (1 : Fin 3) ∨ k = (2 : Fin 3) := by
    match k with
    | ⟨0, _⟩ => exact Or.inl rfl
    | ⟨1, _⟩ => exact Or.inr (Or.inl rfl)
    | ⟨2, _⟩ => exact Or.inr (Or.inr rfl)
  rcases hk with rfl | rfl | rfl
  · subst hd
    have hm : (0 : Fin 3) ∈ [(0 : Fin 3)] := by decide
    rw [GatherDims.start_batching _ _ _ _ hm, GatherDims.offCoord_eq_zero _ _ _ (fun h => ((GatherDims.mem_sKept _ _).mp h).2 hm)]
    unfold GatherDims.batchCoord
    rw [dif_pos hm]
    simp only [Nat.zero_add, Nat.add_zero]
    rfl
  · subst hd
    have hm : (1 : Fin 3) ∈ [(1 : Fin 3)] := by decide
    have hn : (1 : Fin 3) ∉ [(0 : Fin 3)] := by decide
    rw [GatherDims.batchCoord_eq_zero _ _ _ hn, GatherDims.offCoord_eq_zero _ _ _ (fun h => ((GatherDims.mem_sKept _ _).mp h).1 hm)]
    unfold GatherDims.start
    rw [dif_pos hm]
    simp only [Nat.add_zero]
    show min (BitVec.toInt (idx _)).toNat (4096 - 1) = min (BitVec.toInt (idx _)).toNat 4095
    congr 4
    funext c
    apply Fin.ext
    fin_cases c <;> rfl
  · subst hd
    have hm : (2 : Fin 3) ∉ [(1 : Fin 3)] := by decide
    have hn : (2 : Fin 3) ∉ [(0 : Fin 3)] := by decide
    unfold GatherDims.start
    rw [dif_neg hm, GatherDims.batchCoord_eq_zero _ _ _ hn]
    unfold GatherDims.offCoord
    rw [dif_pos ((GatherDims.mem_sKept _ _).mpr ⟨hm, hn⟩)]
    simp only [Nat.zero_add, Nat.add_zero]
    rfl

theorem gather_one {α : Type} (x : S8x4096x3.Idx → α) (idx : IVec S8x1x1 32) (b : Fin 8) (a : Fin 3) :
    Host.gather gather_S8x4096x3_S8x1x1_S8x1x3_2_1_0_0_1_2_113 x idx (ix3 b 0 a)
      = x (ix3 b ⟨min (idx (ix3 b 0 0)).toInt.toNat 4095, by omega⟩ a) := gather_point (Q := 1) _ x idx b 0 a

theorem gather_many {α : Type} (x : S8x4096x3.Idx → α) (idx : IVec S8x512x1 32) (b : Fin 8) (j : Fin 512) (a : Fin 3) :
    Host.gather gather_S8x4096x3_S8x512x1_S8x512x3_2_1_0_0_1_2_113 x idx (ix3 b j a)
      = x (ix3 b ⟨min (idx (ix3 b j 0)).toInt.toNat 4095, by omega⟩ a) := gather_point (Q := 512) _ x idx b j a

variable (V : Valuation τ sig (Elt Ideal))

/-- A batch's points. -/
noncomputable def points (x : Vec Ideal S8x4096x3 .f32) (b : Fin 8) (i : Fin 4096) (a : Fin 3) : EReal := x (ix3 b i a)

/-- The distance every point starts from. -/
noncomputable abbrev cap : EReal := Ideal.ofBits .f32 0x501502F9#32

theorem clamp_ofNat (z : Fin 4096) : (⟨min (BitVec.ofNat 32 z.val).toInt.toNat 4095, by omega⟩ : Fin 4096) = z := by
  apply Fin.ext
  have := z.isLt
  show min (BitVec.ofNat 32 z.val).toInt.toNat 4095 = z.val
  rw [toInt_ofNat z.val (by omega)]
  omega

theorem near_apply (x : Vec Ideal S8x4096x3 .f32) (z : Fin 8 → Fin 4096) (hx : V (Proc.devRef .tc main_v3_0) = x)
    (hz : ∀ b, V (Proc.devRef .tc main_v3_5) (ix1 b) = BitVec.ofNat 32 (z b).val) (b : Fin 8) (i : Fin 4096) :
    (res_main_while0b_v22 V : Vec Ideal S8x4096 .f32) (ix2 b i)
      = closer (points x b) (fun i => (V (Proc.devRef .tc main_v3_4) : Vec Ideal S8x4096 .f32) (ix2 b i)) (points x b (z b)) i := by
  unfold res_main_while0b_v22 res_main_while0b_v19 closer sqd points
  pointwise []
  simp only [gather_one]
  have hi : broadcastInDim S8x1x1 ![0, 1] bcast_S8x1_S8x1x1_0_1 (broadcastInDim S8x1 ![0] bcast_S8_S8x1_0 (V (Proc.devRef .tc main_v3_5))) (ix3 b 0 0)
      = BitVec.ofNat 32 (z b).val := by
    rw [← hz b]
    pointwise []
  simp only [hi, hx, clamp_ofNat, Fin.sum_univ_three]

/-- The carried buffers after `k` trips. -/
structure Inv (x : Vec Ideal S8x4096x3 .f32) (k : ℕ) (V : Valuation τ sig (Elt Ideal)) : Prop where
  cloud : V (Proc.devRef .tc main_v3_0) = x
  slot : V (Proc.devRef .tc main_v3_2) = fun _ => BitVec.ofNat 32 (k + 1)
  idxs : ∀ b (s : Fin 512), s.val ≤ k → V (Proc.devRef .tc main_v3_3) (ix2 b s) = BitVec.ofNat 32 (walk (points x b) cap s.val).2.val
  dists : ∀ b i, V (Proc.devRef .tc main_v3_4) (ix2 b i) = (walk (points x b) cap k).1 i
  last : ∀ b, V (Proc.devRef .tc main_v3_5) (ix1 b) = BitVec.ofNat 32 (walk (points x b) cap k).2.val

theorem near_walk {x : Vec Ideal S8x4096x3 .f32} {k : ℕ} (h : Inv x k V) (b : Fin 8) :
    (fun i => (res_main_while0b_v22 V : Vec Ideal S8x4096 .f32) (ix2 b i)) = (walk (points x b) cap (k + 1)).1 := by
  funext i
  rw [near_apply V x (fun b => (walk (points x b) cap k).2) h.cloud h.last b i,
    (funext (h.dists b) : (fun i => (V (Proc.devRef .tc main_v3_4) : Vec Ideal S8x4096 .f32) (ix2 b i)) = _)]
  rfl

theorem next_walk {x : Vec Ideal S8x4096x3 .f32} {k : ℕ} (h : Inv x k V) (b : Fin 8) :
    (res_main_while0b_v23 V : Vec Ideal S8 .i32) (ix1 b) = BitVec.ofNat 32 (walk (points x b) cap (k + 1)).2.val := by
  unfold res_main_while0b_v23
  pointwise []
  rw [top1_apply, near_walk V h b]
  rfl

theorem inv_step {x : Vec Ideal S8x4096x3 .f32} {k : ℕ} (hk : k < 511) (h : Inv x k V) : Inv x (k + 1) (STEP V) where
  cloud := (STEP_main_v3_0 V).trans h.cloud
  slot := by
    rw [STEP_main_v3_2]
    unfold step_main_v3_2
    rw [h.slot]
    funext j
    show BitVec.ofNat 32 (k + 1) + 1#32 = BitVec.ofNat 32 (k + 1 + 1)
    apply BitVec.eq_of_toNat_eq
    simp only [BitVec.toNat_add, BitVec.toNat_ofNat]
    omega
  idxs b s hs := by
    rw [STEP_main_v3_3]
    unfold step_main_v3_3
    refine (column_set _ _ _ _ ⟨k + 1, by omega⟩ rfl ?_ b s).trans ?_
    · show BitVec.toInt (select (cmpi .slt (V (Proc.devRef .tc main_v3_2)) (constantI S_ 32 0#32))
        (addi (id (V (Proc.devRef .tc main_v3_2))) (constantI S_ 32 512#32)) (V (Proc.devRef .tc main_v3_2)) (Shape.Idx.first h_S_)) = _
      rw [h.slot]
      have h0 : IntOp.cmpi .slt (BitVec.ofNat 32 (k + 1)) 0#32 = 0#1 := by
        rw [WordCmp.cmpi_slt_eq, toInt_ofNat _ (by omega)]
        have : ¬ ((k + 1 : ℕ) : ℤ) < (0#32 : BitVec 32).toInt := by
          show ¬ ((k + 1 : ℕ) : ℤ) < 0
          omega
        rw [decide_eq_false this]
        rfl
      show BitVec.toInt (Scalar.select (IntOp.cmpi .slt (BitVec.ofNat 32 (k + 1)) 0#32) _ (BitVec.ofNat 32 (k + 1))) = _
      rw [h0]
      exact toInt_ofNat _ (by omega)
    · by_cases e : s = ⟨k + 1, by omega⟩
      · rw [if_pos e, e]
        pointwise []
        exact next_walk V h b
      · rw [if_neg e]
        exact h.idxs b s (by have : s.val ≠ k + 1 := fun e' => e (Fin.ext e'); omega)
  dists b i := by
    rw [STEP_main_v3_4]
    exact congrFun (near_walk V h b) i
  last b := by
    rw [STEP_main_v3_5]
    exact next_walk V h b

variable (m : (ℓ : Loc nD τ sig) → Buf (Elt Ideal) ℓ) (c : Dev nD)

/-- The argument. -/
noncomputable abbrev arg : Vec Ideal S8x4096x3 .f32 := m ((c.tc : Thread nD τ).loc main_arg0)

theorem inv_entry : Inv (arg m c) 0 (entryContents preI m c) where
  cloud := by
    simp only [entryContents, afterL_cons, afterL_nil]
    after_reads_simp
    rfl
  slot := by
    simp only [entryContents, afterL_cons, afterL_nil]
    after_reads_simp
    rfl
  idxs b s hs := by
    have h0 : s.val = 0 := Nat.le_zero.mp hs
    rw [h0]
    simp only [entryContents, afterL_cons, afterL_nil]
    after_reads_simp
    rfl
  dists b i := by
    simp only [entryContents, afterL_cons, afterL_nil]
    after_reads_simp
    rfl
  last b := by
    simp only [entryContents, afterL_cons, afterL_nil]
    after_reads_simp
    rfl

theorem inv_iter : ∀ k, k ≤ 511 → Inv (arg m c) k (STEP^[k] (entryContents preI m c))
  | 0, _ => inv_entry m c
  | k + 1, hk => by
    rw [Function.iterate_succ_apply']
    exact inv_step _ (by omega) (inv_iter k (by omega))

theorem chosen (b : Fin 8) (j : Fin 512) (a : Fin 3) :
    Host.gather gather_S8x4096x3_S8x512x1_S8x512x3_2_1_0_0_1_2_113 (arg m c)
      (broadcastInDim S8x512x1 ![0, 1] bcast_S8x512_S8x512x1_0_1 ((STEP^[511] (entryContents preI m c)) (Proc.devRef .tc main_v3_3))) (ix3 b j a)
      = points (arg m c) b (walk (points (arg m c) b) cap j.val).2 a := by
  rw [gather_many]
  have hi : broadcastInDim S8x512x1 ![0, 1] bcast_S8x512_S8x512x1_0_1 ((STEP^[511] (entryContents preI m c)) (Proc.devRef .tc main_v3_3)) (ix3 b j 0)
      = BitVec.ofNat 32 (walk (points (arg m c) b) cap j.val).2.val := by
    rw [← (inv_iter m c 511 (le_refl _)).idxs b j (by have := j.isLt; omega)]
    pointwise []
  refine congrArg (fun k => points (arg m c) b k a) (Fin.ext ?_)
  exact (congrArg (fun w : BitVec 32 => min w.toInt.toNat 4095) hi).trans (congrArg Fin.val (clamp_ofNat _))

/-- The chosen points, as the reference returns them. -/
theorem ref_points (b : Fin 8) (j : Fin 512) (a : Fin 3) :
    (out_main_v5 (STEP^[511] (entryContents preI m c)) : Vec Ideal S8x512x3 .f32) (ix3 b j a)
      = points (arg m c) b (walk (points (arg m c) b) cap j.val).2 a := by
  unfold out_main_v5
  rw [iter_main_arg0 m c 511]
  exact chosen m c b j a

/-- The squared distances of a batch's points from a chosen point. -/
noncomputable def away (x : Vec Ideal S8x4096x3 .f32) (b : Fin 8) (j : Fin 512) (i : Fin 4096) : EReal :=
  sqd (points x b (walk (points x b) cap j.val).2) (points x b i)

/-- The nearest indices, as the reference returns them. -/
theorem ref_indices (b : Fin 8) (q : Fin 512) (j : Fin 32) (hfin : ∀ i, away (arg m c) b q i < ⊤) :
    (out_main_indices (STEP^[511] (entryContents preI m c)) : Vec Ideal S8x512x32 .i32) (ix3 b q j)
      = BitVec.ofNat 32 (pick (away (arg m c) b q) j.val).val := by
  unfold out_main_indices
  rw [iter_main_arg0 m c 511]
  refine top32_apply _ (away (arg m c) b q) b q hfin (fun i => ?_) j
  unfold away sqd
  pointwise []
  simp only [chosen m c, Fin.sum_univ_three]
  rfl

end Cert.Proof.GroupsRef
-- ==== Proof.GroupsValue.lean ====
/-
  The sampling and neighbour calls' claims: both programs choose the same points and the same nearest indices, the
  squared distances being finite.
-/
module

public import proofs.«01_k».proof.Defs
public import proofs.«01_k».proof.Proof.GroupsArrays
public import proofs.«01_k».proof.Proof.GroupsRef
public import proofs.«01_k».proof.Proof.Gen.Groups.Frame
public import proofs.«01_k».proof.Proof.Gen.Pre_finite_points
public import Idealize.ShloMosaic.Lib.ReduceAll
public import Idealize.ShloMosaic.Lib.Quiescent

@[expose] public section

noncomputable section

namespace Cert.Proof.Groups

open Idealize.ShloMosaic Idealize.ShloMosaic.Tactic Idealize.SL.Sem Idealize.SL Idealize.SL.RA Idealize.SL.BI Idealize.ShloMosaic.TcCoe
open scoped Idealize.SL.BI
open Idealize.SL.BI.BIBase Idealize.SL.BI.Laws Idealize.SL.ProofMode
open Idealize.ShloMosaic.Rounds
open Cert.GroupsIdeal Cert.GroupsIdeal.Gen Cert.Proof.Spec

local notation "𝕄" => MT nD τ sig Unit (Elt Ideal) ℕ (UR sig nD τ) ℕ

variable (m : (ℓ : Loc nD τ sig) → Buf (Elt Ideal) ℓ) (ρ : Dev nD → PrngReg)

/-! ## The run -/

set_option backward.isDefEq.respectTransparency.types false in
/-- Every execution ends with every lasting buffer at the contents the two calls and the transposes leave. -/
theorem run : θ_run (defs (F := Ideal)) (onTc (τ := τ) (main (F := Ideal))) ⟨m, fun _ => 0, ρ⟩ fun r =>
    ∀ c : Dev nD, ∀ b ∈ Pipeline.ucRefs τ sig, r.2.mem (c, b) = W5 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-! ## The precondition -/

theorem real_of_abs {x : EReal} (h : max x (-x) < ⊤) : ∃ r : ℝ, x = r := by
  induction x using EReal.rec with
  | bot => simp at h
  | coe r => exact ⟨r, rfl⟩
  | top => simp at h

/-- A finite argument's entries are real numbers. -/
theorem real_of_pre (h : Cert.Pre_GroupsIdeal_finite_points m) (c : Dev nD) (i : S8x4096x3.Idx) : ∃ r : ℝ, arg m c i = r := by
  have e := congrFun (h c) (fun a => a.elim0)
  have : Subsingleton Cert.Pre_finite_points.S_.Idx := ⟨fun a b => funext fun i => i.elim0⟩
  have e' := Host.reduce_andi_all _ _ _ _ _ e i
  refine real_of_abs ?_
  have e2 : BitVec.ofBool (decide (max (arg m c i) (-(arg m c i)) < Ideal.ofBits .f32 2139095040#32)) = 1#1 := e'
  rw [word_top] at e2
  by_contra hn
  rw [decide_eq_false hn] at e2
  exact absurd e2 (by decide)

theorem sqd_real {p q : Fin 3 → EReal} (hp : ∀ a, ∃ r : ℝ, p a = r) (hq : ∀ a, ∃ r : ℝ, q a = r) :
    sqd p q = sqd q p ∧ sqd q p < ⊤ := by
  obtain ⟨p0, h0⟩ := hp 0
  obtain ⟨p1, h1⟩ := hp 1
  obtain ⟨p2, h2⟩ := hp 2
  obtain ⟨q0, k0⟩ := hq 0
  obtain ⟨q1, k1⟩ := hq 1
  obtain ⟨q2, k2⟩ := hq 2
  unfold sqd
  rw [h0, h1, h2, k0, k1, k2]
  norm_cast
  refine ⟨?_, EReal.coe_lt_top _⟩
  ring

/-! ## The claims -/

theorem frame_groupsIdeal : Cert.quiescent_GroupsIdeal := fun m ρ _ => Cert.GroupsIdeal.Gen.frame m ρ

theorem frame_groupsIdeal_finite : Cert.quiescent_GroupsIdeal_pre_finite_points := fun m ρ _ => Cert.GroupsIdeal.Gen.frame m ρ

theorem frame_groups : Cert.quiescent_Groups := fun m ρ _ => Cert.Groups.Gen.frame m ρ

theorem frame_reference : Cert.quiescent_GroupsReferenceIdeal := fun m ρ _ =>
  (θ_run Cert.GroupsReferenceIdeal.defs _ _).mono (fun r h => ⟨fun c => (h c).2.2, sem_eq_zero_of_no_sems (by decide) r.2⟩)
    (Cert.GroupsReferenceIdeal.Value.run (F := Ideal) m ρ)

theorem frame_reference_finite : Cert.quiescent_GroupsReferenceIdeal_pre_finite_points := fun m ρ _ =>
  (θ_run Cert.GroupsReferenceIdeal.defs _ _).mono (fun r h => ⟨fun c => (h c).2.2, sem_eq_zero_of_no_sems (by decide) r.2⟩)
    (Cert.GroupsReferenceIdeal.Value.run (F := Ideal) m ρ)

variable (m' : (ℓ : Loc Cert.GroupsReferenceIdeal.nD Cert.GroupsReferenceIdeal.τ Cert.GroupsReferenceIdeal.sig) → Buf (Elt Ideal) ℓ)

/-- The reference's arguments are the program's. -/
abbrev Agree (c : Dev nD) : Prop :=
  m' ((c.tc : Thread Cert.GroupsReferenceIdeal.nD Cert.GroupsReferenceIdeal.τ).loc Cert.GroupsReferenceIdeal.main_arg0)
    = m ((c.tc : Thread Cert.GroupsIdeal.nD Cert.GroupsIdeal.τ).loc Cert.GroupsIdeal.main_arg0)

theorem points_agree {c : Dev nD} (h : Agree m m' c) : GroupsRef.points (GroupsRef.arg m' c) = points m c := by
  funext b i a
  exact congrFun h (ix3 b i a)

theorem same_points {c : Dev nD} (h : Agree m m' c) :
    (Cert.GroupsReferenceIdeal.Value.out_main_v5 (Cert.GroupsReferenceIdeal.Value.STEP^[511]
      (StableHlo.entryContents Cert.GroupsReferenceIdeal.Value.preI m' c)) : Vec Ideal S8x512x3 .f32)
      = W5 m ρ c (Proc.devRef .tc main_v5) := by
  funext i
  obtain ⟨b, q, a, rfl⟩ := coords3 (l := 8) (m := 512) (n := 3) i
  refine (GroupsRef.ref_points m' c b q a).trans (Eq.trans ?_ (chosen_out m ρ c b q a).symm)
  rw [points_agree m m' h]
  rfl

theorem same_indices {c : Dev nD} (h : Agree m m' c) (hpre : Cert.Pre_GroupsIdeal_finite_points m) :
    (Cert.GroupsReferenceIdeal.Value.out_main_indices (Cert.GroupsReferenceIdeal.Value.STEP^[511]
      (StableHlo.entryContents Cert.GroupsReferenceIdeal.Value.preI m' c)) : Vec Ideal S8x512x32 .i32)
      = W5 m ρ c (Proc.devRef .tc main_v4) := by
  have hp : ∀ b i a, ∃ r : ℝ, points m c b i a = r := fun b i a => real_of_pre m hpre c (ix3 b i a)
  funext i
  obtain ⟨b, q, j, rfl⟩ := coords3 (l := 8) (m := 512) (n := 32) i
  have e : GroupsRef.away (GroupsRef.arg m' c) b q = fun k => sqd (points m c b k) fun a => chosen m c (ix3 a b q) := by
    funext k
    unfold GroupsRef.away
    rw [points_agree m m' h]
    exact (sqd_real (hp b _) (hp b k)).1
  refine (GroupsRef.ref_indices m' c b q j ?_).trans (Eq.trans ?_ (nearest_out m ρ c b q j).symm)
  · intro k
    rw [e]
    exact (sqd_real (hp b _) (hp b k)).2
  · rw [e]
    rfl

theorem algebraic : Cert.algebraic_GroupsIdeal_GroupsReferenceIdeal_pre_finite_points := by
  intro m ρ m' ρ' hpre hagree
  refine ⟨fun c => W5 m ρ c (Proc.devRef .tc main_v5), fun c => W5 m ρ c (Proc.devRef .tc main_v4), ?_, ?_⟩
  · exact (θ_run Cert.GroupsIdeal.defs _ _).mono (fun _ h c => ⟨h c _ (mem_uc main_v5 (by decide)), h c _ (mem_uc main_v4 (by decide)),
      (h c _ (mem_uc main_arg0 (by decide))).trans (W5_main_arg0 m ρ c)⟩) (run m ρ)
  · exact (θ_run Cert.GroupsReferenceIdeal.defs _ _).mono (fun _ h c => ⟨(h c).1.trans (same_points m ρ m' (hagree c)),
      (h c).2.1.trans (same_indices m ρ m' (hagree c) hpre), (h c).2.2⟩) (Cert.GroupsReferenceIdeal.Value.run (F := Ideal) m' ρ')

end Cert.Proof.Groups

end
-- ==== Proof.Dense.lean ====
/-
  The mathematics of the dense layers, on plain functions of an index.

  * `dense` is a layer as the reference has it: the product with the weights plus the bias, divided by the root of the
    variance, times `gamma`, plus `beta`, and the positive part of that;
  * `folded` is a layer with `gamma` and the inverse root multiplied into the weights and the bias;
  * `opened` is the first layer so folded: rows and weights have 61 more channels (the weights zero there), and the centre's
    product is subtracted from the sum, where the reference subtracts the centre from the row;
  * on real rows, weights and scales the folded layers are the dense ones.
-/
module

public import Idealize.ShloMosaic.Lib.Pointwise
public import Idealize.ShloMosaic.PureOps.Ideal

@[expose] public section

namespace Cert.Proof.Dense

open Idealize.ShloMosaic

/-- The inverse root of the variance. -/
noncomputable def root : ℝ := (Real.sqrt (1001 / 1000))⁻¹

/-- The variance's root, as the reference computes it. -/
noncomputable def dev : EReal := Ideal.sqrt (Ideal.div (Ideal.ofBits .f32 0x447A4000#32) (Ideal.ofBits .f32 0x447A0000#32))

theorem word_1001 : Ideal.ofBits .f32 0x447A4000#32 = ((1001 : ℝ) : EReal) := by
  simp [Ideal.ofBits, Ideal.ieee, -EReal.coe_mul]; norm_num

theorem word_1000 : Ideal.ofBits .f32 0x447A0000#32 = ((1000 : ℝ) : EReal) := by
  simp [Ideal.ofBits, Ideal.ieee, -EReal.coe_mul]; norm_num

theorem dev_eq : dev = ((Real.sqrt (1001 / 1000) : ℝ) : EReal) := by
  unfold dev
  rw [word_1001, word_1000, Ideal.div_coe (by norm_num), ← EReal.coe_mul, Ideal.sqrt_coe, if_neg (by norm_num)]
  norm_num

theorem div_dev (x : EReal) : Ideal.div x dev = x * (root : EReal) := by
  have h : Real.sqrt (1001 / 1000) ≠ 0 := (Real.sqrt_pos.mpr (by norm_num)).ne'
  rw [dev_eq, Ideal.div_coe h, one_div]
  rfl

/-! ## Layers -/

section Layers

variable {n m : ℕ}

noncomputable def dense (x : Fin n → EReal) (w : Fin n → Fin m → EReal) (b g e : Fin m → EReal) (o : Fin m) : EReal :=
  max (Ideal.div ((∑ c, x c * w c o) + b o) dev * g o + e o) 0

noncomputable def folded (x : Fin n → EReal) (w : Fin n → Fin m → EReal) (b g e : Fin m → EReal) (o : Fin m) : EReal :=
  max ((∑ c, x c * (w c o * (g o * (root : EReal)))) + (b o * (g o * (root : EReal)) + e o)) 0

noncomputable def opened (f : Fin 128 → EReal) (q : Fin 3 → EReal) (w : Fin 128 → Fin m → EReal) (b g e : Fin m → EReal) (o : Fin m) :
    EReal :=
  max ((∑ c, f c * (w c o * (g o * (root : EReal)))) + (b o * (g o * (root : EReal)) + e o)
    - ∑ a : Fin 3, q a * (w ⟨a.val, by omega⟩ o * (g o * (root : EReal)))) 0

/-- A row with the centre subtracted. -/
noncomputable def centred (f : Fin 67 → EReal) (q : Fin 3 → EReal) (c : Fin 67) : EReal :=
  if h : c.val < 3 then f c - q ⟨c.val, h⟩ else f c

/-- Weights with 61 rows of zeros below. -/
noncomputable def padded (w : Fin 67 → Fin m → EReal) (c : Fin 128) (o : Fin m) : EReal :=
  if h : c.val < 67 then w ⟨c.val, h⟩ o else 0

end Layers

/-! ## Real values -/

theorem coe_sum {n : ℕ} (f : Fin n → ℝ) : (∑ c, (f c : EReal)) = ((∑ c, f c : ℝ) : EReal) :=
  (map_sum (⟨⟨fun r : ℝ => (r : EReal), rfl⟩, fun a b => EReal.coe_add a b⟩ : ℝ →+ EReal) f Finset.univ).symm

theorem add_mul_real (x : ℝ) (b : EReal) (s : ℝ) : ((x : EReal) + b) * (s : EReal) = x * s + b * s := by
  induction b using EReal.rec with
  | coe r => norm_cast; ring
  | bot =>
    rcases lt_trichotomy s 0 with h | h | h
    · rw [EReal.add_bot, EReal.bot_mul_coe_of_neg h, ← EReal.coe_mul, EReal.coe_add_top]
    · subst h; simp
    · rw [EReal.add_bot, EReal.bot_mul_coe_of_pos h, EReal.add_bot]
  | top =>
    rcases lt_trichotomy s 0 with h | h | h
    · rw [EReal.coe_add_top, EReal.top_mul_coe_of_neg h, EReal.add_bot]
    · subst h; simp
    · rw [EReal.coe_add_top, EReal.top_mul_coe_of_pos h, ← EReal.coe_mul, EReal.coe_add_top]

section Equal

variable {n m : ℕ}

theorem folded_eq (x : Fin n → EReal) (w : Fin n → Fin m → EReal) (b g e : Fin m → EReal) (o : Fin m)
    (hx : ∀ c, ∃ r : ℝ, x c = r) (hw : ∀ c, ∃ r : ℝ, w c o = r) (hg : ∃ r : ℝ, g o = r) :
    folded x w b g e o = dense x w b g e o := by
  choose x' hx using hx
  choose w' hw using hw
  obtain ⟨g', hg⟩ := hg
  unfold folded dense
  rw [div_dev, hg, mul_assoc, mul_comm (root : EReal) (g' : EReal)]
  simp only [hx, hw, ← EReal.coe_mul]
  rw [coe_sum, coe_sum, add_mul_real, ← EReal.coe_mul, add_assoc, Finset.sum_mul]
  simp only [mul_assoc]

theorem dense_real (x : Fin n → EReal) (w : Fin n → Fin m → EReal) (b g e : Fin m → EReal) (o : Fin m)
    (hx : ∀ c, ∃ r : ℝ, x c = r) (hw : ∀ c, ∃ r : ℝ, w c o = r) (hb : ∃ r : ℝ, b o = r) (hg : ∃ r : ℝ, g o = r)
    (he : ∃ r : ℝ, e o = r) : ∃ r : ℝ, dense x w b g e o = r := by
  choose x' hx using hx
  choose w' hw using hw
  obtain ⟨g', hg⟩ := hg
  obtain ⟨b', hb⟩ := hb
  obtain ⟨e', he⟩ := he
  unfold dense
  rw [div_dev, hg, hb, he]
  simp only [hx, hw, ← EReal.coe_mul]
  rw [coe_sum]
  refine ⟨max (((∑ c, x' c * w' c) + b') * root * g' + e') 0, ?_⟩
  norm_cast

theorem opened_eq (f : Fin 128 → EReal) (q : Fin 3 → EReal) (w : Fin 67 → Fin m → EReal) (b g e : Fin m → EReal) (o : Fin m)
    (hf : ∀ c : Fin 67, ∃ r : ℝ, f ⟨c.val, by omega⟩ = r) (hq : ∀ a, ∃ r : ℝ, q a = r) (hw : ∀ c, ∃ r : ℝ, w c o = r)
    (hb : ∃ r : ℝ, b o = r) (hg : ∃ r : ℝ, g o = r) (he : ∃ r : ℝ, e o = r) :
    opened f q (padded w) b g e o = dense (centred (fun c => f ⟨c.val, by omega⟩) q) w b g e o := by
  choose f' hf using hf
  choose q' hq using hq
  choose w' hw using hw
  obtain ⟨g', hg⟩ := hg
  obtain ⟨b', hb⟩ := hb
  obtain ⟨e', he⟩ := he
  have h1 : (∑ c : Fin 128, f c * (padded w c o * (g o * (root : EReal)))) = ((∑ c : Fin 67, f' c * (w' c * (g' * root)) : ℝ) : EReal) := by
    rw [← coe_sum, Fin.sum_univ_add (a := 67) (b := 61) (fun c : Fin 128 => f c * (padded w c o * (g o * (root : EReal))))]
    have h0 : (∑ c : Fin 61, f (Fin.natAdd 67 c) * (padded w (Fin.natAdd 67 c) o * (g o * (root : EReal)))) = 0 := by
      refine Finset.sum_eq_zero fun c _ => ?_
      unfold padded
      rw [dif_neg (by simp), zero_mul, mul_zero]
    refine (congrArg _ h0).trans ((add_zero _).trans (Finset.sum_congr rfl fun c _ => ?_))
    unfold padded
    rw [dif_pos (show (Fin.castAdd 61 c).val < 67 from c.isLt)]
    refine (congrArg₂ (· * ·) (hf c) (congrArg₂ (· * ·) (hw c) (congrArg (· * (root : EReal)) hg))).trans ?_
    norm_cast
  have h2 : (∑ a : Fin 3, q a * (padded w ⟨a.val, by omega⟩ o * (g o * (root : EReal))))
      = ((∑ a : Fin 3, q' a * (w' ⟨a.val, by omega⟩ * (g' * root)) : ℝ) : EReal) := by
    rw [← coe_sum]
    refine Finset.sum_congr rfl fun a _ => ?_
    unfold padded
    rw [dif_pos (show a.val < 67 by omega), hq, hw, hg]
    norm_cast
  have h3 : (∑ c : Fin 67, centred (fun c => f ⟨c.val, by omega⟩) q c * w c o)
      = ((∑ c : Fin 67, f' c * w' c - ∑ a : Fin 3, q' a * w' ⟨a.val, by omega⟩ : ℝ) : EReal) := by
    have e1 : ∀ c : Fin 67, centred (fun c => f ⟨c.val, by omega⟩) q c * w c o
        = ((f' c * w' c - (if h : c.val < 3 then q' ⟨c.val, h⟩ else 0) * w' c : ℝ) : EReal) := by
      intro c
      unfold centred
      dsimp only
      by_cases h : c.val < 3
      · rw [dif_pos h, dif_pos h, hf, hq, hw]
        norm_cast
        ring
      · rw [dif_neg h, dif_neg h, hf, hw, zero_mul, sub_zero]
        norm_cast
    simp only [e1]
    rw [coe_sum, Finset.sum_sub_distrib]
    congr 2
    rw [Fin.sum_univ_add (a := 3) (b := 64) (fun c : Fin 67 => (if h : c.val < 3 then q' ⟨c.val, h⟩ else 0) * w' c)]
    refine (congrArg₂ (· + ·) (Finset.sum_congr rfl fun a _ => ?_) (Finset.sum_eq_zero fun c _ => ?_)).trans (add_zero _)
    · rw [dif_pos (show (Fin.castAdd 64 a).val < 3 from a.isLt)]
      rfl
    · rw [dif_neg (by simp), zero_mul]
  unfold opened dense
  rw [h1, h2, h3, div_dev, hb, hg, he]
  norm_cast
  congr 1
  simp only [← mul_assoc, ← Finset.sum_mul]
  norm_cast
  ring

end Equal

/-- The three layers, folded and open at the first, are the dense layers over the centred row, the entries being real. -/
theorem layers_eq {m n l : ℕ} (f : Fin 128 → EReal) (q : Fin 3 → EReal) (w : Fin 67 → Fin m → EReal) (b g e : Fin m → EReal)
    (w1 : Fin m → Fin n → EReal) (b1 g1 e1 : Fin n → EReal) (w2 : Fin n → Fin l → EReal) (b2 g2 e2 : Fin l → EReal) (o : Fin l)
    (hf : ∀ c : Fin 67, ∃ r : ℝ, f ⟨c.val, by omega⟩ = r) (hq : ∀ a, ∃ r : ℝ, q a = r) (hw : ∀ c o, ∃ r : ℝ, w c o = r)
    (hb : ∀ o, ∃ r : ℝ, b o = r) (hg : ∀ o, ∃ r : ℝ, g o = r) (he : ∀ o, ∃ r : ℝ, e o = r)
    (hw1 : ∀ c o, ∃ r : ℝ, w1 c o = r) (hb1 : ∀ o, ∃ r : ℝ, b1 o = r) (hg1 : ∀ o, ∃ r : ℝ, g1 o = r) (he1 : ∀ o, ∃ r : ℝ, e1 o = r)
    (hw2 : ∀ c o, ∃ r : ℝ, w2 c o = r) (hg2 : ∀ o, ∃ r : ℝ, g2 o = r) :
    folded (folded (opened f q (padded w) b g e) w1 b1 g1 e1) w2 b2 g2 e2 o
      = dense (dense (dense (centred (fun c => f ⟨c.val, by omega⟩) q) w b g e) w1 b1 g1 e1) w2 b2 g2 e2 o := by
  have hc : ∀ j, ∃ x : ℝ, centred (fun c : Fin 67 => f ⟨c.val, by omega⟩) q j = x := by
    intro j
    obtain ⟨x, hx⟩ := hf j
    unfold centred
    by_cases hj : j.val < 3
    · obtain ⟨y, hy⟩ := hq ⟨j.val, hj⟩
      refine ⟨x - y, ?_⟩
      rw [dif_pos hj]
      exact (congrArg₂ (· - ·) hx hy).trans (EReal.coe_sub x y).symm
    · exact ⟨x, (dif_neg hj).trans hx⟩
  have e0 : opened f q (padded w) b g e = dense (centred (fun c => f ⟨c.val, by omega⟩) q) w b g e :=
    funext fun o => opened_eq f q w b g e o hf hq (fun c => hw c o) (hb o) (hg o) (he o)
  have h0 := fun o => dense_real _ w b g e o hc (fun c => hw c o) (hb o) (hg o) (he o)
  have h1 := fun o => dense_real _ w1 b1 g1 e1 o h0 (fun c => hw1 c o) (hb1 o) (hg1 o) (he1 o)
  have k1 : folded (dense (centred (fun c => f ⟨c.val, by omega⟩) q) w b g e) w1 b1 g1 e1
      = dense (dense (centred (fun c => f ⟨c.val, by omega⟩) q) w b g e) w1 b1 g1 e1 :=
    funext fun o => folded_eq _ w1 b1 g1 e1 o h0 (fun c => hw1 c o) (hg1 o)
  rw [e0, k1]
  exact folded_eq _ w2 b2 g2 e2 o h1 (fun c => hw2 c o) (hg2 o)

end Cert.Proof.Dense
-- ==== Proof.PointsStep.lean ====
/-
  The dense layers' call: what a grid point stores of its blocks.
-/
module

public import proofs.«01_k».proof.Proof.Dense
public import proofs.«01_k».proof.Proof.Gen.PointsIdeal.Frame
public import Idealize.ShloMosaic.Lib.Pointwise
public import Idealize.ShloMosaic.Lib.Pipeline.ValueKit

@[expose] public section

namespace Cert.Proof.Mlp

open Idealize.ShloMosaic Cert.PointsIdeal Cert.PointsIdeal.Gen Cert.Proof.Dense

theorem root_word : Named.named (F := Ideal) Cert.PointsIdeal.κ "rs" (φ := .f32) 0x3F7FDF42#32 = (root : EReal) :=
  IdealRules.named_const.ideal_named_scalar _ _ _ _ rfl

/-- The block stored, at a point and a channel. -/
theorem stored_apply (x0 : Vec Ideal S4096x128 .f32) (x1 : Vec Ideal S1x3x128 .f32) (x2 : Vec Ideal S128x128 .f32)
    (x3 : Vec Ideal S128x128 .f32) (x4 : Vec Ideal S128x256 .f32) (x5 x6 x7 x8 x9 x10 : Vec Ideal S1x128 .f32)
    (x11 x12 x13 : Vec Ideal S1x256 .f32) (q : Fin 128) (o : Fin 256) :
    k0_pay1 (k0_pay4 x12) (k0_pay5 x6 x2) (k0_pay6 x9 x3) (k0_pay7 x12 x4) (k0_pay8 x6 x5 x7) (k0_pay9 x9 x8 x10) x11 x13 x1 x0 (ix3 0 q o)
      = (Finset.univ : Finset (Fin 32)).fold max (Ideal.ofBits .f32 0xFF800000#32) fun k =>
        folded (folded (opened (fun c => x0 (ix2 ⟨q.val * 32 + k.val, by omega⟩ c)) (fun a => x1 (ix3 0 a q))
            (fun c o => x2 (ix2 c o)) (fun o => x5 (ix2 0 o)) (fun o => x6 (ix2 0 o)) fun o => x7 (ix2 0 o))
          (fun c o => x3 (ix2 c o)) (fun o => x8 (ix2 0 o)) (fun o => x9 (ix2 0 o)) fun o => x10 (ix2 0 o))
          (fun c o => x4 (ix2 c o)) (fun o => x11 (ix2 0 o)) (fun o => x12 (ix2 0 o)) (fun o => x13 (ix2 0 o)) o := by
  unfold folded opened
  simp only [← root_word]
  pointwise [k0_pay1, k0_pay2, k0_pay3, k0_pay4, k0_pay5, k0_pay6, k0_pay7, k0_pay8, k0_pay9]

theorem out_apply (x0 : Vec Ideal S4096x128 .f32) (x1 : Vec Ideal S1x3x128 .f32) (x2 : Vec Ideal S128x128 .f32)
    (x3 : Vec Ideal S128x128 .f32) (x4 : Vec Ideal S128x256 .f32) (x5 x6 x7 x8 x9 x10 : Vec Ideal S1x128 .f32)
    (x11 x12 x13 : Vec Ideal S1x256 .f32) (q : Fin 128) (o : Fin 256) :
    out0_14 x0 x1 x2 x3 x4 x5 x6 x7 x8 x9 x10 x11 x12 x13 (ix3 0 q o)
      = (Finset.univ : Finset (Fin 32)).fold max (Ideal.ofBits .f32 0xFF800000#32) fun k =>
        folded (folded (opened (fun c => x0 (ix2 ⟨q.val * 32 + k.val, by omega⟩ c)) (fun a => x1 (ix3 0 a q))
            (fun c o => x2 (ix2 c o)) (fun o => x5 (ix2 0 o)) (fun o => x6 (ix2 0 o)) fun o => x7 (ix2 0 o))
          (fun c o => x3 (ix2 c o)) (fun o => x8 (ix2 0 o)) (fun o => x9 (ix2 0 o)) fun o => x10 (ix2 0 o))
          (fun c o => x4 (ix2 c o)) (fun o => x11 (ix2 0 o)) (fun o => x12 (ix2 0 o)) (fun o => x13 (ix2 0 o)) o := by
  rw [← stored_apply]
  frame_out

end Cert.Proof.Mlp
-- ==== Proof.PointsArrays.lean ====
/-
  The dense layers' call over its arrays: the result array at a batch, a point and a channel.
-/
module

public import proofs.«01_k».proof.Proof.PointsStep
public import proofs.«01_k».proof.Proof.Gen.PointsIdeal.Value
public import Idealize.ShloMosaic.Lib.StableHlo.RunRead

@[expose] public section

noncomputable section

namespace Cert.Proof.Mlp

open Idealize.ShloMosaic Idealize.ShloMosaic.TcCoe Cert.PointsIdeal Cert.PointsIdeal.Gen Cert.Proof.Dense

/-! Which block of an array a grid point has, entry by entry, and what the arrays hold before the call. -/

variable (m : (ℓ : Loc nD τ sig) → Buf (Elt Ideal) ℓ) (c : Dev nD)

/-! ## The arguments -/

noncomputable abbrev a0 : FVec Ideal S131072x128 .f32 := m ((c.tc : Thread nD τ).loc main_arg0)
noncomputable abbrev a1 : FVec Ideal S8x3x512 .f32 := m ((c.tc : Thread nD τ).loc main_arg1)
noncomputable abbrev a2 : FVec Ideal S67x128 .f32 := m ((c.tc : Thread nD τ).loc main_arg2)
noncomputable abbrev a3 : FVec Ideal S128 .f32 := m ((c.tc : Thread nD τ).loc main_arg3)
noncomputable abbrev a4 : FVec Ideal S128 .f32 := m ((c.tc : Thread nD τ).loc main_arg4)
noncomputable abbrev a5 : FVec Ideal S128 .f32 := m ((c.tc : Thread nD τ).loc main_arg5)
noncomputable abbrev a6 : FVec Ideal S128x128 .f32 := m ((c.tc : Thread nD τ).loc main_arg6)
noncomputable abbrev a7 : FVec Ideal S128 .f32 := m ((c.tc : Thread nD τ).loc main_arg7)
noncomputable abbrev a8 : FVec Ideal S128 .f32 := m ((c.tc : Thread nD τ).loc main_arg8)
noncomputable abbrev a9 : FVec Ideal S128 .f32 := m ((c.tc : Thread nD τ).loc main_arg9)
noncomputable abbrev a10 : FVec Ideal S128x256 .f32 := m ((c.tc : Thread nD τ).loc main_arg10)
noncomputable abbrev a11 : FVec Ideal S256 .f32 := m ((c.tc : Thread nD τ).loc main_arg11)
noncomputable abbrev a12 : FVec Ideal S256 .f32 := m ((c.tc : Thread nD τ).loc main_arg12)
noncomputable abbrev a13 : FVec Ideal S256 .f32 := m ((c.tc : Thread nD τ).loc main_arg13)

/-! ## The blocks -/

theorem coords3 {l n k : ℕ} (y : (⟨3, ![l, n, k]⟩ : Shape).Idx) : ∃ (a : Fin l) (b : Fin n) (d : Fin k), y = ix3 a b d :=
  ⟨y 0, y 1, y 2, by funext i; fin_cases i <;> rfl⟩

/-- The batch of a grid point. -/
def batch (t : Fin cfg0.N) : Fin 8 := grid0.coords t 0

/-- The quarter of a batch's points at a grid point. -/
def quarter (t : Fin cfg0.N) : Fin 4 := grid0.coords t 1

theorem batch_val (t : Fin cfg0.N) : (grid0.coords t 0).val = (batch t).val := rfl
theorem quarter_val (t : Fin cfg0.N) : (grid0.coords t 1).val = (quarter t).val := rfl

/-- A point's place in its batch. -/
def place (s : Fin 4) (q : Fin 128) : Fin 512 := ⟨s.val * 128 + q.val, by omega⟩

/-- A row's place in the table of rows. -/
def spot (b : Fin 8) (s : Fin 512) (k : Fin 32) : Fin 131072 := ⟨b.val * 16384 + s.val * 32 + k.val, by omega⟩

theorem at0 : ∀ t : Fin cfg0.N, win0_0.index t = ![(grid0.coords t 0).val * 4 + (grid0.coords t 1).val, 0] :=
  (by decide +kernel : ∀ t : Fin grid0.N, _)
theorem at1 : ∀ t : Fin cfg0.N, win0_1.index t = ![(grid0.coords t 0).val, 0, (grid0.coords t 1).val] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0] := (by decide +kernel : ∀ t : Fin grid0.N, _)
theorem at12 : ∀ t : Fin cfg0.N, win0_12.index t = ![0, 0] := (by decide +kernel : ∀ t : Fin grid0.N, _)
theorem at13 : ∀ t : Fin cfg0.N, win0_13.index t = ![0, 0] := (by decide +kernel : ∀ t : Fin grid0.N, _)
theorem at14 : ∀ t : Fin cfg0.N, win0_14.index t = ![(grid0.coords t 0).val, (grid0.coords t 1).val, 0] := (by decide +kernel : ∀ t : Fin grid0.N, _)

theorem row_at (t : Fin cfg0.N) (q : Fin 128) (k : Fin 32) (ch : Fin 128) :
    (iblk m c 0 t : Vec Ideal S4096x128 .f32) (ix2 ⟨q.val * 32 + k.val, by omega⟩ ch)
      = a0 m c (ix2 (spot (batch t) (place (quarter t) q) k) ch) := by
  have h : (iblk m c 0 t : Vec Ideal S4096x128 .f32) (ix2 ⟨q.val * 32 + k.val, by omega⟩ ch)
      = (V m c main_arg0 : Vec Ideal S131072x128 .f32) (ix2 (spot (batch t) (place (quarter t) q) k) ch) := by
    unfold iblk spot place
    rw [View.read_apply]
    blk_ext [at0, batch_val, quarter_val]
  rw [h, V_main_arg0]

theorem centre_at (t : Fin cfg0.N) (a : Fin 3) (q : Fin 128) :
    (iblk m c 1 t : Vec Ideal S1x3x128 .f32) (ix3 0 a q) = a1 m c (ix3 (batch t) a (place (quarter t) q)) := by
  have h : (iblk m c 1 t : Vec Ideal S1x3x128 .f32) (ix3 0 a q)
      = (V m c main_arg1 : Vec Ideal S8x3x512 .f32) (ix3 (batch t) a (place (quarter t) q)) := by
    unfold iblk place
    rw [View.read_apply]
    blk_ext [at1, batch_val, quarter_val]
  rw [h, V_main_arg1]

theorem w0_at (t : Fin cfg0.N) (k o : Fin 128) :
    (iblk m c 2 t : Vec Ideal S128x128 .f32) (ix2 k o) = padded (fun k o => a2 m c (ix2 k o)) k o := by
  have h : (V m c main_v1 : Vec Ideal S128x128 .f32) (ix2 k o) = padded (fun k o => a2 m c (ix2 k o)) k o := by
    unfold V padded
    dsimp only [hostOps0]
    after_reads_simp
    pointwise []
  rw [← h]
  unfold iblk
  rw [View.read_apply]
  blk_ext [at2]

theorem w1_at (t : Fin cfg0.N) (k o : Fin 128) : (iblk m c 3 t : Vec Ideal S128x128 .f32) (ix2 k o) = a6 m c (ix2 k o) := by
  have h : (iblk m c 3 t : Vec Ideal S128x128 .f32) (ix2 k o) = (V m c main_arg6 : Vec Ideal S128x128 .f32) (ix2 k o) := by
    unfold iblk
    rw [View.read_apply]
    blk_ext [at3]
  rw [h, V_main_arg6]

theorem w2_at (t : Fin cfg0.N) (k : Fin 128) (o : Fin 256) : (iblk m c 4 t : Vec Ideal S128x256 .f32) (ix2 k o) = a10 m c (ix2 k o) := by
  have h : (iblk m c 4 t : Vec Ideal S128x256 .f32) (ix2 k o) = (V m c main_arg10 : Vec Ideal S128x256 .f32) (ix2 k o) := by
    unfold iblk
    rw [View.read_apply]
    blk_ext [at4]
  rw [h, V_main_arg10]

theorem vec5 (t : Fin cfg0.N) (o : Fin 128) : (iblk m c 5 t : Vec Ideal S1x128 .f32) (ix2 0 o) = a3 m c (ix1 o) := by
  have h : (V m c main_v2 : Vec Ideal S1x128 .f32) (ix2 0 o) = a3 m c (ix1 o) := by
    unfold V
    dsimp only [hostOps0]
    after_reads_simp
    pointwise []
  rw [← h]
  unfold iblk
  rw [View.read_apply]
  blk_ext [at5]

theorem vec6 (t : Fin cfg0.N) (o : Fin 128) : (iblk m c 6 t : Vec Ideal S1x128 .f32) (ix2 0 o) = a4 m c (ix1 o) := by
  have h : (V m c main_v3 : Vec Ideal S1x128 .f32) (ix2 0 o) = a4 m c (ix1 o) := by
    unfold V
    dsimp only [hostOps0]
    after_reads_simp
    pointwise []
  rw [← h]
  unfold iblk
  rw [View.read_apply]
  blk_ext [at6]

theorem vec7 (t : Fin cfg0.N) (o : Fin 128) : (iblk m c 7 t : Vec Ideal S1x128 .f32) (ix2 0 o) = a5 m c (ix1 o) := by
  have h : (V m c main_v4 : Vec Ideal S1x128 .f32) (ix2 0 o) = a5 m c (ix1 o) := by
    unfold V
    dsimp only [hostOps0]
    after_reads_simp
    pointwise []
  rw [← h]
  unfold iblk
  rw [View.read_apply]
  blk_ext [at7]

theorem vec8 (t : Fin cfg0.N) (o : Fin 128) : (iblk m c 8 t : Vec Ideal S1x128 .f32) (ix2 0 o) = a7 m c (ix1 o) := by
  have h : (V m c main_v5 : Vec Ideal S1x128 .f32) (ix2 0 o) = a7 m c (ix1 o) := by
    unfold V
    dsimp only [hostOps0]
    after_reads_simp
    pointwise []
  rw [← h]
  unfold iblk
  rw [View.read_apply]
  blk_ext [at8]

theorem vec9 (t : Fin cfg0.N) (o : Fin 128) : (iblk m c 9 t : Vec Ideal S1x128 .f32) (ix2 0 o) = a8 m c (ix1 o) := by
  have h : (V m c main_v6 : Vec Ideal S1x128 .f32) (ix2 0 o) = a8 m c (ix1 o) := by
    unfold V
    dsimp only [hostOps0]
    after_reads_simp
    pointwise []
  rw [← h]
  unfold iblk
  rw [View.read_apply]
  blk_ext [at9]

theorem vec10 (t : Fin cfg0.N) (o : Fin 128) : (iblk m c 10 t : Vec Ideal S1x128 .f32) (ix2 0 o) = a9 m c (ix1 o) := by
  have h : (V m c main_v7 : Vec Ideal S1x128 .f32) (ix2 0 o) = a9 m c (ix1 o) := by
    unfold V
    dsimp only [hostOps0]
    after_reads_simp
    pointwise []
  rw [← h]
  unfold iblk
  rw [View.read_apply]
  blk_ext [at10]

theorem vec11 (t : Fin cfg0.N) (o : Fin 256) : (iblk m c 11 t : Vec Ideal S1x256 .f32) (ix2 0 o) = a11 m c (ix1 o) := by
  have h : (V m c main_v8 : Vec Ideal S1x256 .f32) (ix2 0 o) = a11 m c (ix1 o) := by
    unfold V
    dsimp only [hostOps0]
    after_reads_simp
    pointwise []
  rw [← h]
  unfold iblk
  rw [View.read_apply]
  blk_ext [at11]

theorem vec12 (t : Fin cfg0.N) (o : Fin 256) : (iblk m c 12 t : Vec Ideal S1x256 .f32) (ix2 0 o) = a12 m c (ix1 o) := by
  have h : (V m c main_v9 : Vec Ideal S1x256 .f32) (ix2 0 o) = a12 m c (ix1 o) := by
    unfold V
    dsimp only [hostOps0]
    after_reads_simp
    pointwise []
  rw [← h]
  unfold iblk
  rw [View.read_apply]
  blk_ext [at12]

theorem vec13 (t : Fin cfg0.N) (o : Fin 256) : (iblk m c 13 t : Vec Ideal S1x256 .f32) (ix2 0 o) = a13 m c (ix1 o) := by
  have h : (V m c main_v10 : Vec Ideal S1x256 .f32) (ix2 0 o) = a13 m c (ix1 o) := by
    unfold V
    dsimp only [hostOps0]
    after_reads_simp
    pointwise []
  rw [← h]
  unfold iblk
  rw [View.read_apply]
  blk_ext [at13]

/-! ## The result -/

/-- The result, by folded layers. -/
def pooled : Vec Ideal S8x512x256 .f32 := fun i =>
  (Finset.univ : Finset (Fin 32)).fold max (Ideal.ofBits .f32 0xFF800000#32) fun k =>
    folded (folded (opened (fun ch => a0 m c (ix2 (spot (i 0) (i 1) k) ch)) (fun a => a1 m c (ix3 (i 0) a (i 1)))
        (padded fun k o => a2 m c (ix2 k o)) (fun o => a3 m c (ix1 o)) (fun o => a4 m c (ix1 o)) fun o => a5 m c (ix1 o))
      (fun k o => a6 m c (ix2 k o)) (fun o => a7 m c (ix1 o)) (fun o => a8 m c (ix1 o)) fun o => a9 m c (ix1 o))
      (fun k o => a10 m c (ix2 k o)) (fun o => a11 m c (ix1 o)) (fun o => a12 m c (ix1 o)) (fun o => a13 m c (ix1 o)) (i 2)

theorem pooled_apply (b : Fin 8) (s : Fin 512) (o : Fin 256) : pooled m c (ix3 b s o)
    = (Finset.univ : Finset (Fin 32)).fold max (Ideal.ofBits .f32 0xFF800000#32) fun k =>
      folded (folded (opened (fun ch => a0 m c (ix2 (spot b s k) ch)) (fun a => a1 m c (ix3 b a s))
          (padded fun k o => a2 m c (ix2 k o)) (fun o => a3 m c (ix1 o)) (fun o => a4 m c (ix1 o)) fun o => a5 m c (ix1 o))
        (fun k o => a6 m c (ix2 k o)) (fun o => a7 m c (ix1 o)) (fun o => a8 m c (ix1 o)) fun o => a9 m c (ix1 o))
        (fun k o => a10 m c (ix2 k o)) (fun o => a11 m c (ix1 o)) (fun o => a12 m c (ix1 o)) (fun o => a13 m c (ix1 o)) o := rfl

theorem block_pooled (t : Fin cfg0.N) (q : Fin 128) (o : Fin 256) :
    ((dats m 0 c).after 14 t : Vec Ideal S1x128x256 .f32) (ix3 0 q o) = pooled m c (ix3 (batch t) (place (quarter t) q) o) := by
  rw [after0_14]
  refine (out_apply _ _ _ _ _ _ _ _ _ _ _ _ _ _ q o).trans ?_
  unfold pooled
  have e2 : (fun k o => (iblk m c 2 t : Vec Ideal S128x128 .f32) (ix2 k o)) = padded fun k o => a2 m c (ix2 k o) := by
    funext k o; exact w0_at m c t k o
  simp only [row_at, centre_at, e2, w1_at, w2_at, vec5, vec6, vec7, vec8, vec9, vec10, vec11, vec12, vec13]
  rfl

theorem result_pooled : ((dats m 0 c).arrAt 14 cfg0.N : Vec Ideal S8x512x256 .f32) = pooled m c := by
  refine (dats m 0 c).arrAt_eq_of_covers 14 (pooled m c) (by decide +kernel) fun t hf y => ?_
  obtain ⟨z, q, o, rfl⟩ := coords3 (l := 1) (n := 128) (k := 256) y
  obtain rfl : z = 0 := Subsingleton.elim _ _
  refine (block_pooled m c t q o).trans ?_
  unfold place
  blk_ext [at14, batch_val, quarter_val]

end Cert.Proof.Mlp

end
-- ==== Proof.PointsRef.lean ====
/-
  The reference of the dense layers: its result at a batch, a point and a channel is the greatest, over the point's 32 rows,
  of the third dense layer.
-/
module

public import proofs.«01_k».proof.Proof.Dense
public import proofs.«01_k».proof.Proof.Gen.PointsReferenceIdeal.Run
public import Idealize.ShloMosaic.Lib.Pointwise

@[expose] public section

namespace Cert.Proof.PointsRef

open Idealize.ShloMosaic Cert.PointsReferenceIdeal Cert.PointsReferenceIdeal.Gen Cert.Proof.Dense

/-- The centred rows. -/
noncomputable def rows (x0 : FVec Ideal S131072x128 .f32) (x1 : FVec Ideal S8x3x512 .f32) : FVec Ideal S8x512x32x67 .f32 :=
  concatenate S8x512x32x67 3 [⟨S8x512x32x3, (subf (extractStridedSlice S8x512x32x3 ![0, 0, 0, 0] (shapeCast S8x512x32x128 x0
    shapeCasts_S131072x128_S8x512x32x128) slices_S8x512x32x128_S8x512x32x3_0_0_0_0) (broadcastInDim S8x512x32x3 ![0, 1, 2, 3]
    bcast_S8x512x1x3_S8x512x32x3_0_1_2_3 (broadcastInDim S8x512x1x3 ![0, 1, 3] bcast_S8x512x3_S8x512x1x3_0_1_3 (transpose S8x512x3 [0,
    2, 1] x1 transposes_S8x3x512_S8x512x3_0_2_1))))⟩, ⟨S8x512x32x64, (extractStridedSlice S8x512x32x64 ![0, 0, 0, 3] (shapeCast
    S8x512x32x128 x0 shapeCasts_S131072x128_S8x512x32x128) slices_S8x512x32x128_S8x512x32x64_0_0_0_3)⟩]
    concatenates_S8x512x32x3_S8x512x32x64_S8x512x32x67_d3

/-- The layers' term over centred rows. -/
noncomputable def layers (x : FVec Ideal S8x512x32x67 .f32) (x2 : FVec Ideal S67x128 .f32) (x3 : FVec Ideal S128 .f32) (x4 : FVec
    Ideal S128 .f32) (x5 : FVec Ideal S128 .f32) (x6 : FVec Ideal S128x128 .f32) (x7 : FVec Ideal S128 .f32) (x8 : FVec Ideal S128 .f32)
    (x9 : FVec Ideal S128 .f32) (x10 : FVec Ideal S128x256 .f32) (x11 : FVec Ideal S256 .f32) (x12 : FVec Ideal S256 .f32) (x13 : FVec
    Ideal S256 .f32) :
    FVec Ideal S8x512x256 .f32 :=
  Host.reduce FloatOps.maximumf (maximumf (addf (mulf (Host.divf (addf (Host.dotGeneral
    dot_S8x512x32x128_S128x256_S8x512x32x256_3_0_012_1_n_n none (maximumf (addf (mulf (Host.divf (addf (Host.dotGeneral
    dot_S8x512x32x128_S128x128_S8x512x32x128_3_0_012_1_n_n none (maximumf (addf (mulf (Host.divf (addf (Host.dotGeneral
    dot_S8x512x32x67_S67x128_S8x512x32x128_3_0_012_1_n_n none x x2) (broadcastInDim S8x512x32x128 ![0, 1, 2, 3]
    bcast_S1x1x1x128_S8x512x32x128_0_1_2_3 (broadcastInDim S1x1x1x128 ![3] bcast_S128_S1x1x1x128_3 x3))) (broadcastInDim S8x512x32x128
    ![] bcast_S_S8x512x32x128 (Host.sqrt (Host.divf (constant S_ .f32 0x447A4000#32) (constant S_ .f32 0x447A0000#32)))))
    (broadcastInDim S8x512x32x128 ![0, 1, 2, 3] bcast_S1x1x1x128_S8x512x32x128_0_1_2_3 (broadcastInDim S1x1x1x128 ![3]
    bcast_S128_S1x1x1x128_3 x4))) (broadcastInDim S8x512x32x128 ![0, 1, 2, 3] bcast_S1x1x1x128_S8x512x32x128_0_1_2_3 (broadcastInDim
    S1x1x1x128 ![3] bcast_S128_S1x1x1x128_3 x5))) (broadcastInDim S8x512x32x128 ![] bcast_S_S8x512x32x128 (constant S_ .f32
    0x00000000#32))) x6) (broadcastInDim S8x512x32x128 ![0, 1, 2, 3] bcast_S1x1x1x128_S8x512x32x128_0_1_2_3 (broadcastInDim S1x1x1x128
    ![3] bcast_S128_S1x1x1x128_3 x7))) (broadcastInDim S8x512x32x128 ![] bcast_S_S8x512x32x128 (Host.sqrt (Host.divf (constant S_ .f32
    0x447A4000#32) (constant S_ .f32 0x447A0000#32))))) (broadcastInDim S8x512x32x128 ![0, 1, 2, 3]
    bcast_S1x1x1x128_S8x512x32x128_0_1_2_3 (broadcastInDim S1x1x1x128 ![3] bcast_S128_S1x1x1x128_3 x8))) (broadcastInDim S8x512x32x128
    ![0, 1, 2, 3] bcast_S1x1x1x128_S8x512x32x128_0_1_2_3 (broadcastInDim S1x1x1x128 ![3] bcast_S128_S1x1x1x128_3 x9))) (broadcastInDim
    S8x512x32x128 ![] bcast_S_S8x512x32x128 (constant S_ .f32 0x00000000#32))) x10) (broadcastInDim S8x512x32x256 ![0, 1, 2, 3]
    bcast_S1x1x1x256_S8x512x32x256_0_1_2_3 (broadcastInDim S1x1x1x256 ![3] bcast_S256_S1x1x1x256_3 x11))) (broadcastInDim S8x512x32x256
    ![] bcast_S_S8x512x32x256 (Host.sqrt (Host.divf (constant S_ .f32 0x447A4000#32) (constant S_ .f32 0x447A0000#32)))))
    (broadcastInDim S8x512x32x256 ![0, 1, 2, 3] bcast_S1x1x1x256_S8x512x32x256_0_1_2_3 (broadcastInDim S1x1x1x256 ![3]
    bcast_S256_S1x1x1x256_3 x12))) (broadcastInDim S8x512x32x256 ![0, 1, 2, 3] bcast_S1x1x1x256_S8x512x32x256_0_1_2_3 (broadcastInDim
    S1x1x1x256 ![3] bcast_S256_S1x1x1x256_3 x13))) (broadcastInDim S8x512x32x256 ![] bcast_S_S8x512x32x256 (constant S_ .f32
    0x00000000#32))) (constant S_ .f32 0xFF800000#32) reducesTo_S8x512x32x256_S8x512x256_d2 h_S_

/-- The result's term. -/
noncomputable abbrev net (x0 : FVec Ideal S131072x128 .f32) (x1 : FVec Ideal S8x3x512 .f32) (x2 : FVec Ideal S67x128 .f32) (x3 : FVec Ideal S128 .f32) (x4 : FVec
    Ideal S128 .f32) (x5 : FVec Ideal S128 .f32) (x6 : FVec Ideal S128x128 .f32) (x7 : FVec Ideal S128 .f32) (x8 : FVec Ideal S128 .f32)
    (x9 : FVec Ideal S128 .f32) (x10 : FVec Ideal S128x256 .f32) (x11 : FVec Ideal S256 .f32) (x12 : FVec Ideal S256 .f32) (x13 : FVec
    Ideal S256 .f32) :
    FVec Ideal S8x512x256 .f32 :=
  layers (rows x0 x1) x2 x3 x4 x5 x6 x7 x8 x9 x10 x11 x12 x13

/-- A row's place in the table of rows. -/
def spot (b : Fin 8) (s : Fin 512) (k : Fin 32) : Fin 131072 := ⟨b.val * 16384 + s.val * 32 + k.val, by omega⟩

theorem rows_apply (x0 : FVec Ideal S131072x128 .f32) (x1 : FVec Ideal S8x3x512 .f32) (b : Fin 8) (s : Fin 512) (k : Fin 32) (c : Fin 67) :
    rows x0 x1 (ix4 b s k c) = centred (fun c : Fin 67 => x0 (ix2 (spot b s k) ⟨c.val, by omega⟩)) (fun a => x1 (ix3 b a s)) c := by
  unfold centred
  pointwise [rows]
  by_cases h : c.val < 3
  · rw [dif_pos h, dif_pos h]
    rfl
  · rw [dif_neg h, dif_neg h]
    refine congrArg x0 (congrArg (ix2 _) (Fin.ext ?_))
    show 3 + (c.val - 3) = c.val
    omega

theorem layers_apply (x : FVec Ideal S8x512x32x67 .f32) (x2 : FVec Ideal S67x128 .f32) (x3 : FVec Ideal S128 .f32) (x4 : FVec
    Ideal S128 .f32) (x5 : FVec Ideal S128 .f32) (x6 : FVec Ideal S128x128 .f32) (x7 : FVec Ideal S128 .f32) (x8 : FVec Ideal S128 .f32)
    (x9 : FVec Ideal S128 .f32) (x10 : FVec Ideal S128x256 .f32) (x11 : FVec Ideal S256 .f32) (x12 : FVec Ideal S256 .f32) (x13 : FVec
    Ideal S256 .f32)
    (b : Fin 8) (s : Fin 512) (o : Fin 256) :
    layers x x2 x3 x4 x5 x6 x7 x8 x9 x10 x11 x12 x13 (ix3 b s o)
      = (Finset.univ : Finset (Fin 32)).fold max (Ideal.ofBits .f32 0xFF800000#32) fun k =>
        dense (dense (dense (fun c => x (ix4 b s k c))
            (fun c o => x2 (ix2 c o)) (fun o => x3 (ix1 o)) (fun o => x4 (ix1 o)) fun o => x5 (ix1 o))
          (fun c o => x6 (ix2 c o)) (fun o => x7 (ix1 o)) (fun o => x8 (ix1 o)) fun o => x9 (ix1 o))
          (fun c o => x10 (ix2 c o)) (fun o => x11 (ix1 o)) (fun o => x12 (ix1 o)) (fun o => x13 (ix1 o)) o := by
  unfold dense dev
  pointwise [layers]

theorem net_apply (x0 : FVec Ideal S131072x128 .f32) (x1 : FVec Ideal S8x3x512 .f32) (x2 : FVec Ideal S67x128 .f32) (x3 : FVec Ideal S128 .f32) (x4 : FVec
    Ideal S128 .f32) (x5 : FVec Ideal S128 .f32) (x6 : FVec Ideal S128x128 .f32) (x7 : FVec Ideal S128 .f32) (x8 : FVec Ideal S128 .f32)
    (x9 : FVec Ideal S128 .f32) (x10 : FVec Ideal S128x256 .f32) (x11 : FVec Ideal S256 .f32) (x12 : FVec Ideal S256 .f32) (x13 : FVec
    Ideal S256 .f32)
    (b : Fin 8) (s : Fin 512) (o : Fin 256) :
    net x0 x1 x2 x3 x4 x5 x6 x7 x8 x9 x10 x11 x12 x13 (ix3 b s o)
      = (Finset.univ : Finset (Fin 32)).fold max (Ideal.ofBits .f32 0xFF800000#32) fun k =>
        dense (dense (dense (centred (fun c : Fin 67 => x0 (ix2 (spot b s k) ⟨c.val, by omega⟩)) fun a => x1 (ix3 b a s))
            (fun c o => x2 (ix2 c o)) (fun o => x3 (ix1 o)) (fun o => x4 (ix1 o)) fun o => x5 (ix1 o))
          (fun c o => x6 (ix2 c o)) (fun o => x7 (ix1 o)) (fun o => x8 (ix1 o)) fun o => x9 (ix1 o))
          (fun c o => x10 (ix2 c o)) (fun o => x11 (ix1 o)) (fun o => x12 (ix1 o)) (fun o => x13 (ix1 o)) o := by
  have e : ∀ k, (centred (fun c : Fin 67 => x0 (ix2 (spot b s k) ⟨c.val, by omega⟩)) fun a => x1 (ix3 b a s))
      = fun c => rows x0 x1 (ix4 b s k c) := fun k => funext fun c => (rows_apply x0 x1 b s k c).symm
  simp only [e]
  exact layers_apply _ _ _ _ _ _ _ _ _ _ _ _ _ b s o

end Cert.Proof.PointsRef
-- ==== Proof.PointsValue.lean ====
/-
  The dense layers' claims: folded and dense layers give the same features, the arguments being finite.
-/
module

public import proofs.«01_k».proof.Defs
public import proofs.«01_k».proof.Proof.PointsArrays
public import proofs.«01_k».proof.Proof.PointsRef
public import proofs.«01_k».proof.Proof.Spec
public import proofs.«01_k».proof.Proof.Gen.Points.Frame
public import proofs.«01_k».proof.Proof.Gen.Pre_finite_layers
public import Idealize.ShloMosaic.Lib.ReduceAll
public import Idealize.ShloMosaic.Lib.Quiescent

@[expose] public section

noncomputable section

namespace Cert.Proof.Mlp

open Idealize.ShloMosaic Idealize.SL.Sem Idealize.ShloMosaic.TcCoe
open Cert.PointsIdeal Cert.PointsIdeal.Gen Cert.Proof.Dense Cert.Proof.Spec

variable (m : (ℓ : Loc nD τ sig) → Buf (Elt Ideal) ℓ)

/-! ## The precondition -/

theorem and_one {a b : BitVec 1} (h : IntOp.andi a b = 1#1) : a = 1#1 ∧ b = 1#1 := by
  revert a b
  decide

theorem real_of_word {x : EReal} (e : BitVec.ofBool (decide (max x (-x) < Ideal.ofBits .f32 2139095040#32)) = 1#1) : ∃ r : ℝ, x = r := by
  rw [word_top] at e
  have h : max x (-x) < ⊤ := by
    by_contra hn
    rw [decide_eq_false hn] at e
    exact absurd e (by decide)
  induction x using EReal.rec with
  | bot => simp at h
  | coe r => exact ⟨r, rfl⟩
  | top => simp at h

/-- The arguments' entries that the layers read are real numbers. -/
structure Finite (c : Dev nD) : Prop where
  r0 : ∀ (r : Fin 131072) (k : Fin 67), ∃ x : ℝ, a0 m c (ix2 r ⟨k.val, by omega⟩) = x
  r1 : ∀ i, ∃ x : ℝ, a1 m c i = x
  r2 : ∀ i, ∃ x : ℝ, a2 m c i = x
  r3 : ∀ i, ∃ x : ℝ, a3 m c i = x
  r4 : ∀ i, ∃ x : ℝ, a4 m c i = x
  r5 : ∀ i, ∃ x : ℝ, a5 m c i = x
  r6 : ∀ i, ∃ x : ℝ, a6 m c i = x
  r7 : ∀ i, ∃ x : ℝ, a7 m c i = x
  r8 : ∀ i, ∃ x : ℝ, a8 m c i = x
  r9 : ∀ i, ∃ x : ℝ, a9 m c i = x
  r10 : ∀ i, ∃ x : ℝ, a10 m c i = x
  r12 : ∀ i, ∃ x : ℝ, a12 m c i = x

set_option maxRecDepth 8192 in
theorem finite_of_pre (h : Cert.Pre_PointsIdeal_finite_layers m) (c : Dev nD) : Finite m c := by
  have : Subsingleton Cert.Pre_finite_layers.S_.Idx := ⟨fun a b => funext fun i => i.elim0⟩
  have e := congrFun (h c) (fun a => a.elim0)
  obtain ⟨e, e12⟩ := and_one e
  obtain ⟨e, e10⟩ := and_one e
  obtain ⟨e, e9⟩ := and_one e
  obtain ⟨e, e8⟩ := and_one e
  obtain ⟨e, e7⟩ := and_one e
  obtain ⟨e, e6⟩ := and_one e
  obtain ⟨e, e5⟩ := and_one e
  obtain ⟨e, e4⟩ := and_one e
  obtain ⟨e, e3⟩ := and_one e
  obtain ⟨e, e2⟩ := and_one e
  obtain ⟨e, e1⟩ := and_one e
  exact {
    r0 := fun r k => by
      have hz : extractStridedSlice Cert.Pre_finite_layers.S131072x67 ![0, 0] (a0 m c)
          Cert.Pre_finite_layers.Facts.slices_S131072x128_S131072x67_0_0 (ix2 r k) = a0 m c (ix2 r ⟨k.val, by omega⟩) := by
        pointwise []
      exact real_of_word ((congrArg (fun z => BitVec.ofBool (decide (max z (-z) < Ideal.ofBits .f32 2139095040#32))) hz.symm).trans
        (Host.reduce_andi_all _ _ _ _ _ e (ix2 r k)))
    r1 := fun i => real_of_word (Host.reduce_andi_all _ _ _ _ _ e1 i)
    r2 := fun i => real_of_word (Host.reduce_andi_all _ _ _ _ _ e2 i)
    r3 := fun i => real_of_word (Host.reduce_andi_all _ _ _ _ _ e3 i)
    r4 := fun i => real_of_word (Host.reduce_andi_all _ _ _ _ _ e4 i)
    r5 := fun i => real_of_word (Host.reduce_andi_all _ _ _ _ _ e5 i)
    r6 := fun i => real_of_word (Host.reduce_andi_all _ _ _ _ _ e6 i)
    r7 := fun i => real_of_word (Host.reduce_andi_all _ _ _ _ _ e7 i)
    r8 := fun i => real_of_word (Host.reduce_andi_all _ _ _ _ _ e8 i)
    r9 := fun i => real_of_word (Host.reduce_andi_all _ _ _ _ _ e9 i)
    r10 := fun i => real_of_word (Host.reduce_andi_all _ _ _ _ _ e10 i)
    r12 := fun i => real_of_word (Host.reduce_andi_all _ _ _ _ _ e12 i) }

/-! ## The layers -/

/-- On finite arguments the result is the dense layers'. -/
theorem pooled_eq {c : Dev nD} (h : Finite m c) (b : Fin 8) (s : Fin 512) (o : Fin 256) :
    pooled m c (ix3 b s o) = PointsRef.net (a0 m c) (a1 m c) (a2 m c) (a3 m c) (a4 m c) (a5 m c) (a6 m c) (a7 m c) (a8 m c) (a9 m c) (a10 m c) (a11 m c) (a12 m c) (a13 m c) (ix3 b s o) := by
  rw [PointsRef.net_apply, pooled_apply]
  refine congrArg (fun f => (Finset.univ : Finset (Fin 32)).fold max (Ideal.ofBits .f32 0xFF800000#32) f) (funext fun k => ?_)
  exact layers_eq _ _ _ _ _ _ _ _ _ _ _ _ _ _ o (fun j => h.r0 _ j) (fun a => h.r1 _) (fun j o => h.r2 _) (fun o => h.r3 _) (fun o => h.r4 _)
    (fun o => h.r5 _) (fun j o => h.r6 _) (fun o => h.r7 _) (fun o => h.r8 _) (fun o => h.r9 _) (fun j o => h.r10 _) (fun o => h.r12 _)

/-! ## The claims -/

theorem frame_points : Cert.quiescent_Points := fun m ρ _ => Cert.Points.Gen.frame m ρ

theorem frame_pointsIdeal : Cert.quiescent_PointsIdeal := fun m ρ _ => Cert.PointsIdeal.Gen.frame m ρ

theorem frame_pointsIdeal_finite : Cert.quiescent_PointsIdeal_pre_finite_layers := fun m ρ _ => Cert.PointsIdeal.Gen.frame m ρ

theorem frame_reference : Cert.quiescent_PointsReferenceIdeal := fun m ρ _ =>
  (θ_run Cert.PointsReferenceIdeal.defs _ _).mono (fun r h => ⟨fun c => (h c).2, sem_eq_zero_of_no_sems (by decide) r.2⟩)
    (Cert.PointsReferenceIdeal.Value.run (F := Ideal) m ρ)

theorem frame_reference_finite : Cert.quiescent_PointsReferenceIdeal_pre_finite_layers := fun m ρ _ =>
  (θ_run Cert.PointsReferenceIdeal.defs _ _).mono (fun r h => ⟨fun c => (h c).2, sem_eq_zero_of_no_sems (by decide) r.2⟩)
    (Cert.PointsReferenceIdeal.Value.run (F := Ideal) m ρ)

theorem preserves : Cert.preserves_Points_PointsIdeal :=
  IdealRules.named_const.statement Cert.PointsIdeal.κ "rs" .f32 0x3F7FDF42#32 (((Real.sqrt (1001 / 1000))⁻¹ : ℝ) : EReal) rfl

variable (m' : (ℓ : Loc Cert.PointsReferenceIdeal.nD Cert.PointsReferenceIdeal.τ Cert.PointsReferenceIdeal.sig) → Buf (Elt Ideal) ℓ)

/-- The reference's arguments are the program's. -/
abbrev Agree (c : Dev nD) : Prop :=
  m' ((c.tc : Thread Cert.PointsReferenceIdeal.nD Cert.PointsReferenceIdeal.τ).loc Cert.PointsReferenceIdeal.main_arg0)
      = m ((c.tc : Thread nD τ).loc main_arg0)
  ∧ m' ((c.tc : Thread Cert.PointsReferenceIdeal.nD Cert.PointsReferenceIdeal.τ).loc Cert.PointsReferenceIdeal.main_arg1)
      = m ((c.tc : Thread nD τ).loc main_arg1)
  ∧ m' ((c.tc : Thread Cert.PointsReferenceIdeal.nD Cert.PointsReferenceIdeal.τ).loc Cert.PointsReferenceIdeal.main_arg2)
      = m ((c.tc : Thread nD τ).loc main_arg2)
  ∧ m' ((c.tc : Thread Cert.PointsReferenceIdeal.nD Cert.PointsReferenceIdeal.τ).loc Cert.PointsReferenceIdeal.main_arg3)
      = m ((c.tc : Thread nD τ).loc main_arg3)
  ∧ m' ((c.tc : Thread Cert.PointsReferenceIdeal.nD Cert.PointsReferenceIdeal.τ).loc Cert.PointsReferenceIdeal.main_arg4)
      = m ((c.tc : Thread nD τ).loc main_arg4)
  ∧ m' ((c.tc : Thread Cert.PointsReferenceIdeal.nD Cert.PointsReferenceIdeal.τ).loc Cert.PointsReferenceIdeal.main_arg5)
      = m ((c.tc : Thread nD τ).loc main_arg5)
  ∧ m' ((c.tc : Thread Cert.PointsReferenceIdeal.nD Cert.PointsReferenceIdeal.τ).loc Cert.PointsReferenceIdeal.main_arg6)
      = m ((c.tc : Thread nD τ).loc main_arg6)
  ∧ m' ((c.tc : Thread Cert.PointsReferenceIdeal.nD Cert.PointsReferenceIdeal.τ).loc Cert.PointsReferenceIdeal.main_arg7)
      = m ((c.tc : Thread nD τ).loc main_arg7)
  ∧ m' ((c.tc : Thread Cert.PointsReferenceIdeal.nD Cert.PointsReferenceIdeal.τ).loc Cert.PointsReferenceIdeal.main_arg8)
      = m ((c.tc : Thread nD τ).loc main_arg8)
  ∧ m' ((c.tc : Thread Cert.PointsReferenceIdeal.nD Cert.PointsReferenceIdeal.τ).loc Cert.PointsReferenceIdeal.main_arg9)
      = m ((c.tc : Thread nD τ).loc main_arg9)
  ∧ m' ((c.tc : Thread Cert.PointsReferenceIdeal.nD Cert.PointsReferenceIdeal.τ).loc Cert.PointsReferenceIdeal.main_arg10)
      = m ((c.tc : Thread nD τ).loc main_arg10)
  ∧ m' ((c.tc : Thread Cert.PointsReferenceIdeal.nD Cert.PointsReferenceIdeal.τ).loc Cert.PointsReferenceIdeal.main_arg11)
      = m ((c.tc : Thread nD τ).loc main_arg11)
  ∧ m' ((c.tc : Thread Cert.PointsReferenceIdeal.nD Cert.PointsReferenceIdeal.τ).loc Cert.PointsReferenceIdeal.main_arg12)
      = m ((c.tc : Thread nD τ).loc main_arg12)
  ∧ m' ((c.tc : Thread Cert.PointsReferenceIdeal.nD Cert.PointsReferenceIdeal.τ).loc Cert.PointsReferenceIdeal.main_arg13)
      = m ((c.tc : Thread nD τ).loc main_arg13)

theorem same_features {c : Dev nD} (h : Agree m m' c) (hf : Finite m c) :
    PointsRef.net (m' ((c.tc : Thread Cert.PointsReferenceIdeal.nD Cert.PointsReferenceIdeal.τ).loc Cert.PointsReferenceIdeal.main_arg0)) (m' ((c.tc : Thread Cert.PointsReferenceIdeal.nD Cert.PointsReferenceIdeal.τ).loc Cert.PointsReferenceIdeal.main_arg1)) (m' ((c.tc : Thread Cert.PointsReferenceIdeal.nD Cert.PointsReferenceIdeal.τ).loc Cert.PointsReferenceIdeal.main_arg2)) (m' ((c.tc : Thread Cert.PointsReferenceIdeal.nD Cert.PointsReferenceIdeal.τ).loc Cert.PointsReferenceIdeal.main_arg3)) (m' ((c.tc : Thread Cert.PointsReferenceIdeal.nD Cert.PointsReferenceIdeal.τ).loc Cert.PointsReferenceIdeal.main_arg4)) (m' ((c.tc : Thread Cert.PointsReferenceIdeal.nD Cert.PointsReferenceIdeal.τ).loc Cert.PointsReferenceIdeal.main_arg5)) (m' ((c.tc : Thread Cert.PointsReferenceIdeal.nD Cert.PointsReferenceIdeal.τ).loc Cert.PointsReferenceIdeal.main_arg6)) (m' ((c.tc : Thread Cert.PointsReferenceIdeal.nD Cert.PointsReferenceIdeal.τ).loc Cert.PointsReferenceIdeal.main_arg7)) (m' ((c.tc : Thread Cert.PointsReferenceIdeal.nD Cert.PointsReferenceIdeal.τ).loc Cert.PointsReferenceIdeal.main_arg8)) (m' ((c.tc : Thread Cert.PointsReferenceIdeal.nD Cert.PointsReferenceIdeal.τ).loc Cert.PointsReferenceIdeal.main_arg9)) (m' ((c.tc : Thread Cert.PointsReferenceIdeal.nD Cert.PointsReferenceIdeal.τ).loc Cert.PointsReferenceIdeal.main_arg10)) (m' ((c.tc : Thread Cert.PointsReferenceIdeal.nD Cert.PointsReferenceIdeal.τ).loc Cert.PointsReferenceIdeal.main_arg11)) (m' ((c.tc : Thread Cert.PointsReferenceIdeal.nD Cert.PointsReferenceIdeal.τ).loc Cert.PointsReferenceIdeal.main_arg12)) (m' ((c.tc : Thread Cert.PointsReferenceIdeal.nD Cert.PointsReferenceIdeal.τ).loc Cert.PointsReferenceIdeal.main_arg13))
      = ((dats m 0 c).arrAt 14 cfg0.N : Vec Ideal S8x512x256 .f32) := by
  obtain ⟨h0, h1, h2, h3, h4, h5, h6, h7, h8, h9, h10, h11, h12, h13⟩ := h
  rw [h0, h1, h2, h3, h4, h5, h6, h7, h8, h9, h10, h11, h12, h13, result_pooled]
  funext i
  obtain ⟨b, s, o, rfl⟩ := coords3 (l := 8) (n := 512) (k := 256) i
  exact (pooled_eq m hf b s o).symm

theorem algebraic : Cert.algebraic_PointsIdeal_PointsReferenceIdeal_pre_finite_layers := by
  intro m ρ m' ρ' hpre hagree
  refine ⟨fun c => (dats m 0 c).arrAt 14 cfg0.N, Cert.PointsIdeal.Value.run_blocks m ρ, ?_⟩
  exact (θ_run Cert.PointsReferenceIdeal.defs _ _).mono
    (fun _ h c => ⟨(h c).1.trans (same_features m m' (hagree c) (finite_of_pre m hpre c)), (h c).2⟩)
    (Cert.PointsReferenceIdeal.Value.run (F := Ideal) m' ρ')

end Cert.Proof.Mlp

end
-- ==== Proof.WholeGhost.lean ====
/-
  The ghost state of the whole kernel's run: the rounds of the SparseCore's handshakes, the rounds of the three pipelines'
  staging cells, and the counters of the transfers.
-/
module

public import proofs.«01_k».proof.Defs
public import Idealize.ShloMosaic.Lib.SparseCore.Quiescent
public import Idealize.ShloMosaic.Lib.Pipeline.Kit
public import Idealize.ShloMosaic.Lib.Tactic
public import proofs.«01_k».proof.Proof.Gen.WholeIdeal
public import proofs.«01_k».proof.Proof.Gen.WholeIdeal.Launch

@[expose] public section

noncomputable section

namespace Cert.Proof.Whole

open Cert.WholeIdeal Cert.WholeIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UH : Type := URounds (GSem nD τ sig) ℕ
abbrev UP : Type := UR sig nD τ
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance : (EP (F := F)).LandsIn (upEmb : UEmb _ (MT nD τ sig (HIx 1) (Elt F) ℕ UU ℕ)) := by infer_instance

/-- What the TensorCore owes the SparseCore before its call, and after it, is owed at the handshakes' indices alone. -/
theorem otc_none (c : Dev nD) (n : ℕ) (g : GSem nD τ sig) : (sc (F := F)).Otc c n g (none : HIx 1) = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun k _ => ?_
    rw [tallyAt_apply, if_neg]
    exact fun h => nomatch h.2
  · rfl

/-- What a TensorCore call's body may use and need not describe: the buffers of the core that are no window's, and its
    generator register. -/
def Beside {gr W : Nat} (win : Fin W → Pipeline.WinSpec sig gr) (c : Dev nD) : sProp (MT nD τ sig (HIx 1) (Elt F) ℕ UU ℕ) :=
  iprop(Pipeline.scopedRest win c ∗ ∃ r, prngReg c r)

end Cert.Proof.Whole
-- ==== Proof.WholeSample.lean ====
/-
  The sampling call inside the whole kernel: what its body leaves in its windows, and the obligation at its point.
-/
module

public import proofs.«01_k».proof.Proof.WholeGhost
public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import proofs.«01_k».proof.Proof.Gen.WholeIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Whole

open Cert.WholeIdeal Cert.WholeIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev VO0_1 : View sig .tc .vmem S8x512 .i32 := (Memref.whole cc0_stg1_0 : Memref sig .tc .vmem S8x512 .i32).view
abbrev VO0_2 : View sig .tc .vmem S3x8x512 .f32 := (Memref.whole cc0_stg2_0 : Memref sig .tc .vmem S3x8x512 .f32).view
abbrev ms0_0 (t : Fin cfg0.N) : Memref sig .tc .vmem S3x8x4096 .f32 := win0_0.stage (cfg0.slots t 0)
abbrev hs0_0 (t : Fin cfg0.N) : (ms0_0 t).IsWhole := hstage0_0 0
abbrev ms0_1 (t : Fin cfg0.N) : Memref sig .tc .vmem S8x512 .i32 := win0_1.stage (cfg0.slots t 1)
abbrev hs0_1 (t : Fin cfg0.N) : (ms0_1 t).IsWhole := hstage0_1 0
abbrev ms0_2 (t : Fin cfg0.N) : Memref sig .tc .vmem S3x8x512 .f32 := win0_2.stage (cfg0.slots t 2)
abbrev hs0_2 (t : Fin cfg0.N) : (ms0_2 t).IsWhole := hstage0_2 0
set_option maxHeartbeats 1000000 in
noncomputable def kernelRun0_A (c : Dev nD) (arg0 : Memref sig .tc .vmem S3x8x4096 .f32) (harg0 : arg0.IsWhole) (arg1 : Memref sig .tc .vmem S8x512 .i32) (harg1 : arg1.IsWhole) (arg2 : Memref sig .tc .vmem S3x8x512 .f32) (harg2 : arg2.IsWhole)
    (x0 : Vec F S3x8x4096 .f32) :
    Σ' (L1 : List (View.Piece (Elt F) S8x512 .i32)), { L2 : List (View.Piece (Elt F) S3x8x512 .f32) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f L2)) -∗ K ⟨⟩))
          ⊢ wp frame (wpE (defs₀ (F := F)) Variants.none c none) E (cc0__fps_body arg0 harg0 arg1 harg1 arg2 harg2) K } := by
  refine ⟨?_, ?_, fun E K => ?run⟩
  case run =>
    simp only [cc0__fps_body_eq_skeleton]; unfold cc0__fps_body_skel
    simp only [k0_part1_eq_skeleton]
    unfold owns
    iintro ⟨⟨%f0, %hf0, H0⟩, ⟨%d1, %f1, -, H1⟩, ⟨%d2, %f2, -, H2⟩, Hk⟩
    obtain rfl := harg0.eq_unread hf0
    sl_exec
    sl_step
    iapply Hk
    isplitl [H0]
    · iexists _; isplitr; · ipureintro; exact harg0.read_unread _
      iexact H0
    isplitl [H1]; · iexists _; iexact H1
    iexists _; iexact H2

theorem cover0_A_1 (c : Dev nD) (arg0 : Memref sig .tc .vmem S3x8x4096 .f32) (harg0 : arg0.IsWhole) (arg1 : Memref sig .tc .vmem S8x512 .i32) (harg1 : arg1.IsWhole) (arg2 : Memref sig .tc .vmem S3x8x512 .f32) (harg2 : arg2.IsWhole)
    (x0 : Vec F S3x8x4096 .f32) (y : S8x512.Idx) :
    ∃ pc ∈ (kernelRun0_A c arg0 harg0 arg1 harg1 arg2 harg2 x0).1, y ∈ pc.1.set :=
  View.cover_of_tiledL (kernelRun0_A c arg0 harg0 arg1 harg1 arg2 harg2 x0).1 S8x512.size (by sl_kernel_rfl) y

def out0_A_1 (c : Dev nD) (arg0 : Memref sig .tc .vmem S3x8x4096 .f32) (harg0 : arg0.IsWhole) (arg1 : Memref sig .tc .vmem S8x512 .i32) (harg1 : arg1.IsWhole) (arg2 : Memref sig .tc .vmem S3x8x512 .f32) (harg2 : arg2.IsWhole)
    (x0 : Vec F S3x8x4096 .f32) : Vec F S8x512 .i32 :=
  VO0_1.read (Elt F) (VO0_1.writes (Elt F) VO0_1.junk (kernelRun0_A c arg0 harg0 arg1 harg1 arg2 harg2 x0).1)

theorem cover0_A_2 (c : Dev nD) (arg0 : Memref sig .tc .vmem S3x8x4096 .f32) (harg0 : arg0.IsWhole) (arg1 : Memref sig .tc .vmem S8x512 .i32) (harg1 : arg1.IsWhole) (arg2 : Memref sig .tc .vmem S3x8x512 .f32) (harg2 : arg2.IsWhole)
    (x0 : Vec F S3x8x4096 .f32) (y : S3x8x512.Idx) :
    ∃ pc ∈ (kernelRun0_A c arg0 harg0 arg1 harg1 arg2 harg2 x0).2.1, y ∈ pc.1.set :=
  View.cover_of_tiledL (kernelRun0_A c arg0 harg0 arg1 harg1 arg2 harg2 x0).2.1 S1x8x512.size (by sl_kernel_rfl) y

def out0_A_2 (c : Dev nD) (arg0 : Memref sig .tc .vmem S3x8x4096 .f32) (harg0 : arg0.IsWhole) (arg1 : Memref sig .tc .vmem S8x512 .i32) (harg1 : arg1.IsWhole) (arg2 : Memref sig .tc .vmem S3x8x512 .f32) (harg2 : arg2.IsWhole)
    (x0 : Vec F S3x8x4096 .f32) : Vec F S3x8x512 .f32 :=
  VO0_2.read (Elt F) (VO0_2.writes (Elt F) VO0_2.junk (kernelRun0_A c arg0 harg0 arg1 harg1 arg2 harg2 x0).2.1)

def outsAt0 (c : Dev nD) (t : Fin cfg0.N) : Vec F S8x512 .i32 × Vec F S3x8x512 .f32 :=
  (out0_A_1 c (ms0_0 t) (hs0_0 t) (ms0_1 t) (hs0_1 t) (ms0_2 t) (hs0_2 t) (iblk0 V c 0 t), out0_A_2 c (ms0_0 t) (hs0_0 t) (ms0_1 t) (hs0_1 t) (ms0_2 t) (hs0_2 t) (iblk0 V c 0 t))

def dat0 (c : Dev nD) : Dat τ (Elt F) (HIx 1) ℕ UU ℕ cfg0 c where
  A w := V c (Pipeline.arrRef spec0 w)
  after w t := match w with
    | ⟨0, _⟩ => iblk0 V c 0 t
    | ⟨1, _⟩ => (outsAt0 V c t).1
    | ⟨2, _⟩ => (outsAt0 V c t).2
  Φ _ := Beside spec0 c
  q _ := fullShare
  owed _ := (sc (F := F)).Otc c 0
  recorded _ := {p | (sc (F := F)).lev ((c : Thread nD τ), p.1) p.2 ≤ 8 * 0}

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t).1 := by dsimp only [dat0]
theorem after0_2 (c : Dev nD) (t : Fin cfg0.N) : (dat0 V c).after 2 t = (outsAt0 V c t).2 := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt none t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt none t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt none t.succ = (dat0 V c).owesAt none t.castSucc from rfl,
    after0_0, after0_1, after0_2]
  unfold outsAt0
  unfold out0_A_1 out0_A_2; (try dsimp only)
  iintro ⟨HΦ, Ho, ⟨%d0, H0⟩, ⟨%d1, H1⟩, ⟨%d2, H2⟩⟩
  iapply ((kernelRun0_A c _ _ _ _ _ _ (iblk0 V c 0 t)).2.2 Set.univ _)
  isplitl [H0]; · iexact H0
  isplitl [H1]; · iexists _; iexact H1
  isplitl [H2]; · iexists _; iexact H2
  iintro ⟨H0, ⟨%e1, H1⟩, ⟨%e2, H2⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _)
  unfold owns; iexists _; isplitr
  swap; · iexact H2
  ipureintro; exact View.read_writes_of_cover _ _ _ _ _ (cover0_A_2 c _ _ _ _ _ _ _)

theorem defs₀_row0 (t : Fin cfg0.N) :
    defs₀ (F := F) .tc cfg0.body (cfg0.bodyArgs t (cfg0.slots t)) = bodyAt0 t := by
  rfl

theorem body_obligation0 (c : Dev nD) : BodyObligation (dat0 (F := F) V c) (defs₀ (F := F)) Variants.none none Set.univ := fun t => by
  rw [bigSep_W0, bigSep_W0, defs₀_row0]
  exact triple_restated (sound_body0 V c t) rfl .rfl fun _ => .rfl

end

end Cert.Proof.Whole
-- ==== Proof.WholeFps.lean ====
/-
  What the whole kernel's sampling call stores: the walk's indices and points.
-/
module

public import proofs.«01_k».proof.Proof.WholeSample
public import proofs.«01_k».proof.Proof.FpsStep

@[expose] public section

namespace Cert.Proof.Whole

open Idealize.ShloMosaic Cert.WholeIdeal Cert.WholeIdeal.Gen Cert.Proof.Spec

section Sample

variable (c : Dev nD) (arg0 : Memref sig .tc .vmem S3x8x4096 .f32) (harg0 : arg0.IsWhole) (arg1 : Memref sig .tc .vmem S8x512 .i32)
  (harg1 : arg1.IsWhole) (arg2 : Memref sig .tc .vmem S3x8x512 .f32) (harg2 : arg2.IsWhole) (x0 : Vec Ideal S3x8x4096 .f32)

/-- The loads of the three planes. -/
noncomputable abbrev ld0 : Vec Ideal S1x8x4096 .f32 := View.readAt (Elt Ideal) arg0.view
  (Rect.unit (s := S3x8x4096) ![0, 0, 0] S1x8x4096.size inb_S3x8x4096_S1x8x4096_0_0_0).toLoadRect (harg0.unread x0)
noncomputable abbrev ld1 : Vec Ideal S1x8x4096 .f32 := View.readAt (Elt Ideal) arg0.view
  (Rect.unit (s := S3x8x4096) ![1, 0, 0] S1x8x4096.size inb_S3x8x4096_S1x8x4096_1_0_0).toLoadRect (harg0.unread x0)
noncomputable abbrev ld2 : Vec Ideal S1x8x4096 .f32 := View.readAt (Elt Ideal) arg0.view
  (Rect.unit (s := S3x8x4096) ![2, 0, 0] S1x8x4096.size inb_S3x8x4096_S1x8x4096_2_0_0).toLoadRect (harg0.unread x0)

theorem plane_point (b : Fin 8) : Fps.point (ld0 arg0 harg0 x0) (ld1 arg0 harg0 x0) (ld2 arg0 harg0 x0) b = Fps.points x0 b := by
  funext i a
  have h0 : ld0 arg0 harg0 x0 (ix3 0 b i) = x0 (ix3 0 b i) := by
    unfold ld0
    rw [harg0.readAt_unread]
    congr 1
    funext k; fin_cases k <;> apply Fin.ext <;> simp [LoadRect.idx, Rect.toLoadRect, Rect.unit, Rect.emb]
  have h1 : ld1 arg0 harg0 x0 (ix3 0 b i) = x0 (ix3 1 b i) := by
    unfold ld1
    rw [harg0.readAt_unread]
    congr 1
    funext k; fin_cases k <;> apply Fin.ext <;> simp [LoadRect.idx, Rect.toLoadRect, Rect.unit, Rect.emb]
  have h2 : ld2 arg0 harg0 x0 (ix3 0 b i) = x0 (ix3 2 b i) := by
    unfold ld2
    rw [harg0.readAt_unread]
    congr 1
    funext k; fin_cases k <;> apply Fin.ext <;> simp [LoadRect.idx, Rect.toLoadRect, Rect.unit, Rect.emb]
  fin_cases a
  · exact h0
  · exact h1
  · exact h2

theorem sample_run : kernelRun0_A.sl.r c arg0 harg0 x0
    = Scf.fold (Fps.trip (ld0 arg0 harg0 x0) (ld1 arg0 harg0 x0) (ld2 arg0 harg0 x0)) (Fps.start (ld0 arg0 harg0 x0) (ld1 arg0 harg0 x0) (ld2 arg0 harg0 x0)) := by
  unfold kernelRun0_A.sl.r
  rfl

theorem sample_inv : Fps.Inv (ld0 arg0 harg0 x0) (ld1 arg0 harg0 x0) (ld2 arg0 harg0 x0) 511 (kernelRun0_A.sl.r c arg0 harg0 x0) := by
  rw [sample_run]
  exact Fps.inv_loop _ _ _

/-- The chosen indices. -/
theorem sampled_indices (b : Fin 8) (j : Fin 512) :
    out0_A_1 c arg0 harg0 arg1 harg1 arg2 harg2 x0 (ix2 b j) = BitVec.ofNat 32 (walk (Fps.points x0 b) Fps.cap j.val).2.val := by
  unfold out0_A_1 kernelRun0_A
  dsimp only
  have h := (sample_inv c arg0 harg0 x0).idxs b j (by have := j.isLt; omega)
  rw [plane_point] at h
  refine Eq.trans (View.read_writes_cons_hit_of_coords _ _ _ _ _ (ix2 b j) _ ?_) h
  intro a; fin_cases a <;> simp [Rect.unit]

/-- The chosen points. -/
theorem sampled_points (a : Fin 3) (b : Fin 8) (j : Fin 512) :
    out0_A_2 c arg0 harg0 arg1 harg1 arg2 harg2 x0 (ix3 a b j) = Fps.points x0 b (walk (Fps.points x0 b) Fps.cap j.val).2 a := by
  have hI := sample_inv c arg0 harg0 x0
  have hx := hI.qx b j (by have := j.isLt; omega)
  have hy := hI.qy b j (by have := j.isLt; omega)
  have hz := hI.qz b j (by have := j.isLt; omega)
  rw [plane_point] at hx hy hz
  unfold out0_A_2 kernelRun0_A
  dsimp only
  obtain rfl | rfl | rfl : a = 0 ∨ a = 1 ∨ a = 2 := by fin_cases a <;> simp
  · rw [View.read_writes_cons_miss_of_axis _ _ _ _ _ 0 2 1 rfl rfl rfl (Or.inl (by show (0 : ℕ) < 2; omega)),
      View.read_writes_cons_miss_of_axis _ _ _ _ _ 0 1 1 rfl rfl rfl (Or.inl (by show (0 : ℕ) < 1; omega))]
    refine Eq.trans (View.read_writes_cons_hit_of_coords _ _ _ _ _ (ix3 0 b j) _ ?_) (Eq.trans ?_ hx)
    · intro a; fin_cases a <;> simp [Rect.unit]
    pointwise [k0_pay1]
    rfl
  · rw [View.read_writes_cons_miss_of_axis _ _ _ _ _ 0 2 1 rfl rfl rfl (Or.inl (by show (1 : ℕ) < 2; omega))]
    refine Eq.trans (View.read_writes_cons_hit_of_coords _ _ _ _ _ (ix3 0 b j) _ ?_) (Eq.trans ?_ hy)
    · intro a; fin_cases a <;> simp [Rect.unit]
    pointwise [k0_pay2]
    rfl
  · refine Eq.trans (View.read_writes_cons_hit_of_coords _ _ _ _ _ (ix3 0 b j) _ ?_) (Eq.trans ?_ hz)
    · intro a; fin_cases a <;> simp [Rect.unit]
    pointwise [k0_pay3]
    rfl

end Sample

end Cert.Proof.Whole
-- ==== Proof.WholeNear.lean ====
/-
  The neighbour call inside the whole kernel: what its body leaves in its windows, and the obligation at each point.
-/
module

public import proofs.«01_k».proof.Proof.WholeGhost
public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import proofs.«01_k».proof.Proof.Gen.WholeIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Whole

open Cert.WholeIdeal Cert.WholeIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S1x32x256 .i32 := (Memref.whole cc1_stg2_0 : Memref sig .tc .vmem S1x32x256 .i32).view
abbrev VO1_3 : View sig .tc .vmem S1x32x256 .i32 := (Memref.whole cc1_stg3_0 : Memref sig .tc .vmem S1x32x256 .i32).view
abbrev ms1_0 (t : Fin cfg1.N) : Memref sig .tc .vmem S1x4096x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x3x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32x256 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32x256 .i32 := win1_3.stage (cfg1.slots t 3)
abbrev hs1_3 (t : Fin cfg1.N) : (ms1_3 t).IsWhole := hstage1_3 ((cfg1.slots t 3).cast nbuf1_3)
set_option maxHeartbeats 1000000 in
noncomputable def kernelRun1_A (c : Dev nD) (i : grid1.Coords) (arg2 : Memref sig .tc .vmem S1x4096x3 .f32) (harg2 : arg2.IsWhole) (arg3 : Memref sig .tc .vmem S1x3x256 .f32) (harg3 : arg3.IsWhole) (arg4 : Memref sig .tc .vmem S1x32x256 .i32) (harg4 : arg4.IsWhole) (arg5 : Memref sig .tc .vmem S1x32x256 .i32) (harg5 : arg5.IsWhole)
    (x0 : Vec F S1x4096x3 .f32) (x1 : Vec F S1x3x256 .f32) :
    Σ' (L2 : List (View.Piece (Elt F) S1x32x256 .i32)), { L3 : List (View.Piece (Elt F) S1x32x256 .i32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1__knn_body i arg2 harg2 arg3 harg3 arg4 harg4 arg5 harg5) K } := by
  refine ⟨?_, ?_, fun E K => ?run⟩
  case run =>
    simp only [cc1__knn_body_eq_skeleton]; unfold cc1__knn_body_skel
    simp only [k1_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

theorem cover1_A_2 (c : Dev nD) (i : grid1.Coords) (arg2 : Memref sig .tc .vmem S1x4096x3 .f32) (harg2 : arg2.IsWhole) (arg3 : Memref sig .tc .vmem S1x3x256 .f32) (harg3 : arg3.IsWhole) (arg4 : Memref sig .tc .vmem S1x32x256 .i32) (harg4 : arg4.IsWhole) (arg5 : Memref sig .tc .vmem S1x32x256 .i32) (harg5 : arg5.IsWhole)
    (x0 : Vec F S1x4096x3 .f32) (x1 : Vec F S1x3x256 .f32) (y : S1x32x256.Idx) :
    ∃ pc ∈ (kernelRun1_A c i arg2 harg2 arg3 harg3 arg4 harg4 arg5 harg5 x0 x1).1, y ∈ pc.1.set :=
  View.cover_of_tiledL (kernelRun1_A c i arg2 harg2 arg3 harg3 arg4 harg4 arg5 harg5 x0 x1).1 S1x32x256.size (by sl_kernel_rfl) y

def out1_A_2 (c : Dev nD) (i : grid1.Coords) (arg2 : Memref sig .tc .vmem S1x4096x3 .f32) (harg2 : arg2.IsWhole) (arg3 : Memref sig .tc .vmem S1x3x256 .f32) (harg3 : arg3.IsWhole) (arg4 : Memref sig .tc .vmem S1x32x256 .i32) (harg4 : arg4.IsWhole) (arg5 : Memref sig .tc .vmem S1x32x256 .i32) (harg5 : arg5.IsWhole)
    (x0 : Vec F S1x4096x3 .f32) (x1 : Vec F S1x3x256 .f32) : Vec F S1x32x256 .i32 :=
  VO1_2.read (Elt F) (VO1_2.writes (Elt F) VO1_2.junk (kernelRun1_A c i arg2 harg2 arg3 harg3 arg4 harg4 arg5 harg5 x0 x1).1)

theorem cover1_A_3 (c : Dev nD) (i : grid1.Coords) (arg2 : Memref sig .tc .vmem S1x4096x3 .f32) (harg2 : arg2.IsWhole) (arg3 : Memref sig .tc .vmem S1x3x256 .f32) (harg3 : arg3.IsWhole) (arg4 : Memref sig .tc .vmem S1x32x256 .i32) (harg4 : arg4.IsWhole) (arg5 : Memref sig .tc .vmem S1x32x256 .i32) (harg5 : arg5.IsWhole)
    (x0 : Vec F S1x4096x3 .f32) (x1 : Vec F S1x3x256 .f32) (y : S1x32x256.Idx) :
    ∃ pc ∈ (kernelRun1_A c i arg2 harg2 arg3 harg3 arg4 harg4 arg5 harg5 x0 x1).2.1, y ∈ pc.1.set :=
  View.cover_of_tiledL (kernelRun1_A c i arg2 harg2 arg3 harg3 arg4 harg4 arg5 harg5 x0 x1).2.1 S1x32x256.size (by sl_kernel_rfl) y

def out1_A_3 (c : Dev nD) (i : grid1.Coords) (arg2 : Memref sig .tc .vmem S1x4096x3 .f32) (harg2 : arg2.IsWhole) (arg3 : Memref sig .tc .vmem S1x3x256 .f32) (harg3 : arg3.IsWhole) (arg4 : Memref sig .tc .vmem S1x32x256 .i32) (harg4 : arg4.IsWhole) (arg5 : Memref sig .tc .vmem S1x32x256 .i32) (harg5 : arg5.IsWhole)
    (x0 : Vec F S1x4096x3 .f32) (x1 : Vec F S1x3x256 .f32) : Vec F S1x32x256 .i32 :=
  VO1_3.read (Elt F) (VO1_3.writes (Elt F) VO1_3.junk (kernelRun1_A c i arg2 harg2 arg3 harg3 arg4 harg4 arg5 harg5 x0 x1).2.1)

def outsAt1 (c : Dev nD) (t : Fin cfg1.N) : Vec F S1x32x256 .i32 × Vec F S1x32x256 .i32 :=
  (out1_A_2 c (grid1.coords t) (ms1_0 t) (hs1_0 t) (ms1_1 t) (hs1_1 t) (ms1_2 t) (hs1_2 t) (ms1_3 t) (hs1_3 t) (iblk1 V c 0 t) (iblk1 V c 1 t), out1_A_3 c (grid1.coords t) (ms1_0 t) (hs1_0 t) (ms1_1 t) (hs1_1 t) (ms1_2 t) (hs1_2 t) (ms1_3 t) (hs1_3 t) (iblk1 V c 0 t) (iblk1 V c 1 t))

def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2
  Φ _ := Beside spec1 c
  q _ := fullShare
  owed _ := (sc (F := F)).Otc c 0
  recorded _ := {p | (sc (F := F)).lev ((c : Thread nD τ), p.1) p.2 ≤ 8 * 0}

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t).1 := by dsimp only [dat1]
theorem after1_3 (c : Dev nD) (t : Fin cfg1.N) : (dat1 V c).after 3 t = (outsAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt none t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt none t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt none t.succ = (dat1 V c).owesAt none t.castSucc from rfl,
    after1_0, after1_1, after1_2, after1_3]
  unfold outsAt1
  unfold out1_A_2 out1_A_3; (try dsimp only)
  iintro ⟨HΦ, Ho, ⟨%d0, H0⟩, ⟨%d1, H1⟩, ⟨%d2, H2⟩, ⟨%d3, H3⟩⟩
  iapply ((kernelRun1_A c (grid1.coords t) _ _ _ _ _ _ _ _ (iblk1 V c 0 t) (iblk1 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _)
  unfold owns; iexists _; isplitr
  swap; · iexact H3
  ipureintro; exact View.read_writes_of_cover _ _ _ _ _ (cover1_A_3 c _ _ _ _ _ _ _ _ _ _ _)

theorem defs₀_row1 (t : Fin cfg1.N) :
    defs₀ (F := F) .tc cfg1.body (cfg1.bodyArgs t (cfg1.slots t)) = bodyAt1 t := by
  rfl

theorem body_obligation1 (c : Dev nD) : BodyObligation (dat1 (F := F) V c) (defs₀ (F := F)) Variants.none none Set.univ := fun t => by
  rw [bigSep_W1, bigSep_W1, defs₀_row1]
  exact triple_restated (sound_body1 V c t) rfl .rfl fun _ => .rfl

end

end Cert.Proof.Whole
-- ==== Proof.WholeKnn.lean ====
/-
  What the whole kernel's neighbour call stores: the nearest indices, and the rows they name in the table of all batches.
-/
module

public import proofs.«01_k».proof.Proof.WholeNear
public import proofs.«01_k».proof.Proof.KnnStep

@[expose] public section

namespace Cert.Proof.Whole

open Idealize.ShloMosaic Cert.WholeIdeal Cert.WholeIdeal.Gen Cert.Proof.Spec

section Near

variable (c : Dev nD) (i : grid1.Coords) (arg2 : Memref sig .tc .vmem S1x4096x3 .f32) (harg2 : arg2.IsWhole)
  (arg3 : Memref sig .tc .vmem S1x3x256 .f32) (harg3 : arg3.IsWhole) (arg4 : Memref sig .tc .vmem S1x32x256 .i32) (harg4 : arg4.IsWhole)
  (arg5 : Memref sig .tc .vmem S1x32x256 .i32) (harg5 : arg5.IsWhole) (x0 : Vec Ideal S1x4096x3 .f32) (x1 : Vec Ideal S1x3x256 .f32)

/-- The table the loop starts from. -/
noncomputable def table : FVec Ideal S4096x256 .f32 := k1_pay3
  (View.readAt (Elt Ideal) arg2.view (Rect.unit (s := S1x4096x3) ![0, 0, 0] S1x4096x1.size inb_S1x4096x3_S1x4096x1_0_0_0).toLoadRect (harg2.unread x0))
  (View.readAt (Elt Ideal) arg2.view (Rect.unit (s := S1x4096x3) ![0, 0, 1] S1x4096x1.size inb_S1x4096x3_S1x4096x1_0_0_1).toLoadRect (harg2.unread x0))
  (View.readAt (Elt Ideal) arg2.view (Rect.unit (s := S1x4096x3) ![0, 0, 2] S1x4096x1.size inb_S1x4096x3_S1x4096x1_0_0_2).toLoadRect (harg2.unread x0))
  (View.readAt (Elt Ideal) arg3.view (Rect.unit (s := S1x3x256) ![0, 0, 0] S1x1x256.size inb_S1x3x256_S1x1x256_0_0_0).toLoadRect (harg3.unread x1))
  (View.readAt (Elt Ideal) arg3.view (Rect.unit (s := S1x3x256) ![0, 1, 0] S1x1x256.size inb_S1x3x256_S1x1x256_0_1_0).toLoadRect (harg3.unread x1))
  (View.readAt (Elt Ideal) arg3.view (Rect.unit (s := S1x3x256) ![0, 2, 0] S1x1x256.size inb_S1x3x256_S1x1x256_0_2_0).toLoadRect (harg3.unread x1))

theorem table_column (q : Fin 256) : Knn.column (table arg2 harg2 arg3 harg3 x0 x1) q = fun k => sqd (Knn.cloud x0 k) (Knn.query x1 q) := by
  funext k
  unfold Knn.column table
  refine (Knn.table_apply _ _ _ _ _ _ k q).trans ?_
  congr 1
  · funext a
    fin_cases a
    all_goals
      refine (harg2.readAt_unread _ _ _).trans (congrArg x0 ?_)
      funext j; fin_cases j <;> apply Fin.ext <;> simp [LoadRect.idx, Rect.toLoadRect, Rect.unit, Rect.emb]
  · funext a
    fin_cases a
    all_goals
      refine (harg3.readAt_unread _ _ _).trans (congrArg x1 ?_)
      funext j; fin_cases j <;> apply Fin.ext <;> simp [LoadRect.idx, Rect.toLoadRect, Rect.unit, Rect.emb]

theorem near_run : kernelRun1_A.sl.r_1 c arg2 harg2 arg3 harg3 x0 x1
    = (Scf.fold Knn.trip (table arg2 harg2 arg3 harg3 x0 x1, k1_pay4)).2 := by
  unfold kernelRun1_A.sl.r_1 kernelRun1_A.sl.r
  rfl

/-- What the loop's indices hold when it ends. -/
theorem near_fold (j : Fin 32) (q : Fin 256) :
    kernelRun1_A.sl.r_1 c arg2 harg2 arg3 harg3 x0 x1 (ix2 j q)
      = BitVec.ofNat 32 (pick (fun k => sqd (Knn.cloud x0 k) (Knn.query x1 q)) j.val).val := by
  have h : (Scf.fold Knn.trip (table arg2 harg2 arg3 harg3 x0 x1, k1_pay4)).2 (ix2 j q) = _ :=
    (Knn.inv_loop (table arg2 harg2 arg3 harg3 x0 x1)).idxs j q j.isLt
  rw [table_column, ← near_run c] at h
  exact h

/-- The neighbours of every query of the block. -/
theorem near_indices (j : Fin 32) (q : Fin 256) :
    out1_A_2 c i arg2 harg2 arg3 harg3 arg4 harg4 arg5 harg5 x0 x1 (ix3 0 j q)
      = BitVec.ofNat 32 (pick (fun k => sqd (Knn.cloud x0 k) (Knn.query x1 q)) j.val).val := by
  have h := near_fold c arg2 harg2 arg3 harg3 x0 x1 j q
  unfold out1_A_2 kernelRun1_A
  dsimp only
  refine Eq.trans (View.read_writes_cons_hit_of_coords _ _ _ _ _ (ix3 0 j q) _ ?_) (Eq.trans ?_ h)
  · intro a; fin_cases a <;> simp [Rect.unit]
  pointwise [k1_pay1]

/-- The neighbours' rows in the table of every batch's points. -/
theorem near_rows (j : Fin 32) (q : Fin 256) :
    out1_A_3 c i arg2 harg2 arg3 harg3 arg4 harg4 arg5 harg5 x0 x1 (ix3 0 j q)
      = BitVec.ofNat 32 (pick (fun k => sqd (Knn.cloud x0 k) (Knn.query x1 q)) j.val).val
        + BitVec.ofNat 32 (i 0).val * 4096#32 := by
  have h := near_fold c arg2 harg2 arg3 harg3 x0 x1 j q
  unfold out1_A_3 kernelRun1_A
  dsimp only
  refine Eq.trans (View.read_writes_cons_hit_of_coords _ _ _ _ _ (ix3 0 j q) _ ?_) ?_
  · intro a; fin_cases a <;> simp [Rect.unit]
  rw [← h]
  pointwise [k1_pay2]
  rfl

end Near

end Cert.Proof.Whole
-- ==== Proof.WholeDense.lean ====
/-
  The dense layers' call inside the whole kernel: what its body leaves in its windows, and the obligation at each point.
-/
module

public import proofs.«01_k».proof.Proof.WholeGhost
public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import proofs.«01_k».proof.Proof.Gen.WholeIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Whole

open Cert.WholeIdeal Cert.WholeIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) (HIx 1) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) (HIx 1) ℕ UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) (HIx 1) ℕ UU ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) (HIx 1) ℕ UU ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) (HIx 1) ℕ UU ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) (HIx 1) ℕ UU ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) (HIx 1) ℕ UU ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) (HIx 1) ℕ UU ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) (HIx 1) ℕ UU ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) (HIx 1) ℕ UU ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) (HIx 1) ℕ UU ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) (HIx 1) ℕ UU ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

abbrev r0_0 : Rect S1x128 := Rect.unit (s := S1x128) ![0, 0] S1x128.size inb_S1x128_S1x128_0_0
abbrev r0_1 : Rect S1x256 := Rect.unit (s := S1x256) ![0, 0] S1x256.size inb_S1x256_S1x256_0_0
abbrev r0_2 : Rect S128x128 := Rect.unit (s := S128x128) ![0, 0] S128x128.size inb_S128x128_S128x128_0_0
abbrev r0_3 : Rect S128x256 := Rect.unit (s := S128x256) ![0, 0] S128x256.size inb_S128x256_S128x256_0_0
abbrev r0_4 : Rect S1x3x128 := Rect.unit (s := S1x3x128) ![0, 0, 0] S1x3x128.size inb_S1x3x128_S1x3x128_0_0_0
abbrev r0_5 : Rect S4096x128 := Rect.unit (s := S4096x128) ![0, 0] S4096x128.size inb_S4096x128_S4096x128_0_0
abbrev r0_6 : Rect S1x128x256 := Rect.unit (s := S1x128x256) ![0, 0, 0] S1x128x256.size inb_S1x128x256_S1x128x256_0_0_0

def out3_14 (x0 : Vec F S4096x128 .f32) (x1 : Vec F S1x3x128 .f32) (x2 : Vec F S128x128 .f32) (x3 : Vec F S128x128 .f32) (x4 : Vec F S128x256 .f32) (x5 : Vec F S1x128 .f32) (x6 : Vec F S1x128 .f32) (x7 : Vec F S1x128 .f32) (x8 : Vec F S1x128 .f32) (x9 : Vec F S1x128 .f32) (x10 : Vec F S1x128 .f32) (x11 : Vec F S1x256 .f32) (x12 : Vec F S1x256 .f32) (x13 : Vec F S1x256 .f32) : Vec F S1x128x256 .f32 :=
  View.canon [⟨r0_6, k3_pay1 (k3_pay4 (View.ld x12 r0_1)) (k3_pay5 (View.ld x6 r0_0) (View.ld x2 r0_2)) (k3_pay6 (View.ld x9 r0_0) (View.ld x3 r0_2)) (k3_pay7 (View.ld x12 r0_1) (View.ld x4 r0_3)) (k3_pay8 (View.ld x6 r0_0) (View.ld x5 r0_0) (View.ld x7 r0_0)) (k3_pay9 (View.ld x9 r0_0) (View.ld x8 r0_0) (View.ld x10 r0_0)) (View.ld x11 r0_1) (View.ld x13 r0_1) (View.ld x1 r0_4) (View.ld x0 r0_5)⟩]

theorem cover3_14 (p0 : Vec F S1x128x256 .f32) (y : S1x128x256.Idx) :
    ∃ pc ∈ ([⟨r0_6, p0⟩] : List (View.Piece (Elt F) S1x128x256 .f32)), y ∈ pc.1.set :=
  View.cover_of_tiled [⟨r0_6, p0⟩] S1x128x256.size (by rfl) y

set_option maxHeartbeats 1000000 in
theorem sound_kernel3 (c : Dev nD) (E : Set ℕ) (i : grid3.Coords) (arg2 : Memref sig .tc .vmem S4096x128 .f32) (harg2 : arg2.IsWhole) (arg3 : Memref sig .tc .vmem S1x3x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x128x256 .f32) (harg16 : arg16.IsWhole)
    (x0 : Vec F S4096x128 .f32) (x1 : Vec F S1x3x128 .f32) (x2 : Vec F S128x128 .f32) (x3 : Vec F S128x128 .f32) (x4 : Vec F S128x256 .f32) (x5 : Vec F S1x128 .f32) (x6 : Vec F S1x128 .f32) (x7 : Vec F S1x128 .f32) (x8 : Vec F S1x128 .f32) (x9 : Vec F S1x128 .f32) (x10 : Vec F S1x128 .f32) (x11 : Vec F S1x256 .f32) (x12 : Vec F S1x256 .f32) (x13 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (out3_14 x0 x1 x2 x3 x4 x5 x6 x7 x8 x9 x10 x11 x12 x13)) -∗ K ⟨⟩))
      ⊢ wp frame (wpE (defs₀ (F := F)) Variants.none c none) E (cc3__mlp_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc3__mlp_body_eq_skeleton]; unfold cc3__mlp_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover3_14 _)

def dat3 (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
  Φ _ := Beside spec3 c
  q _ := fullShare
  owed _ := (sc (F := F)).Otc c 1
  recorded _ := {p | (sc (F := F)).lev ((c : Thread nD τ), p.1) p.2 ≤ 8 * 1}

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d

def bodyPre3 (c : Dev nD) (t : Fin cfg3.N) : sProp 𝕄 :=
  iprop((dat3 V c).Φ t.castSucc ∗ (dat3 V c).owesAt none t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d)))

def bodyPost3 (c : Dev nD) (t : Fin cfg3.N) : sProp 𝕄 :=
  iprop((dat3 V c).Φ t.succ ∗ (dat3 V c).owesAt none t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13]
  rw [show (dat3 V c).Φ t.succ = (dat3 V c).Φ t.castSucc from rfl,
    show (dat3 V c).owesAt none t.succ = (dat3 V c).owesAt none t.castSucc from rfl,
    after3_0, after3_1, after3_2, after3_3, after3_4, after3_5, after3_6, after3_7, after3_8, after3_9, after3_10, after3_11, after3_12, after3_13, after3_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel3 c Set.univ (grid3.coords t) _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row3 (t : Fin cfg3.N) :
    defs₀ (F := F) .tc cfg3.body (cfg3.bodyArgs t (cfg3.slots t)) = bodyAt3 t := by
  rfl

theorem body_obligation3 (c : Dev nD) : BodyObligation (dat3 (F := F) V c) (defs₀ (F := F)) Variants.none none Set.univ := fun t => by
  rw [bigSep_W3, bigSep_W3, defs₀_row3]
  exact triple_restated (sound_body3 V c t) rfl .rfl fun _ => .rfl

end

end Cert.Proof.Whole
-- ==== Proof.WholeChunks.lean ====
/-
  The tile's program of the SparseCore call, as the run of equal steps it is: per chunk of 128 indices one fetch of
  the chunk's indices, one indirect gather of the table's rows they name, the wait for it, and one copy of the gathered
  rows to the result, two buffers of each kind in turn. The printed program writes the 32 chunks out; `tile_eq` says
  that it is the program below.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.WholeIdeal
public import proofs.«01_k».proof.Proof.Gen.WholeIdeal.Skeleton

@[expose] public section

noncomputable section

namespace Cert.Proof.Whole

open Cert.WholeIdeal Cert.WholeIdeal.Gen

open Idealize.ShloMosaic
open Idealize.SL Idealize.SL.Sem

variable {F : FTy → Type} [FloatOps F] [Named F]

/-! ## The names of this program -/

/-- The table, the indices and the result as a vector subcore addresses them. -/
abbrev tV : Memref sig .scVector .hbm S32768x128 .f32 := Memref.whole main_v9_scv
abbrev iV : Memref sig .scVector .hbm S131072 .i32 := Memref.whole main_v6_scv
abbrev oV : Memref sig .scVector .hbm S131072x128 .f32 := Memref.whole main_v10_scv

/-- The buffer of a chunk's indices: the first for the even chunks, the second for the odd. -/
abbrev listRef : Bool → Ref sig .scVector
  | false => cc2_scratch0
  | true => cc2_scratch2
/-- The buffer of a chunk's gathered rows. -/
abbrev rowsRef : Bool → Ref sig .scVector
  | false => cc2_scratch1
  | true => cc2_scratch3
abbrev listV : Bool → Memref sig .scVector .vmem S128 .i32
  | false => Memref.whole cc2_scratch0
  | true => Memref.whole cc2_scratch2
abbrev rowsV : Bool → Memref sig .scVector .vmem S128x128 .f32
  | false => Memref.whole cc2_scratch1
  | true => Memref.whole cc2_scratch3
/-- The semaphore of a buffer's gathers. -/
abbrev gSem : Bool → DmaSems sig S_
  | false => cc2_scratch4
  | true => cc2_scratch5

theorem listV_whole : ∀ b, (listV b).IsWhole
  | false => Memref.isWhole_whole _
  | true => Memref.isWhole_whole _
theorem rowsV_whole : ∀ b, (rowsV b).IsWhole
  | false => Memref.isWhole_whole _
  | true => Memref.isWhole_whole _

theorem cSem_inb (n : Fin 64) : n.val + 13 + S_.numel ≤ 95 := by have := n.isLt; have : S_.numel = 1 := rfl; omega
/-- The semaphore of the tile's `n`-th copy. -/
abbrev cSem (n : Fin 64) : DmaSems sig S_ := SemArray.consecutive (n.val + 13) S_ (cSem_inb n)

/-! ## The steps -/

section
variable (L : grid2.Coords)

abbrev Eff : Type → Type _ := TpuEff nD τ sig (Elt F) Λ₀ (.scVector ((L 0).castLE hcore2) ((L 1).castLE hsub2))

/-- The whole table, as the gathers name it. -/
abbrev tAll : Memref sig .scVector .hbm S32768x128 .f32 :=
  tV.slice (Rect.unit (s := S32768x128) ![0, 0] S32768x128.size inb_S32768x128_S32768x128_0_0) (fun _ => rfl)
/-- 128 of the indices, from offset `o`. -/
abbrev idxAt (o : Fin 1 → ℕ) (h : ∀ a, o a + S128.size a ≤ S131072.size a) : Memref sig .scVector .hbm S128 .i32 :=
  iV.slice (Rect.unit (s := S131072) o S128.size h) (fun _ => rfl)
/-- 128 rows of the result, from offset `o`. -/
abbrev outAt (o : Fin 2 → ℕ) (h : ∀ a, o a + S128x128.size a ≤ S131072x128.size a) : Memref sig .scVector .hbm S128x128 .f32 :=
  oV.slice (Rect.unit (s := S131072x128) o S128x128.size h) (fun _ => rfl)

/-- Copy 128 indices into buffer `b` and wait for them. -/
def fetch (o : Fin 1 → ℕ) (h : ∀ a, o a + S128.size a ≤ S131072.size a) (b : Bool) (s : DmaSems sig S_) : Prog (Eff (F := F) L) PUnit := do
  Prog.lift (.enqueueDma (idxAt o h) (.here (listV b)) (.dma s.sem) (View.wordExact_bits rfl) (listV_whole b).wordExact ⟨Or.inl rfl, trivial⟩)
  Prog.lift (.waitDma2 s.sem (idxAt o h) (listV b) (View.wordExact_bits rfl) (listV_whole b).wordExact)

/-- Start gathering the rows buffer `b`'s indices name. -/
def gstart (b : Bool) : Prog (Eff (F := F) L) PUnit :=
  SparseCore.enqueueIndirectGather rfl tAll (rowsV b) gathers_S32768x128_S128x128 (listV b) rfl (gSem b).sem (View.wordExact_bits rfl) rfl (Or.inl rfl)

/-- Wait for buffer `b`'s gather. -/
def gwait (b : Bool) : Prog (Eff (F := F) L) PUnit :=
  SparseCore.waitIndirectGather (gSem b).sem tAll (rowsV b) (View.wordExact_bits rfl) (rowsV_whole b).wordExact

/-- Copy buffer `b`'s rows to the result and wait for the copy. -/
def put (o : Fin 2 → ℕ) (h : ∀ a, o a + S128x128.size a ≤ S131072x128.size a) (b : Bool) (s : DmaSems sig S_) : Prog (Eff (F := F) L) PUnit := do
  Prog.lift (.enqueueDma (rowsV b) (.here (outAt o h)) (.dma s.sem) (rowsV_whole b).wordExact (View.wordExact_bits rfl) ⟨Or.inl rfl, trivial⟩)
  Prog.lift (.waitDma2 s.sem (rowsV b) (outAt o h) (rowsV_whole b).wordExact (View.wordExact_bits rfl))

/-- Chunk `n`'s buffer. -/
abbrev side : ℕ → Bool
  | 0 => false
  | n + 1 => !side n

/-- Chunk `r`'s turn: fetch chunk `r + 1` and start its gather, then wait for chunk `r`'s and copy it out. -/
def turn (r : Fin 31) : Prog (Eff (F := F) L) PUnit := do
  fetch L (k2_off2 L (BitVec.ofNat 32 (128 + 128 * r.val))) (k2_off2_inb L r) (side (r.val + 1)) (cSem ⟨2 * r.val + 1, by have := r.isLt; omega⟩)
  gstart L (side (r.val + 1))
  gwait L (side r.val)
  put L (k2_off3 L (BitVec.ofNat 32 (128 * r.val))) (k2_off3_inb L ⟨r.val, by have := r.isLt; omega⟩) (side r.val) (cSem ⟨2 * r.val + 2, by have := r.isLt; omega⟩)

/-- The turns of the first `n` chunks. -/
def turns : (n : ℕ) → n ≤ 31 → Prog (Eff (F := F) L) PUnit
  | 0, _ => pure ⟨⟩
  | n + 1, h => do turns n (Nat.le_of_succ_le h); turn L ⟨n, h⟩

/-- The tile's program. -/
def tile : Prog (Eff (F := F) L) PUnit := do
  fetch L (k2_off1 L) (k2_off1_inb L) false (cSem 0)
  gstart L false
  turns L 31 (le_refl _)
  gwait L true
  put L (k2_off3 L 3968#32) (k2_off3_inb L 31) true (cSem 63)

end

end Cert.Proof.Whole
-- ==== Proof.WholeSteps.lean ====
/-
  What each of the tile's steps does, for a symbolic tile: the rules of its copies, of its gathers and of the waits for
  them, with the contents they leave.
-/
module

public import proofs.«01_k».proof.Proof.WholeChunks

@[expose] public section

noncomputable section

namespace Cert.Proof.Whole

open Cert.WholeIdeal Cert.WholeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {U : Type} [URA U]

local notation "𝕄" => MT nD τ sig (HIx 1) (Elt F) ℕ U ℕ

abbrev 𝒱₀ : Variants := Variants.none
abbrev cV (L : grid2.Coords) : Fin τ.nSC := (L 0).castLE hcore2
abbrev jV (L : grid2.Coords) : Fin τ.nSub := (L 1).castLE hsub2
/-- The tile's thread. -/
abbrev thr (d : Dev nD) (L : grid2.Coords) : Thread nD τ := V d (cV L) (jV L)

/-! ## What the call computes -/

/-- The index list's entry `n`. -/
def iIx (n : ℕ) (h : n < 131072) : S131072.Idx := fun | 0 => ⟨n, h⟩
/-- The table's entry in the row word `w` names (the last row, were it past the end) and column `c`. -/
def tIx (w : BitVec 32) (c : Fin 128) : S32768x128.Idx := fun | 0 => ⟨min w.toNat 32767, Nat.lt_of_le_of_lt (Nat.min_le_right _ _) (by decide)⟩ | 1 => c
/-- Every row of the result is the row of the table its index names. -/
def gathered (tab : S32768x128.Idx → Elt F .f32) (idx : S131072.Idx → Elt F .i32) : S131072x128.Idx → Elt F .f32 :=
  fun j => tab (tIx (idx (iIx (j 0).val (j 0).isLt)) (j 1))

/-! ## The tile's rows -/

/-- The first row of the tile's chunk `r`. -/
def base (L : grid2.Coords) (r : ℕ) : ℕ := 8192 * (L 1).val + 4096 * (L 0).val + 128 * r

theorem base_lt (L : grid2.Coords) (r : Fin 32) {x : ℕ} (hx : x < 128) : base L r.val + x < 131072 := by
  have h0 : (L 0).val < 2 := (L 0).isLt
  have h1 : (L 1).val < 16 := (L 1).isLt
  have := r.isLt
  unfold base; omega

section
variable (d : Dev nD) (L : grid2.Coords)
variable (EC : UEmb Counters (MT nD τ sig (HIx 1) (Elt F) ℕ U ℕ)) [EC.LandsIn (upEmb : UEmb _ (MT nD τ sig (HIx 1) (Elt F) ℕ U ℕ))]

include EC in
/-- A copy on a semaphore at zero and the wait for it. -/
theorem wp_copy {sp sp' : Space} {s : Shape} {e : EltTy} (src : Memref sig .scVector sp s e) (dst : Memref sig .scVector sp' s e) (sm : DmaSem sig)
    (hsrc : src.view.WordExact) (hdst : dst.view.WordExact) (hsem : DmaTarget.Typed (nD := nD) (τ := τ) (p := (thr d L).2) sp (.dma sm) (.here dst)) (hs : 0 < s.numel)
    {q : PosShare TreeShare} {fs : Buf (Elt F) (src.view.loc (thr d L))} {fd : Buf (Elt F) (dst.view.loc (thr d L))}
    {O : CellTallies nD τ sig (HIx 1)} {W : Waits sig (HIx 1)} :
    iprop(Transfers.MayWaits (thr d L) none O ∗ (src.view.loc (thr d L) ↦[src.view.set]{q} fs) ∗ (dst.view.loc (thr d L) ↦[dst.view.set]{fullShare} fd)
        ∗ semVal ((thr d L), SemLoc.dma sm) 0 ∗ owes (thr d L) O W)
      ⊢ wp frame (wpE (defs₀ (F := F)) 𝒱₀ (thr d L) none) Set.univ
          (Prog.lift (.enqueueDma src (.here dst) (.dma sm) hsrc hdst hsem) >>= fun _ => Prog.lift (.waitDma2 sm src dst hsrc hdst))
          fun _ => iprop((dst.view.loc (thr d L) ↦[dst.view.set]{fullShare} (dst.view.write (Elt F) fd (src.view.read (Elt F) fs) Finset.univ) : sProp 𝕄)
            ∗ (src.view.loc (thr d L) ↦[src.view.set]{q} fs) ∗ semVal ((thr d L), SemLoc.dma sm) 0
            ∗ owes (thr d L) O (insert (SemLoc.dma sm, none) W)) := by
  iintro ⟨Hmw, Hs, Hd, Hv, HO⟩
  rw [Prog.bind_lift]
  iapply (Transfers.wp_dmaLocal EC 𝒱₀ (thr d L) none (none : HIx 1) dst.view.dmaCredit rfl (View.dmaCredit_pos _ hs) (Finset.Subset.refl _)) $$ [Hs Hd Hv]
  · isplitl [Hs]; · iexact Hs
    isplitl [Hd]; · iexact Hd
    iexact Hv
  iintro Hfl
  iapply (Transfers.wp_waitLocalO EC 𝒱₀ (thr d L) none (none : HIx 1) (rfl : dst.view.dmaCredit = _)) $$ [Hfl HO Hmw]
  · isplitl [Hfl]; · iexact Hfl
    isplitl [HO]; · iexact HO
    iapply (Transfers.MayWaits.elim (SemLoc.dma sm)) $$ Hmw
  iintro ⟨⟨Hd, Hs⟩, Hv, HO⟩
  sl_step
  isplitl [Hd]; · iexact Hd
  isplitl [Hs]; · iexact Hs
  isplitl [Hv]; · iexact Hv
  iexact HO

/-! ## The launch memory, the tile's shares and buffers -/

variable (m : (ℓ : Loc nD τ sig) → Buf (Elt F) ℓ)

abbrev tLoc (d : Dev nD) : Loc nD τ sig := (SparseCore.T d).loc main_v9
abbrev iLoc (d : Dev nD) : Loc nD τ sig := (SparseCore.T d).loc main_v6
abbrev oLoc (d : Dev nD) : Loc nD τ sig := (SparseCore.T d).loc main_v10

/-- What the call leaves in its result. -/
abbrev want : Buf (Elt F) (oLoc d) := gathered (m (tLoc d)) (m (iLoc d))

abbrev listPts (b : Bool) (f : Buf (Elt F) ((listV b).view.loc (thr d L))) : sProp 𝕄 :=
  (listV b).view.loc (thr d L) ↦[(listV b).view.set]{fullShare} f
abbrev rowsPts (b : Bool) (f : Buf (Elt F) ((rowsV b).view.loc (thr d L))) : sProp 𝕄 :=
  (rowsV b).view.loc (thr d L) ↦[(rowsV b).view.set]{fullShare} f
/-- Buffer `b`'s share of the table: half of the tile's. -/
abbrev half (q : PosShare TreeShare) : Bool → PosShare TreeShare
  | false => q.left
  | true => q.right
abbrev tabPts (q : PosShare TreeShare) (b : Bool) : sProp 𝕄 :=
  (tAll).view.loc (thr d L) ↦[(tAll).view.set]{half q b} m (tLoc d)

theorem out_inb (r : Fin 32) : ∀ a, (![base L r.val, 0] : Fin 2 → ℕ) a + S128x128.size a ≤ S131072x128.size a
  | 0 => by have := base_lt L r (x := 127) (by decide); show base L r.val + 128 ≤ 131072; omega
  | 1 => by show 0 + 128 ≤ 128; omega
/-- The result's rows of the tile's chunk `r`. -/
abbrev outSet (r : Fin 32) : Finset S131072x128.Idx := (outAt (![base L r.val, 0]) (out_inb L r)).view.set
abbrev outPts (r : Fin 32) (f : Buf (Elt F) (oLoc d)) : sProp 𝕄 := oLoc d ↦[outSet L r]{fullShare} f

/-- The list in buffer `b` is chunk `r`'s. -/
def ListOK (b : Bool) (r : Fin 32) (f : Buf (Elt F) ((listV b).view.loc (thr d L))) : Prop :=
  ∀ x : S128.Idx, (listV b).view.read (Elt F) f x = m (iLoc d) (iIx (base L r.val + (x 0).val) (base_lt L r (x 0).isLt))

/-- The rows in buffer `b` are those of chunk `r`. -/
def RowsOK (b : Bool) (r : Fin 32) (f : Buf (Elt F) ((rowsV b).view.loc (thr d L))) : Prop :=
  ∀ x : S128x128.Idx, (rowsV b).view.read (Elt F) f x = want d m ((outAt (![base L r.val, 0]) (out_inb L r)).view.emb x)

/-- The waits recorded so far: what they were at the start, and the tile's own. -/
abbrev owesSince (O : CellTallies nD τ sig (HIx 1)) (W : Waits sig (HIx 1)) : sProp 𝕄 :=
  iprop(∃ W', ⌜∀ p ∈ W', p ∈ W ∨ p.2 = none⌝ ∗ owes (thr d L) O W')

/-- What every step has by it: the right to wait, a share of the index list, the copies' semaphores at zero. -/
abbrev Base (q : PosShare TreeShare) (O : CellTallies nD τ sig (HIx 1)) (W : Waits sig (HIx 1)) : sProp 𝕄 :=
  iprop(Transfers.MayWaits (thr d L) none O ∗ (iLoc d ↦{q} m (iLoc d))
    ∗ (bigSep Finset.univ fun n : Fin 64 => semVal (thr d L, SemLoc.dma (cSem n).sem) 0) ∗ owesSince d L O W)

/-- What a finished gather hands back. -/
abbrev Landed (q : PosShare TreeShare) (b : Bool) (r : Fin 32) : sProp 𝕄 :=
  iprop((∃ f, ⌜RowsOK d L m b r f⌝ ∗ rowsPts d L b f) ∗ (∃ f, listPts d L b f) ∗ tabPts d L m q b)

/-- Chunk `r`'s gather into buffer `b` under way. -/
def Flying (q : PosShare TreeShare) (b : Bool) (r : Fin 32) : sProp 𝕄 :=
  iprop(∃ D : sProp 𝕄, ⌜D ⊢ Landed d L m q b r⌝ ∗ Transfers.Flight EC (thr d L) (.dma (gSem b).sem) (none : HIx 1) (rowsV b).view.dmaCredit D)

variable {q : PosShare TreeShare} {O : CellTallies nD τ sig (HIx 1)} {W : Waits sig (HIx 1)}

include EC in
theorem fetch_step (o : Fin 1 → ℕ) (h : ∀ a, o a + S128.size a ≤ S131072.size a) (b : Bool) (n : Fin 64) (r : Fin 32) (ho : o = ![base L r.val]) :
    iprop(Base d L m q O W ∗ ∃ f, listPts d L b f)
      ⊢ wp frame (wpE (defs₀ (F := F)) 𝒱₀ (thr d L) none) Set.univ (fetch L o h b (cSem n))
          fun _ => (iprop(Base d L m q O W ∗ ∃ f, ⌜ListOK d L m b r f⌝ ∗ listPts d L b f) : sProp 𝕄) := by
  subst ho
  unfold Base
  rw [SparseCore.bigSep_erase' (Finset.mem_univ n)]
  iintro ⟨⟨#Hmw, Hi, ⟨Hv, Hsems⟩, ⟨%W', %hW', HO⟩⟩, ⟨%f, Hl⟩⟩
  ihave Hi' := (pointsTo_split_subset (q := q) (f := m (iLoc d)) (S := Finset.univ) (Finset.subset_univ (idxAt (![base L r.val]) h).view.set)).1 $$ Hi
  icases Hi' with ⟨Hi, Hirest⟩
  unfold fetch
  iapply (wp_wand_r frame _ _)
  isplitl [Hi Hl Hv HO]
  · iapply (wp_copy d L EC (idxAt (![base L r.val]) h) (listV b) (cSem n).sem _ _ _ (by decide) (q := q) (fs := m (iLoc d)) (fd := f) (O := O) (W := W'))
    isplitr; · iexact Hmw
    isplitl [Hi]; · iexact Hi
    isplitl [Hl]; · iexact Hl
    isplitl [Hv]; · iexact Hv
    iexact HO
  iintro %u ⟨Hl, Hi, Hv, HO⟩
  ihave Hi' := (pointsTo_split_subset (q := q) (f := m (iLoc d)) (S := Finset.univ) (Finset.subset_univ (idxAt (![base L r.val]) h).view.set)).2 $$ [Hi Hirest]; · isplitl [Hi] <;> iassumption
  isplitl [Hi' Hv Hsems HO]
  · isplitr; · iexact Hmw
    isplitl [Hi']; · iexact Hi'
    isplitl [Hv Hsems]; · isplitl [Hv] <;> iassumption
    iexists _; isplitr
    swap; · iexact HO
    ipureintro; intro p hp
    rcases Finset.mem_insert.mp hp with hp | hp; · exact .inr (hp ▸ rfl)
    exact hW' p hp
  iexists _; isplitr
  swap; · iexact Hl
  ipureintro
  intro x
  rw [View.read_write_univ, View.read_apply]
  refine (cast_eq _ _).trans (congrArg (m (iLoc d)) (funext fun a => ?_))
  match a with
  | 0 => refine Fin.ext ?_; show base L r.val + 1 * (x 0).val = base L r.val + (x 0).val; omega

/-- The gathers' credit is the row buffer's. -/
theorem gather_credit (b : Bool) : ∑ j, ((rowsV b).slice (S128x128.rowRect gathers_S32768x128_S128x128.axis' j) (S128x128.stride_rowRect gathers_S32768x128_S128x128.axis' j)).view.dmaCredit
    = (rowsV b).view.dmaCredit := by
  cases b <;> decide

/-- The launch's index list names rows of the table. -/
def InTable : Prop := ∀ j : S131072.Idx, (show BitVec 32 from m (iLoc d) j).toNat < 32768

theorem list_in {b : Bool} {r : Fin 32} {f : Buf (Elt F) ((listV b).view.loc (thr d L))} (hpre : InTable d m) (hf : ListOK d L m b r f) :
    ∀ x, ((listV b).view.read (Elt F) f x).toNat < S32768x128.size gathers_S32768x128_S128x128.axis := by
  intro x
  rw [hf x]
  exact hpre _

/-- What a gather lands at an index of the row buffer is what the call is to leave there in the result. -/
theorem payload_eq {b : Bool} {r : Fin 32} {f : Buf (Elt F) ((listV b).view.loc (thr d L))} (hpre : InTable d m) (hf : ListOK d L m b r f) (x : S128x128.Idx) :
    SparseCore.gatherPayload gathers_S32768x128_S128x128 ((tAll).view.read (Elt F) (m (tLoc d)))
        (SparseCore.rows (o := S128x128.size gathers_S32768x128_S128x128.axis') ((listV b).view.read (Elt F) f) rfl (list_in d L m hpre hf)) x
      = want d m ((outAt (![base L r.val, 0]) (out_inb L r)).view.emb x) := by
  unfold SparseCore.gatherPayload want gathered
  rw [View.read_apply]
  refine (cast_eq _ _).trans (congrArg (m (tLoc d)) (funext fun a => ?_))
  match a with
  | 0 =>
    refine Fin.ext ?_
    show 0 + 1 * (gathers_S32768x128_S128x128.idx _ x gathers_S32768x128_S128x128.axis).val = _
    rw [Shape.Gathers.idx_axis]
    show 0 + 1 * (show BitVec 32 from (listV b).view.read (Elt F) f (S128.rowMajor.symm (Fin.cast rfl (x 0)))).toNat
      = min (show BitVec 32 from m (iLoc d) (iIx (base L r.val + 1 * (x 0).val) _)).toNat 32767
    have hx : ((S128.rowMajor.symm (Fin.cast rfl (x 0))) 0).val = (x 0).val := by
      rw [← Shape.rowMajor_val_one (d := ![128]), Equiv.apply_symm_apply]; rfl
    rw [hf]
    have e : iIx (base L r.val + ((S128.rowMajor.symm (Fin.cast rfl (x 0))) 0).val) (base_lt L r ((S128.rowMajor.symm (Fin.cast rfl (x 0))) 0).isLt)
        = iIx (base L r.val + 1 * (x 0).val) (by rw [Nat.one_mul]; exact base_lt L r (x 0).isLt) := by
      congr 1; rw [hx, Nat.one_mul]
    rw [e]
    have := hpre (iIx (base L r.val + 1 * (x 0).val) (by rw [Nat.one_mul]; exact base_lt L r (x 0).isLt))
    omega
  | 1 =>
    refine Fin.ext ?_
    show 0 + 1 * (gathers_S32768x128_S128x128.idx _ x 1).val = 0 + 1 * (x 1).val
    rw [Shape.Gathers.idx_of_ne _ _ _ _ (by decide)]
    rfl

include EC in
theorem gstart_step (hpre : InTable d m) (b : Bool) (r : Fin 32) :
    iprop(tabPts d L m q b ∗ (∃ f, rowsPts d L b f) ∗ (∃ f, ⌜ListOK d L m b r f⌝ ∗ listPts d L b f) ∗ semVal (thr d L, SemLoc.dma (gSem b).sem) 0)
      ⊢ wp frame (wpE (defs₀ (F := F)) 𝒱₀ (thr d L) none) Set.univ (gstart L b) fun _ => (Flying d L EC m q b r : sProp 𝕄) := by
  iintro ⟨Ht, ⟨%fr, Hr⟩, ⟨%fl, %hl, Hl⟩, Hv⟩
  rw [show gstart (F := F) L b = (gstart L b >>= pure) from (bind_pure _).symm]
  unfold gstart
  iapply (SparseCore.wp_indirectGatherLocal EC 𝒱₀ (thr d L) none (hg := gathers_S32768x128_S128x128) (none : HIx 1)
      (rowsV b).view.dmaCredit (gather_credit b) (by decide) (list_in d L m hpre hl)) $$ [Ht Hr Hl Hv]
  · isplitl [Ht]; · iexact Ht
    isplitl [Hr]; · iexact Hr
    isplitl [Hl]; · iexact Hl
    iexact Hv
  iintro Hfl
  sl_step
  unfold Flying
  iexists _
  isplitr
  swap; · iexact Hfl
  ipureintro
  iintro ⟨Hr, Ht, Hl⟩
  isplitl [Hr]
  · iexists _; isplitr
    swap; · iexact Hr
    ipureintro
    intro x
    rw [View.read_write_univ]
    exact payload_eq d L m hpre hl x
  isplitl [Hl]; · iexists _; iexact Hl
  iexact Ht

include EC in
theorem gwait_step (b : Bool) (r : Fin 32) :
    iprop(Base d L m q O W ∗ Flying d L EC m q b r)
      ⊢ wp frame (wpE (defs₀ (F := F)) 𝒱₀ (thr d L) none) Set.univ (gwait L b)
          fun _ => (iprop(Base d L m q O W ∗ Landed d L m q b r ∗ semVal (thr d L, SemLoc.dma (gSem b).sem) 0) : sProp 𝕄) := by
  unfold Flying
  iintro ⟨⟨#Hmw, Hi, Hsems, ⟨%W', %hW', HO⟩⟩, ⟨%D, %hD, Hfl⟩⟩
  unfold gwait SparseCore.waitIndirectGather
  iapply (Transfers.wp_waitLocalO EC 𝒱₀ (thr d L) none (none : HIx 1) (rfl : (rowsV b).view.dmaCredit = _)) $$ [Hfl HO]
  · isplitl [Hfl]; · iexact Hfl
    isplitl [HO]; · iexact HO
    iapply (Transfers.MayWaits.elim (SemLoc.dma (gSem b).sem)) $$ Hmw
  iintro ⟨HD, Hv, HO⟩
  sl_step
  isplitl [Hi Hsems HO]
  · isplitr; · iexact Hmw
    isplitl [Hi]; · iexact Hi
    isplitl [Hsems]; · iexact Hsems
    iexists _; isplitr
    swap; · iexact HO
    ipureintro; intro p hp
    rcases Finset.mem_insert.mp hp with hp | hp; · exact .inr (hp ▸ rfl)
    exact hW' p hp
  isplitl [HD]; · iapply hD; iexact HD
  iexact Hv

include EC in
theorem put_step (o : Fin 2 → ℕ) (h : ∀ a, o a + S128x128.size a ≤ S131072x128.size a) (b : Bool) (n : Fin 64) (r : Fin 32) (ho : o = ![base L r.val, 0]) :
    iprop(Base d L m q O W ∗ (∃ f, ⌜RowsOK d L m b r f⌝ ∗ rowsPts d L b f) ∗ outPts d L r (m (oLoc d)))
      ⊢ wp frame (wpE (defs₀ (F := F)) 𝒱₀ (thr d L) none) Set.univ (put L o h b (cSem n))
          fun _ => (iprop(Base d L m q O W ∗ (∃ f, rowsPts d L b f) ∗ outPts d L r (want d m)) : sProp 𝕄) := by
  subst ho
  unfold Base
  rw [SparseCore.bigSep_erase' (Finset.mem_univ n)]
  iintro ⟨⟨#Hmw, Hi, ⟨Hv, Hsems⟩, ⟨%W', %hW', HO⟩⟩, ⟨%f, %hf, Hr⟩, Ho⟩
  unfold put
  iapply (wp_wand_r frame _ _)
  isplitl [Hr Ho Hv HO]
  · iapply (wp_copy d L EC (rowsV b) (outAt (![base L r.val, 0]) h) (cSem n).sem _ _ _ (by decide) (q := fullShare) (fs := f) (fd := m (oLoc d)) (O := O) (W := W'))
    isplitr; · iexact Hmw
    isplitl [Hr]; · iexact Hr
    isplitl [Ho]; · iexact Ho
    isplitl [Hv]; · iexact Hv
    iexact HO
  iintro %u ⟨Ho, Hr, Hv, HO⟩
  isplitl [Hi Hv Hsems HO]
  · isplitr; · iexact Hmw
    isplitl [Hi]; · iexact Hi
    isplitl [Hv Hsems]; · isplitl [Hv] <;> iassumption
    iexists _; isplitr
    swap; · iexact HO
    ipureintro; intro p hp
    rcases Finset.mem_insert.mp hp with hp | hp; · exact .inr (hp ▸ rfl)
    exact hW' p hp
  isplitl [Hr]; · iexists _; iexact Hr
  iapply (Entails.of_eq (pointsTo_congr (g := want d m) fun i hi => ?_)) $$ Ho
  obtain ⟨x, -, rfl⟩ := Finset.mem_map.mp hi
  rw [View.write_emb_of_mem _ _ (Finset.mem_univ _)]
  exact (cast_eq _ _).trans (hf x)

end

end Cert.Proof.Whole
-- ==== Proof.WholeTileRun.lean ====
/-
  The tile's run: from the launch contents of its rows of the result to the gathered rows, its buffers and semaphores
  handed back.
-/
module

public import proofs.«01_k».proof.Proof.WholeSteps

@[expose] public section

noncomputable section

namespace Cert.Proof.Whole

open Cert.WholeIdeal Cert.WholeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {U : Type} [URA U]

local notation "𝕄" => MT nD τ sig (HIx 1) (Elt F) ℕ U ℕ

variable (d : Dev nD) (L : grid2.Coords)
variable (EC : UEmb Counters (MT nD τ sig (HIx 1) (Elt F) ℕ U ℕ)) [EC.LandsIn (upEmb : UEmb _ (MT nD τ sig (HIx 1) (Elt F) ℕ U ℕ))]
variable (m : (ℓ : Loc nD τ sig) → Buf (Elt F) ℓ)
variable {q : PosShare TreeShare} {O : CellTallies nD τ sig (HIx 1)} {W : Waits sig (HIx 1)}

/-- Buffer pair `b` between gathers. -/
abbrev Idle (q : PosShare TreeShare) (b : Bool) : sProp 𝕄 :=
  iprop((∃ f, rowsPts d L b f) ∗ (∃ f, listPts d L b f) ∗ tabPts d L m q b ∗ semVal (thr d L, SemLoc.dma (gSem b).sem) 0)

/-- The tile's rows of the result when its first `n` chunks are done. -/
abbrev Outs (n : ℕ) : sProp 𝕄 :=
  bigSep Finset.univ fun r : Fin 32 => outPts d L r (if r.val < n then want d m else m (oLoc d))

theorem outs_take (r : Fin 32) : (Outs d L m r.val : sProp 𝕄)
    = iprop(outPts d L r (m (oLoc d)) ∗ bigSep (Finset.univ.erase r) fun r' : Fin 32 => outPts d L r' (if r'.val < r.val then want d m else m (oLoc d))) := by
  unfold Outs
  rw [SparseCore.bigSep_erase' (Finset.mem_univ r), if_neg (Nat.lt_irrefl _)]

theorem outs_put (r : Fin 32) : (Outs d L m (r.val + 1) : sProp 𝕄)
    = iprop(outPts d L r (want d m) ∗ bigSep (Finset.univ.erase r) fun r' : Fin 32 => outPts d L r' (if r'.val < r.val then want d m else m (oLoc d))) := by
  unfold Outs
  rw [SparseCore.bigSep_erase' (Finset.mem_univ r), if_pos (Nat.lt_succ_self _)]
  congr 1
  refine bigSep_congr fun r' hr' => ?_
  have hne : r'.val ≠ r.val := fun h => (Finset.mem_erase.mp hr').1 (Fin.ext h)
  by_cases h : r'.val < r.val
  · rw [if_pos h, if_pos (Nat.lt_succ_of_lt h)]
  · rw [if_neg h, if_neg (by omega)]

/-- Before the turn of chunk `n`: its gather is under way, the other buffers are free, the earlier chunks are out. -/
abbrev Inv (q : PosShare TreeShare) (O : CellTallies nD τ sig (HIx 1)) (W : Waits sig (HIx 1)) (n : Fin 32) : sProp 𝕄 :=
  iprop(Base d L m q O W ∗ Flying d L EC m q (side n.val) n ∗ Idle d L m q (side (n.val + 1)) ∗ Outs d L m n.val)

theorem off2_eq (r : Fin 31) : k2_off2 L (BitVec.ofNat 32 (128 + 128 * r.val)) = ![base L (r.val + 1)] := by
  rw [k2_off2_eq]; unfold base; congr 1
theorem off3_eq (r : Fin 32) : k2_off3 L (BitVec.ofNat 32 (128 * r.val)) = ![base L r.val, 0] := by
  rw [k2_off3_eq]; rfl
theorem off1_eq : k2_off1 L = ![base L (0 : Fin 32).val] := by
  rw [k2_off1_eq]; rfl

include EC in
theorem turn_run (hpre : InTable d m) (r : Fin 31) :
    Inv d L EC m q O W r.castSucc
      ⊢ wp frame (wpE (defs₀ (F := F)) 𝒱₀ (thr d L) none) Set.univ (turn L r)
          fun _ => (Inv d L EC m q O W r.succ : sProp 𝕄) := by
  unfold Inv turn
  simp only [Fin.val_castSucc, Fin.val_succ]
  have hput := outs_put (U := U) d L m r.castSucc
  have htake := outs_take (U := U) d L m r.castSucc
  simp only [Fin.val_castSucc] at hput htake
  rw [htake, hput, show side (r.val + 1 + 1) = side r.val from Bool.not_not _]
  iintro ⟨HB, Hfl, ⟨Hr, Hl, Ht, Hv⟩, ⟨Ho, Houts⟩⟩
  iapply (Entails.of_eq (wp_bind frame _ _ _ _ _).symm)
  iapply (wp_wand_r frame _ _)
  isplitl [HB Hl]
  · iapply (fetch_step d L EC m _ _ _ _ r.succ (off2_eq L r))
    isplitl [HB]; · iexact HB
    iexact Hl
  iintro %u ⟨HB, Hl⟩
  iapply (Entails.of_eq (wp_bind frame _ _ _ _ _).symm)
  iapply (wp_wand_r frame _ _)
  isplitl [Ht Hr Hl Hv]
  · iapply (gstart_step d L EC m hpre (side (r.val + 1)) r.succ)
    isplitl [Ht]; · iexact Ht
    isplitl [Hr]; · iexact Hr
    isplitl [Hl]; · iexact Hl
    iexact Hv
  iintro %u Hfl'
  iapply (Entails.of_eq (wp_bind frame _ _ _ _ _).symm)
  iapply (wp_wand_r frame _ _)
  isplitl [HB Hfl]
  · iapply (gwait_step d L EC m (side r.val) r.castSucc)
    isplitl [HB]; · iexact HB
    iexact Hfl
  iintro %u ⟨HB, ⟨Hr, Hl, Ht⟩, Hv⟩
  iapply (wp_wand_r frame _ _)
  isplitl [HB Hr Ho]
  · iapply (put_step d L EC m _ _ (side r.val) _ r.castSucc (off3_eq L r.castSucc))
    isplitl [HB]; · iexact HB
    isplitl [Hr]; · iexact Hr
    iexact Ho
  iintro %u ⟨HB, Hr, Ho⟩
  isplitl [HB]; · iexact HB
  isplitl [Hfl']; · iexact Hfl'
  isplitl [Hr Hl Ht Hv]
  · isplitl [Hr]; · iexact Hr
    isplitl [Hl]; · iexact Hl
    isplitl [Ht]; · iexact Ht
    iexact Hv
  isplitl [Ho]; · iexact Ho
  iexact Houts

include EC in
theorem turns_run (hpre : InTable d m) : ∀ (n : ℕ) (h : n ≤ 31),
    Inv d L EC m q O W 0
      ⊢ wp frame (wpE (defs₀ (F := F)) 𝒱₀ (thr d L) none) Set.univ (turns L n h)
          fun _ => (Inv d L EC m q O W ⟨n, by omega⟩ : sProp 𝕄)
  | 0, _ => by
    unfold turns
    iintro H
    sl_step
    iexact H
  | n + 1, h => by
    unfold turns
    refine ((turns_run hpre n (Nat.le_of_succ_le h)).trans (wp_mono frame _ _ fun _ => ?_)).trans (Entails.of_eq (wp_bind frame _ _ _ _ _).symm)
    exact turn_run d L EC m hpre ⟨n, h⟩

theorem inv_last : (Inv d L EC m q O W ⟨31, by decide⟩ : sProp 𝕄)
    = iprop(Base d L m q O W ∗ Flying d L EC m q true 31 ∗ Idle d L m q false ∗ Outs d L m (31 : Fin 32).val) := by
  unfold Inv
  rw [show side (31 + 1) = false by decide, show side (⟨31, by decide⟩ : Fin 32).val = true by decide]
  rfl

attribute [local irreducible] turns in
include EC in
/-- The tile's whole run. -/
theorem tile_run (hpre : InTable d m) :
    iprop(Base d L m q O W ∗ Idle d L m q false ∗ Idle d L m q true ∗ Outs d L m 0)
      ⊢ wp frame (wpE (defs₀ (F := F)) 𝒱₀ (thr d L) none) Set.univ (tile L)
          fun _ => (iprop(Base d L m q O W ∗ Idle d L m q false ∗ Idle d L m q true ∗ Outs d L m 32) : sProp 𝕄) := by
  unfold tile
  iintro ⟨HB, ⟨Hr, Hl, Ht, Hv⟩, Hidle, Houts⟩
  iapply (Entails.of_eq (wp_bind frame _ _ _ _ _).symm)
  iapply (wp_wand_r frame _ _)
  isplitl [HB Hl]
  · iapply (fetch_step d L EC m _ _ _ _ 0 (off1_eq L))
    isplitl [HB]; · iexact HB
    iexact Hl
  iintro %u ⟨HB, Hl⟩
  iapply (Entails.of_eq (wp_bind frame _ _ _ _ _).symm)
  iapply (wp_wand_r frame _ _)
  isplitl [Ht Hr Hl Hv]
  · iapply (gstart_step d L EC m hpre false 0)
    isplitl [Ht]; · iexact Ht
    isplitl [Hr]; · iexact Hr
    isplitl [Hl]; · iexact Hl
    iexact Hv
  iintro %u Hfl
  iapply (Entails.of_eq (wp_bind frame _ _ _ _ _).symm)
  iapply (wp_wand_r frame _ _)
  isplitl [HB Hfl Hidle Houts]
  · iapply (turns_run d L EC m hpre 31 (le_refl _))
    isplitl [HB]; · iexact HB
    isplitl [Hfl]; · iexact Hfl
    isplitl [Hidle]; · iexact Hidle
    iexact Houts
  iintro %u Hinv
  ihave Hinv' := (Entails.of_eq (inv_last d L EC m)) $$ Hinv
  icases Hinv' with ⟨HB, Hfl, Hidle, Houts⟩
  ihave Houts' := (Entails.of_eq (outs_take d L m 31)) $$ Houts
  icases Houts' with ⟨Ho, Houts⟩
  iapply (Entails.of_eq (wp_bind frame _ _ _ _ _).symm)
  iapply (wp_wand_r frame _ _)
  isplitl [HB Hfl]
  · iapply (gwait_step d L EC m true 31)
    isplitl [HB]; · iexact HB
    iexact Hfl
  iintro %u ⟨HB, ⟨Hr, Hl, Ht⟩, Hv⟩
  iapply (wp_wand_r frame _ _)
  isplitl [HB Hr Ho]
  · iapply (put_step d L EC m _ _ true _ 31 (off3_eq L 31))
    isplitl [HB]; · iexact HB
    isplitl [Hr]; · iexact Hr
    iexact Ho
  iintro %u ⟨HB, Hr, Ho⟩
  isplitl [HB]; · iexact HB
  isplitl [Hidle]; · iexact Hidle
  isplitl [Hr Hl Ht Hv]
  · isplitl [Hr]; · iexact Hr
    isplitl [Hl]; · iexact Hl
    isplitl [Ht]; · iexact Ht
    iexact Hv
  iapply (Entails.of_eq (outs_put d L m 31).symm)
  isplitl [Ho]; · iexact Ho
  iexact Houts

end Cert.Proof.Whole
-- ==== Proof.WholeProgram.lean ====
/-
  The printed tile program, its 32 chunks written out, is the run of steps `tile`.
-/
module

public import proofs.«01_k».proof.Proof.WholeChunks

@[expose] public section

noncomputable section

namespace Cert.Proof.Whole

open Cert.WholeIdeal Cert.WholeIdeal.Gen

open Idealize.ShloMosaic
open Idealize.SL Idealize.SL.Sem

variable {F : FTy → Type} [FloatOps F] [Named F]

/-- The printed program is the run of steps. -/
theorem tile_eq (L : grid2.Coords) : cc2_k (F := F) L tV (Memref.isWhole_whole _) iV (Memref.isWhole_whole _) oV (Memref.isWhole_whole _)
    (Memref.whole cc2_scratch0) (Memref.isWhole_whole _) (Memref.whole cc2_scratch1) (Memref.isWhole_whole _) (Memref.whole cc2_scratch2) (Memref.isWhole_whole _) (Memref.whole cc2_scratch3) (Memref.isWhole_whole _)
    cc2_scratch4 cc2_scratch5 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 cc2_scoped34 cc2_scoped35 cc2_scoped36 cc2_scoped37 cc2_scoped38 cc2_scoped39 cc2_scoped40 cc2_scoped41 cc2_scoped42 cc2_scoped43 cc2_scoped44 cc2_scoped45 cc2_scoped46 cc2_scoped47 cc2_scoped48 cc2_scoped49 cc2_scoped50 cc2_scoped51 cc2_scoped52 cc2_scoped53 cc2_scoped54 cc2_scoped55 cc2_scoped56 cc2_scoped57 cc2_scoped58 cc2_scoped59 cc2_scoped60 cc2_scoped61 cc2_scoped62 cc2_scoped63 = tile L := by
  simp only [cc2_k_eq_skeleton, cc2_k_skel, k2_part1_eq_skeleton, k2_part1_skel, k2_part2_eq_skeleton, k2_part2_skel, k2_part3_eq_skeleton, k2_part3_skel,
    k2_part4_eq_skeleton, k2_part4_skel, k2_part5_eq_skeleton, k2_part5_skel, k2_part6_eq_skeleton, k2_part6_skel, k2_part7_eq_skeleton, k2_part7_skel,
    k2_part8_eq_skeleton, k2_part8_skel, k2_part9_eq_skeleton, k2_part9_skel, k2_part10_eq_skeleton, k2_part10_skel, k2_part11_eq_skeleton, k2_part11_skel,
    k2_part12_eq_skeleton, k2_part12_skel, k2_part13_eq_skeleton, k2_part13_skel, k2_part14_eq_skeleton, k2_part14_skel, k2_part15_eq_skeleton, k2_part15_skel,
    tile, turns, turn, fetch, put, gstart, gwait, bind_assoc, pure_bind]
  rfl

end Cert.Proof.Whole
-- ==== Proof.WholeTask.lean ====
/-
  The tile's task as the launch asks for it: from the subcore's buffers and semaphores as the launch hands them over to
  the same again, the tile's rows of the result gathered.
-/
module

public import proofs.«01_k».proof.Proof.WholeTileRun
public import proofs.«01_k».proof.Proof.WholeProgram

@[expose] public section

noncomputable section

namespace Cert.Proof.Whole

open Cert.WholeIdeal Cert.WholeIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable {U : Type} [URA U]

local notation "𝕄" => MT nD τ sig (HIx 1) (Elt F) ℕ U ℕ

/-! ## The program as the launch theorem sees it -/

abbrev PLab : Labels := Pipeline.Sig Λ₀ _ fun p => (pcfgs (F := F) p).Adm
abbrev K : SparseCore.Cfg τ sig (PLab (F := F)) 1 := sc (F := F)
abbrev D : Defs nD τ sig (Elt F) (PLab (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (L : grid2.Coords)
variable (EC : UEmb Counters (MT nD τ sig (HIx 1) (Elt F) ℕ U ℕ)) [EC.LandsIn (upEmb : UEmb _ (MT nD τ sig (HIx 1) (Elt F) ℕ U ℕ))]
variable (m : (ℓ : Loc nD τ sig) → Buf (Elt F) ℓ)

/-! ## The subcore's semaphores and buffers -/

/-- A family's members that `f`, one-to-one, names, and the others. -/
theorem bigSep_named {I J : Type} [DecidableEq I] [Fintype J] [DecidableEq J] {s : Finset I} {f : J → I} (inj : Function.Injective f) (sub : ∀ j, f j ∈ s) {Φ : I → sProp 𝕄} :
    bigSep s Φ = iprop((bigSep Finset.univ fun j => Φ (f j)) ∗ bigSep (s \ Finset.univ.image f) Φ) := by
  rw [SparseCore.bigSep_sdiff_split' (t := Finset.univ.image f) (fun x hx => by obtain ⟨j, -, rfl⟩ := Finset.mem_image.mp hx; exact sub j),
    bigSep_image_of_injOn (inj.injOn)]

/-- The semaphores the task uses. -/
def semOf : Bool ⊕ Fin 64 → DmaSem sig := Sum.elim (fun b => (gSem b).sem) (fun n => (cSem n).sem)

/-- The first semaphore of the program's pool that is the task's. -/
theorem semOf_inl : ∀ b : Bool, (semOf (.inl b)).val = cond b 12 11
  | false => rfl
  | true => rfl
theorem semOf_inr (n : Fin 64) : (semOf (.inr n)).val = n.val + 13 := by
  have h : (S_.rowMajor fun i => i.elim0).val < 1 := (S_.rowMajor fun i => i.elim0).isLt
  show n.val + 13 + (S_.rowMajor fun i => i.elim0).val = _
  omega

theorem semOf_injective : Function.Injective semOf := by
  intro a b h
  have hv := congrArg Fin.val h
  match a, b with
  | .inl x, .inl y => rw [semOf_inl, semOf_inl] at hv; revert hv; cases x <;> cases y <;> decide
  | .inl x, .inr y => rw [semOf_inl, semOf_inr] at hv; cases x <;> simp at hv <;> omega
  | .inr x, .inl y => rw [semOf_inl, semOf_inr] at hv; cases y <;> simp at hv <;> omega
  | .inr x, .inr y => rw [semOf_inr, semOf_inr] at hv; exact congrArg Sum.inr (Fin.ext (by omega))

abbrev cellOf (j : Bool ⊕ Fin 64) : GSem nD τ sig := (thr d L, SemLoc.dma (semOf j))

theorem cellOf_injective : Function.Injective (cellOf d L) := fun _ _ h => semOf_injective (SemLoc.dma.inj (Prod.ext_iff.mp h).2)

theorem dma_scoped : ∀ s : DmaSem sig, (SemLoc.dma s : SemLoc sig).isScoped .scVector = true := by decide

theorem ownSems0_V : (ownSems0 (thr d L) : sProp 𝕄)
    = iprop(((semVal (thr d L, SemLoc.dma (gSem true).sem) 0 ∗ semVal (thr d L, SemLoc.dma (gSem false).sem) 0)
        ∗ (bigSep Finset.univ fun n : Fin 64 => semVal (thr d L, SemLoc.dma (cSem n).sem) 0))
        ∗ bigSep (ownCells (thr d L) \ Finset.univ.image (cellOf d L)) fun g => semVal g 0) := by
  unfold SparseCore.Cfg.ownSems0
  rw [bigSep_named (f := cellOf d L) (cellOf_injective d L) (fun j => mem_ownCells.mpr ⟨rfl, show (SemLoc.dma (semOf j) : SemLoc sig).isScoped .scVector = true from dma_scoped _⟩), bigSep_univ_sum]
  rw [show (Finset.univ : Finset Bool) = {true, false} from rfl, SparseCore.bigSep_insert' (by decide), bigSep_singleton]
  rfl

/-- The buffers the task uses. -/
def refOf : Bool ⊕ Bool → Ref sig .scVector := Sum.elim rowsRef listRef
theorem refOf_injective : Function.Injective refOf := by decide

abbrev devRefOf (j : Bool ⊕ Bool) : DevRef τ sig := (Proc.scVector (cV L) (jV L)).devRef (refOf j)
theorem devRefOf_injective : Function.Injective (devRefOf L) := fun _ _ h => refOf_injective (Proc.devRef_injective _ h)

theorem ownBufs_V : (ownBufs (thr d L) : sProp 𝕄)
    = iprop((((∃ f, rowsPts d L true f) ∗ (∃ f, rowsPts d L false f)) ∗ ((∃ f, listPts d L true f) ∗ (∃ f, listPts d L false f)))
        ∗ bigSep (ownRefs (τ := τ) (.scVector (cV L) (jV L)) \ Finset.univ.image (devRefOf L)) fun b => iprop(∃ f, ((d, b) : Loc nD τ sig) ↦{fullShare} f)) := by
  unfold SparseCore.Cfg.ownBufs
  refine (bigSep_named (f := devRefOf L) (devRefOf_injective L)
    (fun j => SparseCore.Cfg.mem_ownRefs_of_owner (p := Proc.scVector (cV L) (jV L)) (b := devRefOf L j) (by match j with | .inl true => rfl | .inl false => rfl | .inr true => rfl | .inr false => rfl))).trans ?_
  rw [bigSep_univ_sum, show (Finset.univ : Finset Bool) = {true, false} from rfl, SparseCore.bigSep_insert' (by decide), bigSep_singleton,
    SparseCore.bigSep_insert' (by decide), bigSep_singleton]
  unfold rowsPts listPts
  rw [show (rowsV true).view.set = Finset.univ from View.set_whole _, show (rowsV false).view.set = Finset.univ from View.set_whole _,
    show (listV true).view.set = Finset.univ from View.set_whole _, show (listV false).view.set = Finset.univ from View.set_whole _]
  rfl

/-! ## The task -/

/-- What a task is handed: a share of the table and of the index list, its rows of the result. -/
abbrev Go (q : PosShare TreeShare) : sProp 𝕄 :=
  iprop((tLoc d ↦{q} m (tLoc d)) ∗ (iLoc d ↦{q} m (iLoc d)) ∗ Outs d L m 0)
/-- What it hands back. -/
abbrev Td (q : PosShare TreeShare) : sProp 𝕄 :=
  iprop((tLoc d ↦{q} m (tLoc d)) ∗ (iLoc d ↦{q} m (iLoc d)) ∗ Outs d L m 32)

theorem tab_halves (q : PosShare TreeShare) : (tLoc d ↦{q} m (tLoc d) : sProp 𝕄) = iprop(tabPts d L m q false ∗ tabPts d L m q true) := by
  have e : (tAll).view.set = (Finset.univ : Finset S32768x128.Idx) := Finset.univ_map_embedding _
  unfold tabPts
  rw [e]
  exact BI.Entails.antisymm (pointsTo_share (PosShare.mem_left_op_right q)).1 (pointsTo_share (PosShare.mem_left_op_right q)).2

include EC in
theorem tile_body (hF : (K (F := F)).Facts) (hpre : InTable d m) (q : PosShare TreeShare) (O : CellTallies nD τ sig (HIx 1)) (W : Waits sig (HIx 1)) (hO : ∀ g, O g none = 0) :
    iprop(levAts (K (F := F)).L (K (F := F)).lev ∗ emp ∗ Go d L m q ∗ scopedBufs (thr d L) ∗ scopedSems0 (thr d L) ∗ owes (thr d L) O W)
      ⊢ wp frame (wpE (defs₀ (F := F)) 𝒱₀ (thr d L) none) Set.univ (tile L)
          fun _ => (iprop(Td d L m q ∗ scopedBufs (thr d L) ∗ scopedSems0 (thr d L)
            ∗ ∃ W', ⌜∀ p ∈ W', p ∈ W ∨ p.2 = none⌝ ∗ owes (thr d L) O W') : sProp 𝕄) := by
  rw [(K (F := F)).scopedBufs_V hF d (cV L) (jV L), SparseCore.Cfg.scopedSems0_V (Val := Elt F) d (cV L) (jV L), ownSems0_V, ownBufs_V]
  unfold Go Td
  rw [tab_halves d L m q]
  iintro ⟨#Hlv, -, ⟨⟨Ht0, Ht1⟩, Hi, Ho⟩, ⟨⟨⟨Hr1, Hr0⟩, ⟨Hl1, Hl0⟩⟩, Hbufs⟩, ⟨⟨⟨Hv1, Hv0⟩, Hc⟩, Hsems⟩, HO⟩
  ihave Hmw := (show levAts (K (F := F)).L (K (F := F)).lev ⊢ Transfers.MayWaits (thr d L) (none : HIx 1) O from
    (K (F := F)).mayWaits_none (thr := thr d L) hO) $$ Hlv
  iapply (wp_wand_r frame _ _)
  isplitl [Ht0 Ht1 Hi Ho Hr1 Hr0 Hl1 Hl0 Hv1 Hv0 Hc HO Hmw]
  · iapply (tile_run d L EC m (q := q) (O := O) (W := W) hpre)
    isplitl [Hmw Hi Hc HO]
    · isplitl [Hmw]; · iexact Hmw
      isplitl [Hi]; · iexact Hi
      isplitl [Hc]; · iexact Hc
      iexists W; isplitr
      · ipureintro; exact fun p hp => .inl hp
      iexact HO
    isplitl [Hr0 Hl0 Ht0 Hv0]
    · isplitl [Hr0]; · iexact Hr0
      isplitl [Hl0]; · iexact Hl0
      isplitl [Ht0]; · iexact Ht0
      iexact Hv0
    isplitl [Hr1 Hl1 Ht1 Hv1]
    · isplitl [Hr1]; · iexact Hr1
      isplitl [Hl1]; · iexact Hl1
      isplitl [Ht1]; · iexact Ht1
      iexact Hv1
    iexact Ho
  iintro %u ⟨⟨-, Hi, Hc, HO⟩, ⟨Hr0, Hl0, Ht0, Hv0⟩, ⟨Hr1, Hl1, Ht1, Hv1⟩, Ho⟩
  isplitl [Ht0 Ht1 Hi Ho]
  · isplitl [Ht0 Ht1]; · isplitl [Ht0] <;> iassumption
    isplitl [Hi]; · iexact Hi
    iexact Ho
  isplitl [Hr0 Hl0 Hr1 Hl1 Hbufs]
  · isplitr [Hbufs]
    · isplitl [Hr0 Hr1]
      · isplitl [Hr1] <;> iassumption
      · isplitl [Hl1] <;> iassumption
    · iexact Hbufs
  isplitl [Hv0 Hv1 Hc Hsems]
  · isplitr [Hsems]
    · isplitl [Hv0 Hv1]
      · isplitl [Hv1] <;> iassumption
      · iexact Hc
    · iexact Hsems
  iexact HO

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

set_option maxRecDepth 65536 in
theorem defs₀_vector (c : Fin τ.nSC) (s : Fin τ.nSub) :
    defs₀ (F := F) (.scVector c s) 2 () = SparseCore.onTile hcore2 hsub2 (fun c s => tile (coordsV c s)) ⟨⟩ c s := by
  simp only [← tile_eq]
  rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Whole
-- ==== Proof.WholeSplit.lean ====
/-
  The call's operands as its 32 tasks hold them: the table and the index list in 32 equal shares, the result in
  2 × 16 × 32 blocks of 128 rows, one for each SparseCore, tile and chunk.
-/
module

public import proofs.«01_k».proof.Proof.WholeTask

@[expose] public section

noncomputable section

namespace Cert.Proof.Whole

open Cert.WholeIdeal Cert.WholeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {U : Type} [URA U]

local notation "𝕄" => MT nD τ sig (HIx 1) (Elt F) ℕ U ℕ

variable (d : Dev nD) (m : (ℓ : Loc nD τ sig) → Buf (Elt F) ℓ)

/-! ## The blocks of the result -/

/-- The tile on SparseCore `c`, subcore `s`. -/
abbrev tileAt (c : Fin 2) (s : Fin 16) : grid2.Coords := coordsV c s

theorem base_tileAt (c : Fin 2) (s : Fin 16) (r : ℕ) : base (tileAt c s) r = 128 * (64 * s.val + 32 * c.val + r) := by
  show 8192 * s.val + 4096 * c.val + 128 * r = _
  omega

theorem mem_outSet (L : grid2.Coords) (r : Fin 32) (j : S131072x128.Idx) :
    j ∈ outSet L r ↔ base L r.val ≤ (j 0).val ∧ (j 0).val < base L r.val + 128 := by
  constructor
  · intro hj
    obtain ⟨x, -, rfl⟩ := Finset.mem_map.mp hj
    have hx : (x 0).val < 128 := (x 0).isLt
    show base L r.val ≤ base L r.val + 1 * (x 0).val ∧ base L r.val + 1 * (x 0).val < _
    omega
  · rintro ⟨h1, h2⟩
    refine Finset.mem_map.mpr ⟨fun | 0 => ⟨(j 0).val - base L r.val, by show _ < 128; omega⟩ | 1 => j 1, Finset.mem_univ _, funext fun a => Fin.ext ?_⟩
    match a with
    | 0 => show base L r.val + 1 * ((j 0).val - base L r.val) = (j 0).val; omega
    | 1 => show 0 + 1 * (j 1).val = (j 1).val; omega

abbrev blk (t : Fin 2 × Fin 16 × Fin 32) : Finset S131072x128.Idx := outSet (tileAt t.1 t.2.1) t.2.2

theorem blk_disjoint : ∀ t ∈ (Finset.univ : Finset (Fin 2 × Fin 16 × Fin 32)), ∀ t' ∈ (Finset.univ : Finset (Fin 2 × Fin 16 × Fin 32)), t ≠ t' → Disjoint (blk t) (blk t') := by
  intro t _ t' _ hne
  refine Finset.disjoint_left.mpr fun j hj hj' => hne ?_
  obtain ⟨c, s, r⟩ := t
  obtain ⟨c', s', r'⟩ := t'
  rw [mem_outSet, base_tileAt] at hj hj'
  dsimp only at hj hj'
  have hc := c.isLt; have hs := s.isLt; have hr := r.isLt
  have hc' := c'.isLt; have hs' := s'.isLt; have hr' := r'.isLt
  have hb : 64 * s.val + 32 * c.val + r.val = 64 * s'.val + 32 * c'.val + r'.val := by omega
  have h1 : s.val = s'.val := by omega
  have h2 : c.val = c'.val := by omega
  have h3 : r.val = r'.val := by omega
  rw [Fin.ext h1, Fin.ext h2, Fin.ext h3]

theorem exists_blk (j : S131072x128.Idx) : ∃ t : Fin 2 × Fin 16 × Fin 32, j ∈ blk t := by
  have hj : (j 0).val < 131072 := (j 0).isLt
  refine ⟨(⟨(j 0).val / 4096 % 2, Nat.mod_lt _ (by decide)⟩, ⟨(j 0).val / 8192, by omega⟩, ⟨(j 0).val / 128 % 32, Nat.mod_lt _ (by decide)⟩), ?_⟩
  rw [mem_outSet, base_tileAt]
  dsimp only
  omega

theorem blk_cover : (Finset.univ : Finset (Fin 2 × Fin 16 × Fin 32)).biUnion blk = Finset.univ := by
  ext j
  obtain ⟨t, ht⟩ := exists_blk j
  simp only [Finset.mem_biUnion, Finset.mem_univ, true_and, iff_true]
  exact ⟨t, ht⟩

/-- The result, whole, is its blocks. -/
theorem out_blocks (f : Buf (Elt F) (oLoc d)) : (oLoc d ↦{fullShare} f : sProp 𝕄)
    = bigSep Finset.univ fun c : Fin 2 => bigSep Finset.univ fun s : Fin 16 => bigSep Finset.univ fun r : Fin 32 => outPts d (tileAt c s) r f := by
  have h := pointsTo_biUnion (Name := ℕ) (Ix := HIx 1) (Lvl := ℕ) (U := U) (Val := Elt F) (ℓ := oLoc d) (q := fullShare) (f := f) Finset.univ blk blk_disjoint
  rw [blk_cover, bigSep_univ_prod] at h
  refine h.trans (bigSep_congr fun c _ => ?_)
  rw [bigSep_univ_prod]

theorem outs_first (L : grid2.Coords) : (Outs d L m 0 : sProp 𝕄) = bigSep Finset.univ fun r : Fin 32 => outPts d L r (m (oLoc d)) :=
  bigSep_congr fun r _ => by rw [if_neg (Nat.not_lt_zero _)]
theorem outs_last (L : grid2.Coords) : (Outs d L m 32 : sProp 𝕄) = bigSep Finset.univ fun r : Fin 32 => outPts d L r (want d m) :=
  bigSep_congr fun r _ => by rw [if_pos r.isLt]

/-! ## The shares of the operands -/

/-- The share of the table and of the index list that the tile on SparseCore `c`, subcore `s` holds. -/
def shareOf (c : Fin 2) (s : Fin 16) : PosShare TreeShare :=
  Idealize.ShloMosaic.pieceOf (Idealize.ShloMosaic.pieceOf fullShare 2 (by decide) c) 16 (by decide) s

theorem shares {ℓ : Loc nD τ sig} (f : Buf (Elt F) ℓ) : (ℓ ↦{fullShare} f : sProp 𝕄)
    = bigSep Finset.univ fun c : Fin 2 => bigSep Finset.univ fun s : Fin 16 => ℓ ↦{shareOf c s} f := by
  rw [Idealize.ShloMosaic.pointsTo_piecesOf Finset.univ f (o := 2) (by decide)]
  exact bigSep_congr fun c _ => Idealize.ShloMosaic.pointsTo_piecesOf Finset.univ f (o := 16) (by decide) _

/-- The operands whole are what the tasks are handed; -/
theorem go_split : (iprop((tLoc d ↦{fullShare} m (tLoc d)) ∗ (iLoc d ↦{fullShare} m (iLoc d)) ∗ (oLoc d ↦{fullShare} m (oLoc d))) : sProp 𝕄)
    = bigSep Finset.univ fun c : Fin 2 => bigSep Finset.univ fun s : Fin 16 => Go d (tileAt c s) m (shareOf c s) := by
  unfold Go
  simp only [outs_first, bigSep_sep']
  rw [← shares, ← shares, ← out_blocks]

/-- what the tasks hand back is the operands whole again, the result at the gathered rows. -/
theorem td_join : (bigSep Finset.univ fun c : Fin 2 => bigSep Finset.univ fun s : Fin 16 => Td d (tileAt c s) m (shareOf c s) : sProp 𝕄)
    = iprop((tLoc d ↦{fullShare} m (tLoc d)) ∗ (iLoc d ↦{fullShare} m (iLoc d)) ∗ (oLoc d ↦{fullShare} want d m)) := by
  unfold Td
  simp only [outs_last, bigSep_sep']
  rw [← shares, ← shares, ← out_blocks]

end Cert.Proof.Whole
-- ==== Proof.WholeRun.lean ====
/-
  The whole kernel's @main between its calls: the contents of every buffer at each stretch's end, and the three TensorCore
  calls and the host operations as stretches.
-/
module

public import proofs.«01_k».proof.Proof.WholeSample
public import proofs.«01_k».proof.Proof.WholeNear
public import proofs.«01_k».proof.Proof.WholeDense
public import proofs.«01_k».proof.Proof.WholeSplit

@[expose] public section

set_option maxRecDepth 16384

noncomputable section

namespace Cert.Proof.Whole

open Cert.WholeIdeal Cert.WholeIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

/-! ## The host operations, stretch by stretch -/

abbrev opsA : List (HloOp τ sig (Elt F)) :=
  [ StableHlo.unary main_arg0 main_v0 ((transpose S3x8x4096 [2, 0, 1] · transposes_S8x4096x3_S3x8x4096_2_0_1) : (⟨S8x4096x3, .f32⟩ : BufTy).Contents (Elt F) → (⟨S3x8x4096, .f32⟩ : BufTy).Contents (Elt F)) ]

theorem opsA_sub : (opsA : List (HloOp τ sig (Elt F))).Forall fun op => op.bufs ⊆ StableHlo.tcRefs τ sig :=
  StableHlo.unary_bufs_sub ..

theorem opsA_fresh : (opsA : List (HloOp τ sig (Elt F))).Forall fun op => op.fresh = ∅ := by
  simp only [List.Forall]; repeat' constructor

abbrev opsA_W : List (Ref sig .tc) := [main_v0]

theorem opsA_writes : (opsA : List (HloOp τ sig (Elt F))).Forall fun op => op.writes ⊆ (opsA_W.map (Proc.devRef (τ := τ) .tc)).toFinset :=
  StableHlo.forall_writes_sub_of_map rfl

abbrev opsB : List (HloOp τ sig (Elt F)) :=
  [ StableHlo.unary main_v1_1 main_v2 ((transpose S8x3x512 [1, 0, 2] · transposes_S3x8x512_S8x3x512_1_0_2) : (⟨S3x8x512, .f32⟩ : BufTy).Contents (Elt F) → (⟨S8x3x512, .f32⟩ : BufTy).Contents (Elt F)) ]

theorem opsB_sub : (opsB : List (HloOp τ sig (Elt F))).Forall fun op => op.bufs ⊆ StableHlo.tcRefs τ sig :=
  StableHlo.unary_bufs_sub ..

theorem opsB_fresh : (opsB : List (HloOp τ sig (Elt F))).Forall fun op => op.fresh = ∅ := by
  simp only [List.Forall]; repeat' constructor

abbrev opsB_W : List (Ref sig .tc) := [main_v2]

theorem opsB_writes : (opsB : List (HloOp τ sig (Elt F))).Forall fun op => op.writes ⊆ (opsB_W.map (Proc.devRef (τ := τ) .tc)).toFinset :=
  StableHlo.forall_writes_sub_of_map rfl

abbrev opsC : List (HloOp τ sig (Elt F)) :=
  [ StableHlo.unary main_v3_0 main_v4 ((transpose S8x512x32 [0, 2, 1] · transposes_S8x32x512_S8x512x32_0_2_1) : (⟨S8x32x512, .i32⟩ : BufTy).Contents (Elt F) → (⟨S8x512x32, .i32⟩ : BufTy).Contents (Elt F)),
    StableHlo.unary main_v3_1 main_v5 ((transpose S8x512x32 [0, 2, 1] · transposes_S8x32x512_S8x512x32_0_2_1) : (⟨S8x32x512, .i32⟩ : BufTy).Contents (Elt F) → (⟨S8x512x32, .i32⟩ : BufTy).Contents (Elt F)),
    StableHlo.reshape main_v5 main_v6 (rfl : (.i32 : EltTy) = .i32) shapeCasts_S8x512x32_S131072,
    StableHlo.nullary main_cst (constant S_ .f32 0x00000000#32),
    StableHlo.unary main_cst main_v7 (broadcastInDim S8x4096x61 ![] bcast_S_S8x4096x61 : (⟨S_, .f32⟩ : BufTy).Contents (Elt F) → (⟨S8x4096x61, .f32⟩ : BufTy).Contents (Elt F)),
    StableHlo.nary ![main_arg0, main_arg1, main_v7] main_v8 (fun u => (concatenate S8x4096x128 2 [⟨S8x4096x3, (u 0 : (⟨S8x4096x3, .f32⟩ : BufTy).Contents (Elt F))⟩, ⟨S8x4096x64, (u 1 : (⟨S8x4096x64, .f32⟩ : BufTy).Contents (Elt F))⟩, ⟨S8x4096x61, (u 2 : (⟨S8x4096x61, .f32⟩ : BufTy).Contents (Elt F))⟩] concatenates_S8x4096x3_S8x4096x64_S8x4096x61_S8x4096x128_d2 : (⟨S8x4096x128, .f32⟩ : BufTy).Contents (Elt F))),
    StableHlo.reshape main_v8 main_v9 (rfl : (.f32 : EltTy) = .f32) shapeCasts_S8x4096x128_S32768x128 ]

theorem opsC_sub : (opsC : List (HloOp τ sig (Elt F))).Forall fun op => op.bufs ⊆ StableHlo.tcRefs τ sig :=
  ⟨StableHlo.unary_bufs_sub .., StableHlo.unary_bufs_sub .., StableHlo.reshape_bufs_sub .., StableHlo.nullary_bufs_sub .., StableHlo.unary_bufs_sub .., StableHlo.nary_bufs_sub .., StableHlo.reshape_bufs_sub ..⟩

theorem opsC_fresh : (opsC : List (HloOp τ sig (Elt F))).Forall fun op => op.fresh = ∅ := by
  simp only [List.Forall]; repeat' constructor

abbrev opsC_W : List (Ref sig .tc) := [main_v4, main_v5, main_v6, main_cst, main_v7, main_v8, main_v9]

theorem opsC_writes : (opsC : List (HloOp τ sig (Elt F))).Forall fun op => op.writes ⊆ (opsC_W.map (Proc.devRef (τ := τ) .tc)).toFinset :=
  StableHlo.forall_writes_sub_of_map rfl

abbrev opsD : List (HloOp τ sig (Elt F)) :=
  [ StableHlo.nullary main_cst_0 (constant S_ .f32 0x00000000#32),
    StableHlo.unary main_cst_0 main_v11 (broadcastInDim S61x128 ![] bcast_S_S61x128 : (⟨S_, .f32⟩ : BufTy).Contents (Elt F) → (⟨S61x128, .f32⟩ : BufTy).Contents (Elt F)),
    StableHlo.binary main_arg3 main_v11 main_v12 ((fun a b => concatenate S128x128 0 [⟨S67x128, a⟩, ⟨S61x128, b⟩] concatenates_S67x128_S61x128_S128x128_d0) : (⟨S67x128, .f32⟩ : BufTy).Contents (Elt F) → (⟨S61x128, .f32⟩ : BufTy).Contents (Elt F) → (⟨S128x128, .f32⟩ : BufTy).Contents (Elt F)),
    StableHlo.reshape main_arg4 main_v13 (rfl : (.f32 : EltTy) = .f32) shapeCasts_S128_S1x128,
    StableHlo.reshape main_arg5 main_v14 (rfl : (.f32 : EltTy) = .f32) shapeCasts_S128_S1x128,
    StableHlo.reshape main_arg6 main_v15 (rfl : (.f32 : EltTy) = .f32) shapeCasts_S128_S1x128,
    StableHlo.reshape main_arg8 main_v16 (rfl : (.f32 : EltTy) = .f32) shapeCasts_S128_S1x128,
    StableHlo.reshape main_arg9 main_v17 (rfl : (.f32 : EltTy) = .f32) shapeCasts_S128_S1x128,
    StableHlo.reshape main_arg10 main_v18 (rfl : (.f32 : EltTy) = .f32) shapeCasts_S128_S1x128,
    StableHlo.reshape main_arg12 main_v19 (rfl : (.f32 : EltTy) = .f32) shapeCasts_S256_S1x256,
    StableHlo.reshape main_arg13 main_v20 (rfl : (.f32 : EltTy) = .f32) shapeCasts_S256_S1x256,
    StableHlo.reshape main_arg14 main_v21 (rfl : (.f32 : EltTy) = .f32) shapeCasts_S256_S1x256 ]

theorem opsD_sub : (opsD : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩

theorem opsD_fresh : (opsD : List (HloOp τ sig (Elt F))).Forall fun op => op.fresh = ∅ := by
  simp only [List.Forall]; repeat' constructor

abbrev opsD_W : List (Ref sig .tc) := [main_cst_0, main_v11, main_v12, main_v13, main_v14, main_v15, main_v16, main_v17, main_v18, main_v19, main_v20, main_v21]

theorem opsD_writes : (opsD : List (HloOp τ sig (Elt F))).Forall fun op => op.writes ⊆ (opsD_W.map (Proc.devRef (τ := τ) .tc)).toFinset :=
  StableHlo.forall_writes_sub_of_map rfl

abbrev opsE : List (HloOp τ sig (Elt F)) :=
  [ StableHlo.unary main_v1_1 main_v23 ((transpose S8x512x3 [1, 2, 0] · transposes_S3x8x512_S8x512x3_1_2_0) : (⟨S3x8x512, .f32⟩ : BufTy).Contents (Elt F) → (⟨S8x512x3, .f32⟩ : BufTy).Contents (Elt F)) ]

theorem opsE_sub : (opsE : List (HloOp τ sig (Elt F))).Forall fun op => op.bufs ⊆ StableHlo.tcRefs τ sig :=
  StableHlo.unary_bufs_sub ..

theorem opsE_fresh : (opsE : List (HloOp τ sig (Elt F))).Forall fun op => op.fresh = ∅ := by
  simp only [List.Forall]; repeat' constructor

abbrev opsE_W : List (Ref sig .tc) := [main_v23]

theorem opsE_writes : (opsE : List (HloOp τ sig (Elt F))).Forall fun op => op.writes ⊆ (opsE_W.map (Proc.devRef (τ := τ) .tc)).toFinset :=
  StableHlo.forall_writes_sub_of_map rfl

/-! ## The buffers at each stretch's end -/

section
variable (m : (ℓ : Loc nD τ sig) → Buf (Elt F) ℓ)

/-- Every buffer at the launch. -/
abbrev W0 : Dev nD → Valuation τ sig (Elt F) := fun c b => m ((c : Dev nD), b)

/-- Every buffer after the sampling call's operand is laid out. -/
abbrev W1 : Dev nD → Valuation τ sig (Elt F) := fun c => StableHlo.after opsA (W0 m c)
theorem W1_of (c : Dev nD) (r : Ref sig .tc) (h : r ∉ opsA_W) : W1 m c (Proc.devRef .tc r) = W0 m c (Proc.devRef .tc r) :=
  StableHlo.after_of_writes_sub opsA _ opsA_writes h
abbrev V1 : (c : Dev nD) → (b : Ref sig .tc) → Buf (Elt F) ((c : Thread nD τ).loc b) := fun c b => W1 m c b

/-- Every buffer after the sampling call: its arrays as the call leaves them, the rest untouched. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- Every buffer after the chosen points are laid out. -/
abbrev W3 : Dev nD → Valuation τ sig (Elt F) := fun c => StableHlo.after opsB (W2 m c)
theorem W3_of (c : Dev nD) (r : Ref sig .tc) (h : r ∉ opsB_W) : W3 m c (Proc.devRef .tc r) = W2 m c (Proc.devRef .tc r) :=
  StableHlo.after_of_writes_sub opsB _ opsB_writes h
abbrev V3 : (c : Dev nD) → (b : Ref sig .tc) → Buf (Elt F) ((c : Thread nD τ).loc b) := fun c b => W3 m c b

/-- Every buffer after the neighbour call: its arrays as the call leaves them, the rest untouched. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (V3 m) c).arrAt_in w (h w rfl) _).trans (A_eq1 (V3 m) c w))
  · exact W4_of_ne m c r fun w e => hw ⟨w, e⟩
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- Every buffer after the gather's table and index list are laid out. -/
abbrev W5 : Dev nD → Valuation τ sig (Elt F) := fun c => StableHlo.after opsC (W4 m c)
theorem W5_of (c : Dev nD) (r : Ref sig .tc) (h : r ∉ opsC_W) : W5 m c (Proc.devRef .tc r) = W4 m c (Proc.devRef .tc r) :=
  StableHlo.after_of_writes_sub opsC _ opsC_writes h
abbrev V5 : (c : Dev nD) → (b : Ref sig .tc) → Buf (Elt F) ((c : Thread nD τ).loc b) := fun c b => W5 m c b

/-- The memory the SparseCore's call starts from. -/
abbrev mS : (ℓ : Loc nD τ sig) → Buf (Elt F) ℓ := fun ℓ => W5 m ℓ.1 ℓ.2
/-- Every buffer after the SparseCore's call: its result at the gathered rows. -/
def W6 (c : Dev nD) : Valuation τ sig (Elt F) := Function.update (W5 m c) (Proc.devRef .tc main_v10) (want c (mS m))
theorem W6_out (c : Dev nD) : W6 m c (Proc.devRef .tc main_v10) = want c (mS m) := by
  unfold W6; exact Function.update_self _ _ _
theorem W6_of_dev (c : Dev nD) (b : DevRef τ sig) (h : b ≠ Proc.devRef .tc main_v10) : W6 m c b = W5 m c b := by
  unfold W6; exact Function.update_of_ne h _ _
theorem W6_of (c : Dev nD) (r : Ref sig .tc) (h : r ≠ main_v10) : W6 m c (Proc.devRef .tc r) = W5 m c (Proc.devRef .tc r) :=
  W6_of_dev m c _ fun e => h (Proc.devRef_injective _ e)

/-- Every buffer after the layers' operands are laid out. -/
abbrev W7 : Dev nD → Valuation τ sig (Elt F) := fun c => StableHlo.after opsD (W6 m c)
theorem W7_of (c : Dev nD) (r : Ref sig .tc) (h : r ∉ opsD_W) : W7 m c (Proc.devRef .tc r) = W6 m c (Proc.devRef .tc r) :=
  StableHlo.after_of_writes_sub opsD _ opsD_writes h
abbrev V7 : (c : Dev nD) → (b : Ref sig .tc) → Buf (Elt F) ((c : Thread nD τ).loc b) := fun c b => W7 m c b

/-- Every buffer after the layers' call: its arrays as the call leaves them, the rest untouched. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem W8_of (c : Dev nD) (r : Ref sig .tc) (h : ∀ w : Fin cfg3.W, Pipeline.arrRef spec3 w = r → (cfg3.win w).isOut = false) :
    W8 m c (Proc.devRef .tc r) = W7 m c (Proc.devRef .tc r) := by
  by_cases hw : ∃ w : Fin cfg3.W, Pipeline.arrRef spec3 w = r
  · obtain ⟨w, rfl⟩ := hw
    exact (W8_arr m c w).trans (((dat3 (V7 m) c).arrAt_in w (h w rfl) _).trans (A_eq3 (V7 m) c w))
  · exact W8_of_ne m c r fun w e => hw ⟨w, e⟩
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- Every buffer after the chosen points are laid out as a result. -/
abbrev W9 : Dev nD → Valuation τ sig (Elt F) := fun c => StableHlo.after opsE (W8 m c)
theorem W9_of (c : Dev nD) (r : Ref sig .tc) (h : r ∉ opsE_W) : W9 m c (Proc.devRef .tc r) = W8 m c (Proc.devRef .tc r) :=
  StableHlo.after_of_writes_sub opsE _ opsE_writes h
abbrev V9 : (c : Dev nD) → (b : Ref sig .tc) → Buf (Elt F) ((c : Thread nD τ).loc b) := fun c b => W9 m c b

/-! ## The stretches -/

abbrev adm : (p : Fin 3) → (pcfgs (F := F) p).Adm := fun p => (cfgs p).toPCfg_adm
def pdats : (p : Fin 3) → (c : Dev nD) → Dat τ (Elt F) (HIx 1) ℕ UU ℕ (Pipeline.pin (pcfgs (F := F)) adm p) c
  | ⟨0, _⟩ => fun c => dat0 (V1 m) c
  | ⟨1, _⟩ => fun c => dat1 (V3 m) c
  | ⟨2, _⟩ => fun c => dat3 (V7 m) c
/-- What rides beside the buffers: the generator register, and what the core owes the SparseCore once `n` of its calls are
    behind it. -/
def Rest (n : ℕ) (c : Dev nD) : sProp 𝕄 :=
  iprop((∃ r, prngReg c r) ∗ ∃ W, ⌜(sc (F := F)).WBelow (c : Thread nD τ) W (8 * n)⌝ ∗ owes (c : Thread nD τ) ((sc (F := F)).Otc c n) W)
abbrev hseg (n : ℕ) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (sc (F := F)).L (sc (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (Rest n)

set_option backward.isDefEq.respectTransparency.types false in
/-- The sampling call, as a stretch of @main between two contents of the buffers. -/
def reg0 : Pipeline.RegionSeg (pcfgs (F := F)) adm (pdats m) none defs₀ 𝒱₀ (sc (F := F)).L (sc (F := F)).lev 0 where
  win := launch0.win.to₀
  block_pos := launch0.block_pos
  stage_whole := launch0.stage_whole
  K := PEmpty
  osem k := k.elim
  ho := Pipeline.OwnSemFacts.none _
  hbody c := (body_obligation0 (V1 m) c).loose
  hwaits c := Pipeline.cellsWaits_intro _ _ _ _ _ fun _ _ _ => (sc (F := F)).mayWait_none _ (otc_none c 0)
  pre c := iprop(StableHlo.held (c : Thread nD τ) (Pipeline.ucRefs τ sig) (W1 m c) ∗ Rest 0 c)
  post c := iprop(StableHlo.held (c : Thread nD τ) (Pipeline.ucRefs τ sig) (W2 m c) ∗ Rest 0 c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    unfold Rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitl [Hp]; · iexact Hp
    iexact Hrest
  hin c := by
    rw [show (pdats m 0 c).Φ 0 = Beside spec0 c from rfl]; unfold Beside
    iintro ⟨Hp, -, Hr⟩
    isplitl [Hr]; · iexact Hr
    iexact Hp
  hout c := by
    rw [Pipeline.ownSems0_none, show (pdats m 0 c).Φ (Fin.last _) = Beside spec0 c from rfl]; unfold Beside
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    unfold Rest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

set_option backward.isDefEq.respectTransparency.types false in
/-- The neighbour call, as a stretch of @main between two contents of the buffers. -/
def reg1 : Pipeline.RegionSeg (pcfgs (F := F)) adm (pdats m) none defs₀ 𝒱₀ (sc (F := F)).L (sc (F := F)).lev 1 where
  win := launch1.win.to₀
  block_pos := launch1.block_pos
  stage_whole := launch1.stage_whole
  K := PEmpty
  osem k := k.elim
  ho := Pipeline.OwnSemFacts.none _
  hbody c := (body_obligation1 (V3 m) c).loose
  hwaits c := Pipeline.cellsWaits_intro _ _ _ _ _ fun _ _ _ => (sc (F := F)).mayWait_none _ (otc_none c 0)
  pre c := iprop(StableHlo.held (c : Thread nD τ) (Pipeline.ucRefs τ sig) (W3 m c) ∗ Rest 0 c)
  post c := iprop(StableHlo.held (c : Thread nD τ) (Pipeline.ucRefs τ sig) (W4 m c) ∗ Rest 0 c)
  X c := iprop(∃ r, prngReg c r)
  Y c := iprop(∃ r, prngReg c r)
  Z c := Pipeline.unscopedRest (Ix := HIx 1) (Name := ℕ) (U := UU) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (A_eq1 (V3 m) c)
    rw [Pipeline.unscopedBufs_held] at hsplit
    unfold Rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitl [Hp]; · iexact Hp
    iexact Hrest
  hin c := by
    rw [show (pdats m 1 c).Φ 0 = Beside spec1 c from rfl]; unfold Beside
    iintro ⟨Hp, -, Hr⟩
    isplitl [Hr]; · iexact Hr
    iexact Hp
  hout c := by
    rw [Pipeline.ownSems0_none, show (pdats m 1 c).Φ (Fin.last _) = Beside spec1 c from rfl]; unfold Beside
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    unfold Rest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

set_option backward.isDefEq.respectTransparency.types false in
/-- The layers' call, as a stretch of @main between two contents of the buffers. -/
def reg3 : Pipeline.RegionSeg (pcfgs (F := F)) adm (pdats m) none defs₀ 𝒱₀ (sc (F := F)).L (sc (F := F)).lev 2 where
  win := launch3.win.to₀
  block_pos := launch3.block_pos
  stage_whole := launch3.stage_whole
  K := PEmpty
  osem k := k.elim
  ho := Pipeline.OwnSemFacts.none _
  hbody c := (body_obligation3 (V7 m) c).loose
  hwaits c := Pipeline.cellsWaits_intro _ _ _ _ _ fun _ _ _ => (sc (F := F)).mayWait_none _ (otc_none c 1)
  pre c := iprop(StableHlo.held (c : Thread nD τ) (Pipeline.ucRefs τ sig) (W7 m c) ∗ Rest 1 c)
  post c := iprop(StableHlo.held (c : Thread nD τ) (Pipeline.ucRefs τ sig) (W8 m c) ∗ Rest 1 c)
  X c := iprop(∃ r, prngReg c r)
  Y c := iprop(∃ r, prngReg c r)
  Z c := Pipeline.unscopedRest (Ix := HIx 1) (Name := ℕ) (U := UU) (Lvl := ℕ) spec3 c (V7 m c)
  hentry c := by
    rw [Pipeline.ownSems0_none]
    have hsplit := Pipeline.arrays_of_unscopedBufs (p := 2) (pcfgs (F := F)) adm (pdats m) launch3.win launch3.arr_whole c
      ((pdats m 2 c).share_full fun _ => rfl) (V7 m c) (A_eq3 (V7 m) c)
    rw [Pipeline.unscopedBufs_held] at hsplit
    unfold Rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitl [Hp]; · iexact Hp
    iexact Hrest
  hin c := by
    rw [show (pdats m 2 c).Φ 0 = Beside spec3 c from rfl]; unfold Beside
    iintro ⟨Hp, -, Hr⟩
    isplitl [Hr]; · iexact Hr
    iexact Hp
  hout c := by
    rw [Pipeline.ownSems0_none, show (pdats m 2 c).Φ (Fin.last _) = Beside spec3 c from rfl]; unfold Beside
    iintro ⟨Hr, Hp⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats m) ((pdats m 2 c).share_full fun _ => rfl)
      (V7 m c) (V8 m c) ((pdats m 2 c).arrAt · cfg3.N) (hF3 m c) (hrest3 m c)
    rw [Pipeline.unscopedBufs_held] at hjoin
    unfold Rest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

/-- @main before the SparseCore's call, -/
abbrev segsA : List (Pipeline.Seg (pcfgs (F := F)) adm (pdats m) none defs₀ 𝒱₀ (sc (F := F)).L (sc (F := F)).lev) :=
  [ .host (hseg 0 opsA opsA_sub opsA_fresh (W0 m)),
    .region (reg0 m),
    .host (hseg 0 opsB opsB_sub opsB_fresh (W2 m)),
    .region (reg1 m),
    .host (hseg 0 opsC opsC_sub opsC_fresh (W4 m)) ]
/-- and after it. -/
abbrev segsB : List (Pipeline.Seg (pcfgs (F := F)) adm (pdats m) none defs₀ 𝒱₀ (sc (F := F)).L (sc (F := F)).lev) :=
  [ .host (hseg 1 opsD opsD_sub opsD_fresh (W6 m)),
    .region (reg3 m),
    .host (hseg 1 opsE opsE_sub opsE_fresh (W8 m)) ]

theorem main_eq (d : Dev nD) : main (F := F) d
    = SparseCore.liftProg (Pipeline.Seg.run (segsA m)) >>= fun _ => sc.run d 0 >>= fun _ => SparseCore.liftProg (Pipeline.Seg.run (segsB m)) := by
  chain_rfl

end

end Cert.Proof.Whole
-- ==== Proof.WholeArrays.lean ====
/-
  What the whole kernel's first two calls leave in its arrays, from the points it was given.
-/
module

public import proofs.«01_k».proof.Proof.WholeFps
public import proofs.«01_k».proof.Proof.WholeKnn
public import proofs.«01_k».proof.Proof.WholeRun
public import Idealize.ShloMosaic.Lib.StableHlo.RunRead
public import Idealize.ShloMosaic.Lib.Pipeline.ValueKit

@[expose] public section

namespace Cert.Proof.Whole

open Idealize.ShloMosaic Idealize.ShloMosaic.StableHlo Cert.WholeIdeal Cert.WholeIdeal.Gen Cert.Proof.Spec

variable (m : (ℓ : Loc nD τ sig) → Buf (Elt Ideal) ℓ) (c : Dev nD)

/-- The argument. -/
noncomputable abbrev arg : Vec Ideal S8x4096x3 .f32 := m ((c.tc : Thread nD τ).loc main_arg0)

/-- A batch's points. -/
noncomputable def points (b : Fin 8) (i : Fin 4096) (a : Fin 3) : EReal := arg m c (ix3 b i a)

theorem planes_at (a : Fin 3) (b : Fin 8) (i : Fin 4096) :
    (W1 m c (Proc.devRef .tc main_v0) : Vec Ideal S3x8x4096 .f32) (ix3 a b i) = points m c b i a := by
  unfold W1
  after_reads_simp
  pointwise []
  rfl

theorem whole0 : ∀ t : Fin cfg0.N, win0_0.index t = ![0, 0, 0] := (by decide +kernel : ∀ t : Fin grid0.N, _)
theorem whole2 : ∀ t : Fin cfg0.N, win0_2.index t = ![0, 0, 0] := (by decide +kernel : ∀ t : Fin grid0.N, _)

theorem iblk_at (t : Fin cfg0.N) (a : Fin 3) (b : Fin 8) (i : Fin 4096) :
    (iblk0 (V1 m) c 0 t : Vec Ideal S3x8x4096 .f32) (ix3 a b i) = points m c b i a := by
  rw [← planes_at m c a b i]
  unfold iblk0
  rw [View.read_apply]
  blk_ext [whole0]

theorem coords3 {l m n : ℕ} (y : Shape.Idx ⟨3, ![l, m, n]⟩) : ∃ a b c, y = ix3 a b c := ⟨y 0, y 1, y 2, eq_ix3 y⟩

/-- The chosen points, plane by plane. -/
noncomputable def chosen : Vec Ideal S3x8x512 .f32 :=
  fun i => points m c (i 1) (walk (points m c (i 1)) Fps.cap (i 2).val).2 (i 0)

theorem outs0_2 (t : Fin cfg0.N) : (outsAt0 (V1 m) c t).2
    = out0_A_2 c (ms0_0 t) (hs0_0 t) (ms0_1 t) (hs0_1 t) (ms0_2 t) (hs0_2 t) (iblk0 (V1 m) c 0 t) := by
  dsimp only [outsAt0]

theorem outs_chosen (t : Fin cfg0.N) : (outsAt0 (V1 m) c t).2 = chosen m c := by
  funext i
  have hp : ∀ b, Fps.points (iblk0 (V1 m) c 0 t) b = points m c b := fun b => by
    funext i a; exact iblk_at m c t a b i
  obtain ⟨a, b, j, rfl⟩ := coords3 (l := 3) (m := 8) (n := 512) i
  have h := sampled_points c (ms0_0 t) (hs0_0 t) (ms0_1 t) (hs0_1 t) (ms0_2 t) (hs0_2 t) (iblk0 (V1 m) c 0 t) a b j
  rw [hp b] at h
  exact (congrFun (outs0_2 m c t) (ix3 a b j)).trans h

/-- The chosen points as the sampling call leaves them. -/
theorem planes_chosen : (W2 m c (Proc.devRef .tc main_v1_1) : Vec Ideal S3x8x512 .f32) = chosen m c := by
  refine (W2_arr m c 2).trans ?_
  refine (dat0 (V1 m) c).arrAt_eq_of_covers 2 (chosen m c) (by decide +kernel) fun t hf y => ?_
  rw [after0_2, outs_chosen]
  blk_ext [whole2]

theorem queries_at (b : Fin 8) (a : Fin 3) (q : Fin 512) :
    (W3 m c (Proc.devRef .tc main_v2) : Vec Ideal S8x3x512 .f32) (ix3 b a q) = chosen m c (ix3 a b q) := by
  rw [← planes_chosen m c]
  unfold W3
  after_reads_simp
  pointwise []

theorem cloud_kept : W3 m c (Proc.devRef .tc main_arg0) = arg m c :=
  (W3_of m c main_arg0 (by decide)).trans ((W2_of m c main_arg0 (by decide)).trans (W1_of m c main_arg0 (by decide)))

theorem at0 : ∀ t : Fin cfg1.N, win1_0.index t = ![(grid1.coords t 0).val, 0, 0] := (by decide +kernel : ∀ t : Fin grid1.N, _)
theorem at1 : ∀ t : Fin cfg1.N, win1_1.index t = ![(grid1.coords t 0).val, 0, (grid1.coords t 1).val] := (by decide +kernel : ∀ t : Fin grid1.N, _)
theorem at2 : ∀ t : Fin cfg1.N, win1_2.index t = ![(grid1.coords t 0).val, 0, (grid1.coords t 1).val] := (by decide +kernel : ∀ t : Fin grid1.N, _)

/-- The batch of a grid point. -/
def batch (t : Fin cfg1.N) : Fin 8 := grid1.coords t 0

/-- The half of a batch's queries at a grid point. -/
def flank (t : Fin cfg1.N) : Fin 2 := grid1.coords t 1

theorem batch_val (t : Fin cfg1.N) : (grid1.coords t 0).val = (batch t).val := rfl
theorem flank_val (t : Fin cfg1.N) : (grid1.coords t 1).val = (flank t).val := rfl

/-- A query point's place in its batch's list. -/
def place (s : Fin 2) (q : Fin 256) : Fin 512 := ⟨s.val * 256 + q.val, by omega⟩

theorem cloud_at (t : Fin cfg1.N) (k : Fin 4096) (a : Fin 3) :
    (iblk1 (V3 m) c 0 t : Vec Ideal S1x4096x3 .f32) (ix3 0 k a) = points m c (batch t) k a := by
  have h : (iblk1 (V3 m) c 0 t : Vec Ideal S1x4096x3 .f32) (ix3 0 k a)
      = (W3 m c (Proc.devRef .tc main_arg0) : Vec Ideal S8x4096x3 .f32) (ix3 (batch t) k a) := by
    unfold iblk1
    rw [View.read_apply]
    blk_ext [at0, batch_val]
  rw [h, cloud_kept]
  rfl

theorem query_at (t : Fin cfg1.N) (a : Fin 3) (q : Fin 256) :
    (iblk1 (V3 m) c 1 t : Vec Ideal S1x3x256 .f32) (ix3 0 a q) = chosen m c (ix3 a (batch t) (place (flank t) q)) := by
  rw [← queries_at m c]
  unfold iblk1 place
  rw [View.read_apply]
  blk_ext [at1, batch_val, flank_val]

/-- The nearest indices, slot by slot. -/
noncomputable def nearest : Vec Ideal S8x32x512 .i32 :=
  fun i => BitVec.ofNat 32 (pick (fun k => sqd (points m c (i 0) k) fun a => chosen m c (ix3 a (i 0) (i 2))) (i 1).val).val

theorem outs1_2 (t : Fin cfg1.N) : (outsAt1 (V3 m) c t).1
    = out1_A_2 c (grid1.coords t) (ms1_0 t) (hs1_0 t) (ms1_1 t) (hs1_1 t) (ms1_2 t) (hs1_2 t) (ms1_3 t) (hs1_3 t) (iblk1 (V3 m) c 0 t) (iblk1 (V3 m) c 1 t) := by
  dsimp only [outsAt1]

theorem outs_nearest (t : Fin cfg1.N) (j : Fin 32) (q : Fin 256) :
    ((outsAt1 (V3 m) c t).1 : Vec Ideal S1x32x256 .i32) (ix3 0 j q)
      = nearest m c (ix3 (batch t) j (place (flank t) q)) := by
  have h := near_indices c (grid1.coords t) (ms1_0 t) (hs1_0 t) (ms1_1 t) (hs1_1 t) (ms1_2 t) (hs1_2 t) (ms1_3 t) (hs1_3 t)
    (iblk1 (V3 m) c 0 t) (iblk1 (V3 m) c 1 t) j q
  have h0 : Knn.cloud (iblk1 (V3 m) c 0 t) = points m c (batch t) := by
    funext k a; exact cloud_at m c t k a
  have h1 : Knn.query (iblk1 (V3 m) c 1 t) q = fun a => chosen m c (ix3 a (batch t) (place (flank t) q)) := by
    funext a; exact query_at m c t a q
  rw [h0, h1] at h
  exact (congrFun (outs1_2 m c t) (ix3 0 j q)).trans h

/-- The nearest indices as the neighbour call leaves them. -/
theorem slots_nearest : (W4 m c (Proc.devRef .tc main_v3_0) : Vec Ideal S8x32x512 .i32) = nearest m c := by
  refine (W4_arr m c 2).trans ?_
  refine (dat1 (V3 m) c).arrAt_eq_of_covers 2 (nearest m c) (by decide +kernel) fun t hf y => ?_
  rw [after1_2]
  obtain ⟨z, j, q, rfl⟩ := coords3 (l := 1) (m := 32) (n := 256) y
  obtain rfl : z = 0 := Subsingleton.elim _ _
  refine (outs_nearest m c t j q).trans ?_
  unfold place
  blk_ext [at2, batch_val, flank_val]

/-- The row of every neighbour in the table of all batches' points. -/
noncomputable def spots : Vec Ideal S8x32x512 .i32 :=
  fun i => nearest m c i + BitVec.ofNat 32 (i 0).val * 4096#32

theorem outs1_3 (t : Fin cfg1.N) : (outsAt1 (V3 m) c t).2
    = out1_A_3 c (grid1.coords t) (ms1_0 t) (hs1_0 t) (ms1_1 t) (hs1_1 t) (ms1_2 t) (hs1_2 t) (ms1_3 t) (hs1_3 t) (iblk1 (V3 m) c 0 t) (iblk1 (V3 m) c 1 t) := by
  dsimp only [outsAt1]

theorem outs_spots (t : Fin cfg1.N) (j : Fin 32) (q : Fin 256) :
    ((outsAt1 (V3 m) c t).2 : Vec Ideal S1x32x256 .i32) (ix3 0 j q)
      = spots m c (ix3 (batch t) j (place (flank t) q)) := by
  have h := near_rows c (grid1.coords t) (ms1_0 t) (hs1_0 t) (ms1_1 t) (hs1_1 t) (ms1_2 t) (hs1_2 t) (ms1_3 t) (hs1_3 t)
    (iblk1 (V3 m) c 0 t) (iblk1 (V3 m) c 1 t) j q
  have h0 : Knn.cloud (iblk1 (V3 m) c 0 t) = points m c (batch t) := by
    funext k a; exact cloud_at m c t k a
  have h1 : Knn.query (iblk1 (V3 m) c 1 t) q = fun a => chosen m c (ix3 a (batch t) (place (flank t) q)) := by
    funext a; exact query_at m c t a q
  rw [h0, h1] at h
  exact (congrFun (outs1_3 m c t) (ix3 0 j q)).trans h

theorem at3 : ∀ t : Fin cfg1.N, win1_3.index t = ![(grid1.coords t 0).val, 0, (grid1.coords t 1).val] := (by decide +kernel : ∀ t : Fin grid1.N, _)

/-- The rows as the neighbour call leaves them. -/
theorem slots_spots : (W4 m c (Proc.devRef .tc main_v3_1) : Vec Ideal S8x32x512 .i32) = spots m c := by
  refine (W4_arr m c 3).trans ?_
  refine (dat1 (V3 m) c).arrAt_eq_of_covers 3 (spots m c) (by decide +kernel) fun t hf y => ?_
  rw [after1_3]
  obtain ⟨z, j, q, rfl⟩ := coords3 (l := 1) (m := 32) (n := 256) y
  obtain rfl : z = 0 := Subsingleton.elim _ _
  refine (outs_spots m c t j q).trans ?_
  unfold place
  blk_ext [at3, batch_val, flank_val]

/-- The nearest indices, query by query. -/
theorem nearest_at (b : Fin 8) (q : Fin 512) (j : Fin 32) :
    (W5 m c (Proc.devRef .tc main_v4) : Vec Ideal S8x512x32 .i32) (ix3 b q j) = nearest m c (ix3 b j q) := by
  rw [← slots_nearest m c]
  unfold W5
  after_reads_simp
  pointwise []

/-- The rows, query by query. -/
theorem spots_at (b : Fin 8) (q : Fin 512) (j : Fin 32) :
    (W5 m c (Proc.devRef .tc main_v5) : Vec Ideal S8x512x32 .i32) (ix3 b q j) = spots m c (ix3 b j q) := by
  rw [← slots_spots m c]
  unfold W5
  after_reads_simp
  pointwise []

end Cert.Proof.Whole
-- ==== Proof.WholeLaunch.lean ====
/-
  The whole kernel's launch: @main runs its stretches, starts the SparseCore's call on both SparseCores in between, and every
  execution ends with every buffer of the TensorCore at the last stretch's contents and every semaphore at zero.
-/
module

public import proofs.«01_k».proof.Proof.WholeRun

@[expose] public section

noncomputable section

namespace Cert.Proof.Whole

open Cert.WholeIdeal Cert.WholeIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-! ## What the handshakes carry -/

/-- A SparseCore is handed its sixteen tasks' operands, each tile its own, and they bring their results back. -/
def P : (K (F := F)).Pay (nD := nD) (Val := Elt F) (Name := ℕ) (U := UU) where
  st := fun q d c => match q with | 0 => bigSep Finset.univ fun s : Fin 16 => Go d (tileAt c s) m (shareOf c s)
  dn := fun q d c => match q with | 0 => bigSep Finset.univ fun s : Fin 16 => Td d (tileAt c s) m (shareOf c s)
  go := fun q d c s => match q with | 0 => Go d (tileAt c s) m (shareOf c s)
  td := fun q d c s => match q with | 0 => Td d (tileAt c s) m (shareOf c s)
  x := fun _ _ => iprop(emp)

instance P_storable : (P (F := F) m).IsStorable where
  st q d c := match q with
    | 0 => (inferInstance : BI.Storable (upEmb : UEmb _ 𝕄) (bigSep Finset.univ fun s : Fin 16 => Go d (tileAt c s) m (shareOf c s)))
  dn q d c := match q with
    | 0 => (inferInstance : BI.Storable (upEmb : UEmb _ 𝕄) (bigSep Finset.univ fun s : Fin 16 => Td d (tileAt c s) m (shareOf c s)))
  go q d c s := match q with
    | 0 => (inferInstance : BI.Storable (upEmb : UEmb _ 𝕄) (Go d (tileAt c s) m (shareOf c s)))
  td q d c s := match q with
    | 0 => (inferInstance : BI.Storable (upEmb : UEmb _ 𝕄) (Td d (tileAt c s) m (shareOf c s)))

attribute [local irreducible] tile in
set_option maxRecDepth 16384 in
theorem tileObl (hF : (K (F := F)).Facts) (hpre : ∀ d, InTable d m) : (K (F := F)).TileObl (D (F := F)) 𝒱 (P m) v₀ 0 := by
  intro d c i O W hO _ _
  simp only [show (P m).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body (U := UU) d (tileAt c i) countersEmb m hF (hpre d) (shareOf c i) O W hO
  exact h.trans (wp_mono frame _ _ fun _ => obl_post)

theorem vecSplit : (K (F := F)).VecSplit' (P m) 0 := by
  intro d c
  show (bigSep Finset.univ fun s : Fin 16 => Go d (tileAt c s) m (shareOf c s)) ⊢ |={Set.univ}=> iprop(
      (bigSep Finset.univ fun s : Fin 16 => Go d (tileAt c s) m (shareOf c s))
      ∗ ((bigSep Finset.univ fun s : Fin 16 => Td d (tileAt c s) m (shareOf c s)) -∗ (bigSep Finset.univ fun s : Fin 16 => Td d (tileAt c s) m (shareOf c s))))
  iintro H; imodintro
  isplitl [H]; · iexact H
  iintro H; iexact H

/-! ## The launch's ghost element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_nothing {I : Type} (s : Finset I) : (bigSep s fun _ => iprop(emp)) = (iprop(emp) : sProp 𝕄) := bigSep_emp_const s

/-- What the three TensorCore calls are funded with on core `c`. -/
abbrev Ghost (S : Finset (Fin 3)) (c : Dev nD) : sProp 𝕄 := Pipeline.ghostOn (pcfgs (F := F)) adm EP S c

theorem ghost_join : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
    ⊢ bigSep Finset.univ fun c : Dev nD => Ghost (F := F) Finset.univ c := by
  rw [← bigSep_sep']
  exact bigSep_mono fun c _ => show iprop((bigSep Finset.univ fun p => Pipeline.cellsGhost (Pipeline.pin (pcfgs (F := F)) adm) EP p c)
        ∗ bigSep Finset.univ fun p => (Pipeline.toksInit (Pipeline.pin (pcfgs (F := F)) adm) EP p c : sProp 𝕄)) ⊢ Ghost (F := F) Finset.univ c
    from Entails.of_eq (by unfold Ghost Pipeline.ghostOn Pipeline.PerCore.ghostOn; rw [bigSep_sep'])

theorem hu₀ : (ownU (u₀ (F := F)) : sProp 𝕄)
    ⊢ |={Set.univ}=> iprop(BI.own (EH (initOf (K (F := F)).hsCells (K (F := F)).hsToks)) ∗ (bigSep Finset.univ fun c : Dev nD => Ghost Finset.univ c)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)) : UP × Counters)) $$ Hu
  icases H with ⟨HH, HR⟩
  ihave H := (own_pair_emb embR (initOf (Pipeline.cells (Pipeline.pin (pcfgs (F := F)) adm) cellOf_inj) (Pipeline.launchToks (Pipeline.pin (pcfgs (F := F)) adm) cellOf_inj)) (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · iapply ghost_join
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The SparseCore's call between the two runs of stretches -/

theorem st_eq (d : Dev nD) : (bigSep Finset.univ fun c : Fin ((K (F := F)).nCore 0) => (P m).st 0 d c)
    = iprop((tLoc d ↦{fullShare} m (tLoc d)) ∗ (iLoc d ↦{fullShare} m (iLoc d)) ∗ (oLoc d ↦{fullShare} m (oLoc d))) := (go_split d m).symm
theorem dn_eq (d : Dev nD) : (bigSep Finset.univ fun c : Fin ((K (F := F)).nCore 0) => (P m).dn 0 d c)
    = iprop((tLoc d ↦{fullShare} m (tLoc d)) ∗ (iLoc d ↦{fullShare} m (iLoc d)) ∗ (oLoc d ↦{fullShare} want d m)) := td_join d m

/-- The three buffers of the SparseCore's call. -/
abbrev three : Finset (DevRef τ sig) := {Proc.devRef .tc main_v9, Proc.devRef .tc main_v6, Proc.devRef .tc main_v10}

theorem three_sub : three ⊆ Pipeline.ucRefs τ sig := by
  intro b hb
  simp only [three, Finset.mem_insert, Finset.mem_singleton] at hb
  rcases hb with rfl | rfl | rfl
  · exact Finset.mem_filter.mpr ⟨StableHlo.devRef_mem_tcRefs main_v9, by decide⟩
  · exact Finset.mem_filter.mpr ⟨StableHlo.devRef_mem_tcRefs main_v6, by decide⟩
  · exact Finset.mem_filter.mpr ⟨StableHlo.devRef_mem_tcRefs main_v10, by decide⟩

theorem held_three (d : Dev nD) (V : Valuation τ sig (Elt F)) : (StableHlo.held (d : Thread nD τ) three V : sProp 𝕄)
    = iprop((tLoc d ↦{fullShare} V (Proc.devRef .tc main_v9)) ∗ (iLoc d ↦{fullShare} V (Proc.devRef .tc main_v6)) ∗ (oLoc d ↦{fullShare} V (Proc.devRef .tc main_v10))) := by
  unfold StableHlo.held three
  rw [SparseCore.bigSep_insert' (by decide), SparseCore.bigSep_insert' (by decide), bigSep_singleton]

theorem held_before (d : Dev nD) : (StableHlo.held (d : Thread nD τ) (Pipeline.ucRefs τ sig) (W5 m d) : sProp 𝕄)
    = iprop(((tLoc d ↦{fullShare} mS m (tLoc d)) ∗ (iLoc d ↦{fullShare} mS m (iLoc d)) ∗ (oLoc d ↦{fullShare} mS m (oLoc d)))
        ∗ StableHlo.held (d : Thread nD τ) (Pipeline.ucRefs τ sig \ three) (W5 m d)) := by
  rw [StableHlo.held_sub_split _ three_sub, held_three]
theorem held_after (d : Dev nD) : (StableHlo.held (d : Thread nD τ) (Pipeline.ucRefs τ sig) (W6 m d) : sProp 𝕄)
    = iprop(((tLoc d ↦{fullShare} mS m (tLoc d)) ∗ (iLoc d ↦{fullShare} mS m (iLoc d)) ∗ (oLoc d ↦{fullShare} want d (mS m)))
        ∗ StableHlo.held (d : Thread nD τ) (Pipeline.ucRefs τ sig \ three) (W5 m d)) := by
  have h : (StableHlo.held (d : Thread nD τ) (Pipeline.ucRefs τ sig \ three) (W6 m d) : sProp 𝕄) = StableHlo.held (d : Thread nD τ) (Pipeline.ucRefs τ sig \ three) (W5 m d) := by
    unfold StableHlo.held
    exact bigSep_congr fun b hb => by
      rw [W6_of_dev m d b fun e => (Finset.mem_sdiff.mp hb).2 (by rw [e]; exact Finset.mem_insert_of_mem (Finset.mem_insert_of_mem (Finset.mem_singleton_self _)))]
  rw [StableHlo.held_sub_split _ three_sub, held_three, h, W6_out, W6_of m d main_v9 (by decide), W6_of m d main_v6 (by decide)]

/-! ## @main on the TensorCore -/

variable (ρ : Dev nD → PrngReg)

/-- What @main ends with. -/
abbrev FIN (d : Dev nD) : sProp 𝕄 := StableHlo.held (d : Thread nD τ) (Pipeline.ucRefs τ sig) (W9 m d)

theorem run_before (d : Dev nD) {Q : PUnit → sProp 𝕄} :
    iprop((iprop(boundary (d : Thread nD τ) ∗ (StableHlo.held (d : Thread nD τ) (Pipeline.ucRefs τ sig) (W5 m d) ∗ Rest 0 d)) -∗ Q ⟨⟩)
        ∗ boundary (d : Thread nD τ) ∗ (StableHlo.held (d : Thread nD τ) (Pipeline.ucRefs τ sig) (W0 m d) ∗ Rest 0 d)
        ∗ levAts (sc (F := F)).L (sc (F := F)).lev ∗ Ghost {0, 1} d)
      ⊢ wp frame (wpE ((K (F := F)).defs (D (F := F))) 𝒱 (T d) none) Set.univ (SparseCore.liftProg (Pipeline.Seg.run (segsA m))) Q :=
  BI.Entails.trans (Pipeline.wp_segs (pcfgs (F := F)) adm (pdats m) none cellOf_inj EP defs₀ 𝒱₀ (sc (F := F)).L (sc (F := F)).lev d (segsA m) {0, 1}
    (fun c => iprop(StableHlo.held (c : Thread nD τ) (Pipeline.ucRefs τ sig) (W0 m c) ∗ Rest 0 c))
    (fun c => iprop(StableHlo.held (c : Thread nD τ) (Pipeline.ucRefs τ sig) (W5 m c) ∗ Rest 0 c))
    (by simp only [segsA, Pipeline.Seg.pipes_host, Pipeline.Seg.pipes_region, Pipeline.Seg.pipes_nil]; decide)
    (by simp only [segsA, Pipeline.Seg.pipes_host, Pipeline.Seg.pipes_region, Pipeline.Seg.pipes_nil]; decide)
    ⟨fun _ => .rfl, fun _ => .rfl, fun _ => .rfl, fun _ => .rfl, fun _ => .rfl, fun _ => .rfl⟩)
    ((K (F := F)).wp_liftProg (D (F := F)) 𝒱 (T d) Set.univ none _ _)

theorem run_after (d : Dev nD) {Q : PUnit → sProp 𝕄} :
    iprop((iprop(boundary (d : Thread nD τ) ∗ (StableHlo.held (d : Thread nD τ) (Pipeline.ucRefs τ sig) (W9 m d) ∗ Rest 1 d)) -∗ Q ⟨⟩)
        ∗ boundary (d : Thread nD τ) ∗ (StableHlo.held (d : Thread nD τ) (Pipeline.ucRefs τ sig) (W6 m d) ∗ Rest 1 d)
        ∗ levAts (sc (F := F)).L (sc (F := F)).lev ∗ Ghost {2} d)
      ⊢ wp frame (wpE ((K (F := F)).defs (D (F := F))) 𝒱 (T d) none) Set.univ (SparseCore.liftProg (Pipeline.Seg.run (segsB m))) Q :=
  BI.Entails.trans (Pipeline.wp_segs (pcfgs (F := F)) adm (pdats m) none cellOf_inj EP defs₀ 𝒱₀ (sc (F := F)).L (sc (F := F)).lev d (segsB m) {2}
    (fun c => iprop(StableHlo.held (c : Thread nD τ) (Pipeline.ucRefs τ sig) (W6 m c) ∗ Rest 1 c))
    (fun c => iprop(StableHlo.held (c : Thread nD τ) (Pipeline.ucRefs τ sig) (W9 m c) ∗ Rest 1 c))
    (by simp only [segsB, Pipeline.Seg.pipes_host, Pipeline.Seg.pipes_region, Pipeline.Seg.pipes_nil]; decide)
    (by simp only [segsB, Pipeline.Seg.pipes_host, Pipeline.Seg.pipes_region, Pipeline.Seg.pipes_nil]; decide)
    ⟨fun _ => .rfl, fun _ => .rfl, fun _ => .rfl, fun _ => .rfl⟩)
    ((K (F := F)).wp_liftProg (D (F := F)) 𝒱 (T d) Set.univ none _ _)

theorem ghost_split (d : Dev nD) : (Ghost Finset.univ d : sProp 𝕄) = iprop(Ghost (F := F) {0, 1} d ∗ Ghost (F := F) {2} d) := by
  unfold Ghost Pipeline.ghostOn Pipeline.PerCore.ghostOn
  rw [show (Finset.univ : Finset (Fin 3)) = {0, 1} ∪ {2} by decide, bigSep_union (by decide)]
  rfl

theorem hmain (κ : GSem nD τ sig → ℕ) (d : Dev nD) :
    iprop((K (F := F)).ctx EH (P (mS m)) κ ∗ (K (F := F)).tcSt EH d 0 ∗ (K (F := F)).tcRes m ρ d ∗ Ghost Finset.univ d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq m d, ghost_split, show unscopedBufs d (fun b => m ((d : Thread nD τ).loc b)) = StableHlo.held (d : Thread nD τ) (Pipeline.ucRefs τ sig) (W0 m d)
        from Pipeline.unscopedBufs_held d (W0 m d)]
  simp only [wp_bind]
  iintro ⟨#Hctx, Hst, ⟨Hb, Hops, Hts, Hpr⟩, Hg1, Hg2⟩
  ihave Hlev := (SparseCore.Cfg.ctx_levAts κ) $$ Hctx
  unfold SparseCore.Cfg.tcSt
  icases Hst with ⟨HO, Hst⟩
  iapply (run_before m d)
  isplitr [Hb Hops Hpr HO Hg1 Hlev]
  · iintro ⟨Hb, Hops, HR⟩
    unfold Rest
    icases HR with ⟨Hpr, HO⟩
    ihave Hops' := (Entails.of_eq (held_before m d)) $$ Hops
    icases Hops' with ⟨Hthree, Hrest⟩
    iapply ((K (F := F)).wp_run (D (F := F)) 𝒱 (EH := EH) (P := P (mS m)) κ d 0) $$ [Hst HO Hthree Hrest Hb Hts Hpr Hg2]
    isplitr; · iexact Hctx
    isplitl [Hst HO]
    · unfold SparseCore.Cfg.tcSt
      isplitl [HO]; · iexact HO
      iexact Hst
    isplitl [Hthree]
    · rw [st_eq]; iexact Hthree
    iintro ⟨Hst, Hdn⟩
    ihave Hdn' := (Entails.of_eq (dn_eq (mS m) d)) $$ Hdn
    unfold SparseCore.Cfg.tcSt
    icases Hst with ⟨HO, Hst⟩
    ihave Hlev := (SparseCore.Cfg.ctx_levAts κ) $$ Hctx
    iapply (run_after m d)
    isplitl [Hst Hts]
    · iintro ⟨Hb, Hops, HR⟩
      unfold Rest
      icases HR with ⟨-, HO⟩
      isplitl [Hst HO]
      · isplitl [HO]; · iexact HO
        iexact Hst
      isplitl [Hops]; · iexact Hops
      isplitl [Hb] <;> iassumption
    isplitl [Hb]; · iexact Hb
    isplitl [Hdn' Hrest Hpr HO]
    · isplitl [Hdn' Hrest]
      · iapply (Entails.of_eq (held_after m d).symm)
        isplitl [Hdn'] <;> iassumption
      unfold Rest
      isplitl [Hpr]; · iexact Hpr
      iexact HO
    isplitl [Hlev]; · iexact Hlev
    iexact Hg2
  isplitl [Hb]; · iexact Hb
  isplitl [Hops Hpr HO]
  · isplitl [Hops]; · iexact Hops
    unfold Rest
    isplitl [Hpr]; · iexists _; iexact Hpr
    iexact HO
  isplitl [Hlev]; · iexact Hlev
  iexact Hg1

/-! ## The run -/

/-- What a final state's memory holds on device `d`. -/
def fq (d : Dev nD) (s' : Phys nD τ sig (Elt F)) : Prop := ∀ b ∈ Pipeline.ucRefs τ sig, s'.mem.mem ((d, b) : Loc nD τ sig) = W9 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave H := (pointsTo_read_all (Pipeline.ucRefs τ sig) (fun b => ((((d : Thread nD τ)).1, b) : Loc nD τ sig)) (W9 m d) s') $$ [Hh HSI]
  · isplitl [Hh] <;> iassumption
  icases H with ⟨%h, -⟩
  ipureintro
  exact h

def QC : PUnit × MemSt nD τ sig (Elt F) → Prop := fun r =>
  (∀ c : Dev nD, ∀ b ∈ Pipeline.ucRefs τ sig, r.2.mem ((c, b) : Loc nD τ sig) = W9 m c b) ∧ r.2.sem = fun _ => 0

theorem run_main [∀ e, Nonempty (Elt F e)] (hpre : ∀ d, InTable d (mS m)) :
    θ_run (Cert.WholeIdeal.defs (F := F)) (Cert.WholeIdeal.threads (F := F)) ⟨m, fun _ => 0, ρ⟩ (QC m) :=
  SparseCore.Cfg.θ_run_sc_quiescent (K := K (F := F)) (D := D (F := F)) (𝒱 := 𝒱) (EH := EH) (P := P (mS m)) (A := ∅) facts v₀
    (fun q hq => match q with | 0 => nomatch hq)
    (fun q _ => match q with | 0 => tileObl (mS m) facts hpre)
    (fun q _ => match q with | 0 => SparseCore.Cfg.VecSplit.of_plain (vecSplit (mS m)))
    m ρ main (fun d => Ghost Finset.univ d) (FIN m) (u₀ (F := F)) (sep_elim_left.trans (hu₀ (mS m))) (hmain m ρ) (fq m) (hfin m) (QC m) (fun _ h hz => ⟨h, hz⟩)

end Cert.Proof.Whole
-- ==== Proof.WholeKept.lean ====
/-
  The whole kernel writes none of its arguments, and the rows its neighbour call names are rows of the table.
-/
module

public import proofs.«01_k».proof.Defs
public import proofs.«01_k».proof.Proof.WholeArrays
public import proofs.«01_k».proof.Proof.WholeLaunch
public import proofs.«01_k».proof.Proof.Gen.Pre_finite_whole

@[expose] public section

namespace Cert.Proof.Whole

open Idealize.ShloMosaic Idealize.ShloMosaic.StableHlo Idealize.SL.Sem Cert.WholeIdeal Cert.WholeIdeal.Gen Cert.Proof.Spec

variable (m : (ℓ : Loc nD τ sig) → Buf (Elt Ideal) ℓ) (ρ : Dev nD → PrngReg) (c : Dev nD)

/-! ## The arguments -/

/-- The arguments. -/
abbrev inputs : List (Ref sig .tc) := [main_arg0, main_arg1, main_arg2, main_arg3, main_arg4, main_arg5, main_arg6, main_arg7,
  main_arg8, main_arg9, main_arg10, main_arg11, main_arg12, main_arg13, main_arg14]

theorem kept4 (r : Ref sig .tc) (h : r ∈ inputs) : W4 m c (Proc.devRef .tc r) = m ((c.tc : Thread nD τ).loc r) :=
  (W4_of m c r ((by decide : ∀ r ∈ inputs, ∀ w : Fin cfg1.W, Pipeline.arrRef spec1 w = r → (cfg1.win w).isOut = false) r h)).trans
    ((W3_of m c r ((by decide : ∀ r ∈ inputs, r ∉ opsB_W) r h)).trans
    ((W2_of m c r ((by decide : ∀ r ∈ inputs, ∀ w : Fin cfg0.W, Pipeline.arrRef spec0 w = r → (cfg0.win w).isOut = false) r h)).trans
    (W1_of m c r ((by decide : ∀ r ∈ inputs, r ∉ opsA_W) r h))))

theorem kept6 (r : Ref sig .tc) (h : r ∈ inputs) : W6 m c (Proc.devRef .tc r) = m ((c.tc : Thread nD τ).loc r) :=
  (W6_of m c r ((by decide : ∀ r ∈ inputs, r ≠ main_v10) r h)).trans
    ((W5_of m c r ((by decide : ∀ r ∈ inputs, r ∉ opsC_W) r h)).trans (kept4 m c r h))

theorem kept7 (r : Ref sig .tc) (h : r ∈ inputs) : W7 m c (Proc.devRef .tc r) = m ((c.tc : Thread nD τ).loc r) :=
  (W7_of m c r ((by decide : ∀ r ∈ inputs, r ∉ opsD_W) r h)).trans (kept6 m c r h)

theorem kept9 (r : Ref sig .tc) (h : r ∈ inputs) : W9 m c (Proc.devRef .tc r) = m ((c.tc : Thread nD τ).loc r) :=
  (W9_of m c r ((by decide : ∀ r ∈ inputs, r ∉ opsE_W) r h)).trans
    ((W8_of m c r ((by decide : ∀ r ∈ inputs, ∀ w : Fin cfg3.W, Pipeline.arrRef spec3 w = r → (cfg3.win w).isOut = false) r h)).trans
    (kept7 m c r h))

/-! ## The rows named -/

/-- The place in its batch of query `q`'s `j`th neighbour. -/
noncomputable def neighbour (b : Fin 8) (q : Fin 512) (j : Fin 32) : Fin 4096 :=
  pick (fun k => sqd (points m c b k) fun a => chosen m c (ix3 a b q)) j.val

theorem spots_word (b : Fin 8) (q : Fin 512) (j : Fin 32) :
    spots m c (ix3 b j q) = BitVec.ofNat 32 (b.val * 4096 + (neighbour m c b q j).val) := by
  have e : spots m c (ix3 b j q) = BitVec.ofNat 32 (neighbour m c b q j).val + BitVec.ofNat 32 b.val * 4096#32 := rfl
  rw [e]
  apply BitVec.eq_of_toNat_eq
  have := (neighbour m c b q j).isLt
  have := b.isLt
  simp only [BitVec.toNat_add, BitVec.toNat_mul, BitVec.toNat_ofNat]
  omega

/-- A row's place in the list of rows. -/
def spot (b : Fin 8) (q : Fin 512) (j : Fin 32) : Fin 131072 := ⟨b.val * 16384 + q.val * 32 + j.val, by omega⟩

theorem list_at (b : Fin 8) (q : Fin 512) (j : Fin 32) :
    (W5 m c (Proc.devRef .tc main_v6) : Vec Ideal S131072 .i32) (ix1 (spot b q j))
      = BitVec.ofNat 32 (b.val * 4096 + (neighbour m c b q j).val) := by
  rw [← spots_word, ← slots_spots m c]
  unfold W5 spot
  after_reads_simp
  pointwise []

theorem spot_surj (r : Fin 131072) : ∃ b q j, r = spot b q j :=
  ⟨⟨r.val / 16384, by omega⟩, ⟨r.val / 32 % 512, by omega⟩, ⟨r.val % 32, by omega⟩, Fin.ext (by simp only [spot]; omega)⟩

theorem inTable : ∀ d, InTable d (mS m) := by
  intro d j
  obtain ⟨b, q, k, h⟩ := spot_surj (j 0)
  have hj : j = ix1 (spot b q k) := by rw [← h]; funext a; obtain rfl : a = 0 := Subsingleton.elim _ _; rfl
  have e : mS m (iLoc d) j = BitVec.ofNat 32 (b.val * 4096 + (neighbour m d b q k).val) := by
    rw [hj]; exact list_at m d b q k
  have := (neighbour m d b q k).isLt
  have := b.isLt
  show (mS m (iLoc d) j).toNat < 32768
  rw [e, BitVec.toNat_ofNat]
  omega

/-! ## The frame -/

theorem run : θ_run (Cert.WholeIdeal.defs (F := Ideal)) (Cert.WholeIdeal.threads (F := Ideal)) ⟨m, fun _ => 0, ρ⟩ (QC m) :=
  run_main m ρ (inTable m)

theorem mem_uc (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

theorem input_end {r : PUnit × MemSt nD τ sig (Elt Ideal)} (h : QC m r) (c : Dev nD) (b : Ref sig .tc) (hb : b ∈ inputs) :
    r.2.mem ((c.tc : Thread nD τ).loc b) = m ((c.tc : Thread nD τ).loc b) :=
  (h.1 c _ (mem_uc b ((by decide : ∀ b ∈ inputs, ¬ (Proc.devRef .tc b : DevRef τ sig).isScoped) b hb))).trans (kept9 m c b hb)

theorem inputs_end {r : PUnit × MemSt nD τ sig (Elt Ideal)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  ⟨input_end m h c main_arg0 (by decide), input_end m h c main_arg1 (by decide), input_end m h c main_arg2 (by decide), input_end m h c main_arg3 (by decide), input_end m h c main_arg4 (by decide), input_end m h c main_arg5 (by decide), input_end m h c main_arg6 (by decide), input_end m h c main_arg7 (by decide), input_end m h c main_arg8 (by decide), input_end m h c main_arg9 (by decide), input_end m h c main_arg10 (by decide), input_end m h c main_arg11 (by decide), input_end m h c main_arg12 (by decide), input_end m h c main_arg13 (by decide), input_end m h c main_arg14 (by decide)⟩

theorem frame_whole : Cert.quiescent_WholeIdeal := fun m ρ _ =>
  (θ_run Cert.WholeIdeal.defs _ _).mono (fun _ h => ⟨fun c => inputs_end m h c, h.2⟩) (run m ρ)

theorem frame_whole_finite : Cert.quiescent_WholeIdeal_pre_finite_whole := fun m ρ _ =>
  (θ_run Cert.WholeIdeal.defs _ _).mono (fun _ h => ⟨fun c => inputs_end m h c, h.2⟩) (run m ρ)

end Cert.Proof.Whole
-- ==== Proof.WholeTable.lean ====
/-
  What the whole kernel's gather gives the dense layers: at a neighbour's place in the list, the neighbour's coordinates and
  features, then zeros.
-/
module

public import proofs.«01_k».proof.Proof.WholeKept

@[expose] public section

namespace Cert.Proof.Whole

open Idealize.ShloMosaic Idealize.ShloMosaic.StableHlo Cert.WholeIdeal Cert.WholeIdeal.Gen Cert.Proof.Spec

variable (m : (ℓ : Loc nD τ sig) → Buf (Elt Ideal) ℓ) (c : Dev nD)

/-- The features given. -/
noncomputable abbrev given : Vec Ideal S8x4096x64 .f32 := m ((c.tc : Thread nD τ).loc main_arg1)

/-- A point's row in the table. -/
noncomputable def row (b : Fin 8) (i : Fin 4096) (ch : Fin 128) : EReal :=
  if h : ch.val < 3 then arg m c (ix3 b i ⟨ch.val, h⟩)
  else if h : ch.val < 67 then given m c (ix3 b i ⟨ch.val - 3, by omega⟩) else 0

/-- A point's place in the table. -/
def slot (b : Fin 8) (i : Fin 4096) : Fin 32768 := ⟨b.val * 4096 + i.val, by omega⟩

theorem table_at (b : Fin 8) (i : Fin 4096) (ch : Fin 128) :
    (W5 m c (Proc.devRef .tc main_v9) : Vec Ideal S32768x128 .f32) (ix2 (slot b i) ch) = row m c b i ch := by
  have e0 : W4 m c (Proc.devRef .tc main_arg0) = arg m c := kept4 m c main_arg0 (by decide)
  have e1 : W4 m c (Proc.devRef .tc main_arg1) = given m c := kept4 m c main_arg1 (by decide)
  unfold row
  rw [← e0, ← e1]
  unfold W5 slot
  after_reads_simp
  pointwise []
  after_reads_simp
  by_cases h3 : ch.val < 3
  · rw [dif_pos h3, dif_pos h3]
  rw [dif_neg h3, dif_neg h3]
  by_cases h67 : ch.val < 67
  · rw [dif_pos h67, dif_pos (by omega)]
  rw [dif_neg h67, dif_neg (by omega)]
  pointwise []

/-- The gathered row of a query's neighbour. -/
theorem want_at (b : Fin 8) (q : Fin 512) (j : Fin 32) (ch : Fin 128) :
    (W7 m c (Proc.devRef .tc main_v10) : Vec Ideal S131072x128 .f32) (ix2 (spot b q j) ch) = row m c b (neighbour m c b q j) ch := by
  have h : W7 m c (Proc.devRef .tc main_v10) = want c (mS m) := (W7_of m c main_v10 (by decide)).trans (W6_out m c)
  rw [h, ← table_at]
  have e := list_at m c b q j
  have := (neighbour m c b q j).isLt
  have := b.isLt
  show (W5 m c (Proc.devRef .tc main_v9) : Vec Ideal S32768x128 .f32)
    (tIx ((W5 m c (Proc.devRef .tc main_v6) : Vec Ideal S131072 .i32) (iIx (spot b q j).val (spot b q j).isLt)) ch) = _
  refine congrArg _ (funext fun a => Fin.ext ?_)
  have e' : (W5 m c (Proc.devRef .tc main_v6) : Vec Ideal S131072 .i32) (iIx (spot b q j).val (spot b q j).isLt)
      = BitVec.ofNat 32 (b.val * 4096 + (neighbour m c b q j).val) := by
    rw [← e]; refine congrArg _ (funext fun a => ?_); obtain rfl : a = 0 := Subsingleton.elim _ _; rfl
  rw [e']
  match a with
  | ⟨0, _⟩ =>
    show min (BitVec.ofNat 32 (b.val * 4096 + (neighbour m c b q j).val)).toNat 32767 = b.val * 4096 + (neighbour m c b q j).val
    rw [BitVec.toNat_ofNat]
    omega
  | ⟨1, _⟩ => rfl

/-- The centres as the layers' call reads them. -/
theorem centres_at (b : Fin 8) (a : Fin 3) (q : Fin 512) :
    (W7 m c (Proc.devRef .tc main_v2) : Vec Ideal S8x3x512 .f32) (ix3 b a q) = chosen m c (ix3 a b q) := by
  have h : W7 m c (Proc.devRef .tc main_v2) = W3 m c (Proc.devRef .tc main_v2) :=
    (W7_of m c main_v2 (by decide)).trans ((W6_of m c main_v2 (by decide)).trans ((W5_of m c main_v2 (by decide)).trans (W4_of m c main_v2 (by decide))))
  rw [h]
  exact queries_at m c b a q

end Cert.Proof.Whole
-- ==== Proof.WholeLayers.lean ====
/-
  The whole kernel's dense layers over its arrays: the result array at a batch, a point and a channel, from the arguments.
-/
module

public import proofs.«01_k».proof.Proof.WholeTable
public import proofs.«01_k».proof.Proof.PointsStep

@[expose] public section

noncomputable section

namespace Cert.Proof.Whole

open Idealize.ShloMosaic Idealize.ShloMosaic.StableHlo Cert.WholeIdeal Cert.WholeIdeal.Gen Cert.Proof.Spec Cert.Proof.Dense

theorem root_word : Named.named (F := Ideal) Cert.WholeIdeal.κ "rs" (φ := .f32) 0x3F7FDF42#32 = (root : EReal) :=
  IdealRules.named_const.ideal_named_scalar _ _ _ _ rfl

/-- The block stored, at a point and a channel. -/
theorem layers_stored (x0 : Vec Ideal S4096x128 .f32) (x1 : Vec Ideal S1x3x128 .f32) (x2 : Vec Ideal S128x128 .f32)
    (x3 : Vec Ideal S128x128 .f32) (x4 : Vec Ideal S128x256 .f32) (x5 x6 x7 x8 x9 x10 : Vec Ideal S1x128 .f32)
    (x11 x12 x13 : Vec Ideal S1x256 .f32) (q : Fin 128) (o : Fin 256) :
    k3_pay1 (k3_pay4 x12) (k3_pay5 x6 x2) (k3_pay6 x9 x3) (k3_pay7 x12 x4) (k3_pay8 x6 x5 x7) (k3_pay9 x9 x8 x10) x11 x13 x1 x0 (ix3 0 q o)
      = (Finset.univ : Finset (Fin 32)).fold max (Ideal.ofBits .f32 0xFF800000#32) fun k =>
        folded (folded (opened (fun c => x0 (ix2 ⟨q.val * 32 + k.val, by omega⟩ c)) (fun a => x1 (ix3 0 a q))
            (fun c o => x2 (ix2 c o)) (fun o => x5 (ix2 0 o)) (fun o => x6 (ix2 0 o)) fun o => x7 (ix2 0 o))
          (fun c o => x3 (ix2 c o)) (fun o => x8 (ix2 0 o)) (fun o => x9 (ix2 0 o)) fun o => x10 (ix2 0 o))
          (fun c o => x4 (ix2 c o)) (fun o => x11 (ix2 0 o)) (fun o => x12 (ix2 0 o)) (fun o => x13 (ix2 0 o)) o := by
  unfold folded opened
  simp only [← root_word]
  pointwise [k3_pay1, k3_pay2, k3_pay3, k3_pay4, k3_pay5, k3_pay6, k3_pay7, k3_pay8, k3_pay9]

theorem layers_out (x0 : Vec Ideal S4096x128 .f32) (x1 : Vec Ideal S1x3x128 .f32) (x2 : Vec Ideal S128x128 .f32)
    (x3 : Vec Ideal S128x128 .f32) (x4 : Vec Ideal S128x256 .f32) (x5 x6 x7 x8 x9 x10 : Vec Ideal S1x128 .f32)
    (x11 x12 x13 : Vec Ideal S1x256 .f32) (q : Fin 128) (o : Fin 256) :
    out3_14 x0 x1 x2 x3 x4 x5 x6 x7 x8 x9 x10 x11 x12 x13 (ix3 0 q o)
      = (Finset.univ : Finset (Fin 32)).fold max (Ideal.ofBits .f32 0xFF800000#32) fun k =>
        folded (folded (opened (fun c => x0 (ix2 ⟨q.val * 32 + k.val, by omega⟩ c)) (fun a => x1 (ix3 0 a q))
            (fun c o => x2 (ix2 c o)) (fun o => x5 (ix2 0 o)) (fun o => x6 (ix2 0 o)) fun o => x7 (ix2 0 o))
          (fun c o => x3 (ix2 c o)) (fun o => x8 (ix2 0 o)) (fun o => x9 (ix2 0 o)) fun o => x10 (ix2 0 o))
          (fun c o => x4 (ix2 c o)) (fun o => x11 (ix2 0 o)) (fun o => x12 (ix2 0 o)) (fun o => x13 (ix2 0 o)) o := by
  rw [← layers_stored]
  frame_out

variable (m : (ℓ : Loc nD τ sig) → Buf (Elt Ideal) ℓ) (c : Dev nD)

/-! ## The arguments -/

abbrev p3 : FVec Ideal S67x128 .f32 := m ((c.tc : Thread nD τ).loc main_arg3)
abbrev p4 : FVec Ideal S128 .f32 := m ((c.tc : Thread nD τ).loc main_arg4)
abbrev p5 : FVec Ideal S128 .f32 := m ((c.tc : Thread nD τ).loc main_arg5)
abbrev p6 : FVec Ideal S128 .f32 := m ((c.tc : Thread nD τ).loc main_arg6)
abbrev p7 : FVec Ideal S128x128 .f32 := m ((c.tc : Thread nD τ).loc main_arg7)
abbrev p8 : FVec Ideal S128 .f32 := m ((c.tc : Thread nD τ).loc main_arg8)
abbrev p9 : FVec Ideal S128 .f32 := m ((c.tc : Thread nD τ).loc main_arg9)
abbrev p10 : FVec Ideal S128 .f32 := m ((c.tc : Thread nD τ).loc main_arg10)
abbrev p11 : FVec Ideal S128x256 .f32 := m ((c.tc : Thread nD τ).loc main_arg11)
abbrev p12 : FVec Ideal S256 .f32 := m ((c.tc : Thread nD τ).loc main_arg12)
abbrev p13 : FVec Ideal S256 .f32 := m ((c.tc : Thread nD τ).loc main_arg13)
abbrev p14 : FVec Ideal S256 .f32 := m ((c.tc : Thread nD τ).loc main_arg14)

/-! ## The blocks -/

/-- The batch of a grid point of the layers' call. -/
def batchL (t : Fin cfg3.N) : Fin 8 := grid3.coords t 0

/-- The quarter of a batch's points at a grid point. -/
def quarter (t : Fin cfg3.N) : Fin 4 := grid3.coords t 1

theorem batchL_val (t : Fin cfg3.N) : (grid3.coords t 0).val = (batchL t).val := rfl
theorem quarter_val (t : Fin cfg3.N) : (grid3.coords t 1).val = (quarter t).val := rfl

/-- A point's place in its batch. -/
def placeL (s : Fin 4) (q : Fin 128) : Fin 512 := ⟨s.val * 128 + q.val, by omega⟩

theorem inL0 : ∀ t : Fin cfg3.N, win3_0.index t = ![(grid3.coords t 0).val * 4 + (grid3.coords t 1).val, 0] := (by decide +kernel : ∀ t : Fin grid3.N, _)
theorem inL1 : ∀ t : Fin cfg3.N, win3_1.index t = ![(grid3.coords t 0).val, 0, (grid3.coords t 1).val] := (by decide +kernel : ∀ t : Fin grid3.N, _)
theorem inL2 : ∀ t : Fin cfg3.N, win3_2.index t = ![0, 0] := (by decide +kernel : ∀ t : Fin grid3.N, _)
theorem inL3 : ∀ t : Fin cfg3.N, win3_3.index t = ![0, 0] := (by decide +kernel : ∀ t : Fin grid3.N, _)
theorem inL4 : ∀ t : Fin cfg3.N, win3_4.index t = ![0, 0] := (by decide +kernel : ∀ t : Fin grid3.N, _)
theorem inL5 : ∀ t : Fin cfg3.N, win3_5.index t = ![0, 0] := (by decide +kernel : ∀ t : Fin grid3.N, _)
theorem inL6 : ∀ t : Fin cfg3.N, win3_6.index t = ![0, 0] := (by decide +kernel : ∀ t : Fin grid3.N, _)
theorem inL7 : ∀ t : Fin cfg3.N, win3_7.index t = ![0, 0] := (by decide +kernel : ∀ t : Fin grid3.N, _)
theorem inL8 : ∀ t : Fin cfg3.N, win3_8.index t = ![0, 0] := (by decide +kernel : ∀ t : Fin grid3.N, _)
theorem inL9 : ∀ t : Fin cfg3.N, win3_9.index t = ![0, 0] := (by decide +kernel : ∀ t : Fin grid3.N, _)
theorem inL10 : ∀ t : Fin cfg3.N, win3_10.index t = ![0, 0] := (by decide +kernel : ∀ t : Fin grid3.N, _)
theorem inL11 : ∀ t : Fin cfg3.N, win3_11.index t = ![0, 0] := (by decide +kernel : ∀ t : Fin grid3.N, _)
theorem inL12 : ∀ t : Fin cfg3.N, win3_12.index t = ![0, 0] := (by decide +kernel : ∀ t : Fin grid3.N, _)
theorem inL13 : ∀ t : Fin cfg3.N, win3_13.index t = ![0, 0] := (by decide +kernel : ∀ t : Fin grid3.N, _)
theorem inL14 : ∀ t : Fin cfg3.N, win3_14.index t = ![(grid3.coords t 0).val, (grid3.coords t 1).val, 0] := (by decide +kernel : ∀ t : Fin grid3.N, _)

theorem row_at (t : Fin cfg3.N) (q : Fin 128) (k : Fin 32) (ch : Fin 128) :
    (iblk3 (V7 m) c 0 t : Vec Ideal S4096x128 .f32) (ix2 ⟨q.val * 32 + k.val, by omega⟩ ch)
      = row m c (batchL t) (neighbour m c (batchL t) (placeL (quarter t) q) k) ch := by
  rw [← want_at]
  unfold iblk3 spot placeL
  rw [View.read_apply]
  blk_ext [inL0, batchL_val, quarter_val]

theorem centre_at (t : Fin cfg3.N) (a : Fin 3) (q : Fin 128) :
    (iblk3 (V7 m) c 1 t : Vec Ideal S1x3x128 .f32) (ix3 0 a q) = chosen m c (ix3 a (batchL t) (placeL (quarter t) q)) := by
  rw [← centres_at]
  unfold iblk3 placeL
  rw [View.read_apply]
  blk_ext [inL1, batchL_val, quarter_val]

theorem w0_at (t : Fin cfg3.N) (k o : Fin 128) :
    (iblk3 (V7 m) c 2 t : Vec Ideal S128x128 .f32) (ix2 k o) = padded (fun k o => p3 m c (ix2 k o)) k o := by
  have e : W6 m c (Proc.devRef .tc main_arg3) = p3 m c := kept6 m c main_arg3 (by decide)
  have h : (W7 m c (Proc.devRef .tc main_v12) : Vec Ideal S128x128 .f32) (ix2 k o) = padded (fun k o => p3 m c (ix2 k o)) k o := by
    rw [← e]
    unfold W7 padded
    after_reads_simp
    pointwise []
  rw [← h]
  unfold iblk3
  rw [View.read_apply]
  blk_ext [inL2]

theorem w1_at (t : Fin cfg3.N) (k : Fin 128) (o : Fin 128) :
    (iblk3 (V7 m) c 3 t : Vec Ideal S128x128 .f32) (ix2 k o) = p7 m c (ix2 k o) := by
  have e : W7 m c (Proc.devRef .tc main_arg7) = p7 m c := kept7 m c main_arg7 (by decide)
  rw [← e]
  unfold iblk3
  rw [View.read_apply]
  blk_ext [inL3]

theorem w2_at (t : Fin cfg3.N) (k : Fin 128) (o : Fin 256) :
    (iblk3 (V7 m) c 4 t : Vec Ideal S128x256 .f32) (ix2 k o) = p11 m c (ix2 k o) := by
  have e : W7 m c (Proc.devRef .tc main_arg11) = p11 m c := kept7 m c main_arg11 (by decide)
  rw [← e]
  unfold iblk3
  rw [View.read_apply]
  blk_ext [inL4]

theorem vec5 (t : Fin cfg3.N) (o : Fin 128) : (iblk3 (V7 m) c 5 t : Vec Ideal S1x128 .f32) (ix2 0 o) = p4 m c (ix1 o) := by
  have e : W6 m c (Proc.devRef .tc main_arg4) = p4 m c := kept6 m c main_arg4 (by decide)
  have h : (W7 m c (Proc.devRef .tc main_v13) : Vec Ideal S1x128 .f32) (ix2 0 o) = p4 m c (ix1 o) := by
    rw [← e]
    unfold W7
    after_reads_simp
    pointwise []
  rw [← h]
  unfold iblk3
  rw [View.read_apply]
  blk_ext [inL5]

theorem vec6 (t : Fin cfg3.N) (o : Fin 128) : (iblk3 (V7 m) c 6 t : Vec Ideal S1x128 .f32) (ix2 0 o) = p5 m c (ix1 o) := by
  have e : W6 m c (Proc.devRef .tc main_arg5) = p5 m c := kept6 m c main_arg5 (by decide)
  have h : (W7 m c (Proc.devRef .tc main_v14) : Vec Ideal S1x128 .f32) (ix2 0 o) = p5 m c (ix1 o) := by
    rw [← e]
    unfold W7
    after_reads_simp
    pointwise []
  rw [← h]
  unfold iblk3
  rw [View.read_apply]
  blk_ext [inL6]

theorem vec7 (t : Fin cfg3.N) (o : Fin 128) : (iblk3 (V7 m) c 7 t : Vec Ideal S1x128 .f32) (ix2 0 o) = p6 m c (ix1 o) := by
  have e : W6 m c (Proc.devRef .tc main_arg6) = p6 m c := kept6 m c main_arg6 (by decide)
  have h : (W7 m c (Proc.devRef .tc main_v15) : Vec Ideal S1x128 .f32) (ix2 0 o) = p6 m c (ix1 o) := by
    rw [← e]
    unfold W7
    after_reads_simp
    pointwise []
  rw [← h]
  unfold iblk3
  rw [View.read_apply]
  blk_ext [inL7]

theorem vec8 (t : Fin cfg3.N) (o : Fin 128) : (iblk3 (V7 m) c 8 t : Vec Ideal S1x128 .f32) (ix2 0 o) = p8 m c (ix1 o) := by
  have e : W6 m c (Proc.devRef .tc main_arg8) = p8 m c := kept6 m c main_arg8 (by decide)
  have h : (W7 m c (Proc.devRef .tc main_v16) : Vec Ideal S1x128 .f32) (ix2 0 o) = p8 m c (ix1 o) := by
    rw [← e]
    unfold W7
    after_reads_simp
    pointwise []
  rw [← h]
  unfold iblk3
  rw [View.read_apply]
  blk_ext [inL8]

theorem vec9 (t : Fin cfg3.N) (o : Fin 128) : (iblk3 (V7 m) c 9 t : Vec Ideal S1x128 .f32) (ix2 0 o) = p9 m c (ix1 o) := by
  have e : W6 m c (Proc.devRef .tc main_arg9) = p9 m c := kept6 m c main_arg9 (by decide)
  have h : (W7 m c (Proc.devRef .tc main_v17) : Vec Ideal S1x128 .f32) (ix2 0 o) = p9 m c (ix1 o) := by
    rw [← e]
    unfold W7
    after_reads_simp
    pointwise []
  rw [← h]
  unfold iblk3
  rw [View.read_apply]
  blk_ext [inL9]

theorem vec10 (t : Fin cfg3.N) (o : Fin 128) : (iblk3 (V7 m) c 10 t : Vec Ideal S1x128 .f32) (ix2 0 o) = p10 m c (ix1 o) := by
  have e : W6 m c (Proc.devRef .tc main_arg10) = p10 m c := kept6 m c main_arg10 (by decide)
  have h : (W7 m c (Proc.devRef .tc main_v18) : Vec Ideal S1x128 .f32) (ix2 0 o) = p10 m c (ix1 o) := by
    rw [← e]
    unfold W7
    after_reads_simp
    pointwise []
  rw [← h]
  unfold iblk3
  rw [View.read_apply]
  blk_ext [inL10]

theorem vec11 (t : Fin cfg3.N) (o : Fin 256) : (iblk3 (V7 m) c 11 t : Vec Ideal S1x256 .f32) (ix2 0 o) = p12 m c (ix1 o) := by
  have e : W6 m c (Proc.devRef .tc main_arg12) = p12 m c := kept6 m c main_arg12 (by decide)
  have h : (W7 m c (Proc.devRef .tc main_v19) : Vec Ideal S1x256 .f32) (ix2 0 o) = p12 m c (ix1 o) := by
    rw [← e]
    unfold W7
    after_reads_simp
    pointwise []
  rw [← h]
  unfold iblk3
  rw [View.read_apply]
  blk_ext [inL11]

theorem vec12 (t : Fin cfg3.N) (o : Fin 256) : (iblk3 (V7 m) c 12 t : Vec Ideal S1x256 .f32) (ix2 0 o) = p13 m c (ix1 o) := by
  have e : W6 m c (Proc.devRef .tc main_arg13) = p13 m c := kept6 m c main_arg13 (by decide)
  have h : (W7 m c (Proc.devRef .tc main_v20) : Vec Ideal S1x256 .f32) (ix2 0 o) = p13 m c (ix1 o) := by
    rw [← e]
    unfold W7
    after_reads_simp
    pointwise []
  rw [← h]
  unfold iblk3
  rw [View.read_apply]
  blk_ext [inL12]

theorem vec13 (t : Fin cfg3.N) (o : Fin 256) : (iblk3 (V7 m) c 13 t : Vec Ideal S1x256 .f32) (ix2 0 o) = p14 m c (ix1 o) := by
  have e : W6 m c (Proc.devRef .tc main_arg14) = p14 m c := kept6 m c main_arg14 (by decide)
  have h : (W7 m c (Proc.devRef .tc main_v21) : Vec Ideal S1x256 .f32) (ix2 0 o) = p14 m c (ix1 o) := by
    rw [← e]
    unfold W7
    after_reads_simp
    pointwise []
  rw [← h]
  unfold iblk3
  rw [View.read_apply]
  blk_ext [inL13]

/-! ## The result -/

/-- The features, by folded layers. -/
def pooled : Vec Ideal S8x512x256 .f32 := fun i =>
  (Finset.univ : Finset (Fin 32)).fold max (Ideal.ofBits .f32 0xFF800000#32) fun k =>
    folded (folded (opened (row m c (i 0) (neighbour m c (i 0) (i 1) k)) (fun a => chosen m c (ix3 a (i 0) (i 1)))
        (padded fun k o => p3 m c (ix2 k o)) (fun o => p4 m c (ix1 o)) (fun o => p5 m c (ix1 o)) fun o => p6 m c (ix1 o))
      (fun k o => p7 m c (ix2 k o)) (fun o => p8 m c (ix1 o)) (fun o => p9 m c (ix1 o)) fun o => p10 m c (ix1 o))
      (fun k o => p11 m c (ix2 k o)) (fun o => p12 m c (ix1 o)) (fun o => p13 m c (ix1 o)) (fun o => p14 m c (ix1 o)) (i 2)

theorem block_pooled (t : Fin cfg3.N) (q : Fin 128) (o : Fin 256) :
    ((dat3 (V7 m) c).after 14 t : Vec Ideal S1x128x256 .f32) (ix3 0 q o) = pooled m c (ix3 (batchL t) (placeL (quarter t) q) o) := by
  rw [after3_14]
  refine (layers_out _ _ _ _ _ _ _ _ _ _ _ _ _ _ q o).trans ?_
  unfold pooled
  have e2 : (fun k o => (iblk3 (V7 m) c 2 t : Vec Ideal S128x128 .f32) (ix2 k o)) = padded fun k o => p3 m c (ix2 k o) := by
    funext k o; exact w0_at m c t k o
  simp only [row_at, centre_at, e2, w1_at, w2_at, vec5, vec6, vec7, vec8, vec9, vec10, vec11, vec12, vec13]
  rfl

/-- The features as the layers' call leaves them. -/
theorem features : (W8 m c (Proc.devRef .tc main_v22) : Vec Ideal S8x512x256 .f32) = pooled m c := by
  refine (W8_arr m c 14).trans ?_
  refine (dat3 (V7 m) c).arrAt_eq_of_covers 14 (pooled m c) (by decide +kernel) fun t hf y => ?_
  obtain ⟨z, q, o, rfl⟩ := coords3 (l := 1) (m := 128) (n := 256) y
  obtain rfl : z = 0 := Subsingleton.elim _ _
  refine (block_pooled m c t q o).trans ?_
  unfold placeL
  blk_ext [inL14, batchL_val, quarter_val]

/-! ## The results -/

theorem points_end (b : Fin 8) (q : Fin 512) (a : Fin 3) :
    (W9 m c (Proc.devRef .tc main_v23) : Vec Ideal S8x512x3 .f32) (ix3 b q a) = chosen m c (ix3 a b q) := by
  have h : W8 m c (Proc.devRef .tc main_v1_1) = chosen m c :=
    (W8_of m c main_v1_1 (by decide)).trans ((W7_of m c main_v1_1 (by decide)).trans ((W6_of m c main_v1_1 (by decide)).trans
      ((W5_of m c main_v1_1 (by decide)).trans ((W4_of m c main_v1_1 (by decide)).trans ((W3_of m c main_v1_1 (by decide)).trans
      (planes_chosen m c))))))
  rw [← h]
  unfold W9
  after_reads_simp
  pointwise []

theorem features_end : (W9 m c (Proc.devRef .tc main_v22) : Vec Ideal S8x512x256 .f32) = pooled m c :=
  (W9_of m c main_v22 (by decide)).trans (features m c)

theorem indices_end (b : Fin 8) (q : Fin 512) (j : Fin 32) :
    (W9 m c (Proc.devRef .tc main_v4) : Vec Ideal S8x512x32 .i32) (ix3 b q j) = BitVec.ofNat 32 (neighbour m c b q j).val := by
  have h : W9 m c (Proc.devRef .tc main_v4) = W5 m c (Proc.devRef .tc main_v4) :=
    (W9_of m c main_v4 (by decide)).trans ((W8_of m c main_v4 (by decide)).trans ((W7_of m c main_v4 (by decide)).trans (W6_of m c main_v4 (by decide))))
  rw [h]
  exact nearest_at m c b q j

end Cert.Proof.Whole

end
-- ==== Proof.WholeRef.lean ====
/-
  The whole kernel's reference: its loop is the walk, its gathers the walk's points, its two selections the farthest and
  the nearest indices, its layers the dense layers over the neighbours' centred rows.
-/
module

public import proofs.«01_k».proof.Proof.GroupsRef
public import proofs.«01_k».proof.Proof.PointsRef
public import proofs.«01_k».proof.Proof.Gen.WholeReferenceIdeal.Run

@[expose] public section

namespace Cert.Proof.WholeRef

open Idealize.ShloMosaic Idealize.ShloMosaic.StableHlo Cert.WholeReferenceIdeal Cert.WholeReferenceIdeal.Gen Cert.WholeReferenceIdeal.Value Cert.Proof.Spec Cert.Proof.Dense
open Cert.Proof.GroupsRef (gather_point top1_at top32_at column_set clamp_ofNat points cap away)

theorem gather_one {α : Type} (x : S8x4096x3.Idx → α) (idx : IVec S8x1x1 32) (b : Fin 8) (a : Fin 3) :
    Host.gather gather_S8x4096x3_S8x1x1_S8x1x3_2_1_0_0_1_2_113 x idx (ix3 b 0 a)
      = x (ix3 b ⟨min (idx (ix3 b 0 0)).toInt.toNat 4095, by omega⟩ a) := gather_point (Q := 1) _ x idx b 0 a

theorem gather_many {α : Type} (x : S8x4096x3.Idx → α) (idx : IVec S8x512x1 32) (b : Fin 8) (j : Fin 512) (a : Fin 3) :
    Host.gather gather_S8x4096x3_S8x512x1_S8x512x3_2_1_0_0_1_2_113 x idx (ix3 b j a)
      = x (ix3 b ⟨min (idx (ix3 b j 0)).toInt.toNat 4095, by omega⟩ a) := gather_point (Q := 512) _ x idx b j a

/-- A gather of one row per start index, the start indices in groups, a batch at a time. -/
theorem gather_group {α : Type} {C : ℕ}
    (wf : GatherDims.WF ⟨3, ![8, 4096, C]⟩ ⟨4, ![8, 512, 32, 1]⟩ ⟨4, ![8, 512, 32, C]⟩ [3] [1] [0] [1] [0] 3 ![1, 1, C])
    (x : Shape.Idx ⟨3, ![8, 4096, C]⟩ → α) (idx : IVec ⟨4, ![8, 512, 32, 1]⟩ 32) (b : Fin 8) (s : Fin 512) (j : Fin 32) (a : Fin C) :
    Host.gather (⟨[3], [1], [0], [0], [1], 3, ![1, 1, C], wf⟩ : GatherDims ⟨3, ![8, 4096, C]⟩ ⟨4, ![8, 512, 32, 1]⟩ ⟨4, ![8, 512, 32, C]⟩) x idx (ix4 b s j a)
      = x (ix3 b ⟨min (idx (ix4 b s j 0)).toInt.toNat 4095, by omega⟩ a) := by
  unfold Host.gather
  refine congrArg x (funext fun k => Fin.ext ?_)
  generalize hd : (⟨[3], [1], [0], [0], [1], 3, ![1, 1, C], wf⟩ : GatherDims ⟨3, ![8, 4096, C]⟩ ⟨4, ![8, 512, 32, 1]⟩ ⟨4, ![8, 512, 32, C]⟩) = dims
  show dims.start _ idx k + dims.batchCoord _ k + dims.offCoord _ k = _
  have hk : k = (0 : Fin 3) ∨ k = (1 : Fin 3) ∨ k = (2 : Fin 3) := by
    match k with
    | ⟨0, _⟩ => exact Or.inl rfl
    | ⟨1, _⟩ => exact Or.inr (Or.inl rfl)
    | ⟨2, _⟩ => exact Or.inr (Or.inr rfl)
  rcases hk with rfl | rfl | rfl
  · subst hd
    have hm : (0 : Fin 3) ∈ [(0 : Fin 3)] := by decide
    rw [GatherDims.start_batching _ _ _ _ hm, GatherDims.offCoord_eq_zero _ _ _ (fun h => ((GatherDims.mem_sKept _ _).mp h).2 hm)]
    unfold GatherDims.batchCoord
    rw [dif_pos hm]
    simp only [Nat.zero_add, Nat.add_zero]
    rfl
  · subst hd
    have hm : (1 : Fin 3) ∈ [(1 : Fin 3)] := by decide
    have hn : (1 : Fin 3) ∉ [(0 : Fin 3)] := by decide
    rw [GatherDims.batchCoord_eq_zero _ _ _ hn, GatherDims.offCoord_eq_zero _ _ _ (fun h => ((GatherDims.mem_sKept _ _).mp h).1 hm)]
    unfold GatherDims.start
    rw [dif_pos hm]
    simp only [Nat.add_zero]
    show min (BitVec.toInt (idx _)).toNat (4096 - 1) = min (BitVec.toInt (idx _)).toNat 4095
    congr 4
    funext c
    apply Fin.ext
    fin_cases c <;> rfl
  · subst hd
    have hm : (2 : Fin 3) ∉ [(1 : Fin 3)] := by decide
    have hn : (2 : Fin 3) ∉ [(0 : Fin 3)] := by decide
    unfold GatherDims.start
    rw [dif_neg hm, GatherDims.batchCoord_eq_zero _ _ _ hn]
    unfold GatherDims.offCoord
    rw [dif_pos ((GatherDims.mem_sKept _ _).mpr ⟨hm, hn⟩)]
    simp only [Nat.zero_add, Nat.add_zero]
    rfl

variable (V : Valuation τ sig (Elt Ideal))

theorem near_apply (x : Vec Ideal S8x4096x3 .f32) (z : Fin 8 → Fin 4096) (hx : V (Proc.devRef .tc main_v3_0) = x)
    (hz : ∀ b, V (Proc.devRef .tc main_v3_5) (ix1 b) = BitVec.ofNat 32 (z b).val) (b : Fin 8) (i : Fin 4096) :
    (res_main_while0b_v79 V : Vec Ideal S8x4096 .f32) (ix2 b i)
      = closer (points x b) (fun i => (V (Proc.devRef .tc main_v3_4) : Vec Ideal S8x4096 .f32) (ix2 b i)) (points x b (z b)) i := by
  unfold res_main_while0b_v79 res_main_while0b_v76 closer sqd points
  pointwise []
  simp only [gather_one]
  have hi : broadcastInDim S8x1x1 ![0, 1] bcast_S8x1_S8x1x1_0_1 (broadcastInDim S8x1 ![0] bcast_S8_S8x1_0 (V (Proc.devRef .tc main_v3_5))) (ix3 b 0 0)
      = BitVec.ofNat 32 (z b).val := by
    rw [← hz b]
    pointwise []
  simp only [hi, hx, clamp_ofNat, Fin.sum_univ_three]

/-- The carried buffers after `k` trips. -/
structure Inv (x : Vec Ideal S8x4096x3 .f32) (k : ℕ) (V : Valuation τ sig (Elt Ideal)) : Prop where
  cloud : V (Proc.devRef .tc main_v3_0) = x
  slot : V (Proc.devRef .tc main_v3_2) = fun _ => BitVec.ofNat 32 (k + 1)
  idxs : ∀ b (s : Fin 512), s.val ≤ k → V (Proc.devRef .tc main_v3_3) (ix2 b s) = BitVec.ofNat 32 (walk (points x b) cap s.val).2.val
  dists : ∀ b i, V (Proc.devRef .tc main_v3_4) (ix2 b i) = (walk (points x b) cap k).1 i
  last : ∀ b, V (Proc.devRef .tc main_v3_5) (ix1 b) = BitVec.ofNat 32 (walk (points x b) cap k).2.val

theorem near_walk {x : Vec Ideal S8x4096x3 .f32} {k : ℕ} (h : Inv x k V) (b : Fin 8) :
    (fun i => (res_main_while0b_v79 V : Vec Ideal S8x4096 .f32) (ix2 b i)) = (walk (points x b) cap (k + 1)).1 := by
  funext i
  rw [near_apply V x (fun b => (walk (points x b) cap k).2) h.cloud h.last b i,
    (funext (h.dists b) : (fun i => (V (Proc.devRef .tc main_v3_4) : Vec Ideal S8x4096 .f32) (ix2 b i)) = _)]
  rfl

theorem next_walk {x : Vec Ideal S8x4096x3 .f32} {k : ℕ} (h : Inv x k V) (b : Fin 8) :
    (res_main_while0b_v80 V : Vec Ideal S8 .i32) (ix1 b) = BitVec.ofNat 32 (walk (points x b) cap (k + 1)).2.val := by
  unfold res_main_while0b_v80
  pointwise []
  rw [top1_at, near_walk V h b]
  rfl

theorem inv_step {x : Vec Ideal S8x4096x3 .f32} {k : ℕ} (hk : k < 511) (h : Inv x k V) : Inv x (k + 1) (STEP V) where
  cloud := (STEP_main_v3_0 V).trans h.cloud
  slot := by
    rw [STEP_main_v3_2]
    unfold step_main_v3_2
    rw [h.slot]
    funext j
    show BitVec.ofNat 32 (k + 1) + 1#32 = BitVec.ofNat 32 (k + 1 + 1)
    apply BitVec.eq_of_toNat_eq
    simp only [BitVec.toNat_add, BitVec.toNat_ofNat]
    omega
  idxs b s hs := by
    rw [STEP_main_v3_3]
    unfold step_main_v3_3
    refine (column_set _ _ _ _ ⟨k + 1, by omega⟩ rfl ?_ b s).trans ?_
    · show BitVec.toInt (select (cmpi .slt (V (Proc.devRef .tc main_v3_2)) (constantI S_ 32 0#32))
        (addi (id (V (Proc.devRef .tc main_v3_2))) (constantI S_ 32 512#32)) (V (Proc.devRef .tc main_v3_2)) (Shape.Idx.first h_S_)) = _
      rw [h.slot]
      have h0 : IntOp.cmpi .slt (BitVec.ofNat 32 (k + 1)) 0#32 = 0#1 := by
        rw [WordCmp.cmpi_slt_eq, toInt_ofNat _ (by omega)]
        have : ¬ ((k + 1 : ℕ) : ℤ) < (0#32 : BitVec 32).toInt := by
          show ¬ ((k + 1 : ℕ) : ℤ) < 0
          omega
        rw [decide_eq_false this]
        rfl
      show BitVec.toInt (Scalar.select (IntOp.cmpi .slt (BitVec.ofNat 32 (k + 1)) 0#32) _ (BitVec.ofNat 32 (k + 1))) = _
      rw [h0]
      exact toInt_ofNat _ (by omega)
    · by_cases e : s = ⟨k + 1, by omega⟩
      · rw [if_pos e, e]
        pointwise []
        exact next_walk V h b
      · rw [if_neg e]
        exact h.idxs b s (by have : s.val ≠ k + 1 := fun e' => e (Fin.ext e'); omega)
  dists b i := by
    rw [STEP_main_v3_4]
    exact congrFun (near_walk V h b) i
  last b := by
    rw [STEP_main_v3_5]
    exact next_walk V h b

variable (m : (ℓ : Loc nD τ sig) → Buf (Elt Ideal) ℓ) (c : Dev nD)

/-- The argument. -/
noncomputable abbrev arg : Vec Ideal S8x4096x3 .f32 := m ((c.tc : Thread nD τ).loc main_arg0)

theorem inv_entry : Inv (arg m c) 0 (entryContents preI m c) where
  cloud := by
    simp only [entryContents, afterL_cons, afterL_nil]
    after_reads_simp
    rfl
  slot := by
    simp only [entryContents, afterL_cons, afterL_nil]
    after_reads_simp
    rfl
  idxs b s hs := by
    have h0 : s.val = 0 := Nat.le_zero.mp hs
    rw [h0]
    simp only [entryContents, afterL_cons, afterL_nil]
    after_reads_simp
    rfl
  dists b i := by
    simp only [entryContents, afterL_cons, afterL_nil]
    after_reads_simp
    rfl
  last b := by
    simp only [entryContents, afterL_cons, afterL_nil]
    after_reads_simp
    rfl

theorem inv_iter : ∀ k, k ≤ 511 → Inv (arg m c) k (STEP^[k] (entryContents preI m c))
  | 0, _ => inv_entry m c
  | k + 1, hk => by
    rw [Function.iterate_succ_apply']
    exact inv_step _ (by omega) (inv_iter k (by omega))

theorem chosen (b : Fin 8) (j : Fin 512) (a : Fin 3) :
    Host.gather gather_S8x4096x3_S8x512x1_S8x512x3_2_1_0_0_1_2_113 (arg m c)
      (broadcastInDim S8x512x1 ![0, 1] bcast_S8x512_S8x512x1_0_1 ((STEP^[511] (entryContents preI m c)) (Proc.devRef .tc main_v3_3))) (ix3 b j a)
      = points (arg m c) b (walk (points (arg m c) b) cap j.val).2 a := by
  rw [gather_many]
  have hi : broadcastInDim S8x512x1 ![0, 1] bcast_S8x512_S8x512x1_0_1 ((STEP^[511] (entryContents preI m c)) (Proc.devRef .tc main_v3_3)) (ix3 b j 0)
      = BitVec.ofNat 32 (walk (points (arg m c) b) cap j.val).2.val := by
    rw [← (inv_iter m c 511 (le_refl _)).idxs b j (by have := j.isLt; omega)]
    pointwise []
  refine congrArg (fun k => points (arg m c) b k a) (Fin.ext ?_)
  exact (congrArg (fun w : BitVec 32 => min w.toInt.toNat 4095) hi).trans (congrArg Fin.val (clamp_ofNat _))

/-- The chosen points, as the reference returns them. -/
theorem ref_points (b : Fin 8) (j : Fin 512) (a : Fin 3) :
    (out_main_v5 (STEP^[511] (entryContents preI m c)) : Vec Ideal S8x512x3 .f32) (ix3 b j a)
      = points (arg m c) b (walk (points (arg m c) b) cap j.val).2 a := by
  unfold out_main_v5
  rw [iter_main_arg0 m c 511]
  exact chosen m c b j a

/-- The nearest indices, as the reference returns them. -/
theorem ref_indices (b : Fin 8) (q : Fin 512) (j : Fin 32) (hfin : ∀ i, away (arg m c) b q i < ⊤) :
    (out_main_indices (STEP^[511] (entryContents preI m c)) : Vec Ideal S8x512x32 .i32) (ix3 b q j)
      = BitVec.ofNat 32 (pick (away (arg m c) b q) j.val).val := by
  unfold out_main_indices
  rw [iter_main_arg0 m c 511]
  refine top32_at (by decide) _ _ (away (arg m c) b q) b q hfin (fun i => ?_) j
  unfold away sqd
  pointwise []
  simp only [chosen m c, Fin.sum_univ_three]
  rfl

/-! ## The layers -/

/-- The centred rows, of the argument's points and features, the nearest indices and the chosen points. -/
noncomputable def rows (x : FVec Ideal S8x4096x3 .f32) (f : FVec Ideal S8x4096x64 .f32) (n : IVec S8x512x32 32) (p : FVec Ideal S8x512x3 .f32) :
    FVec Ideal S8x512x32x67 .f32 :=
  concatenate S8x512x32x67 3 [⟨S8x512x32x3, (subf (Host.gather gather_S8x4096x3_S8x512x32x1_S8x512x32x3_3_1_0_0_1_3_113 x
      (broadcastInDim S8x512x32x1 ![0, 1, 2] bcast_S8x512x32_S8x512x32x1_0_1_2 n))
      (broadcastInDim S8x512x32x3 ![0, 1, 2, 3] bcast_S8x512x1x3_S8x512x32x3_0_1_2_3 (broadcastInDim S8x512x1x3 ![0, 1, 3] bcast_S8x512x3_S8x512x1x3_0_1_3 p)))⟩,
    ⟨S8x512x32x64, (Host.gather gather_S8x4096x64_S8x512x32x1_S8x512x32x64_3_1_0_0_1_3_1164 f
      (broadcastInDim S8x512x32x1 ![0, 1, 2] bcast_S8x512x32_S8x512x32x1_0_1_2 n))⟩] concatenates_S8x512x32x3_S8x512x32x64_S8x512x32x67_d3

theorem rows_apply (x : FVec Ideal S8x4096x3 .f32) (f : FVec Ideal S8x4096x64 .f32) (n : IVec S8x512x32 32) (p : FVec Ideal S8x512x3 .f32)
    (b : Fin 8) (s : Fin 512) (j : Fin 32) (z : Fin 4096) (hz : n (ix3 b s j) = BitVec.ofNat 32 z.val) (ch : Fin 67) :
    rows x f n p (ix4 b s j ch) = centred (fun ch : Fin 67 => if h : ch.val < 3 then x (ix3 b z ⟨ch.val, h⟩) else f (ix3 b z ⟨ch.val - 3, by omega⟩))
      (fun a => p (ix3 b s a)) ch := by
  have hi : broadcastInDim S8x512x32x1 ![0, 1, 2] bcast_S8x512x32_S8x512x32x1_0_1_2 n (ix4 b s j 0) = BitVec.ofNat 32 z.val := by
    rw [← hz]
    pointwise []
  have gx : ∀ a : Fin 3, Host.gather gather_S8x4096x3_S8x512x32x1_S8x512x32x3_3_1_0_0_1_3_113 x
      (broadcastInDim S8x512x32x1 ![0, 1, 2] bcast_S8x512x32_S8x512x32x1_0_1_2 n) (ix4 b s j a) = x (ix3 b z a) := fun a => by
    refine (gather_group (C := 3) _ x _ b s j a).trans (congrArg (fun k => x (ix3 b k a)) (Fin.ext ?_))
    exact (congrArg (fun w : BitVec 32 => min w.toInt.toNat 4095) hi).trans (congrArg Fin.val (clamp_ofNat _))
  have gf : ∀ a : Fin 64, Host.gather gather_S8x4096x64_S8x512x32x1_S8x512x32x64_3_1_0_0_1_3_1164 f
      (broadcastInDim S8x512x32x1 ![0, 1, 2] bcast_S8x512x32_S8x512x32x1_0_1_2 n) (ix4 b s j a) = f (ix3 b z a) := fun a => by
    refine (gather_group (C := 64) _ f _ b s j a).trans (congrArg (fun k => f (ix3 b k a)) (Fin.ext ?_))
    exact (congrArg (fun w : BitVec 32 => min w.toInt.toNat 4095) hi).trans (congrArg Fin.val (clamp_ofNat _))
  unfold centred
  pointwise [rows]
  by_cases h : ch.val < 3
  · rw [dif_pos h, dif_pos h, dif_pos h, gx]
  · rw [dif_neg h, dif_neg h, dif_neg h, gf]

/-- The features, as the reference returns them, are the layers' of the centred rows. -/
theorem features_layers (V : Valuation τ sig (Elt Ideal)) :
    (out_main_v70 V : Vec Ideal S8x512x256 .f32)
      = PointsRef.layers (rows (V (Proc.devRef .tc main_arg0)) (V (Proc.devRef .tc main_arg1)) (out_main_indices V) (out_main_v5 V))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10))
          (V (Proc.devRef .tc main_arg11)) (V (Proc.devRef .tc main_arg12)) (V (Proc.devRef .tc main_arg13)) (V (Proc.devRef .tc main_arg14)) := by
  unfold out_main_v70 PointsRef.layers rows out_main_indices out_main_v5
  rfl

end Cert.Proof.WholeRef
-- ==== Proof.WholeValue.lean ====
/-
  The whole kernel's claims: its frame and its reference's, and that both give the same points, the same features and the
  same nearest indices, the arguments being finite.
-/
module

public import proofs.«01_k».proof.Defs
public import proofs.«01_k».proof.Proof.WholeLayers
public import proofs.«01_k».proof.Proof.WholeRef
public import proofs.«01_k».proof.Proof.GroupsValue
public import proofs.«01_k».proof.Proof.PointsValue
public import proofs.«01_k».proof.Proof.Gen.Pre_finite_whole

@[expose] public section

noncomputable section

namespace Cert.Proof.Whole

open Idealize.ShloMosaic Idealize.SL.Sem Idealize.ShloMosaic.TcCoe
open Cert.WholeIdeal Cert.WholeIdeal.Gen Cert.Proof.Dense Cert.Proof.Spec
open Cert.Proof.Mlp (and_one real_of_word)
open Cert.Proof.Groups (sqd_real)

variable (m : (ℓ : Loc nD τ sig) → Buf (Elt Ideal) ℓ)

/-! ## The precondition -/

/-- The arguments' entries are real numbers, those of the last layer's bias and shift excepted. -/
structure Finite (c : Dev nD) : Prop where
  r0 : ∀ i, ∃ x : ℝ, arg m c i = x
  r1 : ∀ i, ∃ x : ℝ, given m c i = x
  r3 : ∀ i, ∃ x : ℝ, p3 m c i = x
  r4 : ∀ i, ∃ x : ℝ, p4 m c i = x
  r5 : ∀ i, ∃ x : ℝ, p5 m c i = x
  r6 : ∀ i, ∃ x : ℝ, p6 m c i = x
  r7 : ∀ i, ∃ x : ℝ, p7 m c i = x
  r8 : ∀ i, ∃ x : ℝ, p8 m c i = x
  r9 : ∀ i, ∃ x : ℝ, p9 m c i = x
  r10 : ∀ i, ∃ x : ℝ, p10 m c i = x
  r11 : ∀ i, ∃ x : ℝ, p11 m c i = x
  r13 : ∀ i, ∃ x : ℝ, p13 m c i = x

set_option maxRecDepth 8192 in
theorem finite_of_pre (h : Cert.Pre_WholeIdeal_finite_whole m) (c : Dev nD) : Finite m c := by
  have : Subsingleton Cert.Pre_finite_whole.S_.Idx := ⟨fun a b => funext fun i => i.elim0⟩
  have e := congrFun (h c) (fun a => a.elim0)
  obtain ⟨e, e13⟩ := and_one e
  obtain ⟨e, e11⟩ := and_one e
  obtain ⟨e, e10⟩ := and_one e
  obtain ⟨e, e9⟩ := and_one e
  obtain ⟨e, e8⟩ := and_one e
  obtain ⟨e, e7⟩ := and_one e
  obtain ⟨e, e6⟩ := and_one e
  obtain ⟨e, e5⟩ := and_one e
  obtain ⟨e, e4⟩ := and_one e
  obtain ⟨e, e3⟩ := and_one e
  obtain ⟨e, e1⟩ := and_one e
  exact {
    r0 := fun i => real_of_word (Host.reduce_andi_all _ _ _ _ _ e i)
    r1 := fun i => real_of_word (Host.reduce_andi_all _ _ _ _ _ e1 i)
    r3 := fun i => real_of_word (Host.reduce_andi_all _ _ _ _ _ e3 i)
    r4 := fun i => real_of_word (Host.reduce_andi_all _ _ _ _ _ e4 i)
    r5 := fun i => real_of_word (Host.reduce_andi_all _ _ _ _ _ e5 i)
    r6 := fun i => real_of_word (Host.reduce_andi_all _ _ _ _ _ e6 i)
    r7 := fun i => real_of_word (Host.reduce_andi_all _ _ _ _ _ e7 i)
    r8 := fun i => real_of_word (Host.reduce_andi_all _ _ _ _ _ e8 i)
    r9 := fun i => real_of_word (Host.reduce_andi_all _ _ _ _ _ e9 i)
    r10 := fun i => real_of_word (Host.reduce_andi_all _ _ _ _ _ e10 i)
    r11 := fun i => real_of_word (Host.reduce_andi_all _ _ _ _ _ e11 i)
    r13 := fun i => real_of_word (Host.reduce_andi_all _ _ _ _ _ e13 i) }

variable (m' : (ℓ : Loc Cert.WholeReferenceIdeal.nD Cert.WholeReferenceIdeal.τ Cert.WholeReferenceIdeal.sig) → Buf (Elt Ideal) ℓ)

/-- The reference's arguments are the program's. -/
abbrev Agree (c : Dev nD) : Prop :=
  m' ((c.tc : Thread Cert.WholeReferenceIdeal.nD Cert.WholeReferenceIdeal.τ).loc Cert.WholeReferenceIdeal.main_arg0) = m ((c.tc : Thread nD τ).loc main_arg0)
  ∧ m' ((c.tc : Thread Cert.WholeReferenceIdeal.nD Cert.WholeReferenceIdeal.τ).loc Cert.WholeReferenceIdeal.main_arg1) = m ((c.tc : Thread nD τ).loc main_arg1)
  ∧ m' ((c.tc : Thread Cert.WholeReferenceIdeal.nD Cert.WholeReferenceIdeal.τ).loc Cert.WholeReferenceIdeal.main_arg2) = m ((c.tc : Thread nD τ).loc main_arg2)
  ∧ m' ((c.tc : Thread Cert.WholeReferenceIdeal.nD Cert.WholeReferenceIdeal.τ).loc Cert.WholeReferenceIdeal.main_arg3) = m ((c.tc : Thread nD τ).loc main_arg3)
  ∧ m' ((c.tc : Thread Cert.WholeReferenceIdeal.nD Cert.WholeReferenceIdeal.τ).loc Cert.WholeReferenceIdeal.main_arg4) = m ((c.tc : Thread nD τ).loc main_arg4)
  ∧ m' ((c.tc : Thread Cert.WholeReferenceIdeal.nD Cert.WholeReferenceIdeal.τ).loc Cert.WholeReferenceIdeal.main_arg5) = m ((c.tc : Thread nD τ).loc main_arg5)
  ∧ m' ((c.tc : Thread Cert.WholeReferenceIdeal.nD Cert.WholeReferenceIdeal.τ).loc Cert.WholeReferenceIdeal.main_arg6) = m ((c.tc : Thread nD τ).loc main_arg6)
  ∧ m' ((c.tc : Thread Cert.WholeReferenceIdeal.nD Cert.WholeReferenceIdeal.τ).loc Cert.WholeReferenceIdeal.main_arg7) = m ((c.tc : Thread nD τ).loc main_arg7)
  ∧ m' ((c.tc : Thread Cert.WholeReferenceIdeal.nD Cert.WholeReferenceIdeal.τ).loc Cert.WholeReferenceIdeal.main_arg8) = m ((c.tc : Thread nD τ).loc main_arg8)
  ∧ m' ((c.tc : Thread Cert.WholeReferenceIdeal.nD Cert.WholeReferenceIdeal.τ).loc Cert.WholeReferenceIdeal.main_arg9) = m ((c.tc : Thread nD τ).loc main_arg9)
  ∧ m' ((c.tc : Thread Cert.WholeReferenceIdeal.nD Cert.WholeReferenceIdeal.τ).loc Cert.WholeReferenceIdeal.main_arg10) = m ((c.tc : Thread nD τ).loc main_arg10)
  ∧ m' ((c.tc : Thread Cert.WholeReferenceIdeal.nD Cert.WholeReferenceIdeal.τ).loc Cert.WholeReferenceIdeal.main_arg11) = m ((c.tc : Thread nD τ).loc main_arg11)
  ∧ m' ((c.tc : Thread Cert.WholeReferenceIdeal.nD Cert.WholeReferenceIdeal.τ).loc Cert.WholeReferenceIdeal.main_arg12) = m ((c.tc : Thread nD τ).loc main_arg12)
  ∧ m' ((c.tc : Thread Cert.WholeReferenceIdeal.nD Cert.WholeReferenceIdeal.τ).loc Cert.WholeReferenceIdeal.main_arg13) = m ((c.tc : Thread nD τ).loc main_arg13)
  ∧ m' ((c.tc : Thread Cert.WholeReferenceIdeal.nD Cert.WholeReferenceIdeal.τ).loc Cert.WholeReferenceIdeal.main_arg14) = m ((c.tc : Thread nD τ).loc main_arg14)

/-- The reference's contents where its loop ends. -/
abbrev ended (c : Dev nD) : Valuation Cert.WholeReferenceIdeal.τ Cert.WholeReferenceIdeal.sig (Elt Ideal) :=
  Cert.WholeReferenceIdeal.Value.STEP^[511] (StableHlo.entryContents Cert.WholeReferenceIdeal.Value.preI m' c)

/-! ## The points and the indices -/

theorem points_agree {c : Dev nD} (h : Agree m m' c) : GroupsRef.points (WholeRef.arg m' c) = points m c := by
  funext b i a
  exact congrFun h.1 (ix3 b i a)

theorem ref_point {c : Dev nD} (h : Agree m m' c) (b : Fin 8) (q : Fin 512) (a : Fin 3) :
    (Cert.WholeReferenceIdeal.Value.out_main_v5 (ended m' c) : Vec Ideal S8x512x3 .f32) (ix3 b q a) = chosen m c (ix3 a b q) := by
  refine (WholeRef.ref_points m' c b q a).trans ?_
  rw [points_agree m m' h]
  rfl

theorem ref_index {c : Dev nD} (h : Agree m m' c) (hf : Finite m c) (b : Fin 8) (q : Fin 512) (j : Fin 32) :
    (Cert.WholeReferenceIdeal.Value.out_main_indices (ended m' c) : Vec Ideal S8x512x32 .i32) (ix3 b q j)
      = BitVec.ofNat 32 (neighbour m c b q j).val := by
  have hp : ∀ b i a, ∃ r : ℝ, points m c b i a = r := fun b i a => hf.r0 (ix3 b i a)
  have e : GroupsRef.away (WholeRef.arg m' c) b q = fun k => sqd (points m c b k) fun a => chosen m c (ix3 a b q) := by
    funext k
    unfold GroupsRef.away
    rw [points_agree m m' h]
    exact (sqd_real (hp b _) (hp b k)).1
  refine (WholeRef.ref_indices m' c b q j ?_).trans ?_
  · intro k
    rw [e]
    exact (sqd_real (hp b _) (hp b k)).2
  · rw [e]
    rfl

theorem same_points {c : Dev nD} (h : Agree m m' c) :
    (Cert.WholeReferenceIdeal.Value.out_main_v5 (ended m' c) : Vec Ideal S8x512x3 .f32) = W9 m c (Proc.devRef .tc main_v23) := by
  funext i
  obtain ⟨b, q, a, rfl⟩ := coords3 (l := 8) (m := 512) (n := 3) i
  exact (ref_point m m' h b q a).trans (points_end m c b q a).symm

theorem same_indices {c : Dev nD} (h : Agree m m' c) (hf : Finite m c) :
    (Cert.WholeReferenceIdeal.Value.out_main_indices (ended m' c) : Vec Ideal S8x512x32 .i32) = W9 m c (Proc.devRef .tc main_v4) := by
  funext i
  obtain ⟨b, q, j, rfl⟩ := coords3 (l := 8) (m := 512) (n := 32) i
  exact (ref_index m m' h hf b q j).trans (indices_end m c b q j).symm

/-! ## The features -/

theorem row_low (c : Dev nD) (b : Fin 8) (i : Fin 4096) :
    (fun ch : Fin 67 => row m c b i ⟨ch.val, by omega⟩)
      = fun ch : Fin 67 => if h : ch.val < 3 then arg m c (ix3 b i ⟨ch.val, h⟩) else given m c (ix3 b i ⟨ch.val - 3, by omega⟩) := by
  funext ch
  unfold row
  by_cases h : ch.val < 3
  · rw [dif_pos h, dif_pos h]
  · rw [dif_neg h, dif_neg h, dif_pos ch.isLt]

theorem row_real {c : Dev nD} (h : Finite m c) (b : Fin 8) (i : Fin 4096) (ch : Fin 67) : ∃ r : ℝ, row m c b i ⟨ch.val, by omega⟩ = r := by
  rw [congrFun (row_low m c b i) ch]
  by_cases hc : ch.val < 3
  · rw [dif_pos hc]
    exact h.r0 _
  · rw [dif_neg hc]
    exact h.r1 _

/-- On finite arguments the features are the dense layers' over the neighbours' centred rows. -/
theorem pooled_eq {c : Dev nD} (h : Finite m c) (n : IVec S8x512x32 32) (p : FVec Ideal S8x512x3 .f32)
    (hn : ∀ b q j, n (ix3 b q j) = BitVec.ofNat 32 (neighbour m c b q j).val) (hp : ∀ b q a, p (ix3 b q a) = chosen m c (ix3 a b q))
    (b : Fin 8) (s : Fin 512) (o : Fin 256) :
    pooled m c (ix3 b s o) = PointsRef.layers (WholeRef.rows (arg m c) (given m c) n p) (p3 m c) (p4 m c) (p5 m c) (p6 m c) (p7 m c) (p8 m c) (p9 m c)
      (p10 m c) (p11 m c) (p12 m c) (p13 m c) (p14 m c) (ix3 b s o) := by
  rw [PointsRef.layers_apply]
  unfold pooled
  refine congrArg (fun f => (Finset.univ : Finset (Fin 32)).fold max (Ideal.ofBits .f32 0xFF800000#32) f) (funext fun k => ?_)
  have e : (fun ch => WholeRef.rows (arg m c) (given m c) n p (ix4 b s k ch))
      = centred (fun ch : Fin 67 => row m c b (neighbour m c b s k) ⟨ch.val, by omega⟩) (fun a => chosen m c (ix3 a b s)) := by
    funext ch
    rw [row_low, ← funext fun a => hp b s a]
    exact WholeRef.rows_apply (arg m c) (given m c) n p b s k _ (hn b s k) ch
  rw [e]
  exact layers_eq _ _ _ _ _ _ _ _ _ _ _ _ _ _ o (fun j => row_real m h _ _ j) (fun a => h.r0 _) (fun j o => h.r3 _) (fun o => h.r4 _) (fun o => h.r5 _)
    (fun o => h.r6 _) (fun j o => h.r7 _) (fun o => h.r8 _) (fun o => h.r9 _) (fun o => h.r10 _) (fun j o => h.r11 _) (fun o => h.r13 _)

theorem same_features {c : Dev nD} (h : Agree m m' c) (hf : Finite m c) :
    (Cert.WholeReferenceIdeal.Value.out_main_v70 (ended m' c) : Vec Ideal S8x512x256 .f32) = W9 m c (Proc.devRef .tc main_v22) := by
  refine (WholeRef.features_layers (ended m' c)).trans (Eq.trans ?_ (features_end m c).symm)
  have hn := ref_index m m' h hf
  have hp := ref_point m m' h
  obtain ⟨h0, h1, h2, h3, h4, h5, h6, h7, h8, h9, h10, h11, h12, h13, h14⟩ := h
  have k0 := (Cert.WholeReferenceIdeal.Value.iter_main_arg0 m' c 511).trans h0
  have k1 := (Cert.WholeReferenceIdeal.Value.iter_main_arg1 m' c 511).trans h1
  have k3 := (Cert.WholeReferenceIdeal.Value.iter_main_arg3 m' c 511).trans h3
  have k4 := (Cert.WholeReferenceIdeal.Value.iter_main_arg4 m' c 511).trans h4
  have k5 := (Cert.WholeReferenceIdeal.Value.iter_main_arg5 m' c 511).trans h5
  have k6 := (Cert.WholeReferenceIdeal.Value.iter_main_arg6 m' c 511).trans h6
  have k7 := (Cert.WholeReferenceIdeal.Value.iter_main_arg7 m' c 511).trans h7
  have k8 := (Cert.WholeReferenceIdeal.Value.iter_main_arg8 m' c 511).trans h8
  have k9 := (Cert.WholeReferenceIdeal.Value.iter_main_arg9 m' c 511).trans h9
  have k10 := (Cert.WholeReferenceIdeal.Value.iter_main_arg10 m' c 511).trans h10
  have k11 := (Cert.WholeReferenceIdeal.Value.iter_main_arg11 m' c 511).trans h11
  have k12 := (Cert.WholeReferenceIdeal.Value.iter_main_arg12 m' c 511).trans h12
  have k13 := (Cert.WholeReferenceIdeal.Value.iter_main_arg13 m' c 511).trans h13
  have k14 := (Cert.WholeReferenceIdeal.Value.iter_main_arg14 m' c 511).trans h14
  unfold ended at hn hp ⊢
  rw [k0, k1, k3, k4, k5, k6, k7, k8, k9, k10, k11, k12, k13, k14]
  funext i
  obtain ⟨b, s, o, rfl⟩ := coords3 (l := 8) (m := 512) (n := 256) i
  exact (pooled_eq m hf _ _ hn hp b s o).symm

/-! ## The claims -/

theorem frame_reference : Cert.quiescent_WholeReferenceIdeal := fun m ρ _ =>
  (θ_run Cert.WholeReferenceIdeal.defs _ _).mono (fun r h => ⟨fun c => (h c).2.2.2, sem_eq_zero_of_no_sems (by decide) r.2⟩)
    (Cert.WholeReferenceIdeal.Value.run (F := Ideal) m ρ)

theorem frame_reference_finite : Cert.quiescent_WholeReferenceIdeal_pre_finite_whole := fun m ρ _ =>
  (θ_run Cert.WholeReferenceIdeal.defs _ _).mono (fun r h => ⟨fun c => (h c).2.2.2, sem_eq_zero_of_no_sems (by decide) r.2⟩)
    (Cert.WholeReferenceIdeal.Value.run (F := Ideal) m ρ)

theorem algebraic : Cert.algebraic_WholeIdeal_WholeReferenceIdeal_pre_finite_whole := by
  intro m ρ m' ρ' hpre hagree
  refine ⟨fun c => W9 m c (Proc.devRef .tc main_v23), fun c => W9 m c (Proc.devRef .tc main_v22), fun c => W9 m c (Proc.devRef .tc main_v4), ?_, ?_⟩
  · exact (θ_run Cert.WholeIdeal.defs _ _).mono (fun _ h c => ⟨h.1 c _ (mem_uc main_v23 (by decide)), h.1 c _ (mem_uc main_v22 (by decide)),
      h.1 c _ (mem_uc main_v4 (by decide)), inputs_end m h c⟩) (run m ρ)
  · exact (θ_run Cert.WholeReferenceIdeal.defs _ _).mono (fun _ h c => ⟨(h c).1.trans (same_points m m' (hagree c)),
      (h c).2.1.trans (same_features m m' (hagree c) (finite_of_pre m hpre c)), (h c).2.2.1.trans (same_indices m m' (hagree c) (finite_of_pre m hpre c)),
      (h c).2.2.2⟩) (Cert.WholeReferenceIdeal.Value.run (F := Ideal) m' ρ')

end Cert.Proof.Whole

end
-- ==== Proof.lean ====
module

public import proofs.«01_k».proof.Defs
public import proofs.«01_k».proof.Proof.Value
public import proofs.«01_k».proof.Proof.GroupsValue
public import proofs.«01_k».proof.Proof.PointsValue
public import proofs.«01_k».proof.Proof.WholeValue

@[expose] public section

noncomputable section

namespace Cert.Proof

theorem claim : Cert.Claim :=
  ⟨Cert.Kernel.Gen.facts, Cert.KernelIdeal.Gen.facts, Cert.ReferenceIdeal.Gen.facts, Cert.Groups.Gen.facts, Cert.GroupsIdeal.Gen.facts,
    Cert.GroupsReferenceIdeal.Gen.facts, Cert.Points.Gen.facts, Cert.PointsIdeal.Gen.facts, Cert.PointsReferenceIdeal.Gen.facts,
    Cert.WholeIdeal.Gen.facts, Cert.WholeReferenceIdeal.Gen.facts,
    Cert.Pre_rows_in_table.Gen.facts, Cert.Pre_finite_points.Gen.facts, Cert.Pre_finite_layers.Gen.facts, Cert.Pre_finite_whole.Gen.facts,
    Tile.frame_kernel, Tile.frame_kernelIdeal, Tile.frame_reference,
    Groups.frame_groups, Groups.frame_groupsIdeal, Groups.frame_groupsIdeal_finite, Groups.frame_reference, Groups.frame_reference_finite,
    Mlp.frame_points, Mlp.frame_pointsIdeal, Mlp.frame_pointsIdeal_finite, Mlp.frame_reference, Mlp.frame_reference_finite,
    Whole.frame_whole, Whole.frame_whole_finite, Whole.frame_reference, Whole.frame_reference_finite,
    trivial, Tile.algebraic, trivial, Groups.algebraic, Mlp.preserves, Mlp.algebraic, Whole.algebraic⟩

end Cert.Proof

end
